-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v1)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)) (v8 : (c : Dev Cert.Kernel3Ideal.nD) → Buf (Elt Ideal) ((c.tc : Thread Cert.Kernel3Ideal.nD Cert.Kernel3Ideal.τ).loc Cert.Kernel3Ideal.main_v0_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v1) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_v0_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v98) = v2 c
          ∧ r.2.mem ((c.tc : Thread Cert.Reference3Ideal.nD Cert.Reference3Ideal.τ).loc Cert.Reference3Ideal.main_v110) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v112) = v5 c
          ∧ r.2.mem ((c.tc : Thread Cert.Reference3Ideal.nD Cert.Reference3Ideal.τ).loc Cert.Reference3Ideal.main_v113) = v6 c
          ∧ r.2.mem ((c.tc : Thread Cert.Reference3Ideal.nD Cert.Reference3Ideal.τ).loc Cert.Reference3Ideal.main_v114) = v7 c
          ∧ r.2.mem ((c.tc : Thread Cert.Reference3Ideal.nD Cert.Reference3Ideal.τ).loc Cert.Reference3Ideal.main_v108) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_1)) (v1 : (c : Dev Cert.Kernel5Ideal.nD) → Buf (Elt Ideal) ((c.tc : Thread Cert.Kernel5Ideal.nD Cert.Kernel5Ideal.τ).loc Cert.Kernel5Ideal.main_v9_2)) (v2 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_1) = v0 c
          ∧ r.2.mem ((c.tc : Thread Cert.Kernel5Ideal.nD Cert.Kernel5Ideal.τ).loc Cert.Kernel5Ideal.main_v9_2) = v1 c
          ∧ r.2.mem ((c.tc : Thread Cert.Kernel5Ideal.nD Cert.Kernel5Ideal.τ).loc Cert.Kernel5Ideal.main_v9_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4096x8192 : Shape := ⟨2, ![4096, 8192]⟩
abbrev S4x1024x2048 : Shape := ⟨3, ![4, 1024, 2048]⟩
abbrev S4096x1024 : Shape := ⟨2, ![4096, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S48x1024 : Shape := ⟨2, ![48, 1024]⟩
abbrev S1x1024x2048 : Shape := ⟨3, ![1, 1024, 2048]⟩
abbrev S1024x2048 : Shape := ⟨2, ![1024, 2048]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S4096x8192, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x1024, .f32⟩
  | .local _ .vmem, ⟨19, _⟩ => ⟨S48x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_22 : BitVec 32 := 0#32
  let c32_i32 : BitVec 32 := 32#32
  let v25 : BitVec 32 := Scalar.addi c0_i32_22 c32_i32
  let c1_i32 : BitVec 32 := 1#32
  ⟨c0_i32_22, v25, c1_i32⟩
def k0_mult1 (k0_t1 : Fin k0_t1_loop.trips) : BitVec 32 :=
  let c0_i32_22 : BitVec 32 := 0#32
  let c1_i32 : BitVec 32 := 1#32
  let arg14 : BitVec 32 := Scf.iv c0_i32_22 c1_i32 k0_t1
  let c16_i32 : BitVec 32 := 16#32
  let v29 : BitVec 32 := Scalar.muli arg14 c16_i32
  v29
def k0_off1 (k0_t1 : Fin k0_t1_loop.trips) : Fin 2 → Nat :=
  let c0_i32_22 : BitVec 32 := 0#32
  let c1_i32 : BitVec 32 := 1#32
  let arg14 : BitVec 32 := Scf.iv c0_i32_22 c1_i32 k0_t1
  let c16_i32 : BitVec 32 := 16#32
  let v29 : BitVec 32 := Scalar.muli arg14 c16_i32
  let v30 : BitVec 32 := v29
  let v31 : Index := Scalar.indexCast v30
  let c0_25 : Index := 0#32
  ![v31.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_24 : BitVec 32 := 0#32
  let v28 : BitVec 1 := Scalar.cmpi .ne v27 c0_i32_24
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x8192 : Shape := ⟨2, ![4096, 8192]⟩
abbrev S4x1024x2048 : Shape := ⟨3, ![4, 1024, 2048]⟩
abbrev S4096x1024 : Shape := ⟨2, ![4096, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2048, .bf16⟩
  | .hbm, ⟨8, _⟩ => ⟨S1024x2048, .bf16⟩
  | .hbm, ⟨9, _⟩ => ⟨S1x1024x2048, .bf16⟩
  | .hbm, ⟨10, _⟩ => ⟨S1024x2048, .bf16⟩
  | .hbm, ⟨11, _⟩ => ⟨S1x1024x2048, .bf16⟩
  | .hbm, ⟨12, _⟩ => ⟨S1024x2048, .bf16⟩
  | .hbm, ⟨13, _⟩ => ⟨S1x1024x2048, .bf16⟩
  | .hbm, ⟨14, _⟩ => ⟨S1024x2048, .bf16⟩
  | .hbm, ⟨15, _⟩ => ⟨S1024x8192, .bf16⟩
  | .hbm, ⟨16, _⟩ => ⟨S1024x8192, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x8192, .f32⟩
  | .hbm, ⟨44, _⟩ => ⟨S4096x8192, .f32⟩
  | .hbm, ⟨45, _⟩ => ⟨S8192x1024, .f32⟩
  | .hbm, ⟨46, _⟩ => ⟨S1024x8192, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S5x1024, .f32⟩
  | .hbm, ⟨83, _⟩ => ⟨S8x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1x1024x1024 : Shape := ⟨3, ![1, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x8192 : Shape := ⟨2, ![4096, 8192]⟩
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S4096x2048 : Shape := ⟨2, ![4096, 2048]⟩

abbrev nBuf : Space → Nat
  | .hbm => 20
  | .vmem => 32
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x8192, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S8x1024, .f32⟩
  | .hbm, ⟨19, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S8x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S4096x8192 : Shape := ⟨2, ![4096, 8192]⟩
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩
abbrev S4096x2048 : Shape := ⟨2, ![4096, 2048]⟩

abbrev nBuf : Space → Nat
  | .hbm => 152
  | .vmem => 0
  | .smem => 0
  | _ => 0

abbrev hbmTy0_0 (i : Nat) : BufTy := match i % 128 with
  | 0 => ⟨S4096x8192, .bf16⟩
  | 1 => ⟨S4096x1024, .bf16⟩
  | 2 => ⟨S4096x1024, .bf16⟩
  | 3 => ⟨S4096x1024, .f32⟩
  | 4 => ⟨S4096x1024, .f32⟩
  | 5 => ⟨S1x1024, .f32⟩
  | 6 => ⟨S1x1024, .f32⟩
  | 7 => ⟨S1024x1024, .bf16⟩
  | 8 => ⟨S1024x1024, .bf16⟩
  | 9 => ⟨S1024x1024, .bf16⟩
  | 10 => ⟨S1024x1024, .f32⟩
  | 11 => ⟨S1024x1024, .f32⟩
  | 12 => ⟨S1024x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .bf16⟩
  | 18 => ⟨S4096x1024, .f32⟩
  | 19 => ⟨S4096x1024, .bf16⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S4096x1024, .f32⟩
  | 105 => ⟨S4096x1024, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x8192, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S_, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S5x1024, .f32⟩
  | 17 => ⟨S8x1024, .f32⟩
  | 18 => ⟨S4096x2048, .f32⟩
  | 19 => ⟨S4096x2048, .bf16⟩
  | 20 => ⟨S4096x1024, .bf16⟩
  | 21 => ⟨S4096x1024, .bf16⟩
  | 22 => ⟨S4096x1024, .bf16⟩
  | 23 => ⟨S4096x1024, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_cst_14 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_cst_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_22 : Ref sig .tc := ⟨.hbm, 134, rfl⟩
abbrev main_v101 : Ref sig .tc := ⟨.hbm, 135, rfl⟩
abbrev main_v102 : Ref sig .tc := ⟨.hbm, 136, rfl⟩
abbrev main_cst_23 : Ref sig .tc := ⟨.hbm, 137, rfl⟩
abbrev main_v103 : Ref sig .tc := ⟨.hbm, 138, rfl⟩
abbrev main_v104 : Ref sig .tc := ⟨.hbm, 139, rfl⟩
abbrev main_cst_24 : Ref sig .tc := ⟨.hbm, 140, rfl⟩
abbrev main_v105 : Ref sig .tc := ⟨.hbm, 141, rfl⟩
abbrev main_v106 : Ref sig .tc := ⟨.hbm, 142, rfl⟩
abbrev main_cst_25 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Kernel4.lean ====
abbrev S4096x8192 : Shape := ⟨2, ![4096, 8192]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S4096x1024 : Shape := ⟨2, ![4096, 1024]⟩
abbrev S256x3072 : Shape := ⟨2, ![256, 3072]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩

abbrev nBuf : Space → Nat
  | .hbm => 27
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x128, .f32⟩
  | .hbm, ⟨25, _⟩ => ⟨S128x1024, .f32⟩
  | .hbm, ⟨26, _⟩ => ⟨S4096x1024, .bf16⟩
  | .local _ .vmem, ⟨0, _⟩ => ⟨S256x3072, .bf16⟩
  | .local _ .vmem, ⟨1, _⟩ => ⟨S256x3072, .bf16⟩
  | .local _ .vmem, ⟨2, _⟩ => ⟨S8x128x128, .bf16⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  v162
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  let v163 : BitVec 32 := v162
  let v164 : Index := Scalar.indexCast v163
  let c1024 : Index := 1024#32
  ![v164.toNat, 1024]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  let v163 : BitVec 32 := v162
  let v198 : Index := Scalar.indexCast v163
  let c0_162 : Index := 0#32
  ![v198.toNat, 0]
@[reducible] def k0_t2_loop : Scf.Loop 32 :=
  let c0_i32_145 : BitVec 32 := 0#32
  let c16_i32_146 : BitVec 32 := 16#32
  let v161 : BitVec 32 := Scalar.addi c0_i32_145 c16_i32_146
  let c1_i32_147 : BitVec 32 := 1#32
  ⟨c0_i32_145, v161, c1_i32_147⟩
def k0_mult2 (k0_t2 : Fin k0_t2_loop.trips) : BitVec 32 :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  v162
def k0_off3 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v164 : Index := Scalar.indexCast v163
  let c0_150 : Index := 0#32
  ![v164.toNat, 0]
def k0_off4 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v175 : Index := Scalar.indexCast v163
  let c2048 : Index := 2048#32
  ![v175.toNat, 2048]
def k0_off5 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v178 : Index := Scalar.indexCast v163
  let c0_154 : Index := 0#32
  ![v178.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x8192 : Shape := ⟨2, ![4096, 8192]⟩
abbrev S8x128x128 : Shape := ⟨3, ![8, 128, 128]⟩
abbrev S8x128 : Shape := ⟨2, ![8, 128]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S32x128x8x128, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S8x128x128, .i1⟩
  | .hbm, ⟨69, _⟩ => ⟨S8x128x128, .f32⟩
  | .hbm, ⟨70, _⟩ => ⟨S8x128x128, .f32⟩
  | .hbm, ⟨71, _⟩ => ⟨S8x32x128x128, .f32⟩
  | .hbm, ⟨72, _⟩ => ⟨S32x128x8x128, .f32⟩
  | .hbm, ⟨73, _⟩ => ⟨S128x8, .f32⟩
  | .hbm, ⟨74, _⟩ => ⟨S128x8x1, .f32⟩
  | .hbm, ⟨75, _⟩ => ⟨S1x128x8x1, .f32⟩
  | .hbm, ⟨76, _⟩ => ⟨S32x128x8x128, .f32⟩
  | .hbm, ⟨77, _⟩ => ⟨S32x128x8x128, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_call1_v0 : Ref sig .tc := ⟨.hbm, 68, rfl⟩
abbrev main_call1_v1 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== Kernel5.lean ====
abbrev S4096x8192 : Shape := ⟨2, ![4096, 8192]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S8x1024 : Shape := ⟨2, ![8, 1024]⟩
abbrev S256x3072 : Shape := ⟨2, ![256, 3072]⟩
abbrev S256x1024 : Shape := ⟨2, ![256, 1024]⟩
abbrev S256x128 : Shape := ⟨2, ![256, 128]⟩
abbrev S32x1024 : Shape := ⟨2, ![32, 1024]⟩
abbrev S16x1024 : Shape := ⟨2, ![16, 1024]⟩
abbrev S16 : Shape := ⟨1, ![16]⟩
abbrev S16x1 : Shape := ⟨2, ![16, 1]⟩
abbrev S16x128 : Shape := ⟨2, ![16, 128]⟩
abbrev S1024 : Shape := ⟨1, ![1024]⟩
abbrev S128 : Shape := ⟨1, ![128]⟩
abbrev S128x1 : Shape := ⟨2, ![128, 1]⟩

abbrev nBuf : Space → Nat
  | .hbm => 33
  | .vmem => 23
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S4096x8192, .bf16⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S128x8, .f32⟩
  | .hbm, ⟨26, _⟩ => ⟨S128x8x128, .f32⟩
  | .hbm, ⟨27, _⟩ => ⟨S128x1024, .f32⟩
  | .hbm, ⟨28, _⟩ => ⟨S8x128x128, .bf16⟩
  | .hbm, ⟨29, _⟩ => ⟨S4096x8192, .bf16⟩
  | .hbm, ⟨30, _⟩ => ⟨S8x1024, .f32⟩
  | .hbm, ⟨31, _⟩ => ⟨S128x128, .f32⟩
  | .hbm, ⟨32, _⟩ => ⟨S8x128x128, .f32⟩
  | .local _ .vmem, ⟨0, _⟩ => ⟨S256x3072, .bf16⟩
  | .local _ .vmem, ⟨1, _⟩ => ⟨S256x3072, .bf16⟩
  | .local _ .vmem, ⟨2, _⟩ => ⟨S256x1024, .f32⟩
  | .local _ .vmem, ⟨3, _⟩ => ⟨S256x1024, .f32⟩
  | .local _ .vmem, ⟨4, _⟩ => ⟨S8x128x128, .bf16⟩
  | .local _ .vmem, ⟨5, _⟩ => ⟨S8x128x128, .bf16⟩
  | .local _ .vmem, ⟨6, _⟩ => ⟨S128x1024, .f32⟩
  | .local _ .vmem, ⟨7, _⟩ => ⟨S1x1024, .f32⟩
  | .local _ .vmem, ⟨8, _⟩ => ⟨S1x1024, .f32⟩
  | .local _ .vmem, ⟨9, _⟩ => ⟨S256x3072, .bf16⟩
  | .local _ .vmem, ⟨10, _⟩ => ⟨S256x3072, .bf16⟩
  | .local _ .vmem, ⟨11, _⟩ => ⟨S8x1024, .f32⟩
  | .local _ .vmem, ⟨12, _⟩ => ⟨S128x128, .f32⟩
  | .local _ .vmem, ⟨13, _⟩ => ⟨S8x128x128, .f32⟩
  | .local _ .vmem, ⟨14, _⟩ => ⟨S256x1024, .bf16⟩
  | .local _ .vmem, ⟨15, _⟩ => ⟨S256x1024, .f32⟩
  | .local _ .vmem, ⟨16, _⟩ => ⟨S256x128, .f32⟩
  | .local _ .vmem, ⟨17, _⟩ => ⟨S256x1024, .f32⟩
  | .local _ .vmem, ⟨18, _⟩ => ⟨S256x1024, .bf16⟩
  | .local _ .vmem, ⟨19, _⟩ => ⟨S256x1024, .f32⟩
  | .local _ .vmem, ⟨20, _⟩ => ⟨S32x1024, .f32⟩
  | .local _ .vmem, ⟨21, _⟩ => ⟨S128x1024, .f32⟩
  | .local _ .vmem, ⟨22, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  v409
def k0_off1 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v411 : Index := Scalar.indexCast v410
  let c1024 : Index := 1024#32
  ![v411.toNat, 1024]
def k0_off2 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v430 : Index := Scalar.indexCast v410
  let c0_434 : Index := 0#32
  ![v430.toNat, 0]
def k0_off3 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v456 : Index := Scalar.indexCast v410
  let c0_441 : Index := 0#32
  ![v456.toNat, 0]
@[reducible] def k0_t2_loop : Scf.Loop 32 :=
  let c0_i32_147 : BitVec 32 := 0#32
  let c16_i32_148 : BitVec 32 := 16#32
  let v164 : BitVec 32 := Scalar.addi c0_i32_147 c16_i32_148
  let c1_i32_149 : BitVec 32 := 1#32
  ⟨c0_i32_147, v164, c1_i32_149⟩
def k0_mult2 (k0_t2 : Fin k0_t2_loop.trips) : BitVec 32 :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  v409
def k0_off4 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v411 : Index := Scalar.indexCast v410
  let c0_429 : Index := 0#32
  ![v411.toNat, 0]
def k0_off5 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v430 : Index := Scalar.indexCast v410
  let c2048 : Index := 2048#32
  ![v430.toNat, 2048]
def k0_off6 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v441 : Index := Scalar.indexCast v410
  let c0_438 : Index := 0#32
  ![v441.toNat, 0]
def k0_mult3 (k0_t2 : Fin k0_t2_loop.trips) : BitVec 32 :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let c128_i32 : BitVec 32 := 128#32
  let c0_i32_441 : BitVec 32 := 0#32
  let v452 : BitVec 1 := Scalar.cmpi .eq c128_i32 c0_i32_441
  let c1_i32_442 : BitVec 32 := 1#32
  let v453 : BitVec 32 := Scalar.select v452 c1_i32_442 c128_i32
  let v454 : BitVec 32 := Scalar.remsi v410 v453
  let c0_i32_444 : BitVec 32 := 0#32
  let v456 : BitVec 1 := Scalar.cmpi .slt v454 c0_i32_444
  let c0_i32_445 : BitVec 32 := 0#32
  let v457 : BitVec 1 := Scalar.cmpi .slt v453 c0_i32_445
  let v458 : BitVec 1 := Scalar.xori v456 v457
  let c0_i32_443 : BitVec 32 := 0#32
  let v455 : BitVec 1 := Scalar.cmpi .ne v454 c0_i32_443
  let v459 : BitVec 1 := Scalar.andi v458 v455
  let v460 : BitVec 32 := Scalar.addi v454 v453
  let v461 : BitVec 32 := Scalar.select v459 v460 v454
  v461
def k0_off7 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let c128_i32 : BitVec 32 := 128#32
  let c0_i32_441 : BitVec 32 := 0#32
  let v452 : BitVec 1 := Scalar.cmpi .eq c128_i32 c0_i32_441
  let c1_i32_442 : BitVec 32 := 1#32
  let v453 : BitVec 32 := Scalar.select v452 c1_i32_442 c128_i32
  let v454 : BitVec 32 := Scalar.remsi v410 v453
  let c0_i32_444 : BitVec 32 := 0#32
  let v456 : BitVec 1 := Scalar.cmpi .slt v454 c0_i32_444
  let c0_i32_445 : BitVec 32 := 0#32
  let v457 : BitVec 1 := Scalar.cmpi .slt v453 c0_i32_445
  let v458 : BitVec 1 := Scalar.xori v456 v457
  let c0_i32_443 : BitVec 32 := 0#32
  let v455 : BitVec 1 := Scalar.cmpi .ne v454 c0_i32_443
  let v459 : BitVec 1 := Scalar.andi v458 v455
  let v460 : BitVec 32 := Scalar.addi v454 v453
  let v461 : BitVec 32 := Scalar.select v459 v460 v454
  let v462 : BitVec 32 := v461
  let v463 : Index := Scalar.indexCast v462
  let c0_446 : Index := 0#32
  ![v463.toNat, 0]
@[reducible] def k0_t3_loop : Scf.Loop 32 :=
  let c0_i32_423 : BitVec 32 := 0#32
  let c16_i32_424 : BitVec 32 := 16#32
  let v405 : BitVec 32 := Scalar.addi c0_i32_423 c16_i32_424
  let c1_i32_425 : BitVec 32 := 1#32
  ⟨c0_i32_423, v405, c1_i32_425⟩
def k0_mult4 (k0_t3 : Fin k0_t3_loop.trips) : BitVec 32 :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  v409
def k0_off8 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v411 : Index := Scalar.indexCast v410
  let c0_429 : Index := 0#32
  ![v411.toNat, 0]
def k0_off9 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v415 : Index := Scalar.indexCast v410
  let c0_431 : Index := 0#32
  ![v415.toNat, 0]
def k0_off10 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v451 : Index := Scalar.indexCast v410
  let c1024 : Index := 1024#32
  ![v451.toNat, 1024]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v406 : BitVec 1 := Scalar.cmpi .eq arg0 c15_i32
  let v407 : BitVec 32 := Scalar.extui v406
  let c0_i32_427 : BitVec 32 := 0#32
  let v408 : BitVec 1 := Scalar.cmpi .ne v407 c0_i32_427
  v408

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x8192 : Shape := ⟨2, ![4096, 8192]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S4096x8192, .bf16⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S32x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S_, .f32⟩
  | .hbm, ⟨74, _⟩ => ⟨S8x128x128, .f32⟩
  | .hbm, ⟨75, _⟩ => ⟨S8x32x128x128, .f32⟩
  | .hbm, ⟨76, _⟩ => ⟨S32x128x8x128, .f32⟩
  | .hbm, ⟨77, _⟩ => ⟨S128x8, .f32⟩
  | .hbm, ⟨78, _⟩ => ⟨S128x8x1, .f32⟩
  | .hbm, ⟨79, _⟩ => ⟨S1x128x8x1, .f32⟩
  | .hbm, ⟨80, _⟩ => ⟨S32x128x8x128, .f32⟩
  | .hbm, ⟨81, _⟩ => ⟨S32x128x8x128, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S32x128x8x128, .f32⟩
  | .hbm, ⟨97, _⟩ => ⟨S_, .f32⟩
  | .hbm, ⟨98, _⟩ => ⟨S128x8, .f32⟩
  | .hbm, ⟨99, _⟩ => ⟨S1x128x8x1, .f32⟩
  | .hbm, ⟨100, _⟩ => ⟨S_, .f32⟩
  | .hbm, ⟨101, _⟩ => ⟨S128x8, .f32⟩
  | .hbm, ⟨102, _⟩ => ⟨S128x8x1, .f32⟩
  | .hbm, ⟨103, _⟩ => ⟨S_, .f32⟩
  | .hbm, ⟨104, _⟩ => ⟨S128x8, .f32⟩
  | .hbm, ⟨105, _⟩ => ⟨S8x128, .f32⟩
  | .hbm, ⟨106, _⟩ => ⟨S8x32x128x128, .f32⟩
  | .hbm, ⟨107, _⟩ => ⟨S8x128x128, .f32⟩
  | .hbm, ⟨108, _⟩ => ⟨S8x32x128x128, .f32⟩
  | .hbm, ⟨109, _⟩ => ⟨S32x128x8x128, .f32⟩
  | .hbm, ⟨110, _⟩ => ⟨S_, .f32⟩
  | .hbm, ⟨111, _⟩ => ⟨S8x128x128, .f32⟩
  | .hbm, ⟨112, _⟩ => ⟨S8x128x128, .f32⟩
  | .hbm, ⟨113, _⟩ => ⟨S4096x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S4096x1024, .f32⟩
  | .hbm, ⟨118, _⟩ => ⟨S_, .f32⟩
  | .hbm, ⟨119, _⟩ => ⟨S1024, .f32⟩
  | .hbm, ⟨120, _⟩ => ⟨S1x1024, .f32⟩
  | .hbm, ⟨121, _⟩ => ⟨S_, .f32⟩
  | .hbm, ⟨122, _⟩ => ⟨S6x1024, .f32⟩
  | .hbm, ⟨123, _⟩ => ⟨S8x1024, .f32⟩
  | .hbm, ⟨124, _⟩ => ⟨S128x8, .f32⟩
  | .hbm, ⟨125, _⟩ => ⟨S_, .i32⟩
  | .hbm, ⟨126, _⟩ => ⟨S_, .f32⟩
  | .hbm, ⟨127, _⟩ => ⟨S128x128, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44_1 : Ref sig .tc := ⟨.hbm, 70, rfl⟩
abbrev main_call1_v1 : Ref sig .tc := ⟨.hbm, 71, rfl⟩
abbrev main_v44_0 : Ref sig .tc := ⟨.hbm, 72, rfl⟩
abbrev main_call1_cst : Ref sig .tc := ⟨.hbm, 73, rfl⟩
abbrev main_v44_2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call3_cst : Ref sig .tc := ⟨.hbm, 110, rfl⟩
abbrev main_call3_v0 : Ref sig .tc := ⟨.hbm, 111, rfl⟩
abbrev main_v69 : Ref sig .tc := ⟨.hbm, 112, rfl⟩
abbrev main_v70 : Ref sig .tc := ⟨.hbm, 113, rfl⟩
abbrev main_cst_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_13 : Ref sig .tc := ⟨.hbm, 118, rfl⟩
abbrev main_v74 : Ref sig .tc := ⟨.hbm, 119, rfl⟩
abbrev main_v75 : Ref sig .tc := ⟨.hbm, 120, rfl⟩
abbrev main_cst_14 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_15 : Ref sig .tc := ⟨.hbm, 125, rfl⟩
abbrev main_call4_v0 : Ref sig .tc := ⟨.hbm, 126, rfl⟩
abbrev main_v79 : Ref sig .tc := ⟨.hbm, 127, rfl⟩

abbrev nD : Nat := 1
abbrev τ : Topo := Topo.v7x

variable {F : FTy → Type} [FloatOps F]
-- ==== Proof.Trip.lean ====
module

public import proofs.«01_k».proof.Proof.Gen.KernelIdeal.Frame.Runs
public import Idealize.ShloMosaic.Lib.WritesUnit
public import Idealize.ShloMosaic.Lib.WholeRead
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Sixteen rows of a block: the rows trip `k` works on. -/
def rows (x : Vec F S512x1024 .f32) (k : Fin k0_t1_loop.trips) : Vec F S16x1024 .f32 :=
  VecWindow.window x (k0_off1 k) S16x1024.size (k0_off1_inb k)

/-- A band of sixteen rows of the running sums. -/
def band (a : Vec F S48x1024 .f32) (o : ℕ) (h : ∀ d, (![o, 0] : Fin 2 → ℕ) d + S16x1024.size d ≤ S48x1024.size d) : Vec F S16x1024 .f32 :=
  VecWindow.window a ![o, 0] S16x1024.size h

theorem readAt_rows (v : View sig .tc .vmem S512x1024 .f32) (f : v.ty.Contents (Elt F)) (k : Fin k0_t1_loop.trips) (inb) :
    v.readAt (Elt F) (Rect.unit (s := S512x1024) (k0_off1 k) S16x1024.size inb).toLoadRect f = rows (v.read (Elt F) f) k := rfl

theorem readAt_band (v : View sig .tc .vmem S48x1024 .f32) (f : v.ty.Contents (Elt F)) (o : ℕ) (h) :
    v.readAt (Elt F) (Rect.unit (s := S48x1024) ![o, 0] S16x1024.size h).toLoadRect f = band (v.read (Elt F) f) o h := rfl

theorem readAt_row (v : View sig .tc .vmem S1x1024 .f32) (f : v.ty.Contents (Elt F)) (h) :
    v.readAt (Elt F) (Rect.unit (s := S1x1024) ![0, 0] S1x1024.size h).toLoadRect f = v.read (Elt F) f := View.readAt_full v f h

/-- What trip `k` stores into the gradient's block. -/
def gStrip (x dx2 : Vec F S512x1024 .f32) (sc gp : Vec F S1x1024 .f32) (dh : Vec F S512x1024 .f32) (k : Fin k0_t1_loop.trips) : Vec F S16x1024 .f32 :=
  k0_pay2 (k0_pay6 (rows x k)) (k0_pay7 (rows x k)) (k0_pay10 (rows dh k) sc) gp (rows dx2 k)

/-- The gradient's block after trip `k`. -/
def gStep (x dx2 : Vec F S512x1024 .f32) (sc gp : Vec F S1x1024 .f32) (dh : Vec F S512x1024 .f32) (k : Fin k0_t1_loop.trips) (g : Vec F S512x1024 .f32) : Vec F S512x1024 .f32 :=
  VecWindow.put g (k0_off1 k) S16x1024.size (gStrip x dx2 sc gp dh k)

/-- The running sums after trip `k`: each of the three bands has the trip's sixteen rows of its summand added. -/
def aStep (x : Vec F S512x1024 .f32) (sc gp : Vec F S1x1024 .f32) (dh : Vec F S512x1024 .f32) (k : Fin k0_t1_loop.trips) (a : Vec F S48x1024 .f32) : Vec F S48x1024 .f32 :=
  VecWindow.put (VecWindow.put (VecWindow.put a
    ![0, 0] S16x1024.size (k0_pay8 (rows dh k) (band a 0 inb_S48x1024_S16x1024_0_0)))
    ![16, 0] S16x1024.size (k0_pay9 (rows x k) (rows dh k) (band a 16 inb_S48x1024_S16x1024_16_0) gp))
    ![32, 0] S16x1024.size (k0_pay1 (k0_pay7 (rows x k)) (k0_pay10 (rows dh k) sc) (band a 32 inb_S48x1024_S16x1024_32_0))

/-- `n` trips' steps, one after another, from `z`. -/
def iter {σ : Type} (step : Fin k0_t1_loop.trips → σ → σ) (z : σ) : ℕ → σ
  | 0 => z
  | n + 1 => if h : n < k0_t1_loop.trips then step ⟨n, h⟩ (iter step z n) else iter step z n

theorem iter_succ {σ : Type} (step : Fin k0_t1_loop.trips → σ → σ) (z : σ) (k : Fin k0_t1_loop.trips) : iter step z (k.val + 1) = step k (iter step z k.val) := by
  rw [iter, dif_pos k.isLt]

section
variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S4x1024x2048 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S8x1024 .f32) (harg11 : arg11.IsWhole)
  (arg12 : Memref sig .tc .vmem S512x1024 .f32) (harg12 : arg12.IsWhole)
  (arg13 : Memref sig .tc .vmem S48x1024 .f32) (harg13 : arg13.IsWhole)

/-- One trip's triple. -/
theorem trip (w0 w1 : BitVec 32) (k : Fin k0_t1_loop.trips) (x dx2 : Vec F S512x1024 .f32) (sc gp : Vec F S1x1024 .f32) (dh g : Vec F S512x1024 .f32) (acc : Vec F S48x1024 .f32) (E : Set ℕ) :
   (iprop(owns (c : Thread nD τ) arg6 fullShare x ∗ owns (c : Thread nD τ) arg7 fullShare dx2 ∗ owns (c : Thread nD τ) arg8 fullShare sc ∗ owns (c : Thread nD τ) arg9 fullShare gp ∗ owns (c : Thread nD τ) arg12 fullShare dh ∗ owns (c : Thread nD τ) arg10 fullShare g ∗ owns (c : Thread nD τ) arg13 fullShare acc) : sProp 𝕄)
   ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 w0 w1 k PUnit.unit)
    (fun _ => iprop(owns (c : Thread nD τ) arg6 fullShare x ∗ owns (c : Thread nD τ) arg7 fullShare dx2 ∗ owns (c : Thread nD τ) arg8 fullShare sc ∗ owns (c : Thread nD τ) arg9 fullShare gp ∗ owns (c : Thread nD τ) arg12 fullShare dh ∗ owns (c : Thread nD τ) arg10 fullShare (gStep x dx2 sc gp dh k g) ∗ owns (c : Thread nD τ) arg13 fullShare (aStep x sc gp dh k acc))) := by
  have hk : k.val < 32 := Nat.lt_of_lt_of_le k.isLt k0_t1_abs.2.1
  unfold owns
  iintro ⟨⟨%f6, %hf6, H6⟩, ⟨%f7, %hf7, H7⟩, ⟨%f8, %hf8, H8⟩, ⟨%f9, %hf9, H9⟩, ⟨%f12, %hf12, H12⟩, ⟨%f10, %hf10, H10⟩, ⟨%f13, %hf13, H13⟩⟩
  unfold k0_t1_body
  sl_exec
  sl_step
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H12]
  · iexists _; isplitr; · ipureintro; exact hf12
    iexact H12
  isplitl [H10]
  · iexists _; isplitr; swap; · iexact H10
    ipureintro
    subst hf6 hf7 hf8 hf9 hf12 hf10

    rw [View.read_writes_cons_put _ _ _ _ _ rfl, View.writes_nil]
    delta trip.sl.r trip.sl.r_1 trip.sl.r_2
    rw [readAt_rows arg6.view, readAt_rows arg12.view, readAt_rows arg7.view, readAt_row arg8.view, readAt_row arg9.view]
    rfl
  iexists _; isplitr; swap; · iexact H13
  ipureintro
  subst hf6 hf7 hf8 hf9 hf12 hf13

  rw [View.read_writes_cons_put _ _ _ _ _ rfl, View.read_writes_cons_put _ _ _ _ _ rfl, View.read_writes_cons_put _ _ _ _ _ rfl, View.writes_nil]
  delta trip.sl.r_1 trip.sl.r_2 trip.sl.v50 trip.sl.v64
  rw [readAt_rows arg6.view, readAt_rows arg12.view, readAt_row arg8.view, readAt_row arg9.view, readAt_band, readAt_band, readAt_band]
  rfl

/-- The loop: the blocks read stay as they were, and the two written take all the trips' steps. -/
theorem loop (w0 w1 : BitVec 32) (x dx2 : Vec F S512x1024 .f32) (sc gp : Vec F S1x1024 .f32) (dh g : Vec F S512x1024 .f32) (acc : Vec F S48x1024 .f32) (E : Set ℕ)
    (kk : PUnit → Prog (TpuEff nD τ sig (Elt F) Λ₀ .tc) PUnit) (Q : PUnit → sProp 𝕄) :
    (iprop(owns (c : Thread nD τ) arg6 fullShare x ∗ owns (c : Thread nD τ) arg7 fullShare dx2 ∗ owns (c : Thread nD τ) arg8 fullShare sc ∗ owns (c : Thread nD τ) arg9 fullShare gp ∗ owns (c : Thread nD τ) arg12 fullShare dh ∗ owns (c : Thread nD τ) arg10 fullShare g ∗ owns (c : Thread nD τ) arg13 fullShare acc) : sProp 𝕄)
    ⊢ iprop((iprop(owns (c : Thread nD τ) arg6 fullShare x ∗ owns (c : Thread nD τ) arg7 fullShare dx2 ∗ owns (c : Thread nD τ) arg8 fullShare sc ∗ owns (c : Thread nD τ) arg9 fullShare gp ∗ owns (c : Thread nD τ) arg12 fullShare dh ∗ owns (c : Thread nD τ) arg10 fullShare (iter (gStep x dx2 sc gp dh) g k0_t1_loop.trips) ∗ owns (c : Thread nD τ) arg13 fullShare (iter (aStep x sc gp dh) acc k0_t1_loop.trips)) -∗ wp frame (wpE (defs₀ (F := F)) Variants.none (c : Thread nD τ) none) E (kk ⟨⟩) Q)
      -∗ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 w0 w1) >>= kk) Q) := by
  have h := Scf.wp_for_bind (Fr := frame) (wpE := wpE (defs₀ (F := F)) Variants.none (c : Thread nD τ) none) (Es := E)
    k0_t1_loop.lb k0_t1_loop.ub k0_t1_loop.st k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 w0 w1)
    (fun n _ => iprop(owns (c : Thread nD τ) arg6 fullShare x ∗ owns (c : Thread nD τ) arg7 fullShare dx2 ∗ owns (c : Thread nD τ) arg8 fullShare sc ∗ owns (c : Thread nD τ) arg9 fullShare gp ∗ owns (c : Thread nD τ) arg12 fullShare dh ∗ owns (c : Thread nD τ) arg10 fullShare (iter (gStep x dx2 sc gp dh) g n) ∗ owns (c : Thread nD τ) arg13 fullShare (iter (aStep x sc gp dh) acc n)))
    (fun k _ => by
      rw [iter_succ, iter_succ]
      exact trip c i arg1 harg1 arg2 harg2 arg3 harg3 arg4 harg4 arg5 harg5 arg6 harg6 arg7 harg7 arg8 harg8 arg9 harg9 arg10 harg10 arg11 harg11 arg12 harg12 arg13 harg13 w0 w1 k x dx2 sc gp dh _ _ E) (kk := kk) (Q := Q)
  refine h.trans ?_
  iintro Hw Hk
  iapply Hw
  iintro %_
  iexact Hk

end
end Cert.KernelIdeal.Hand
end
-- ==== Proof.Body.lean ====
module

public import proofs.«01_k».proof.Proof.Trip
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One of the four slabs of the weight. -/
def slab (w : Vec F S4x1024x2048 .bf16) (j : ℕ) (h : ∀ d, (![j, 0, 0] : Fin 3 → ℕ) d + S1x1024x2048.size d ≤ S4x1024x2048.size d) : Vec F S1x1024x2048 .bf16 :=
  VecWindow.window w ![j, 0, 0] S1x1024x2048.size h

/-- The block of the gradient of the projection's input: the sum of the four products. -/
def dhBlk (p0 p1 p2 p3 : Vec F S512x2048 .bf16) (w : Vec F S4x1024x2048 .bf16) : Vec F S512x1024 .f32 :=
  k0_pay13 p0 (slab w 0 inb_S4x1024x2048_S1x1024x2048_0_0_0) p1 (slab w 1 inb_S4x1024x2048_S1x1024x2048_1_0_0)
    p2 (slab w 2 inb_S4x1024x2048_S1x1024x2048_2_0_0) p3 (slab w 3 inb_S4x1024x2048_S1x1024x2048_3_0_0)

/-- The three sums' block at the last point: each band of the running sums added up over its sixteen rows. -/
def stFin (st : Vec F S8x1024 .f32) (a : Vec F S48x1024 .f32) : Vec F S8x1024 .f32 :=
  VecWindow.put (VecWindow.put (VecWindow.put st
    ![0, 0] S1x1024.size (k0_pay3 (band a 0 inb_S48x1024_S16x1024_0_0)))
    ![1, 0] S1x1024.size (k0_pay4 (band a 16 inb_S48x1024_S16x1024_16_0)))
    ![2, 0] S1x1024.size (k0_pay5 (band a 32 inb_S48x1024_S16x1024_32_0))

theorem readAt_slab (v : View sig .tc .vmem S4x1024x2048 .bf16) (f : v.ty.Contents (Elt F)) (j : ℕ) (h) :
    v.readAt (Elt F) (Rect.unit (s := S4x1024x2048) ![j, 0, 0] S1x1024x2048.size h).toLoadRect f = slab (v.read (Elt F) f) j h := rfl

theorem readAt_dp (v : View sig .tc .vmem S512x2048 .bf16) (f : v.ty.Contents (Elt F)) (h) :
    v.readAt (Elt F) (Rect.unit (s := S512x2048) ![0, 0] S512x2048.size h).toLoadRect f = v.read (Elt F) f := View.readAt_full v f h

theorem trips_eq : k0_t1_loop.trips = 32 := by decide +kernel

/-- The gradient's block: row `r` is row `r % 16` of what trip `r / 16` stores. -/
def gBlk (x dx2 : Vec F S512x1024 .f32) (sc gp : Vec F S1x1024 .f32) (dh : Vec F S512x1024 .f32) : Vec F S512x1024 .f32 :=
  fun y => gStrip x dx2 sc gp dh ⟨(y 0).val / 16, lt_of_lt_of_eq (by have := (y 0).isLt; change (y 0).val < 512 at this; omega) trips_eq.symm⟩
    (fun d => match d with
      | ⟨0, _⟩ => ⟨(y 0).val % 16, Nat.mod_lt _ (by decide)⟩
      | ⟨1, _⟩ => ⟨(y 1).val, (y 1).isLt⟩)

theorem iter_gStep (x dx2 : Vec F S512x1024 .f32) (sc gp : Vec F S1x1024 .f32) (dh g : Vec F S512x1024 .f32) :
    ∀ n, n ≤ 32 → iter (gStep x dx2 sc gp dh) g n = fun y => if (y 0).val < 16 * n then gBlk x dx2 sc gp dh y else g y
  | 0, _ => by funext y; rw [iter, if_neg (by omega)]
  | n + 1, hn => by
    have hl : n < k0_t1_loop.trips := lt_of_lt_of_eq (by omega) trips_eq.symm
    rw [iter, dif_pos hl, iter_gStep x dx2 sc gp dh g n (by omega)]
    funext y
    have h1 : (y 1).val < 1024 := (y 1).isLt
    have e0 : k0_off1 ⟨n, hl⟩ = ![16 * n, 0] := k0_off1_eq ⟨n, hl⟩
    unfold gStep VecWindow.put
    by_cases hy : 16 * n ≤ (y 0).val ∧ (y 0).val < 16 * n + 16
    · have hm : ∀ a, k0_off1 ⟨n, hl⟩ a ≤ (y a).val ∧ (y a).val < k0_off1 ⟨n, hl⟩ a + S16x1024.size a := by
        rw [e0]; intro a; match a with
        | ⟨0, _⟩ => exact hy
        | ⟨1, _⟩ => exact ⟨Nat.zero_le _, by show (y 1).val < 0 + 1024; omega⟩
      rw [dif_pos hm, if_pos (by omega)]
      unfold gBlk
      have hq : (y 0).val / 16 = n := by omega
      have hk : (⟨(y 0).val / 16, lt_of_lt_of_eq (by have := (y 0).isLt; change (y 0).val < 512 at this; omega) trips_eq.symm⟩ : Fin k0_t1_loop.trips) = ⟨n, hl⟩ := Fin.ext hq
      rw [hk]
      congr 1
      funext d
      match d with
      | ⟨0, _⟩ =>
        apply Fin.ext
        show (y 0).val - k0_off1 ⟨n, hl⟩ 0 = (y 0).val % 16
        rw [e0]; show (y 0).val - 16 * n = _; omega
      | ⟨1, _⟩ =>
        apply Fin.ext
        show (y 1).val - k0_off1 ⟨n, hl⟩ 1 = (y 1).val
        rw [e0]; rfl
    · rw [dif_neg (fun hm => hy (by have := hm 0; rw [e0] at this; exact this))]
      by_cases hlt : (y 0).val < 16 * n
      · show (if (y 0).val < 16 * n then _ else _) = _; rw [if_pos hlt, if_pos (by omega)]
      · show (if (y 0).val < 16 * n then _ else _) = _; rw [if_neg hlt, if_neg (by omega)]

/-- After all the trips nothing of what the gradient's block held is left. -/
theorem iter_gStep_all (x dx2 : Vec F S512x1024 .f32) (sc gp : Vec F S1x1024 .f32) (dh g : Vec F S512x1024 .f32) :
    iter (gStep x dx2 sc gp dh) g k0_t1_loop.trips = gBlk x dx2 sc gp dh := by
  rw [trips_eq, iter_gStep x dx2 sc gp dh g 32 le_rfl]
  funext y
  exact if_pos (y 0).isLt

section
variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S4x1024x2048 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S8x1024 .f32) (harg11 : arg11.IsWhole)
  (arg12 : Memref sig .tc .vmem S512x1024 .f32) (harg12 : arg12.IsWhole)
  (arg13 : Memref sig .tc .vmem S48x1024 .f32) (harg13 : arg13.IsWhole)

/-- What the body holds: the nine blocks it reads, the two it writes, the product's block and the running sums. -/
def Res (p0 p1 p2 p3 : Vec F S512x2048 .bf16) (w : Vec F S4x1024x2048 .bf16) (x dx2 : Vec F S512x1024 .f32) (sc gp : Vec F S1x1024 .f32) (g : Vec F S512x1024 .f32) (st : Vec F S8x1024 .f32) (d : Vec F S512x1024 .f32) (a : Vec F S48x1024 .f32) : sProp 𝕄 :=
  iprop(owns (c : Thread nD τ) arg1 fullShare p0 ∗ owns (c : Thread nD τ) arg2 fullShare p1 ∗ owns (c : Thread nD τ) arg3 fullShare p2 ∗ owns (c : Thread nD τ) arg4 fullShare p3 ∗ owns (c : Thread nD τ) arg5 fullShare w ∗ owns (c : Thread nD τ) arg6 fullShare x ∗ owns (c : Thread nD τ) arg7 fullShare dx2 ∗ owns (c : Thread nD τ) arg8 fullShare sc ∗ owns (c : Thread nD τ) arg9 fullShare gp ∗ owns (c : Thread nD τ) arg10 fullShare g ∗ owns (c : Thread nD τ) arg11 fullShare st ∗ owns (c : Thread nD τ) arg12 fullShare d ∗ owns (c : Thread nD τ) arg13 fullShare a)

/-- At the first point: the statements before the loop. -/
theorem head_first (hc : k0_cond1 i = 1#1) (p0 p1 p2 p3 : Vec F S512x2048 .bf16) (w : Vec F S4x1024x2048 .bf16) (x dx2 : Vec F S512x1024 .f32) (sc gp : Vec F S1x1024 .f32) (g d : Vec F S512x1024 .f32) (st : Vec F S8x1024 .f32) (a : Vec F S48x1024 .f32) (E : Set ℕ) :
    Res c arg1 arg2 arg3 arg4 arg5 arg6 arg7 arg8 arg9 arg10 arg11 arg12 arg13 p0 p1 p2 p3 w x dx2 sc gp g st d a
    ⊢ wp frame (wpE (defs₀ (F := F)) Variants.none (c : Thread nD τ) none) E (k0_part2 (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 p0 p1 p2 p3 w x dx2 sc gp g k0_pay11 (dhBlk p0 p1 p2 p3 w) k0_pay12) := by
  simp only [k0_part2_eq_skeleton]
  unfold Res owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  sl_exec (disch := sl_exact hc)
  sl_step
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact View.read_writes_full _ _ _ _ _
  isplitl [H12]
  · iexists _; isplitr; swap; · iexact H12
    ipureintro
    subst hf1 hf2 hf3 hf4 hf5
    sl_unfold_words
    refine (View.read_writes_full _ _ _ _ _).trans ?_
    rw [readAt_dp arg1.view, readAt_dp arg2.view, readAt_dp arg3.view, readAt_dp arg4.view, readAt_slab, readAt_slab, readAt_slab, readAt_slab]
    rfl
  iexists _; isplitr; swap; · iexact H13
  ipureintro; exact View.read_writes_full _ _ _ _ _

/-- At a later point: the statements before the loop. -/
theorem head_later (hc : ¬ k0_cond1 i = 1#1) (p0 p1 p2 p3 : Vec F S512x2048 .bf16) (w : Vec F S4x1024x2048 .bf16) (x dx2 : Vec F S512x1024 .f32) (sc gp : Vec F S1x1024 .f32) (g d : Vec F S512x1024 .f32) (st : Vec F S8x1024 .f32) (a : Vec F S48x1024 .f32) (E : Set ℕ) :
    Res c arg1 arg2 arg3 arg4 arg5 arg6 arg7 arg8 arg9 arg10 arg11 arg12 arg13 p0 p1 p2 p3 w x dx2 sc gp g st d a
    ⊢ wp frame (wpE (defs₀ (F := F)) Variants.none (c : Thread nD τ) none) E (k0_part2 (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 p0 p1 p2 p3 w x dx2 sc gp g st (dhBlk p0 p1 p2 p3 w) a) := by
  simp only [k0_part2_eq_skeleton]
  unfold Res owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  sl_exec (disch := sl_exact hc)
  sl_step
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro
    subst hf1 hf2 hf3 hf4 hf5
    sl_unfold_words
    refine (View.read_writes_full _ _ _ _ _).trans ?_
    rw [readAt_dp arg1.view, readAt_dp arg2.view, readAt_dp arg3.view, readAt_dp arg4.view, readAt_slab, readAt_slab, readAt_slab, readAt_slab]
    rfl
  iexists _; isplitr; swap; · iexact H13
  ipureintro; exact hf13

/-- The first point: the whole body. -/
theorem body_first (hc1 : k0_cond1 i = 1#1) (hc2 : ¬ k0_cond2 i = 1#1) (p0 p1 p2 p3 : Vec F S512x2048 .bf16) (w : Vec F S4x1024x2048 .bf16) (x dx2 : Vec F S512x1024 .f32) (sc gp : Vec F S1x1024 .f32) (g d : Vec F S512x1024 .f32) (st : Vec F S8x1024 .f32) (a : Vec F S48x1024 .f32) (E : Set ℕ) :
    Res c arg1 arg2 arg3 arg4 arg5 arg6 arg7 arg8 arg9 arg10 arg11 arg12 arg13 p0 p1 p2 p3 w x dx2 sc gp g st d a
    ⊢ wp frame (wpE (defs₀ (F := F)) Variants.none (c : Thread nD τ) none) E (cc0_in_proj_bwd (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 p0 p1 p2 p3 w x dx2 sc gp (gBlk x dx2 sc gp (dhBlk p0 p1 p2 p3 w)) k0_pay11 (dhBlk p0 p1 p2 p3 w) (iter (aStep x sc gp (dhBlk p0 p1 p2 p3 w)) k0_pay12 k0_t1_loop.trips)) := by
  simp only [cc0_in_proj_bwd_eq_skeleton]; unfold cc0_in_proj_bwd_skel
  rw [wp_bind]
  refine (head_first c i arg1 harg1 arg2 harg2 arg3 harg3 arg4 harg4 arg5 harg5 arg6 harg6 arg7 harg7 arg8 harg8 arg9 harg9 arg10 harg10 arg11 harg11 arg12 harg12 arg13 harg13 hc1 p0 p1 p2 p3 w x dx2 sc gp g d st a E).trans (wp_mono _ _ _ ?_)
  rintro ⟨w2, w0, w1⟩
  dsimp only
  unfold Res
  iintro ⟨H1, H2, H3, H4, H5, H6, H7, H8, H9, H10, H11, H12, H13⟩
  iapply (loop c i arg1 harg1 arg2 harg2 arg3 harg3 arg4 harg4 arg5 harg5 arg6 harg6 arg7 harg7 arg8 harg8 arg9 harg9 arg10 harg10 arg11 harg11 arg12 harg12 arg13 harg13 w0 w1 x dx2 sc gp (dhBlk p0 p1 p2 p3 w) g k0_pay12 E _ _) $$ [H6 H7 H8 H9 H10 H12 H13]
  · isplitl [H6]; · iexact H6
    isplitl [H7]; · iexact H7
    isplitl [H8]; · iexact H8
    isplitl [H9]; · iexact H9
    isplitl [H12]; · iexact H12
    isplitl [H10]; · iexact H10
    iexact H13
  rw [iter_gStep_all]
  iintro ⟨H6, H7, H8, H9, H12, H10, H13⟩
  rw [dif_neg hc2]
  sl_exec
  sl_step
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

/-- A point between: the whole body. -/
theorem body_middle (hc1 : ¬ k0_cond1 i = 1#1) (hc2 : ¬ k0_cond2 i = 1#1) (p0 p1 p2 p3 : Vec F S512x2048 .bf16) (w : Vec F S4x1024x2048 .bf16) (x dx2 : Vec F S512x1024 .f32) (sc gp : Vec F S1x1024 .f32) (g d : Vec F S512x1024 .f32) (st : Vec F S8x1024 .f32) (a : Vec F S48x1024 .f32) (E : Set ℕ) :
    Res c arg1 arg2 arg3 arg4 arg5 arg6 arg7 arg8 arg9 arg10 arg11 arg12 arg13 p0 p1 p2 p3 w x dx2 sc gp g st d a
    ⊢ wp frame (wpE (defs₀ (F := F)) Variants.none (c : Thread nD τ) none) E (cc0_in_proj_bwd (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 p0 p1 p2 p3 w x dx2 sc gp (gBlk x dx2 sc gp (dhBlk p0 p1 p2 p3 w)) st (dhBlk p0 p1 p2 p3 w) (iter (aStep x sc gp (dhBlk p0 p1 p2 p3 w)) a k0_t1_loop.trips)) := by
  simp only [cc0_in_proj_bwd_eq_skeleton]; unfold cc0_in_proj_bwd_skel
  rw [wp_bind]
  refine (head_later c i arg1 harg1 arg2 harg2 arg3 harg3 arg4 harg4 arg5 harg5 arg6 harg6 arg7 harg7 arg8 harg8 arg9 harg9 arg10 harg10 arg11 harg11 arg12 harg12 arg13 harg13 hc1 p0 p1 p2 p3 w x dx2 sc gp g d st a E).trans (wp_mono _ _ _ ?_)
  rintro ⟨w2, w0, w1⟩
  dsimp only
  unfold Res
  iintro ⟨H1, H2, H3, H4, H5, H6, H7, H8, H9, H10, H11, H12, H13⟩
  iapply (loop c i arg1 harg1 arg2 harg2 arg3 harg3 arg4 harg4 arg5 harg5 arg6 harg6 arg7 harg7 arg8 harg8 arg9 harg9 arg10 harg10 arg11 harg11 arg12 harg12 arg13 harg13 w0 w1 x dx2 sc gp (dhBlk p0 p1 p2 p3 w) g a E _ _) $$ [H6 H7 H8 H9 H10 H12 H13]
  · isplitl [H6]; · iexact H6
    isplitl [H7]; · iexact H7
    isplitl [H8]; · iexact H8
    isplitl [H9]; · iexact H9
    isplitl [H12]; · iexact H12
    isplitl [H10]; · iexact H10
    iexact H13
  rw [iter_gStep_all]
  iintro ⟨H6, H7, H8, H9, H12, H10, H13⟩
  rw [dif_neg hc2]
  sl_exec
  sl_step
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

/-- The last point: the whole body. -/
theorem body_last (hc1 : ¬ k0_cond1 i = 1#1) (hc2 : k0_cond2 i = 1#1) (p0 p1 p2 p3 : Vec F S512x2048 .bf16) (w : Vec F S4x1024x2048 .bf16) (x dx2 : Vec F S512x1024 .f32) (sc gp : Vec F S1x1024 .f32) (g d : Vec F S512x1024 .f32) (st : Vec F S8x1024 .f32) (a : Vec F S48x1024 .f32) (E : Set ℕ) :
    Res c arg1 arg2 arg3 arg4 arg5 arg6 arg7 arg8 arg9 arg10 arg11 arg12 arg13 p0 p1 p2 p3 w x dx2 sc gp g st d a
    ⊢ wp frame (wpE (defs₀ (F := F)) Variants.none (c : Thread nD τ) none) E (cc0_in_proj_bwd (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 p0 p1 p2 p3 w x dx2 sc gp (gBlk x dx2 sc gp (dhBlk p0 p1 p2 p3 w)) (stFin st (iter (aStep x sc gp (dhBlk p0 p1 p2 p3 w)) a k0_t1_loop.trips)) (dhBlk p0 p1 p2 p3 w) (iter (aStep x sc gp (dhBlk p0 p1 p2 p3 w)) a k0_t1_loop.trips)) := by
  simp only [cc0_in_proj_bwd_eq_skeleton]; unfold cc0_in_proj_bwd_skel
  rw [wp_bind]
  refine (head_later c i arg1 harg1 arg2 harg2 arg3 harg3 arg4 harg4 arg5 harg5 arg6 harg6 arg7 harg7 arg8 harg8 arg9 harg9 arg10 harg10 arg11 harg11 arg12 harg12 arg13 harg13 hc1 p0 p1 p2 p3 w x dx2 sc gp g d st a E).trans (wp_mono _ _ _ ?_)
  rintro ⟨w2, w0, w1⟩
  dsimp only
  unfold Res
  iintro ⟨H1, H2, H3, H4, H5, H6, H7, H8, H9, H10, H11, H12, H13⟩
  iapply (loop c i arg1 harg1 arg2 harg2 arg3 harg3 arg4 harg4 arg5 harg5 arg6 harg6 arg7 harg7 arg8 harg8 arg9 harg9 arg10 harg10 arg11 harg11 arg12 harg12 arg13 harg13 w0 w1 x dx2 sc gp (dhBlk p0 p1 p2 p3 w) g a E _ _) $$ [H6 H7 H8 H9 H10 H12 H13]
  · isplitl [H6]; · iexact H6
    isplitl [H7]; · iexact H7
    isplitl [H8]; · iexact H8
    isplitl [H9]; · iexact H9
    isplitl [H12]; · iexact H12
    isplitl [H10]; · iexact H10
    iexact H13
  rw [iter_gStep_all]
  generalize iter (aStep x sc gp (dhBlk p0 p1 p2 p3 w)) a k0_t1_loop.trips = a'
  unfold owns
  icases H11 with ⟨%f11, %hf11, H11⟩
  iintro ⟨H6, H7, H8, H9, H12, H10, ⟨%f13, %hf13, H13⟩⟩
  sl_exec (disch := sl_exact hc2)
  sl_step
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; isplitr; swap; · iexact H11
    ipureintro
    subst hf11 hf13
    refine (View.read_writes_cons_put _ _ _ _ _ rfl).trans ?_
    rw [View.read_writes_cons_put _ _ _ _ _ rfl, View.read_writes_cons_put _ _ _ _ _ rfl, View.writes_nil]
    sl_unfold_words
    rw [readAt_band, readAt_band, readAt_band]
    rfl
  isplitl [H12]
  · iexact H12
  iexists _; isplitr; swap; · iexact H13
  ipureintro
  exact hf13

end
end Cert.KernelIdeal.Hand
end
-- ==== Proof.Frame.lean ====
module

public import proofs.«01_k».proof.Proof.Body
public import Idealize.ShloMosaic.Lib.Claim
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product's block at point `t`. -/
def dhAt (c : Dev nD) (t : Fin cfg0.N) : Vec F S512x1024 .f32 :=
  dhBlk (iblk m c 0 t) (iblk m c 1 t) (iblk m c 2 t) (iblk m c 3 t) (iblk m c 4 t)

/-- The gradient's block at point `t`. -/
def gAt (c : Dev nD) (t : Fin cfg0.N) : Vec F S512x1024 .f32 :=
  gBlk (iblk m c 5 t) (iblk m c 6 t) (iblk m c 7 t) (iblk m c 8 t) (dhAt m c t)

/-- The running sums after the first `n` points, from zero. -/
def accAt (c : Dev nD) : ℕ → Vec F S48x1024 .f32
  | 0 => k0_pay12
  | n + 1 => if h : n < cfg0.N then
      iter (aStep (iblk m c 5 ⟨n, h⟩) (iblk m c 7 ⟨n, h⟩) (iblk m c 8 ⟨n, h⟩) (dhAt m c ⟨n, h⟩)) (accAt c n) k0_t1_loop.trips
    else accAt c n

theorem accAt_succ (c : Dev nD) (t : Fin cfg0.N) : accAt m c (t.val + 1) =
    iter (aStep (iblk m c 5 t) (iblk m c 7 t) (iblk m c 8 t) (dhAt m c t)) (accAt m c t.val) k0_t1_loop.trips := by
  rw [accAt, dif_pos t.isLt]

/-- The sums' block after point `t`: zero until the last point. -/
def stAt (c : Dev nD) (t : Fin cfg0.N) : Vec F S8x1024 .f32 :=
  if t.val % 8 = 7 then stFin k0_pay11 (accAt m c (t.val + 1)) else k0_pay11

/-- What is held between points besides the windows: the running sums at their value, the rest at anything. -/
def PhiS (c : Dev nD) : ℕ → sProp 𝕄
  | 0 => Pipeline.ΦA spec0 c
  | n + 1 => iprop(iprop((∃ d, owns (c : Thread nD τ) scM0_0 fullShare d) ∗ owns (c : Thread nD τ) scM0_1 fullShare (accAt m c (n + 1))) ∗ (∃ r, prngReg c r))

theorem PhiS_pos (c : Dev nD) (n : ℕ) (hz : n ≠ 0) :
    PhiS m c n = iprop(iprop((∃ d, owns (c : Thread nD τ) scM0_0 fullShare d) ∗ owns (c : Thread nD τ) scM0_1 fullShare (accAt m c n)) ∗ (∃ r, prngReg c r)) := by
  cases n with
  | zero => exact absurd rfl hz
  | succ n => rfl

/-- The pipeline's proof data: every input's buffer at its block, the outputs' at `gAt` and `stAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => gAt m c t
    | ⟨10, _⟩ => stAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = gAt m c t := by dsimp only [dats]
theorem after_10 (c : Dev nD) (t : Fin cfg0.N) : (dats m 0 c).after 10 t = stAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The sums' block stays as it is at the points that do not touch it. -/
theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t hz hi _
  have hN : t.val < 8 := lt_of_lt_of_eq t.isLt N_0
  have h7 : ¬ t.val % 8 = 7 := fun h1 => by
    rw [liveAt0_10_C t (fun h => by have := (hcond0_0 t).mp h; omega) ((hcond0_1 t).mpr h1)] at hi
    exact absurd hi Bool.false_ne_true
  rw [after_10, after_10]
  unfold stAt
  rw [if_neg h7, if_neg (by show ¬ (t.val - 1) % 8 = 7; omega)]

/-- At the last point the sums' buffer still holds zero. -/
theorem before_10_last (c : Dev nD) (t : Fin cfg0.N) (h0 : ¬t.val % 8 = 0) (h1 : t.val % 8 = 7) (d) :
    (dats m 0 c).before 10 t d = (k0_pay11 : Vec F S8x1024 .f32) := by
  rw [Dat.before_out_traj _ 10 rfl (fun _ _ => rfl) (carry_10 m c) t.val t rfl d,
    if_neg (by rw [notFresh0_10_C t (fun h => h0 ((hcond0_0 t).mp h)) ((hcond0_1 t).mpr h1)]; exact Bool.false_ne_true)]
  rw [after_10]
  unfold stAt
  rw [if_neg (by show ¬ (t.val - 1) % 8 = 7; omega)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves_live m c 0 t (liveAt0_0 t), leaves_live m c 1 t (liveAt0_1 t), leaves_live m c 2 t (liveAt0_2 t), leaves_live m c 3 t (liveAt0_3 t), leaves_live m c 4 t (liveAt0_4 t), leaves_live m c 5 t (liveAt0_5 t), leaves_live m c 6 t (liveAt0_6 t), leaves_live m c 7 t (liveAt0_7 t), leaves_live m c 8 t (liveAt0_8 t), leaves_live m c 9 t (liveAt0_9 t)]
  rw [after_0, after_1, after_2, after_3, after_4, after_5, after_6, after_7, after_8, after_9]
  have hN : t.val < 8 := lt_of_lt_of_eq t.isLt N_0
  by_cases h0 : t.val % 8 = 0
  · have h1 : ¬ t.val % 8 = 7 := by omega
    rw [leaves_live m c 10 t (liveAt0_10_A t ((hcond0_0 t).mpr h0) (fun h => h1 ((hcond0_1 t).mp h))), after_10]
    have hz : t.val = 0 := by omega
    rw [show PhiS m c t.val = Pipeline.ΦA spec0 c from by rw [hz]; rfl, PhiA0_eq]
    rw [show accAt m c (t.val + 1) = _ from accAt_succ m c t, show accAt m c t.val = k0_pay12 from by rw [hz]; rfl]
    rw [show stAt m c t = k0_pay11 from if_neg h1]
    iintro ⟨⟨⟨⟨%d, HS0⟩, ⟨%a, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave Hw := (body_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _ _ Set.univ) $$ [H0 H1 H2 H3 H4 H5 H6 H7 H8 H9 H10 HS0 HS1]
    · unfold Res
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iexact HS1
    iapply (wp_wand _ _ _) $$ Hw
    iintro %_ Hr
    unfold Res
    icases Hr with ⟨H0, H1, H2, H3, H4, H5, H6, H7, H8, H9, H10, HS0, HS1⟩
    isplitl [HS0 HS1 Hg]
    · isplitl [HS0 HS1]
      · isplitl [HS0]
        · iexists _; iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h1 : t.val % 8 = 7
    · rw [leaves_live m c 10 t (liveAt0_10_C t (fun h => h0 ((hcond0_0 t).mp h)) ((hcond0_1 t).mpr h1)), after_10]
      simp only [before_10_last m c t h0 h1]
      rw [PhiS_pos m c t.val (by omega)]
      rw [show stAt m c t = stFin k0_pay11 (accAt m c (t.val + 1)) from if_pos h1]
      rw [show accAt m c (t.val + 1) = _ from accAt_succ m c t]
      iintro ⟨⟨⟨⟨%d, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave Hw := (body_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _ _ _ Set.univ) $$ [H0 H1 H2 H3 H4 H5 H6 H7 H8 H9 H10 HS0 HS1]
      · unfold Res
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iexact HS1
      iapply (wp_wand _ _ _) $$ Hw
      iintro %_ Hr
      unfold Res
      icases Hr with ⟨H0, H1, H2, H3, H4, H5, H6, H7, H8, H9, H10, HS0, HS1⟩
      isplitl [HS0 HS1 Hg]
      · isplitl [HS0 HS1]
        · isplitl [HS0]
          · iexists _; iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle _ 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [PhiS_pos m c t.val (by omega)]
      rw [show accAt m c (t.val + 1) = _ from accAt_succ m c t]
      iintro ⟨⟨⟨⟨%d, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave Hw := (body_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _ _ Set.univ) $$ [H0 H1 H2 H3 H4 H5 H6 H7 H8 H9 H10 HS0 HS1]
      · unfold Res
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iexact HS1
      iapply (wp_wand _ _ _) $$ Hw
      iintro %_ Hr
      unfold Res
      icases Hr with ⟨H0, H1, H2, H3, H4, H5, H6, H7, H8, H9, H10, HS0, HS1⟩
      isplitl [HS0 HS1 Hg]
      · isplitl [HS0 HS1]
        · isplitl [HS0]
          · iexists _; iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨⟨HS0, HS1⟩, Hg⟩
  isplitl [HS0 HS1]
  · isplitl [HS0]
    · iexact HS0
    iexists _; iexact HS1
  iexact Hg

set_option backward.isDefEq.respectTransparency.types false in
/-- The launch: every array of the pipeline ends at what the proof data say, every other buffer as it was, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and every counter at zero. -/
theorem frame_main : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Hand
end
-- ==== Proof.Final.lean ====
module

public import proofs.«01_k».proof.Proof.Frame
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ### What the two result arrays hold at the end -/

/-- The grid point with number `n`. -/
def pt (n : ℕ) (h : n < 8) : Fin cfg0.N := ⟨n, lt_of_lt_of_eq h N_0.symm⟩

/-- The gradient's array: row `i` is row `i % 512` of point `i / 512`'s block. -/
def gOut (c : Dev nD) : Buf (Elt F) ((c : Thread nD τ).loc main_v0_0) := fun i =>
  gAt m c (pt ((i 0).val / 512) (by have h : (i 0).val < 4096 := (i 0).isLt; omega))
    (fun d => match d with
      | ⟨0, _⟩ => ⟨(i 0).val % 512, Nat.mod_lt _ (by decide)⟩
      | ⟨1, _⟩ => ⟨(i 1).val, (i 1).isLt⟩)

/-- The array of the sums: the last point's block. -/
def stOut (c : Dev nD) : Buf (Elt F) ((c : Thread nD τ).loc main_v0_1) := stAt m c (pt 7 (by decide))

theorem place9 : ∀ t : Fin cfg0.N, win0_9.index t (0 : Fin 2) = t.val ∧ win0_9.index t (1 : Fin 2) = 0 :=
  (by decide +kernel : ∀ t : Fin grid0.N, _)

theorem place10 : ∀ t : Fin cfg0.N, win0_10.index t (0 : Fin 2) = 0 ∧ win0_10.index t (1 : Fin 2) = 0 :=
  (by decide +kernel : ∀ t : Fin grid0.N, _)

theorem written9 (c : Dev nD) (t : Fin cfg0.N) :
    (dats m 0 c).flushed 9 t = ((cfg0.win 9).blk t).view.read (Elt F) (gOut m c) := by
  show (cfg0.win 9).cut (grid0.coords t) ((dats m 0 c).after 9 t) = _
  rw [after_9]
  obtain ⟨e0, e1⟩ := place9 t
  funext y
  have hy0 : (y 0).val < 512 := (y 0).isLt
  have hy1 : (y 1).val < 1024 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1024 + 1 * (y 1).val := rfl
  show gAt m c t ((cfg0.win 9).xinj (grid0.coords t) y) = gOut m c (((cfg0.win 9).blk t).view.emb y)
  unfold gOut
  have hp : pt ((((cfg0.win 9).blk t).view.emb y 0).val / 512) (by rw [hb0, e0]; have := t.isLt; have : cfg0.N = 8 := N_0; omega) = t :=
    Fin.ext (by show (((cfg0.win 9).blk t).view.emb y 0).val / 512 = t.val; rw [hb0, e0]; omega)
  rw [hp]
  congr 1
  funext a; apply Fin.ext
  match a with
  | ⟨0, _⟩ => show (y 0).val = (((cfg0.win 9).blk t).view.emb y 0).val % 512; rw [hb0]; omega
  | ⟨1, _⟩ => show (y 1).val = (((cfg0.win 9).blk t).view.emb y 1).val; rw [hb1, e1]; omega

theorem mem9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v0_0).slice (win0_9.rect t)).set ↔ _
  rw [View.set_slice_whole, Rect.mem_set_unit]
  exact Iff.rfl

theorem gOut_final (c : Dev nD) : (dats m 0 c).arrAt 9 cfg0.N = gOut m c :=
  (dats m 0 c).arrAt_eq_of_cover 9 _ (fun t _ => written9 m c t) (fun i => by
    have h0 : (i 0).val < 4096 := (i 0).isLt
    have h1 : (i 1).val < 1024 := (i 1).isLt
    refine ⟨pt ((i 0).val / 512) (by omega), flush0_9 _, ?_⟩
    rw [mem9]
    obtain ⟨e0, e1⟩ := place9 (pt ((i 0).val / 512) (by omega))
    have e0' : win0_9.index (pt ((i 0).val / 512) (by omega)) (0 : Fin 2) = (i 0).val / 512 := e0
    intro a
    match a with
    | ⟨0, _⟩ => show win0_9.index _ (0 : Fin 2) * 512 ≤ (i 0).val ∧ (i 0).val < win0_9.index _ (0 : Fin 2) * 512 + 512; rw [e0']; omega
    | ⟨1, _⟩ => show win0_9.index _ (1 : Fin 2) * 1024 ≤ (i 1).val ∧ (i 1).val < win0_9.index _ (1 : Fin 2) * 1024 + 1024; rw [e1]; omega)

theorem written10 (c : Dev nD) (t : Fin cfg0.N) (hf : (cfg0.win 10).flush t = true) :
    (dats m 0 c).flushed 10 t = ((cfg0.win 10).blk t).view.read (Elt F) (stOut m c) := by
  show (cfg0.win 10).cut (grid0.coords t) ((dats m 0 c).after 10 t) = _
  rw [after_10]
  have hm : t.val % 8 = 7 := (flush0_10 t).mp hf
  have ht : t = pt 7 (by decide) := Fin.ext (by show t.val = 7; have := t.isLt; have : cfg0.N = 8 := N_0; omega)
  obtain ⟨e0, e1⟩ := place10 t
  funext y
  have hb0 : (((cfg0.win 10).blk t).view.emb y 0).val = win0_10.index t (0 : Fin 2) * 8 + 1 * (y 0).val := rfl
  have hb1 : (((cfg0.win 10).blk t).view.emb y 1).val = win0_10.index t (1 : Fin 2) * 1024 + 1 * (y 1).val := rfl
  show stAt m c t ((cfg0.win 10).xinj (grid0.coords t) y) = stOut m c (((cfg0.win 10).blk t).view.emb y)
  have hl : ((cfg0.win 10).blk t).view.emb y = (cfg0.win 10).xinj (grid0.coords t) y := by
    funext a; apply Fin.ext
    match a with
    | ⟨0, _⟩ => show (((cfg0.win 10).blk t).view.emb y 0).val = (y 0).val; rw [hb0, e0]; omega
    | ⟨1, _⟩ => show (((cfg0.win 10).blk t).view.emb y 1).val = (y 1).val; rw [hb1, e1]; omega
  rw [hl]
  unfold stOut
  rw [ht]

theorem mem10 (t : Fin cfg0.N) (i : S8x1024.Idx) :
    i ∈ ((cfg0.win 10).blk t).view.set ↔ ∀ a : Fin 2, win0_10.index t a * S8x1024.size a ≤ (i a).val ∧ (i a).val < win0_10.index t a * S8x1024.size a + S8x1024.size a := by
  show i ∈ ((View.whole main_v0_1).slice (win0_10.rect t)).set ↔ _
  rw [View.set_slice_whole, Rect.mem_set_unit]
  exact Iff.rfl

theorem stOut_final (c : Dev nD) : (dats m 0 c).arrAt 10 cfg0.N = stOut m c :=
  (dats m 0 c).arrAt_eq_of_cover 10 _ (fun t hf => written10 m c t hf) (fun i => by
    have h0 : (i 0).val < 8 := (i 0).isLt
    have h1 : (i 1).val < 1024 := (i 1).isLt
    refine ⟨pt 7 (by decide), (flush0_10 _).mpr rfl, ?_⟩
    rw [mem10]
    obtain ⟨e0, e1⟩ := place10 (pt 7 (by decide))
    intro a
    match a with
    | ⟨0, _⟩ => show win0_10.index _ (0 : Fin 2) * 8 ≤ (i 0).val ∧ (i 0).val < win0_10.index _ (0 : Fin 2) * 8 + 8; rw [e0]; omega
    | ⟨1, _⟩ => show win0_10.index _ (1 : Fin 2) * 1024 ≤ (i 1).val ∧ (i 1).val < win0_10.index _ (1 : Fin 2) * 1024 + 1024; rw [e1]; omega)

/-- The launch with its results: the two arrays end at `gOut` and `stOut`, the arguments as they were. -/
theorem run_values : θ_run defs (onTc (τ := τ) (main (F := F))) ⟨m, fun _ => 0, ρ⟩ (fun r => ∀ c : Dev nD,
      r.2.mem ((c.tc : Thread nD τ).loc main_v0_0) = gOut m c
      ∧ r.2.mem ((c.tc : Thread nD τ).loc main_v0_1) = stOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨((h.1 c).1 9).trans (gOut_final m c), ((h.1 c).1 10).trans (stOut_final m c), h.2.1 c⟩)
    (θ_run_and (run_main m ρ) (frame_main m ρ))

end Cert.KernelIdeal.Hand
end
-- ==== Proof.RowAlgebra.lean ====
module

public import Idealize.ShloMosaic.Lib.Pointwise

@[expose] public section

noncomputable section

/-! The gradient of a root-mean-square norm, one row at a time, over the extended reals: two ways to write it agree for
    every row whatever, infinite entries included. -/

namespace Cert.RowAlgebra

open Idealize.ShloMosaic

/-! ### The constants -/

/-- The length of a row, 1024. -/
theorem length_eq : Ideal.ofBits .f32 0x44800000#32 = ((1024 : ℝ) : EReal) := by
  simp [Ideal.ofBits, Ideal.ieee, -EReal.coe_mul]; norm_num

/-- The constant -1/2. -/
theorem negHalf_eq : Ideal.ofBits .f32 0xBF000000#32 = ((-(1 / 2) : ℝ) : EReal) := by
  simp [Ideal.ofBits, Ideal.ieee, -EReal.coe_mul]; norm_num

/-- The norm's small constant is a positive real. -/
theorem eps_pos : ∃ e : ℝ, 0 < e ∧ Ideal.ofBits .f32 0x358637BD#32 = ((e : ℝ) : EReal) := by
  refine ⟨_, ?_, by simp [Ideal.ofBits, Ideal.ieee]; rfl⟩
  positivity

/-! ### A real factor and an extended sum -/

/-- A real factor distributes over a sum of two terms when it is not negative. -/
theorem coe_mul_add {r : ℝ} (hr : 0 ≤ r) (a b : EReal) : (r : EReal) * (a + b) = r * a + r * b := by
  rcases hr.eq_or_lt with h | h
  · subst h; simp
  · induction a <;> induction b <;>
      simp [EReal.coe_mul_top_of_pos, EReal.coe_mul_bot_of_pos, h, ← EReal.coe_add, ← EReal.coe_mul, mul_add,
        EReal.add_bot, EReal.bot_add, EReal.top_add_of_ne_bot, EReal.add_top_of_ne_bot, EReal.coe_ne_bot]

/-- The same for a finite sum. -/
theorem coe_mul_sum {ι : Type*} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- A real multiple added to itself. -/
theorem coe_mul_twice (b : ℝ) (t : EReal) : (b : EReal) * t + b * t = ((2 * b : ℝ) : EReal) * t := by
  induction t with
  | coe t => rw [← EReal.coe_mul, ← EReal.coe_add, ← EReal.coe_mul]; congr 1; ring
  | top =>
    rcases lt_trichotomy b 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy b 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-! ### One row -/

/-- A square is not negative. -/
theorem sq_nonneg' (a : EReal) : 0 ≤ a * a := by
  induction a with
  | coe a => rw [← EReal.coe_mul]; exact_mod_cast mul_self_nonneg a
  | top => simp
  | bot => simp

/-- What the norm divides by, squared: the mean of the squares plus the small constant. -/
def meanSq {n : ℕ} (x : Fin n → EReal) : EReal :=
  Ideal.div (∑ l, x l * x l) (Ideal.ofBits .f32 0x44800000#32) + Ideal.ofBits .f32 0x358637BD#32

/-- The norm's factor: one over the root of `meanSq`. -/
def scale {n : ℕ} (x : Fin n → EReal) : EReal := Ideal.rsqrt (meanSq x)

/-- A row either has an infinite sum of squares, and its factor is zero; or all its entries are real, and the factor is
    the positive real one over the root. -/
theorem row_cases {n : ℕ} (x : Fin n → EReal) :
    (meanSq x = ⊤ ∧ scale x = 0) ∨
    ∃ s r : ℝ, 0 < s ∧ 0 < r ∧ r * r = 1 / s ∧ meanSq x = s ∧ scale x = r ∧ ∀ l, ∃ y : ℝ, x l = y := by
  obtain ⟨e, he, hE⟩ := eps_pos
  have h0 : 0 ≤ ∑ l, x l * x l := Finset.sum_nonneg fun l _ => sq_nonneg' (x l)
  unfold scale meanSq
  rw [hE, length_eq, Ideal.div_coe (by norm_num)]
  generalize hS : ∑ l, x l * x l = S at h0
  induction S with
  | bot => simp at h0
  | top =>
    left
    have : (⊤ : EReal) * ((1 / 1024 : ℝ) : EReal) = ⊤ := EReal.top_mul_coe_of_pos (by norm_num)
    rw [this, EReal.top_add_coe]
    exact ⟨rfl, rfl⟩
  | coe S =>
    right
    have hS0 : 0 ≤ S := by exact_mod_cast h0
    have hs : 0 < S * (1 / 1024) + e := by positivity
    refine ⟨S * (1 / 1024) + e, (Real.sqrt (S * (1 / 1024) + e))⁻¹, hs, by positivity, ?_, ?_, ?_, ?_⟩
    · rw [← mul_inv, Real.mul_self_sqrt hs.le]; exact (one_div _).symm
    · rw [← EReal.coe_mul, ← EReal.coe_add]
    · rw [← EReal.coe_mul, ← EReal.coe_add, Ideal.rsqrt_coe, if_neg (not_lt.mpr hs.le), if_neg hs.ne']
    · intro l
      have hle : x l * x l ≤ (S : EReal) := by
        rw [← hS]; exact Finset.single_le_sum (f := fun l => x l * x l) (fun l _ => sq_nonneg' (x l)) (Finset.mem_univ l)
      generalize hx : x l = y at hle
      induction y with
      | coe y => exact ⟨y, rfl⟩
      | top => simp at hle
      | bot => simp at hle

/-- The factor that comes back through the mean of the squares, written out: the sum of the products times the derivative
    of the inverse root, over the row's length. -/
def back {n : ℕ} (x d : Fin n → EReal) : EReal :=
  Ideal.div ((∑ l, x l * d l) * (Ideal.ofBits .f32 0xBF000000#32 * Ideal.div (scale x) (meanSq x))) (Ideal.ofBits .f32 0x44800000#32)

/-- The two ways to write the gradient of the norm agree: the normalised row's projection taken off and the rest scaled,
    against the chain rule through the mean of the squares. -/
theorem grad_eq {n : ℕ} (x d : Fin n → EReal) (k : Fin n) :
    scale x * (d k - x k * scale x * Ideal.div (∑ l, d l * (x l * scale x)) (Ideal.ofBits .f32 0x44800000#32))
      = d k * scale x + x k * back x d + back x d * x k := by
  unfold back
  rcases row_cases x with ⟨hs, hr⟩ | ⟨s, r, hs0, hr0, hrr, hs, hr, hx⟩
  · have hz : Ideal.div 0 ((1024 : ℝ) : EReal) = 0 := by rw [Ideal.div_coe (by norm_num)]; simp
    have hz' : Ideal.div 0 ⊤ = 0 := by unfold Ideal.div; rw [if_neg (by simp)]; simp
    rw [hr, hs, length_eq, hz', mul_zero (Ideal.ofBits .f32 0xBF000000#32), mul_zero (∑ l, x l * d l), hz]; simp
  · rw [hr, hs, length_eq, negHalf_eq, Ideal.div_coe (by norm_num), Ideal.div_coe hs0.ne', Ideal.div_coe (by norm_num)]
    obtain ⟨y, hy⟩ := hx k
    rw [hy]
    have hsum : ∑ l, d l * (x l * (r : EReal)) = (r : EReal) * ∑ l, x l * d l := by
      rw [coe_mul_sum hr0.le]
      exact Finset.sum_congr rfl fun l _ => by rw [mul_comm (r : EReal), mul_comm (x l) (d l), mul_assoc]
    rw [hsum]
    generalize ∑ l, x l * d l = T
    have e1 : (r : EReal) * (d k - y * r * (r * T * ((1 / 1024 : ℝ) : EReal)))
        = d k * r + ((-(r * (y * r * (r * (1 / 1024)))) : ℝ) : EReal) * T := by
      have : (y : EReal) * r * (r * T * ((1 / 1024 : ℝ) : EReal)) = ((y * r * (r * (1 / 1024)) : ℝ) : EReal) * T := by
        push_cast; ac_rfl
      rw [this, sub_eq_add_neg, coe_mul_add hr0.le, mul_comm (r : EReal) (d k), ← EReal.neg_mul, ← mul_assoc, ← EReal.coe_neg,
        ← EReal.coe_mul, mul_neg]
    have e2 : (y : EReal) * (T * (((-(1 / 2) : ℝ) : EReal) * (r * ((1 / s : ℝ) : EReal))) * ((1 / 1024 : ℝ) : EReal))
        = ((y * (-(1 / 2) * (r * (1 / s)) * (1 / 1024)) : ℝ) : EReal) * T := by
      simp only [EReal.coe_mul]; ac_rfl
    rw [e1, mul_comm _ (y : EReal), e2, add_assoc, coe_mul_twice]
    congr 3
    rw [← hrr]; ring

/-! ### Sums over a range, cut into equal blocks -/

/-- A sum over `n` blocks of `B` is the sum over the blocks of the sums in each. -/
theorem sum_blocks (B : ℕ) (f : ℕ → EReal) (n : ℕ) :
    ∑ i ∈ Finset.range (B * n), f i = ∑ a ∈ Finset.range n, ∑ p ∈ Finset.range B, f (B * a + p) := by
  induction n with
  | zero => simp
  | succ n ih => rw [Nat.mul_succ, Finset.sum_range_add, ih, Finset.sum_range_succ]

/-- A sum over 8192 terms in four runs of 2048. -/
theorem sum_four (f : Fin 8192 → EReal) :
    ∑ l, f l = ∑ l : Fin 2048, f ⟨l.val, by omega⟩ + ∑ l : Fin 2048, f ⟨2048 + l.val, by omega⟩
      + ∑ l : Fin 2048, f ⟨4096 + l.val, by omega⟩ + ∑ l : Fin 2048, f ⟨6144 + l.val, by omega⟩ := by
  have h1 := Fin.sum_univ_add (a := 2048 + 2048 + 2048) (b := 2048) f
  have h2 := Fin.sum_univ_add (a := 2048 + 2048) (b := 2048) (fun i => f (Fin.castAdd 2048 i))
  have h3 := Fin.sum_univ_add (a := 2048) (b := 2048) (fun i => f (Fin.castAdd 2048 (Fin.castAdd 2048 i)))
  rw [h2, h3] at h1
  exact h1

end Cert.RowAlgebra
end
-- ==== Proof.Spec.lean ====
module

public import proofs.«01_k».proof.KernelIdeal
public import proofs.«01_k».proof.Proof.RowAlgebra

@[expose] public section

set_option maxRecDepth 16384

noncomputable section

/-! What the backward pass of the input projection computes, entry by entry, over the extended reals. -/

namespace Cert.KernelIdeal.Hand

open Cert.KernelIdeal
open Idealize.ShloMosaic
open Cert.RowAlgebra

/-- The gradient of the projection's input: the product with the transposed weight, the contraction in the weight's four
    slabs. -/
def dhV (dp : Vec Ideal S4096x8192 .bf16) (w : Vec Ideal S4x1024x2048 .bf16) (i : Fin 4096) (k : Fin 1024) : EReal :=
  ∑ l : Fin 2048, dp (ix2 i ⟨l.val, by omega⟩) * w (ix3 0 k l)
    + ∑ l : Fin 2048, dp (ix2 i ⟨2048 + l.val, by omega⟩) * w (ix3 1 k l)
    + ∑ l : Fin 2048, dp (ix2 i ⟨4096 + l.val, by omega⟩) * w (ix3 2 k l)
    + ∑ l : Fin 2048, dp (ix2 i ⟨6144 + l.val, by omega⟩) * w (ix3 3 k l)

/-- Row `i` of the norm's input. -/
def rowV (x : Vec Ideal S4096x1024 .f32) (i : Fin 4096) : Fin 1024 → EReal := fun l => x (ix2 i l)

/-- The gradient of the scaled norm before its gain: times one plus the modulation's scale. -/
def dhpV (dp : Vec Ideal S4096x8192 .bf16) (w : Vec Ideal S4x1024x2048 .bf16) (sc : Vec Ideal S1x1024 .f32) (i : Fin 4096) (k : Fin 1024) : EReal :=
  dhV dp w i k * (1 + sc (ix2 0 k))

/-- The gradient of the normalised row. -/
def dxnV (dp : Vec Ideal S4096x8192 .bf16) (w : Vec Ideal S4x1024x2048 .bf16) (sc gp : Vec Ideal S1x1024 .f32) (i : Fin 4096) : Fin 1024 → EReal :=
  fun k => dhpV dp w sc i k * gp (ix2 0 k)

/-- The gradient of `x`: what came along the other branch and the norm's own. -/
def gV (dp : Vec Ideal S4096x8192 .bf16) (w : Vec Ideal S4x1024x2048 .bf16) (x dx2 : Vec Ideal S4096x1024 .f32) (sc gp : Vec Ideal S1x1024 .f32)
    (i : Fin 4096) (k : Fin 1024) : EReal :=
  dx2 (ix2 i k) + scale (rowV x i) * (dxnV dp w sc gp i k - rowV x i k * scale (rowV x i)
    * Ideal.div (∑ l, dxnV dp w sc gp i l * (rowV x i l * scale (rowV x i))) (Ideal.ofBits .f32 0x44800000#32))

/-- The summand of the scale's gradient. -/
def scV (dp : Vec Ideal S4096x8192 .bf16) (w : Vec Ideal S4x1024x2048 .bf16) (x : Vec Ideal S4096x1024 .f32) (gp : Vec Ideal S1x1024 .f32)
    (i : Fin 4096) (k : Fin 1024) : EReal :=
  dhV dp w i k * (rowV x i k * scale (rowV x i) * gp (ix2 0 k))

/-- The summand of the gain's gradient. -/
def gainV (dp : Vec Ideal S4096x8192 .bf16) (w : Vec Ideal S4x1024x2048 .bf16) (x : Vec Ideal S4096x1024 .f32) (sc : Vec Ideal S1x1024 .f32)
    (i : Fin 4096) (k : Fin 1024) : EReal :=
  dhpV dp w sc i k * (rowV x i k * scale (rowV x i))

/-- The three sums over all the rows, and rows of zeros. -/
def stV (dp : Vec Ideal S4096x8192 .bf16) (w : Vec Ideal S4x1024x2048 .bf16) (x : Vec Ideal S4096x1024 .f32) (sc gp : Vec Ideal S1x1024 .f32)
    (r : Fin 8) (k : Fin 1024) : EReal :=
  if r.val = 0 then ∑ i, dhV dp w i k
  else if r.val = 1 then ∑ i, scV dp w x gp i k
  else if r.val = 2 then ∑ i, gainV dp w x sc i k
  else 0

/-- The product over the joined weight is the sum of the four slabs' products. -/
theorem dot_split (dp : Vec Ideal S4096x8192 .bf16) (w : Vec Ideal S4x1024x2048 .bf16) (i : Fin 4096) (k : Fin 1024) :
    (∑ l : Fin 8192, dp (ix2 i l) * (if h : l.val < 2048 then w (ix3 0 k ⟨l.val, h⟩)
      else if h : l.val - 2048 < 2048 then w (ix3 1 k ⟨l.val - 2048, h⟩)
      else if h : l.val - 2048 - 2048 < 2048 then w (ix3 2 k ⟨l.val - 2048 - 2048, h⟩)
      else w (ix3 3 k ⟨l.val - 2048 - 2048 - 2048, by omega⟩) : EReal)) = dhV dp w i k := by
  rw [sum_four]
  unfold dhV
  refine congrArg₂ (· + ·) (congrArg₂ (· + ·) (congrArg₂ (· + ·) ?_ ?_) ?_) ?_ <;> refine Finset.sum_congr rfl fun l _ => congrArg (_ * ·) ?_
  · rw [dif_pos l.isLt]
  · have e : (⟨2048 + l.val - 2048, by omega⟩ : Fin 2048) = l := Fin.ext (Nat.add_sub_cancel_left _ _)
    rw [dif_neg (by show ¬ (2048 + l.val < 2048); omega), dif_pos (by show 2048 + l.val - 2048 < 2048; omega), e]
  · have e : (⟨4096 + l.val - 2048 - 2048, by omega⟩ : Fin 2048) = l := Fin.ext (by show 4096 + l.val - 2048 - 2048 = l.val; omega)
    rw [dif_neg (by show ¬ (4096 + l.val < 2048); omega), dif_neg (by show ¬ (4096 + l.val - 2048 < 2048); omega),
      dif_pos (by show 4096 + l.val - 2048 - 2048 < 2048; omega), e]
  · have e : (⟨6144 + l.val - 2048 - 2048 - 2048, by omega⟩ : Fin 2048) = l := Fin.ext (by show 6144 + l.val - 2048 - 2048 - 2048 = l.val; omega)
    rw [dif_neg (by show ¬ (6144 + l.val < 2048); omega), dif_neg (by show ¬ (6144 + l.val - 2048 < 2048); omega),
      dif_neg (by show ¬ (6144 + l.val - 2048 - 2048 < 2048); omega), e]

end Cert.KernelIdeal.Hand
end
-- ==== Proof.KerRead.lean ====
module

public import proofs.«01_k».proof.Proof.Final
public import proofs.«01_k».proof.Proof.Spec

@[expose] public section

set_option maxRecDepth 16384

noncomputable section

/-! The kernel's two results, entry by entry. -/

namespace Cert.KernelIdeal.Hand

open Cert.KernelIdeal Cert.KernelIdeal.Gen
open Idealize.ShloMosaic Idealize.ShloMosaic.TcCoe
open Cert.RowAlgebra

variable (m : (ℓ : Loc nD τ sig) → Buf (Elt Ideal) ℓ) (c : Dev nD)

/-- An argument of the kernel. -/
abbrev arg (b : Ref sig .tc) : Buf (Elt Ideal) ((c.tc : Thread nD τ).loc b) := m ((c.tc : Thread nD τ).loc b)

/-! ### The input blocks -/

theorem placeIn : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = t.val ∧ win0_3.index t (1 : Fin 2) = 3)
    ∧ (win0_4.index t (0 : Fin 3) = 0 ∧ win0_4.index t (1 : Fin 3) = 0 ∧ win0_4.index t (2 : Fin 3) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem lt8 (t : Fin cfg0.N) : t.val < 8 := lt_of_lt_of_eq t.isLt N_0

/-- Row `p` of trip `k` at point `t`, counted from the array's first row. -/
def rowNo (t : Fin cfg0.N) (r : ℕ) (h : r < 512) : Fin 4096 := ⟨512 * t.val + r, by have := lt8 t; omega⟩

theorem blk0 (t : Fin cfg0.N) (r : Fin 512) (l : Fin 2048) :
    iblk m c 0 t (ix2 r l) = arg m c main_arg0 (ix2 (rowNo t r.val r.isLt) ⟨0 + l.val, by omega⟩) := by
  obtain ⟨e0, e1⟩ := (placeIn t).1
  show arg m c main_arg0 (((cfg0.win 0).blk t).view.emb (ix2 r l)) = _
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 2048 + 1 * l.val = 0 + l.val; rw [e1]; omega

theorem blk1 (t : Fin cfg0.N) (r : Fin 512) (l : Fin 2048) :
    iblk m c 1 t (ix2 r l) = arg m c main_arg0 (ix2 (rowNo t r.val r.isLt) ⟨2048 + l.val, by omega⟩) := by
  obtain ⟨e0, e1⟩ := (placeIn t).2.1
  show arg m c main_arg0 (((cfg0.win 1).blk t).view.emb (ix2 r l)) = _
  congr 1
  funext a; apply Fin.ext
  match a with
  | ⟨0, _⟩ => show win0_1.index t (0 : Fin 2) * 512 + 1 * r.val = 512 * t.val + r.val; rw [e0]; omega
  | ⟨1, _⟩ => show win0_1.index t (1 : Fin 2) * 2048 + 1 * l.val = 2048 + l.val; rw [e1]; omega

theorem blk2 (t : Fin cfg0.N) (r : Fin 512) (l : Fin 2048) :
    iblk m c 2 t (ix2 r l) = arg m c main_arg0 (ix2 (rowNo t r.val r.isLt) ⟨4096 + l.val, by omega⟩) := by
  obtain ⟨e0, e1⟩ := (placeIn t).2.2.1
  show arg m c main_arg0 (((cfg0.win 2).blk t).view.emb (ix2 r l)) = _
  congr 1
  funext a; apply Fin.ext
  match a with
  | ⟨0, _⟩ => show win0_2.index t (0 : Fin 2) * 512 + 1 * r.val = 512 * t.val + r.val; rw [e0]; omega
  | ⟨1, _⟩ => show win0_2.index t (1 : Fin 2) * 2048 + 1 * l.val = 4096 + l.val; rw [e1]; omega

theorem blk3 (t : Fin cfg0.N) (r : Fin 512) (l : Fin 2048) :
    iblk m c 3 t (ix2 r l) = arg m c main_arg0 (ix2 (rowNo t r.val r.isLt) ⟨6144 + l.val, by omega⟩) := by
  obtain ⟨e0, e1⟩ := (placeIn t).2.2.2.1
  show arg m c main_arg0 (((cfg0.win 3).blk t).view.emb (ix2 r l)) = _
  congr 1
  funext a; apply Fin.ext
  match a with
  | ⟨0, _⟩ => show win0_3.index t (0 : Fin 2) * 512 + 1 * r.val = 512 * t.val + r.val; rw [e0]; omega
  | ⟨1, _⟩ => show win0_3.index t (1 : Fin 2) * 2048 + 1 * l.val = 6144 + l.val; rw [e1]; omega

theorem blk4 (t : Fin cfg0.N) (j : Fin 4) (k : Fin 1024) (l : Fin 2048) :
    iblk m c 4 t (ix3 j k l) = arg m c main_arg1 (ix3 j k l) := by
  obtain ⟨e0, e1, e2⟩ := (placeIn t).2.2.2.2.1
  show arg m c main_arg1 (((cfg0.win 4).blk t).view.emb (ix3 j k l)) = _
  congr 1
  funext a; apply Fin.ext
  match a with
  | ⟨0, _⟩ => show win0_4.index t (0 : Fin 3) * 4 + 1 * j.val = j.val; rw [e0]; omega
  | ⟨1, _⟩ => show win0_4.index t (1 : Fin 3) * 1024 + 1 * k.val = k.val; rw [e1]; omega
  | ⟨2, _⟩ => show win0_4.index t (2 : Fin 3) * 2048 + 1 * l.val = l.val; rw [e2]; omega

theorem blk5 (t : Fin cfg0.N) (r : Fin 512) (l : Fin 1024) :
    iblk m c 5 t (ix2 r l) = arg m c main_arg2 (ix2 (rowNo t r.val r.isLt) l) := by
  obtain ⟨e0, e1⟩ := (placeIn t).2.2.2.2.2.1
  show arg m c main_arg2 (((cfg0.win 5).blk t).view.emb (ix2 r l)) = _
  congr 1
  funext a; apply Fin.ext
  match a with
  | ⟨0, _⟩ => show win0_5.index t (0 : Fin 2) * 512 + 1 * r.val = 512 * t.val + r.val; rw [e0]; omega
  | ⟨1, _⟩ => show win0_5.index t (1 : Fin 2) * 1024 + 1 * l.val = l.val; rw [e1]; omega

theorem blk6 (t : Fin cfg0.N) (r : Fin 512) (l : Fin 1024) :
    iblk m c 6 t (ix2 r l) = arg m c main_arg3 (ix2 (rowNo t r.val r.isLt) l) := by
  obtain ⟨e0, e1⟩ := (placeIn t).2.2.2.2.2.2.1
  show arg m c main_arg3 (((cfg0.win 6).blk t).view.emb (ix2 r l)) = _
  congr 1
  funext a; apply Fin.ext
  match a with
  | ⟨0, _⟩ => show win0_6.index t (0 : Fin 2) * 512 + 1 * r.val = 512 * t.val + r.val; rw [e0]; omega
  | ⟨1, _⟩ => show win0_6.index t (1 : Fin 2) * 1024 + 1 * l.val = l.val; rw [e1]; omega

theorem blk7 (t : Fin cfg0.N) (l : Fin 1024) :
    iblk m c 7 t (ix2 0 l) = arg m c main_arg5 (ix2 0 l) := by
  obtain ⟨e0, e1⟩ := (placeIn t).2.2.2.2.2.2.2.1
  show arg m c main_arg5 (((cfg0.win 7).blk t).view.emb (ix2 0 l)) = _
  congr 1
  funext a; apply Fin.ext
  match a with
  | ⟨0, _⟩ => show win0_7.index t (0 : Fin 2) * 1 + 1 * 0 = 0; rw [e0]
  | ⟨1, _⟩ => show win0_7.index t (1 : Fin 2) * 1024 + 1 * l.val = l.val; rw [e1]; omega

theorem blk8 (t : Fin cfg0.N) (l : Fin 1024) :
    iblk m c 8 t (ix2 0 l) = arg m c main_arg6 (ix2 0 l) := by
  obtain ⟨e0, e1⟩ := (placeIn t).2.2.2.2.2.2.2.2
  show arg m c main_arg6 (((cfg0.win 8).blk t).view.emb (ix2 0 l)) = _
  congr 1
  funext a; apply Fin.ext
  match a with
  | ⟨0, _⟩ => show win0_8.index t (0 : Fin 2) * 1 + 1 * 0 = 0; rw [e0]
  | ⟨1, _⟩ => show win0_8.index t (1 : Fin 2) * 1024 + 1 * l.val = l.val; rw [e1]; omega

/-! ### The product -/

theorem slab_at (w : Vec Ideal S4x1024x2048 .bf16) (j : ℕ) (hj : j < 4) (h) (k : Fin 1024) (l : Fin 2048) :
    slab w j h (ix3 0 k l) = w (ix3 ⟨j, hj⟩ k l) := by
  show w _ = w _
  congr 1
  funext a; apply Fin.ext
  match a with
  | ⟨0, _⟩ => show j + 1 * 0 = j; omega
  | ⟨1, _⟩ => show 0 + 1 * k.val = k.val; omega
  | ⟨2, _⟩ => show 0 + 1 * l.val = l.val; omega

theorem dhBlk_at (p0 p1 p2 p3 : Vec Ideal S512x2048 .bf16) (w : Vec Ideal S4x1024x2048 .bf16) (r : Fin 512) (k : Fin 1024) :
    dhBlk p0 p1 p2 p3 w (ix2 r k) = ∑ l : Fin 2048, p0 (ix2 r l) * w (ix3 0 k l) + ∑ l : Fin 2048, p1 (ix2 r l) * w (ix3 1 k l)
      + ∑ l : Fin 2048, p2 (ix2 r l) * w (ix3 2 k l) + ∑ l : Fin 2048, p3 (ix2 r l) * w (ix3 3 k l) := by
  unfold dhBlk
  have e0 := fun l => slab_at w 0 (by decide) inb_S4x1024x2048_S1x1024x2048_0_0_0 k l
  have e1 := fun l => slab_at w 1 (by decide) inb_S4x1024x2048_S1x1024x2048_1_0_0 k l
  have e2 := fun l => slab_at w 2 (by decide) inb_S4x1024x2048_S1x1024x2048_2_0_0 k l
  have e3 := fun l => slab_at w 3 (by decide) inb_S4x1024x2048_S1x1024x2048_3_0_0 k l
  generalize slab w 0 inb_S4x1024x2048_S1x1024x2048_0_0_0 = s0 at *
  generalize slab w 1 inb_S4x1024x2048_S1x1024x2048_1_0_0 = s1 at *
  generalize slab w 2 inb_S4x1024x2048_S1x1024x2048_2_0_0 = s2 at *
  generalize slab w 3 inb_S4x1024x2048_S1x1024x2048_3_0_0 = s3 at *
  pointwise [k0_pay13]
  simp only [e0, e1, e2, e3]
  rfl

theorem dhAt_at (t : Fin cfg0.N) (r : Fin 512) (k : Fin 1024) :
    dhAt m c t (ix2 r k) = dhV (arg m c main_arg0) (arg m c main_arg1) (rowNo t r.val r.isLt) k := by
  unfold dhAt
  rw [dhBlk_at]
  unfold dhV
  refine congrArg₂ (· + ·) (congrArg₂ (· + ·) (congrArg₂ (· + ·) ?_ ?_) ?_) ?_ <;> refine Finset.sum_congr rfl fun l _ => ?_
  · rw [blk0, blk4]; rw [show (⟨0 + l.val, by omega⟩ : Fin 8192) = ⟨l.val, by omega⟩ from Fin.ext (Nat.zero_add _)]
  · rw [blk1, blk4]
  · rw [blk2, blk4]
  · rw [blk3, blk4]

/-! ### One trip -/

theorem rows_at (x : Vec Ideal S512x1024 .f32) (k : Fin k0_t1_loop.trips) (p : Fin 16) (l : Fin 1024) :
    rows x k (ix2 p l) = x (ix2 ⟨16 * k.val + p.val, by have : k.val < 32 := lt_of_lt_of_eq k.isLt trips_eq; omega⟩ l) := by
  have e : k0_off1 k = ![16 * k.val, 0] := k0_off1_eq k
  show x _ = x _
  congr 1
  funext a; apply Fin.ext
  match a with
  | ⟨0, _⟩ => show k0_off1 k 0 + 1 * p.val = 16 * k.val + p.val; rw [e]; show 16 * k.val + 1 * p.val = _; omega
  | ⟨1, _⟩ => show k0_off1 k 1 + 1 * l.val = l.val; rw [e]; show 0 + 1 * l.val = _; omega

/-- The array's row that row `p` of trip `k` at point `t` is. -/
def rowOf (t : Fin cfg0.N) (k : Fin k0_t1_loop.trips) (p : Fin 16) : Fin 4096 :=
  rowNo t (16 * k.val + p.val) (by have : k.val < 32 := lt_of_lt_of_eq k.isLt trips_eq; omega)

theorem x_at (t : Fin cfg0.N) (k : Fin k0_t1_loop.trips) (p : Fin 16) (l : Fin 1024) :
    rows (iblk m c 5 t) k (ix2 p l) = rowV (arg m c main_arg2) (rowOf t k p) l := by
  rw [rows_at, blk5]; rfl

theorem dx2_at (t : Fin cfg0.N) (k : Fin k0_t1_loop.trips) (p : Fin 16) (l : Fin 1024) :
    rows (iblk m c 6 t) k (ix2 p l) = arg m c main_arg3 (ix2 (rowOf t k p) l) := by
  rw [rows_at, blk6]; rfl

theorem dh_at (t : Fin cfg0.N) (k : Fin k0_t1_loop.trips) (p : Fin 16) (l : Fin 1024) :
    rows (dhAt m c t) k (ix2 p l) = dhV (arg m c main_arg0) (arg m c main_arg1) (rowOf t k p) l := by
  rw [rows_at, dhAt_at]; rfl

theorem pay7_at (t : Fin cfg0.N) (k : Fin k0_t1_loop.trips) (p : Fin 16) (l : Fin 1024) :
    k0_pay7 (rows (iblk m c 5 t) k) (ix2 p l)
      = rowV (arg m c main_arg2) (rowOf t k p) l * scale (rowV (arg m c main_arg2) (rowOf t k p)) := by
  have e := fun l => x_at m c t k p l
  generalize rows (iblk m c 5 t) k = X at *
  pointwise [k0_pay7, k0_pay6]
  simp only [e]
  rfl

theorem pay6_at (t : Fin cfg0.N) (k : Fin k0_t1_loop.trips) (p : Fin 16) :
    k0_pay6 (rows (iblk m c 5 t) k) (ix2 p 0) = scale (rowV (arg m c main_arg2) (rowOf t k p)) := by
  have e := fun l => x_at m c t k p l
  generalize rows (iblk m c 5 t) k = X at *
  pointwise [k0_pay6]
  simp only [e]
  rfl

theorem pay10_at (t : Fin cfg0.N) (k : Fin k0_t1_loop.trips) (p : Fin 16) (l : Fin 1024) :
    k0_pay10 (rows (dhAt m c t) k) (iblk m c 7 t) (ix2 p l)
      = dhpV (arg m c main_arg0) (arg m c main_arg1) (arg m c main_arg5) (rowOf t k p) l := by
  have e := dh_at m c t k p l
  have e7 := blk7 m c t l
  unfold dhpV
  rw [← e, ← e7]
  generalize rows (dhAt m c t) k = X
  generalize iblk m c 7 t = Y
  pointwise [k0_pay10]

/-- What trip `k` at point `t` stores is the gradient at its rows. -/
theorem gStrip_at (t : Fin cfg0.N) (k : Fin k0_t1_loop.trips) (p : Fin 16) (l : Fin 1024) :
    gStrip (iblk m c 5 t) (iblk m c 6 t) (iblk m c 7 t) (iblk m c 8 t) (dhAt m c t) k (ix2 p l)
      = gV (arg m c main_arg0) (arg m c main_arg1) (arg m c main_arg2) (arg m c main_arg3) (arg m c main_arg5) (arg m c main_arg6) (rowOf t k p) l := by
  unfold gStrip gV dxnV
  have e6 := pay6_at m c t k p
  have e7 := fun l => pay7_at m c t k p l
  have e10 := fun l => pay10_at m c t k p l
  have ed := dx2_at m c t k p l
  have e8 := fun l => blk8 m c t l
  generalize k0_pay6 (rows (iblk m c 5 t) k) = A6 at *
  generalize k0_pay7 (rows (iblk m c 5 t) k) = A7 at *
  generalize k0_pay10 (rows (dhAt m c t) k) (iblk m c 7 t) = A10 at *
  generalize rows (iblk m c 6 t) k = D2 at *
  generalize iblk m c 8 t = G8 at *
  pointwise [k0_pay2]
  simp only [e6, e7, e10, ed, e8]

theorem gOut_at (i : Fin 4096) (l : Fin 1024) :
    gOut m c (ix2 i l) = gV (arg m c main_arg0) (arg m c main_arg1) (arg m c main_arg2) (arg m c main_arg3) (arg m c main_arg5) (arg m c main_arg6) i l := by
  have hk : i.val % 512 / 16 < k0_t1_loop.trips := lt_of_lt_of_eq (by omega) trips_eq.symm
  have e : rowOf (pt (i.val / 512) (by omega)) ⟨i.val % 512 / 16, hk⟩ ⟨i.val % 512 % 16, by omega⟩ = i :=
    Fin.ext (by show 512 * (i.val / 512) + (16 * (i.val % 512 / 16) + i.val % 512 % 16) = i.val; omega)
  have h := gStrip_at m c (pt (i.val / 512) (by omega)) ⟨i.val % 512 / 16, hk⟩ ⟨i.val % 512 % 16, by omega⟩ l
  rw [e] at h
  refine Eq.trans ?_ h
  unfold gOut gAt gBlk
  congr 1
  funext a
  match a with
  | ⟨0, _⟩ => rfl
  | ⟨1, _⟩ => rfl

end Cert.KernelIdeal.Hand
end
-- ==== Proof.SumRead.lean ====
module

public import proofs.«01_k».proof.Proof.KerRead

@[expose] public section

set_option maxRecDepth 16384

noncomputable section

/-! The kernel's three sums over the rows: what the running sums hold after each trip and each point, and their total. -/

namespace Cert.KernelIdeal.Hand

open Cert.KernelIdeal Cert.KernelIdeal.Gen
open Idealize.ShloMosaic Idealize.ShloMosaic.TcCoe
open Cert.RowAlgebra

variable (m : (ℓ : Loc nD τ sig) → Buf (Elt Ideal) ℓ) (c : Dev nD)

/-- The summand of sum `b` at row `i`. -/
def term (b : Fin 3) (i : Fin 4096) (l : Fin 1024) : EReal :=
  match b with
  | ⟨0, _⟩ => dhV (arg m c main_arg0) (arg m c main_arg1) i l
  | ⟨1, _⟩ => scV (arg m c main_arg0) (arg m c main_arg1) (arg m c main_arg2) (arg m c main_arg6) i l
  | ⟨2, _⟩ => gainV (arg m c main_arg0) (arg m c main_arg1) (arg m c main_arg2) (arg m c main_arg5) i l

/-- The same at a row's number, zero past the last row. -/
def termN (b : Fin 3) (l : Fin 1024) (i : ℕ) : EReal := if h : i < 4096 then term m c b ⟨i, h⟩ l else 0

/-! ### A store of sixteen rows -/

theorem put_in (a : Vec Ideal S48x1024 .f32) (o : ℕ) (w : Vec Ideal S16x1024 .f32) (p : Fin 16) (l : Fin 1024) (h : o + p.val < 48) :
    VecWindow.put a ![o, 0] S16x1024.size w (ix2 ⟨o + p.val, h⟩ l) = w (ix2 p l) := by
  have hm : ∀ d, (![o, 0] : Fin 2 → ℕ) d ≤ ((ix2 ⟨o + p.val, h⟩ l : S48x1024.Idx) d).val
      ∧ ((ix2 ⟨o + p.val, h⟩ l : S48x1024.Idx) d).val < (![o, 0] : Fin 2 → ℕ) d + S16x1024.size d := fun d => match d with
    | ⟨0, _⟩ => ⟨Nat.le_add_right o p.val, Nat.add_lt_add_left p.isLt o⟩
    | ⟨1, _⟩ => ⟨Nat.zero_le _, by show l.val < 0 + 1024; omega⟩
  unfold VecWindow.put
  rw [dif_pos hm]
  congr 1
  funext d; apply Fin.ext
  match d with
  | ⟨0, _⟩ => show o + p.val - o = p.val; omega
  | ⟨1, _⟩ => show l.val - 0 = l.val; omega

theorem put_out (a : Vec Ideal S48x1024 .f32) (o : ℕ) (w : Vec Ideal S16x1024 .f32) (r : Fin 48) (l : Fin 1024) (h : r.val < o ∨ o + 16 ≤ r.val) :
    VecWindow.put a ![o, 0] S16x1024.size w (ix2 r l) = a (ix2 r l) := by
  unfold VecWindow.put
  rw [dif_neg (fun hm => by
    have h0 : o ≤ r.val ∧ r.val < o + 16 := hm 0
    omega)]

theorem band_at (a : Vec Ideal S48x1024 .f32) (o : ℕ) (h) (p : Fin 16) (l : Fin 1024) (ho : o + p.val < 48) :
    band a o h (ix2 p l) = a (ix2 ⟨o + p.val, ho⟩ l) := by
  show a _ = a _
  congr 1
  funext d; apply Fin.ext
  match d with
  | ⟨0, _⟩ => show o + 1 * p.val = o + p.val; omega
  | ⟨1, _⟩ => show 0 + 1 * l.val = l.val; omega

/-! ### One trip -/

theorem pay8_at (d a : Vec Ideal S16x1024 .f32) (p : Fin 16) (l : Fin 1024) : k0_pay8 d a (ix2 p l) = ((a (ix2 p l) + d (ix2 p l) : EReal)) := by
  pointwise [k0_pay8]

theorem pay1_at (x d a : Vec Ideal S16x1024 .f32) (p : Fin 16) (l : Fin 1024) :
    k0_pay1 x d a (ix2 p l) = ((a (ix2 p l) + d (ix2 p l) * x (ix2 p l) : EReal)) := by
  pointwise [k0_pay1]

theorem pay9_at (x d a : Vec Ideal S16x1024 .f32) (gp : Vec Ideal S1x1024 .f32) (p : Fin 16) (l : Fin 1024) :
    k0_pay9 x d a gp (ix2 p l) = ((a (ix2 p l) + d (ix2 p l) * (k0_pay7 x (ix2 p l) * gp (ix2 0 l)) : EReal)) := by
  unfold k0_pay9
  generalize k0_pay7 x = X
  pointwise []

/-- A trip adds, to row `p` of each band, the summand at its own row `p`. -/
theorem aStep_at (t : Fin cfg0.N) (k : Fin k0_t1_loop.trips) (a : Vec Ideal S48x1024 .f32) (b : Fin 3) (p : Fin 16) (l : Fin 1024) :
    aStep (iblk m c 5 t) (iblk m c 7 t) (iblk m c 8 t) (dhAt m c t) k a (ix2 ⟨16 * b.val + p.val, by omega⟩ l)
      = (a (ix2 ⟨16 * b.val + p.val, by omega⟩ l) + term m c b (rowOf t k p) l : EReal) := by
  unfold aStep
  match b with
  | ⟨0, hb⟩ =>
    rw [put_out _ 32 _ _ _ (.inl (by show 16 * 0 + p.val < 32; omega)), put_out _ 16 _ _ _ (.inl (by show 16 * 0 + p.val < 16; omega))]
    refine (put_in _ 0 _ p l (by omega)).trans ?_
    rw [pay8_at, band_at _ _ _ _ _ (by omega), dh_at]
    rfl
  | ⟨1, hb⟩ =>
    rw [put_out _ 32 _ _ _ (.inl (by show 16 * 1 + p.val < 32; omega))]
    refine (put_in _ 16 _ p l (by omega)).trans ?_
    rw [pay9_at, band_at _ _ _ _ _ (by omega), dh_at, pay7_at, blk8]
    rfl
  | ⟨2, hb⟩ =>
    refine (put_in _ 32 _ p l (by omega)).trans ?_
    rw [pay1_at, band_at _ _ _ _ _ (by omega), pay7_at, pay10_at]
    rfl

/-! ### All the trips of a point, and all the points -/

theorem iter_at (t : Fin cfg0.N) (a : Vec Ideal S48x1024 .f32) (b : Fin 3) (p : Fin 16) (l : Fin 1024) : ∀ n, n ≤ 32 →
    iter (aStep (iblk m c 5 t) (iblk m c 7 t) (iblk m c 8 t) (dhAt m c t)) a n (ix2 ⟨16 * b.val + p.val, by omega⟩ l)
      = (a (ix2 ⟨16 * b.val + p.val, by omega⟩ l) + ∑ j ∈ Finset.range n, termN m c b l (512 * t.val + (16 * j + p.val)) : EReal)
  | 0, _ => by rw [Finset.range_zero, Finset.sum_empty, iter]; exact (add_zero (M := EReal) _).symm
  | n + 1, hn => by
    have hl : n < k0_t1_loop.trips := lt_of_lt_of_eq (by omega) trips_eq.symm
    rw [iter, dif_pos hl, aStep_at, iter_at t a b p l n (by omega), Finset.sum_range_succ, add_assoc]
    congr 2
    have := lt8 t
    unfold termN
    rw [dif_pos (by omega)]
    rfl

theorem acc_at (b : Fin 3) (p : Fin 16) (l : Fin 1024) : ∀ n, n ≤ 8 →
    accAt m c n (ix2 ⟨16 * b.val + p.val, by omega⟩ l)
      = (∑ t ∈ Finset.range n, ∑ j ∈ Finset.range 32, termN m c b l (512 * t + (16 * j + p.val)) : EReal)
  | 0, _ => by
    rw [Finset.range_zero, Finset.sum_empty]
    show k0_pay12 (F := Ideal) _ = _
    pointwise [k0_pay12]
  | n + 1, hn => by
    have e := accAt_succ m c (pt n (by omega))
    change accAt m c (n + 1) = _ at e
    rw [e, trips_eq, iter_at m c _ _ b p l 32 le_rfl]
    refine (congrArg (fun z : EReal => z + ∑ j ∈ Finset.range 32, termN m c b l (512 * n + (16 * j + p.val))) (acc_at b p l n (by omega))).trans ?_
    exact (Finset.sum_range_succ (fun t => ∑ j ∈ Finset.range 32, termN m c b l (512 * t + (16 * j + p.val))) n).symm

/-- The total over the sixteen rows of a band is the sum over all the rows. -/
theorem total (b : Fin 3) (l : Fin 1024) :
    (∑ p : Fin 16, accAt m c 8 (ix2 ⟨16 * b.val + p.val, by omega⟩ l) : EReal) = ∑ i, term m c b i l := by
  have e : (∑ i, term m c b i l) = ∑ i ∈ Finset.range (512 * 8), termN m c b l i := by
    rw [Finset.sum_range]
    refine Finset.sum_congr rfl fun i _ => ?_
    unfold termN
    rw [dif_pos i.isLt]
  have e' : ∀ t, ∑ r ∈ Finset.range 512, termN m c b l (512 * t + r)
      = ∑ j ∈ Finset.range 32, ∑ p ∈ Finset.range 16, termN m c b l (512 * t + (16 * j + p)) := fun t =>
    sum_blocks 16 (fun r => termN m c b l (512 * t + r)) 32
  rw [e, sum_blocks, Finset.sum_congr rfl fun t _ => (e' t).trans Finset.sum_comm, Finset.sum_comm, Finset.sum_range]
  exact Finset.sum_congr rfl fun p _ => acc_at m c b p l 8 le_rfl

/-! ### The rows of the sums' array -/

theorem putRow_in (a : Vec Ideal S8x1024 .f32) (o : ℕ) (w : Vec Ideal S1x1024 .f32) (r : Fin 8) (l : Fin 1024) (h : r.val = o) :
    VecWindow.put a ![o, 0] S1x1024.size w (ix2 r l) = w (ix2 0 l) := by
  have hm : ∀ d, (![o, 0] : Fin 2 → ℕ) d ≤ ((ix2 r l : S8x1024.Idx) d).val
      ∧ ((ix2 r l : S8x1024.Idx) d).val < (![o, 0] : Fin 2 → ℕ) d + S1x1024.size d := fun d => match d with
    | ⟨0, _⟩ => ⟨h.ge, by show r.val < o + 1; omega⟩
    | ⟨1, _⟩ => ⟨Nat.zero_le _, by show l.val < 0 + 1024; omega⟩
  unfold VecWindow.put
  rw [dif_pos hm]
  congr 1
  funext d; apply Fin.ext
  match d with
  | ⟨0, _⟩ => show r.val - o = 0; omega
  | ⟨1, _⟩ => show l.val - 0 = l.val; omega

theorem putRow_out (a : Vec Ideal S8x1024 .f32) (o : ℕ) (w : Vec Ideal S1x1024 .f32) (r : Fin 8) (l : Fin 1024) (h : r.val ≠ o) :
    VecWindow.put a ![o, 0] S1x1024.size w (ix2 r l) = a (ix2 r l) := by
  unfold VecWindow.put
  rw [dif_neg (fun hm => by
    have h0 : o ≤ r.val ∧ r.val < o + 1 := hm 0
    omega)]

theorem pay3_at (a : Vec Ideal S16x1024 .f32) (l : Fin 1024) : k0_pay3 a (ix2 0 l) = (∑ p : Fin 16, a (ix2 p l) : EReal) := by pointwise [k0_pay3]
theorem pay4_at (a : Vec Ideal S16x1024 .f32) (l : Fin 1024) : k0_pay4 a (ix2 0 l) = (∑ p : Fin 16, a (ix2 p l) : EReal) := by pointwise [k0_pay4]
theorem pay5_at (a : Vec Ideal S16x1024 .f32) (l : Fin 1024) : k0_pay5 a (ix2 0 l) = (∑ p : Fin 16, a (ix2 p l) : EReal) := by pointwise [k0_pay5]

theorem stOut_at (r : Fin 8) (l : Fin 1024) :
    stOut m c (ix2 r l) = stV (arg m c main_arg0) (arg m c main_arg1) (arg m c main_arg2) (arg m c main_arg5) (arg m c main_arg6) r l := by
  have e : stOut m c = stFin k0_pay11 (accAt m c 8) := by
    unfold stOut stAt
    exact if_pos (by decide)
  rw [e]
  unfold stFin stV
  by_cases h0 : r.val = 0
  · rw [if_pos h0, putRow_out _ 2 _ _ _ (by omega), putRow_out _ 1 _ _ _ (by omega), putRow_in _ 0 _ _ _ h0, pay3_at]
    refine Eq.trans ?_ (total m c 0 l)
    exact Finset.sum_congr (M := EReal) rfl fun p _ => band_at _ _ _ _ _ (by omega)
  by_cases h1 : r.val = 1
  · rw [if_neg h0, if_pos h1, putRow_out _ 2 _ _ _ (by omega), putRow_in _ 1 _ _ _ h1, pay4_at]
    refine Eq.trans ?_ (total m c 1 l)
    exact Finset.sum_congr (M := EReal) rfl fun p _ => band_at _ _ _ _ _ (by omega)
  by_cases h2 : r.val = 2
  · rw [if_neg h0, if_neg h1, if_pos h2, putRow_in _ 2 _ _ _ h2, pay5_at]
    refine Eq.trans ?_ (total m c 2 l)
    exact Finset.sum_congr (M := EReal) rfl fun p _ => band_at _ _ _ _ _ (by omega)
  · rw [if_neg h0, if_neg h1, if_neg h2, putRow_out _ 2 _ _ _ h2, putRow_out _ 1 _ _ _ h1, putRow_out _ 0 _ _ _ h0]
    pointwise [k0_pay11]

end Cert.KernelIdeal.Hand
end
-- ==== Proof.RefRead.lean ====
module

public import proofs.«01_k».proof.Proof.Spec
public import proofs.«01_k».proof.Proof.Gen.ReferenceIdeal.Run

@[expose] public section

set_option maxRecDepth 16384

noncomputable section

/-! The reference's two results, entry by entry. -/

namespace Cert.ReferenceIdeal.Hand

open Cert.ReferenceIdeal Cert.ReferenceIdeal.Gen
open Idealize.ShloMosaic Idealize.ShloMosaic.TcCoe
open Cert.RowAlgebra
open Cert.KernelIdeal.Hand (dhV rowV dhpV dxnV gV scV gainV stV dot_split)

/-- One of the weight's four slabs, as a matrix. -/
def slabR (w : FVec Ideal S4x1024x2048 .bf16) (o : Fin 3 → ℕ) (h : S4x1024x2048.Slices o S1x1024x2048) : FVec Ideal S1024x2048 .bf16 :=
  shapeCast S1024x2048 (extractStridedSlice S1x1024x2048 o w h) shapeCasts_S1x1024x2048_S1024x2048

/-- The product with the joined weight, transposed. -/
def dhR (dp : FVec Ideal S4096x8192 .bf16) (w : FVec Ideal S4x1024x2048 .bf16) : FVec Ideal S4096x1024 .f32 :=
  Host.dotGeneral dot_S4096x8192_S1024x8192_S4096x1024_1_1_0_0_n_n none (extf .f32 dp bitsLt_bf16_f32)
    (extf .f32 (concatenate S1024x8192 1 [⟨S1024x2048, slabR w ![0, 0, 0] slices_S4x1024x2048_S1x1024x2048_0_0_0⟩,
      ⟨S1024x2048, slabR w ![1, 0, 0] slices_S4x1024x2048_S1x1024x2048_1_0_0⟩,
      ⟨S1024x2048, slabR w ![2, 0, 0] slices_S4x1024x2048_S1x1024x2048_2_0_0⟩,
      ⟨S1024x2048, slabR w ![3, 0, 0] slices_S4x1024x2048_S1x1024x2048_3_0_0⟩]
      concatenates_S1024x2048_S1024x2048_S1024x2048_S1024x2048_S1024x8192_d1 : FVec Ideal S1024x8192 .bf16) bitsLt_bf16_f32)

theorem dhR_apply (dp : FVec Ideal S4096x8192 .bf16) (w : FVec Ideal S4x1024x2048 .bf16) (i : Fin 4096) (k : Fin 1024) :
    dhR dp w (ix2 i k) = dhV dp w i k := by
  refine Eq.trans ?_ (dot_split dp w i k)
  pointwise [dhR, slabR]

/-- The mean of the squares and the small constant. -/
def msR (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem msR_apply (x : FVec Ideal S4096x1024 .f32) (i : Fin 4096) : msR x (ix2 i 0) = meanSq (rowV x i) := by
  unfold meanSq rowV
  pointwise [msR]

/-- The normalised rows. -/
def xnR (x : FVec Ideal S4096x1024 .f32) : FVec Ideal S4096x1024 .f32 :=
  mulf x (broadcastInDim S4096x1024 ![0, 1] bcast_S4096x1_S4096x1024_0_1 (Host.rsqrt (msR x)))

theorem xnR_apply (x : FVec Ideal S4096x1024 .f32) (i : Fin 4096) (k : Fin 1024) : xnR x (ix2 i k) = rowV x i k * scale (rowV x i) := by
  pointwise [xnR]
  rw [msR_apply]; rfl

/-- The gradient of the normalised rows, before the gain. -/
def dhpR (d : FVec Ideal S4096x1024 .f32) (sc : FVec Ideal S1x1024 .f32) : FVec Ideal S4096x1024 .f32 :=
  mulf d (broadcastInDim S4096x1024 ![0, 1] bcast_S1x1024_S4096x1024_0_1 (addf (broadcastInDim S1x1024 ![] bcast_S_S1x1024 (constant S_ .f32 0x3F800000#32)) sc))

theorem dhpR_apply (dp : FVec Ideal S4096x8192 .bf16) (w : FVec Ideal S4x1024x2048 .bf16) (sc : FVec Ideal S1x1024 .f32) (i : Fin 4096) (k : Fin 1024) :
    dhpR (dhR dp w) sc (ix2 i k) = dhpV dp w sc i k := by
  pointwise [dhpR]
  rw [dhR_apply]; rfl

/-- The gradient of the normalised rows. -/
def dxnR (d : FVec Ideal S4096x1024 .f32) (sc gp : FVec Ideal S1x1024 .f32) : FVec Ideal S4096x1024 .f32 :=
  mulf (dhpR d sc) (broadcastInDim S4096x1024 ![0, 1] bcast_S1x1024_S4096x1024_0_1 gp)

theorem dxnR_apply (dp : FVec Ideal S4096x8192 .bf16) (w : FVec Ideal S4x1024x2048 .bf16) (sc gp : FVec Ideal S1x1024 .f32) (i : Fin 4096) (k : Fin 1024) :
    dxnR (dhR dp w) sc gp (ix2 i k) = dxnV dp w sc gp i k := by
  pointwise [dxnR]
  rw [dhpR_apply]; rfl

/-- What comes back through the mean of the squares. -/
def backR (x d : FVec Ideal S4096x1024 .f32) : FVec Ideal S4096x1024 .f32 :=
  broadcastInDim S4096x1024 ![0] bcast_S4096_S4096x1024_0 (Host.reduceAdd (Host.divf
    (mulf (shapeCast S4096x1 (Host.reduceAdd (mulf x d) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (msR x)) (msR x))))
    (broadcastInDim S4096x1 ![] bcast_S_S4096x1 (constant S_ .f32 0x44800000#32))) (constant S_ .f32 0x00000000#32) reducesTo_S4096x1_S4096_d1 h_S_)

theorem backR_apply (x d : FVec Ideal S4096x1024 .f32) (i : Fin 4096) (k : Fin 1024) :
    backR x d (ix2 i k) = back (rowV x i) (fun l => d (ix2 i l)) := by
  have e := msR_apply x i
  have e' : ∀ z : Fin 1, msR x (ix2 i z) = meanSq (rowV x i) := fun z => by rw [Subsingleton.elim z 0]; exact e
  pointwise [backR]
  simp only [e', Fin.sum_univ_one, Finset.univ_unique, Finset.sum_singleton]
  rfl

variable (m : (ℓ : Loc nD τ sig) → Buf (Elt Ideal) ℓ) (c : Dev nD)

/-- An argument of the reference. -/
abbrev arg (b : Ref sig .tc) : Buf (Elt Ideal) ((c.tc : Thread nD τ).loc b) := m ((c.tc : Thread nD τ).loc b)

theorem res_g : Value.res_main_v62 (F := Ideal) m c
    = (addf (arg m c main_arg3) (addf (addf (mulf (dxnR (dhR (arg m c main_arg0) (arg m c main_arg1)) (arg m c main_arg5) (arg m c main_arg6))
        (broadcastInDim S4096x1024 ![0, 1] bcast_S4096x1_S4096x1024_0_1 (Host.rsqrt (msR (arg m c main_arg2)))))
      (mulf (arg m c main_arg2) (backR (arg m c main_arg2) (dxnR (dhR (arg m c main_arg0) (arg m c main_arg1)) (arg m c main_arg5) (arg m c main_arg6)))))
      (mulf (backR (arg m c main_arg2) (dxnR (dhR (arg m c main_arg0) (arg m c main_arg1)) (arg m c main_arg5) (arg m c main_arg6))) (arg m c main_arg2)))
      : FVec Ideal S4096x1024 .f32) := by
  unfold Value.res_main_v62 dxnR dhpR backR msR dhR slabR
  rfl

theorem ref_g (i : Fin 4096) (k : Fin 1024) :
    Value.res_main_v62 (F := Ideal) m c (ix2 i k)
      = gV (arg m c main_arg0) (arg m c main_arg1) (arg m c main_arg2) (arg m c main_arg3) (arg m c main_arg5) (arg m c main_arg6) i k := by
  rw [res_g]
  pointwise []
  rw [dxnR_apply, backR_apply, msR_apply]
  simp only [dxnR_apply]
  exact (congrArg (fun z : EReal => (show EReal from arg m c main_arg3 (ix2 i k)) + z)
    (grad_eq (rowV (arg m c main_arg2) i) (dxnV (arg m c main_arg0) (arg m c main_arg1) (arg m c main_arg5) (arg m c main_arg6) i) k)).symm

/-- The joined rows of the sums. -/
theorem res_st : Value.res_main_v64 (F := Ideal) m c
    = (concatenate S8x1024 0 [⟨S1x1024, (shapeCast S1x1024 (Host.reduceAdd (dhR (arg m c main_arg0) (arg m c main_arg1)) (constant S_ .f32 0x00000000#32) reducesTo_S4096x1024_S1024_d0 h_S_) shapeCasts_S1024_S1x1024 : FVec Ideal S1x1024 .f32)⟩,
      ⟨S1x1024, (shapeCast S1x1024 (Host.reduceAdd (mulf (mulf (xnR (arg m c main_arg2)) (broadcastInDim S4096x1024 ![0, 1] bcast_S1x1024_S4096x1024_0_1 (arg m c main_arg6)))
        (dhR (arg m c main_arg0) (arg m c main_arg1))) (constant S_ .f32 0x00000000#32) reducesTo_S4096x1024_S1024_d0 h_S_) shapeCasts_S1024_S1x1024 : FVec Ideal S1x1024 .f32)⟩,
      ⟨S1x1024, (shapeCast S1x1024 (Host.reduceAdd (mulf (xnR (arg m c main_arg2)) (dhpR (dhR (arg m c main_arg0) (arg m c main_arg1)) (arg m c main_arg5)))
        (constant S_ .f32 0x00000000#32) reducesTo_S4096x1024_S1024_d0 h_S_) shapeCasts_S1024_S1x1024 : FVec Ideal S1x1024 .f32)⟩,
      ⟨S5x1024, (broadcastInDim S5x1024 ![] bcast_S_S5x1024 (constant S_ .f32 0x00000000#32) : FVec Ideal S5x1024 .f32)⟩] concatenates_S1x1024_S1x1024_S1x1024_S5x1024_S8x1024_d0 : FVec Ideal S8x1024 .f32) := by
  unfold Value.res_main_v64 dhpR xnR msR dhR slabR
  rfl

theorem ref_st (r : Fin 8) (k : Fin 1024) :
    Value.res_main_v64 (F := Ideal) m c (ix2 r k)
      = stV (arg m c main_arg0) (arg m c main_arg1) (arg m c main_arg2) (arg m c main_arg5) (arg m c main_arg6) r k := by
  rw [res_st]
  pointwise []
  unfold stV
  by_cases h0 : r.val = 0
  · rw [dif_pos (by omega), if_pos h0]
    exact Finset.sum_congr (M := EReal) rfl fun i _ => dhR_apply _ _ _ _
  by_cases h1 : r.val = 1
  · rw [dif_neg (by omega), dif_pos (by omega), if_neg h0, if_pos h1]
    exact Finset.sum_congr (M := EReal) rfl fun i _ => by rw [xnR_apply, dhR_apply]; exact mul_comm (G := EReal) _ _
  by_cases h2 : r.val = 2
  · rw [dif_neg (by omega), dif_neg (by omega), dif_pos (by omega), if_neg h0, if_neg h1, if_pos h2]
    exact Finset.sum_congr (M := EReal) rfl fun i _ => by rw [xnR_apply, dhpR_apply]; exact mul_comm (G := EReal) _ _
  · rw [dif_neg (by omega), dif_neg (by omega), dif_neg (by omega), if_neg h0, if_neg h1, if_neg h2]

end Cert.ReferenceIdeal.Hand
end
-- ==== Proof.Same.lean ====
module

public import proofs.«01_k».proof.Defs
public import proofs.«01_k».proof.Proof.Gen.Kernel
public import proofs.«01_k».proof.Proof.Gen.KernelIdeal

@[expose] public section

/-! The kernel and its idealization are one text: their body tables and their launches are equal. -/

namespace Cert.Proof

open Idealize.ShloMosaic Idealize.SL.Sem

theorem part1_same : Cert.Kernel.k0_part1 (F := Bits) = Cert.KernelIdeal.k0_part1 (F := Bits) := rfl

theorem part2_same : Cert.Kernel.k0_part2 (F := Bits) = Cert.KernelIdeal.k0_part2 (F := Bits) := rfl

theorem body_same : Cert.Kernel.cc0_in_proj_bwd (F := Bits) = Cert.KernelIdeal.cc0_in_proj_bwd (F := Bits) := rfl

theorem table_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l x
  match l, x with
  | 0, (t, s) => rfl

theorem defs_same : Cert.Kernel.defs (F := Bits) = Cert.KernelIdeal.defs (F := Bits) := by
  show Pipeline.defs Cert.KernelIdeal.pcfgs Cert.Kernel.defs₀ = _
  rw [table_same]
  rfl

theorem main_same : Cert.Kernel.main (F := Bits) = Cert.KernelIdeal.main (F := Bits) := rfl

end Cert.Proof
-- ==== Proof.GradWeight.lean ====
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

/-! The gradient of a square weight: entry `(k, l)` is the sum over the rows of the input's column `k` times the
result's gradient's column `l`, in the kernel, whose points take 512 columns each, and in the reference. -/

namespace Cert.Kernel2Ideal.Hand

open Cert.Kernel2Ideal Cert.Kernel2Ideal.Gen
open Idealize.ShloMosaic Idealize.ShloMosaic.TcCoe Idealize.SL.Sem

/-- The gradient's array. -/
def gwV (a b : FVec Ideal S4096x1024 .bf16) : FVec Ideal S1x1024x1024 .bf16 := fun i =>
  (∑ s : Fin 4096, a (ix2 s (i 1)) * b (ix2 s (i 2)) : EReal)

variable (m : (ℓ : Loc nD τ sig) → Buf (Elt Ideal) ℓ) (ρ : Dev nD → PrngReg) (c : Dev nD)

theorem places : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 3) = 0 ∧ win0_2.index t (1 : Fin 3) = 0 ∧ win0_2.index t (2 : Fin 3) = t.val) :=
  (by decide +kernel : ∀ t : Fin grid0.N, _)

theorem lt2 (t : Fin cfg0.N) : t.val < 2 := lt_of_lt_of_eq t.isLt (by decide)

theorem blkA (t : Fin cfg0.N) (s : Fin 4096) (k : Fin 1024) : iblk m c 0 t (ix2 s k) = m ((c : Thread nD τ).loc main_arg0) (ix2 s k) := by
  obtain ⟨e0, e1⟩ := (places t).1
  show m ((c : Thread nD τ).loc main_arg0) (((cfg0.win 0).blk t).view.emb (ix2 s k)) = _
  congr 1
  funext a; apply Fin.ext
  match a with
  | ⟨0, _⟩ => show win0_0.index t (0 : Fin 2) * 4096 + 1 * s.val = s.val; rw [e0]; omega
  | ⟨1, _⟩ => show win0_0.index t (1 : Fin 2) * 1024 + 1 * k.val = k.val; rw [e1]; omega

theorem blkB (t : Fin cfg0.N) (s : Fin 4096) (l : Fin 512) :
    iblk m c 1 t (ix2 s l) = m ((c : Thread nD τ).loc main_arg1) (ix2 s ⟨512 * t.val + l.val, by have := lt2 t; omega⟩) := by
  obtain ⟨e0, e1⟩ := (places t).2.1
  show m ((c : Thread nD τ).loc main_arg1) (((cfg0.win 1).blk t).view.emb (ix2 s l)) = _
  congr 1
  funext a; apply Fin.ext
  match a with
  | ⟨0, _⟩ => show win0_1.index t (0 : Fin 2) * 4096 + 1 * s.val = s.val; rw [e0]; omega
  | ⟨1, _⟩ => show win0_1.index t (1 : Fin 2) * 512 + 1 * l.val = 512 * t.val + l.val; rw [e1]; omega

theorem pay_at (x : Vec Ideal S4096x1024 .bf16) (y : Vec Ideal S4096x512 .bf16) (k : Fin 1024) (l : Fin 512) :
    k0_pay1 x y (ix3 0 k l) = (∑ s : Fin 4096, x (ix2 s k) * y (ix2 s l) : EReal) := by
  pointwise [k0_pay1]

theorem written (t : Fin cfg0.N) :
    (dats m 0 c).flushed 2 t = ((cfg0.win 2).blk t).view.read (Elt Ideal) (gwV (m ((c : Thread nD τ).loc main_arg0)) (m ((c : Thread nD τ).loc main_arg1))) := by
  rw [Value.flushed2]
  obtain ⟨e0, e1, e2⟩ := (places t).2.2
  funext y
  have hb1 : (((cfg0.win 2).blk t).view.emb y 1).val = win0_2.index t (1 : Fin 3) * 1024 + 1 * (y 1).val := rfl
  have hb2 : (((cfg0.win 2).blk t).view.emb y 2).val = win0_2.index t (2 : Fin 3) * 512 + 1 * (y 2).val := rfl
  have h0 : (y 0).val < 1 := (y 0).isLt
  have hy : (cfg0.win 2).xinj (grid0.coords t) y = ix3 (0 : Fin 1) (⟨(y 1).val, (y 1).isLt⟩ : Fin 1024) (⟨(y 2).val, (y 2).isLt⟩ : Fin 512) := by
    funext a; apply Fin.ext
    match a with
    | ⟨0, _⟩ => show (y 0).val = 0; omega
    | ⟨1, _⟩ => rfl
    | ⟨2, _⟩ => rfl
  show out0_2 (iblk m c 0 t) (iblk m c 1 t) ((cfg0.win 2).xinj (grid0.coords t) y) = gwV _ _ (((cfg0.win 2).blk t).view.emb y)
  rw [hy]
  have eo : out0_2 (iblk m c 0 t) (iblk m c 1 t) = k0_pay1 (F := Ideal) (iblk m c 0 t) (iblk m c 1 t) := by
    frame_out
  rw [eo]
  refine (pay_at (iblk m c 0 t) (iblk m c 1 t) ⟨(y 1).val, (y 1).isLt⟩ ⟨(y 2).val, (y 2).isLt⟩).trans ?_
  unfold gwV
  refine Finset.sum_congr (M := EReal) rfl fun s _ => ?_
  rw [blkA, blkB]
  have k1 : (⟨(y 1).val, (y 1).isLt⟩ : Fin 1024) = ((cfg0.win 2).blk t).view.emb y 1 := Fin.ext (by
    show (y 1).val = (((cfg0.win 2).blk t).view.emb y 1).val; rw [hb1, e1]; omega)
  have k2 : (⟨512 * t.val + (y 2).val, by have := lt2 t; have : (y 2).val < 512 := (y 2).isLt; omega⟩ : Fin 1024) = ((cfg0.win 2).blk t).view.emb y 2 := Fin.ext (by
    show 512 * t.val + (y 2).val = (((cfg0.win 2).blk t).view.emb y 2).val; rw [hb2, e2]; omega)
  rw [k1, k2]

theorem mem2 (t : Fin cfg0.N) (i : S1x1024x1024.Idx) :
    i ∈ ((cfg0.win 2).blk t).view.set ↔ ∀ a : Fin 3, win0_2.index t a * S1x1024x512.size a ≤ (i a).val ∧ (i a).val < win0_2.index t a * S1x1024x512.size a + S1x1024x512.size a := by
  show i ∈ ((View.whole main_v0).slice (win0_2.rect t)).set ↔ _
  rw [View.set_slice_whole, Rect.mem_set_unit]
  exact Iff.rfl

theorem final : (dats m 0 c).arrAt 2 cfg0.N = gwV (m ((c : Thread nD τ).loc main_arg0)) (m ((c : Thread nD τ).loc main_arg1)) :=
  (dats m 0 c).arrAt_eq_of_cover 2 _ (fun t _ => written m c t) (fun i => by
    have h0 : (i 0).val < 1 := (i 0).isLt
    have h1 : (i 1).val < 1024 := (i 1).isLt
    have h2 : (i 2).val < 1024 := (i 2).isLt
    have ht : (i 2).val / 512 < cfg0.N := lt_of_lt_of_eq (by omega : (i 2).val / 512 < 2) (by decide)
    refine ⟨⟨(i 2).val / 512, ht⟩, flush0_2 _, ?_⟩
    rw [mem2]
    obtain ⟨e0, e1, e2⟩ := (places ⟨(i 2).val / 512, ht⟩).2.2
    have e2' : win0_2.index ⟨(i 2).val / 512, ht⟩ (2 : Fin 3) = (i 2).val / 512 := e2
    intro a
    match a with
    | ⟨0, _⟩ => show win0_2.index _ (0 : Fin 3) * 1 ≤ (i 0).val ∧ (i 0).val < win0_2.index _ (0 : Fin 3) * 1 + 1; rw [e0]; omega
    | ⟨1, _⟩ => show win0_2.index _ (1 : Fin 3) * 1024 ≤ (i 1).val ∧ (i 1).val < win0_2.index _ (1 : Fin 3) * 1024 + 1024; rw [e1]; omega
    | ⟨2, _⟩ => show win0_2.index _ (2 : Fin 3) * 512 ≤ (i 2).val ∧ (i 2).val < win0_2.index _ (2 : Fin 3) * 512 + 512; rw [e2']; omega)

/-- The launch with its result. -/
theorem run_values : θ_run defs (onTc (τ := τ) (main (F := Ideal))) ⟨m, fun _ => 0, ρ⟩ fun r => ∀ c : Dev nD,
      r.2.mem ((c : Thread nD τ).loc main_v0) = gwV (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel2Ideal.Hand

namespace Cert.Reference2Ideal.Hand

open Cert.Reference2Ideal Cert.Reference2Ideal.Gen
open Idealize.ShloMosaic Idealize.ShloMosaic.TcCoe Idealize.SL.Sem
open Cert.Kernel2Ideal.Hand (gwV)

theorem ref_gw (a b : FVec Ideal S4096x1024 .bf16) :
    broadcastInDim S1x1024x1024 ![1, 2] bcast_S1024x1024_S1x1024x1024_1_2 (truncf .bf16 (transpose S1024x1024 [1, 0] (Host.dotGeneral (F := Ideal) dot_S4096x1024_S4096x1024_S1024x1024_0_0_1_1_n_n none (extf .f32 b bitsLt_bf16_f32) (extf .f32 a bitsLt_bf16_f32)) transposes_S1024x1024_S1024x1024_1_0) bitsLt_bf16_f32) = gwV a b := by
  funext i
  have hi : i = ix3 (0 : Fin 1) (i 1) (i 2) := by
    funext d
    match d with
    | ⟨0, _⟩ => exact Fin.ext (by have h : (i 0).val < 1 := (i 0).isLt; show (i 0).val = 0; omega)
    | ⟨1, _⟩ => rfl
    | ⟨2, _⟩ => rfl
  rw [hi]
  unfold gwV
  refine Eq.trans (b := (∑ s : Fin 4096, b (ix2 s (i 2)) * a (ix2 s (i 1)) : EReal)) ?_ (Finset.sum_congr (M := EReal) rfl fun s _ => mul_comm (G := EReal) _ _)
  generalize (i 1 : Fin 1024) = k
  generalize (i 2 : Fin 1024) = l
  pointwise []

end Cert.Reference2Ideal.Hand
end
-- ==== Proof.OutRow.lean ====
module

public import proofs.«01_k».proof.Proof.RowAlgebra

@[expose] public section

noncomputable section

/-! The backward pass of the output projection and the loss, one row at a time, over the extended reals. -/

namespace Cert.RowAlgebra

open Idealize.ShloMosaic

/-- The sigmoid. -/
def sigm (v : EReal) : EReal := Ideal.div 1 (1 + Ideal.exp (-v))

/-- What one row of the pass is computed from: the two gates before their sigmoids, the two branches, the residual, the
    target, the gains, and the three weights. -/
structure Row where
  /-- the first gate before its sigmoid -/
  pa : Fin 1024 → EReal
  /-- the second gate before its sigmoid -/
  pb : Fin 1024 → EReal
  /-- the first branch -/
  a : Fin 1024 → EReal
  /-- the second branch -/
  b : Fin 1024 → EReal
  /-- the residual -/
  x : Fin 1024 → EReal
  /-- the target -/
  t : Fin 1024 → EReal
  /-- the gate on the residual -/
  gate : Fin 1024 → EReal
  /-- the last norm's gain -/
  gf : Fin 1024 → EReal
  /-- the first branch's weight -/
  wc : Fin 1024 → Fin 1024 → EReal
  /-- the second branch's weight -/
  ws : Fin 1024 → Fin 1024 → EReal
  /-- the output's weight -/
  wo : Fin 1024 → Fin 1024 → EReal

namespace Row

variable (R : Row)

/-- The first branch's projection. -/
def yA (k : Fin 1024) : EReal := ∑ l, R.a l * R.wc l k
/-- The second branch's projection. -/
def yB (k : Fin 1024) : EReal := ∑ l, R.b l * R.ws l k
/-- The two projections, gated and added. -/
def mg (k : Fin 1024) : EReal := sigm (R.pa k) * R.yA k + sigm (R.pb k) * R.yB k
/-- The output projection. -/
def o (k : Fin 1024) : EReal := ∑ l, R.mg l * R.wo l k
/-- The residual with the gated output. -/
def x2 (k : Fin 1024) : EReal := R.x k + R.gate k * R.o k
/-- The normalised row. -/
def xh (k : Fin 1024) : EReal := R.x2 k * scale R.x2
/-- The difference from the target. -/
def e (k : Fin 1024) : EReal := R.xh k * R.gf k - R.t k
/-- The gradient of the norm's output. -/
def dy (k : Fin 1024) : EReal := R.e k * Ideal.ofBits .f32 0x3A800000#32
/-- The gradient of the normalised row. -/
def dn (k : Fin 1024) : EReal := R.dy k * R.gf k
/-- The gradient of the residual. -/
def dx (k : Fin 1024) : EReal :=
  scale R.x2 * (R.dn k - R.xh k * Ideal.div (∑ l, R.dn l * R.xh l) (Ideal.ofBits .f32 0x44800000#32))
/-- The gradient of the output projection. -/
def dO (k : Fin 1024) : EReal := R.gate k * R.dx k
/-- The gradient of the gated sum. -/
def dm (k : Fin 1024) : EReal := ∑ l, R.dO l * R.wo k l
/-- The gradient of the first projection. -/
def dyA (k : Fin 1024) : EReal := sigm (R.pa k) * R.dm k
/-- The gradient of the second projection. -/
def dyB (k : Fin 1024) : EReal := sigm (R.pb k) * R.dm k
/-- The gradient of the first branch. -/
def dA (k : Fin 1024) : EReal := ∑ l, R.dyA l * R.wc k l
/-- The gradient of the second branch. -/
def dB (k : Fin 1024) : EReal := ∑ l, R.dyB l * R.ws k l
/-- The gradient of the first gate. -/
def dpA (k : Fin 1024) : EReal := R.dm k * R.yA k * sigm (R.pa k) * (1 - sigm (R.pa k))
/-- The gradient of the second gate. -/
def dpB (k : Fin 1024) : EReal := R.dm k * R.yB k * sigm (R.pb k) * (1 - sigm (R.pb k))

/-- The gradients of the two gates, side by side. -/
def dp (k : Fin 2048) : EReal := if h : k.val < 1024 then R.dpA ⟨k.val, h⟩ else R.dpB ⟨k.val - 1024, by omega⟩

/-- The gradient of the residual by the chain rule through the mean of the squares. -/
theorem dx_eq (k : Fin 1024) : R.dx k = R.dn k * scale R.x2 + R.x2 k * back R.x2 R.dn + back R.x2 R.dn * R.x2 k :=
  grad_eq R.x2 R.dn k

end Row

/-! ### The constants of the loss -/

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem inv_eq : Ideal.ofBits .f32 0x3A800000#32 = ((1 / 1024 : ℝ) : EReal) := by
  simp [Ideal.ofBits, Ideal.ieee, -EReal.coe_mul]; norm_num

theorem halfInv_eq : Ideal.ofBits .f32 0x3A000000#32 = ((1 / 2048 : ℝ) : EReal) := by
  simp [Ideal.ofBits, Ideal.ieee, -EReal.coe_mul]; norm_num

/-- The derivative of half the mean of the squares. -/
theorem dy_coef (z : EReal) :
    Ideal.div (Ideal.ofBits .f32 0x3F000000#32 * 1) (Ideal.ofBits .f32 0x44800000#32) * (Ideal.ofBits .f32 0x40000000#32 * z)
      = z * Ideal.ofBits .f32 0x3A800000#32 := by
  rw [half_eq, two_eq, inv_eq, length_eq, mul_one, mul_comm z]
  have e : Ideal.div ((1 / 2 : ℝ) : EReal) ((1024 : ℝ) : EReal) = ((1 / 2048 : ℝ) : EReal) := by
    rw [Ideal.div_coe (by norm_num), ← EReal.coe_mul]; norm_num
  rw [e, ← mul_assoc, ← EReal.coe_mul]; norm_num

/-- Half the sum of the squares over the length, against each part's own share. -/
theorem loss_coef (z : EReal) :
    Ideal.div (Ideal.ofBits .f32 0x3F000000#32 * z) (Ideal.ofBits .f32 0x44800000#32)
      = Ideal.ofBits .f32 0x3A000000#32 * z := by
  rw [half_eq, halfInv_eq, length_eq, Ideal.div_coe (by norm_num), mul_assoc, mul_comm z, ← mul_assoc, ← EReal.coe_mul]; norm_num

end Cert.RowAlgebra
end
-- ==== Proof.OutPay.lean ====
module

public import proofs.«01_k».proof.Proof.OutRow
public import proofs.«01_k».proof.Proof.Gen.Kernel3Ideal.Skeleton

@[expose] public section

set_option maxRecDepth 16384

noncomputable section

/-! What one block of the output projection's backward pass computes, row by row. -/

namespace Cert.Kernel3Ideal.Hand

open Cert.Kernel3Ideal Cert.Kernel3Ideal.Gen
open Idealize.ShloMosaic Idealize.ShloMosaic.TcCoe
open Cert.RowAlgebra

/-- Row `i` of the arrays. -/
def rowA (p : Vec Ideal S4096x8192 .bf16) (a b : Vec Ideal S4096x1024 .bf16) (x t : Vec Ideal S4096x1024 .f32) (g gf : Vec Ideal S1x1024 .f32)
    (wc ws wo : Vec Ideal S1024x1024 .bf16) (i : Fin 4096) : Row where
  pa l := p (ix2 i ⟨6144 + l.val, by omega⟩)
  pb l := p (ix2 i ⟨7168 + l.val, by omega⟩)
  a l := a (ix2 i l)
  b l := b (ix2 i l)
  x l := x (ix2 i l)
  t l := t (ix2 i l)
  gate l := g (ix2 0 l)
  gf l := gf (ix2 0 l)
  wc l k := wc (ix2 l k)
  ws l k := ws (ix2 l k)
  wo l k := wo (ix2 l k)

/-- The summands over the rows: the gain's gradient, the gate's gradient, and the loss's share. -/
def termV (R : Row) (b : Fin 8) (k : Fin 1024) : EReal :=
  if b.val = 0 then R.dy k * R.xh k
  else if b.val = 1 then R.dx k * R.o k
  else if b.val = 2 then Ideal.ofBits .f32 0x3A000000#32 * (R.e k * R.e k)
  else 0

/-- Row `r` of a block. -/
def rowB (pa pb : Vec Ideal S256x1024 .bf16) (a b : Vec Ideal S256x1024 .bf16) (x t : Vec Ideal S256x1024 .f32) (g gf : Vec Ideal S1x1024 .f32)
    (wc ws wo : Vec Ideal S1024x1024 .bf16) (r : Fin 256) : Row where
  pa l := pa (ix2 r l)
  pb l := pb (ix2 r l)
  a l := a (ix2 r l)
  b l := b (ix2 r l)
  x l := x (ix2 r l)
  t l := t (ix2 r l)
  gate l := g (ix2 0 l)
  gf l := gf (ix2 0 l)
  wc l k := wc (ix2 l k)
  ws l k := ws (ix2 l k)
  wo l k := wo (ix2 l k)

variable (pa pb : Vec Ideal S256x1024 .bf16) (a b : Vec Ideal S256x1024 .bf16) (x t : Vec Ideal S256x1024 .f32) (g gf : Vec Ideal S1x1024 .f32)
    (wc ws wo : Vec Ideal S1024x1024 .bf16) (r : Fin 256) (k : Fin 1024)

/-- The two gates' sigmoids and the two projections. -/
theorem sig_at : k0_pay8 pa (ix2 r k) = sigm (pa (ix2 r k)) := by
  unfold sigm
  pointwise [k0_pay8]
  rw [zero_sub]

theorem sig_at' : k0_pay9 pa (ix2 r k) = sigm (pa (ix2 r k)) := by
  unfold sigm
  pointwise [k0_pay9]
  rw [zero_sub]

theorem yA_at : k0_pay6 a wc (ix2 r k) = (rowB pa pb a b x t g gf wc ws wo r).yA k := by
  unfold Row.yA
  pointwise [k0_pay6]
  rfl

theorem yB_at : k0_pay7 b ws (ix2 r k) = (rowB pa pb a b x t g gf wc ws wo r).yB k := by
  unfold Row.yB
  pointwise [k0_pay7]
  rfl

/-- The gated sum. -/
theorem mg_at : (k0_pay10 a wc b ws pa pb) (ix2 r k) = (rowB pa pb a b x t g gf wc ws wo r).mg k := by
  unfold Row.mg
  rw [← yA_at pa pb a b x t g gf wc ws wo r k, ← yB_at pa pb a b x t g gf wc ws wo r k]
  refine Eq.trans ?_ (congrArg₂ (fun u v : EReal => u * k0_pay6 a wc (ix2 r k) + v * k0_pay7 b ws (ix2 r k)) (sig_at pa r k) (sig_at' pb r k))
  rfl

theorem o_at : k0_pay11 (k0_pay10 a wc b ws pa pb) wo (ix2 r k) = (rowB pa pb a b x t g gf wc ws wo r).o k := by
  unfold Row.o
  simp only [← mg_at pa pb a b x t g gf wc ws wo r]
  generalize (k0_pay10 a wc b ws pa pb) = Q
  pointwise [k0_pay11]
  rfl

theorem x2_at : k0_pay12 (k0_pay10 a wc b ws pa pb) wo x g (ix2 r k) = (rowB pa pb a b x t g gf wc ws wo r).x2 k := by
  unfold Row.x2
  rw [← o_at pa pb a b x t g gf wc ws wo r k]
  unfold k0_pay12
  generalize k0_pay11 (k0_pay10 a wc b ws pa pb) wo = Q
  pointwise []
  rfl

theorem scale_at (z : Fin 1) : k0_pay13 (k0_pay10 a wc b ws pa pb) wo x g (ix2 r z) = scale (rowB pa pb a b x t g gf wc ws wo r).x2 := by
  unfold scale meanSq
  simp only [← x2_at pa pb a b x t g gf wc ws wo r]
  unfold k0_pay13
  generalize k0_pay12 (k0_pay10 a wc b ws pa pb) wo x g = Q
  pointwise []

theorem xh_at : k0_pay14 (k0_pay10 a wc b ws pa pb) wo x g (ix2 r k) = (rowB pa pb a b x t g gf wc ws wo r).xh k := by
  unfold Row.xh
  rw [← x2_at pa pb a b x t g gf wc ws wo r k, ← scale_at pa pb a b x t g gf wc ws wo r 0]
  unfold k0_pay14
  generalize k0_pay12 (k0_pay10 a wc b ws pa pb) wo x g = Q
  generalize k0_pay13 (k0_pay10 a wc b ws pa pb) wo x g = Q'
  pointwise []

theorem e_at : k0_pay15 (k0_pay10 a wc b ws pa pb) wo x g gf t (ix2 r k) = (rowB pa pb a b x t g gf wc ws wo r).e k := by
  unfold Row.e
  rw [← xh_at pa pb a b x t g gf wc ws wo r k]
  unfold k0_pay15
  generalize k0_pay14 (k0_pay10 a wc b ws pa pb) wo x g = Q
  pointwise []
  rfl

theorem dy_at : k0_pay16 (k0_pay10 a wc b ws pa pb) wo x g gf t (ix2 r k) = (rowB pa pb a b x t g gf wc ws wo r).dy k := by
  unfold Row.dy
  rw [← e_at pa pb a b x t g gf wc ws wo r k]
  unfold k0_pay16
  generalize k0_pay15 (k0_pay10 a wc b ws pa pb) wo x g gf t = Q
  pointwise []

/-- The gradient of the residual. -/
theorem dx_at : (k0_pay17 (k0_pay10 a wc b ws pa pb) wo x g gf t gf) (ix2 r k) = (rowB pa pb a b x t g gf wc ws wo r).dx k := by
  unfold Row.dx Row.dn
  rw [← scale_at pa pb a b x t g gf wc ws wo r 0]
  simp only [← xh_at pa pb a b x t g gf wc ws wo r, ← dy_at pa pb a b x t g gf wc ws wo r]
  unfold k0_pay17
  generalize k0_pay16 (k0_pay10 a wc b ws pa pb) wo x g gf t = Q
  generalize k0_pay14 (k0_pay10 a wc b ws pa pb) wo x g = Q'
  generalize k0_pay13 (k0_pay10 a wc b ws pa pb) wo x g = Q''
  pointwise []
  rfl

theorem dO_at : k0_pay21 (k0_pay17 (k0_pay10 a wc b ws pa pb) wo x g gf t gf) g (ix2 r k) = (rowB pa pb a b x t g gf wc ws wo r).dO k := by
  unfold Row.dO
  rw [← dx_at pa pb a b x t g gf wc ws wo r k]
  generalize (k0_pay17 (k0_pay10 a wc b ws pa pb) wo x g gf t gf) = Q
  pointwise [k0_pay21]
  rfl

theorem dm_at : k0_pay22 (k0_pay17 (k0_pay10 a wc b ws pa pb) wo x g gf t gf) g wo (ix2 r k) = (rowB pa pb a b x t g gf wc ws wo r).dm k := by
  unfold Row.dm
  simp only [← dO_at pa pb a b x t g gf wc ws wo r]
  unfold k0_pay22
  generalize k0_pay21 (k0_pay17 (k0_pay10 a wc b ws pa pb) wo x g gf t gf) g = Q
  pointwise []
  rfl

theorem dyA_at : (k0_pay23 (k0_pay8 pa) (k0_pay17 (k0_pay10 a wc b ws pa pb) wo x g gf t gf) g wo) (ix2 r k) = (rowB pa pb a b x t g gf wc ws wo r).dyA k := by
  unfold Row.dyA
  rw [← dm_at pa pb a b x t g gf wc ws wo r k]
  refine Eq.trans ?_ (congrArg (fun u : EReal => u * k0_pay22 (k0_pay17 (k0_pay10 a wc b ws pa pb) wo x g gf t gf) g wo (ix2 r k)) (sig_at pa r k))
  rfl

theorem dyB_at : (k0_pay24 (k0_pay9 pb) (k0_pay17 (k0_pay10 a wc b ws pa pb) wo x g gf t gf) g wo) (ix2 r k) = (rowB pa pb a b x t g gf wc ws wo r).dyB k := by
  unfold Row.dyB
  rw [← dm_at pa pb a b x t g gf wc ws wo r k]
  refine Eq.trans ?_ (congrArg (fun u : EReal => u * k0_pay22 (k0_pay17 (k0_pay10 a wc b ws pa pb) wo x g gf t gf) g wo (ix2 r k)) (sig_at' pb r k))
  rfl

theorem dA_at : k0_pay3 (k0_pay23 (k0_pay8 pa) (k0_pay17 (k0_pay10 a wc b ws pa pb) wo x g gf t gf) g wo) wc (ix2 r k) = (rowB pa pb a b x t g gf wc ws wo r).dA k := by
  unfold Row.dA
  simp only [← dyA_at pa pb a b x t g gf wc ws wo r]
  generalize (k0_pay23 (k0_pay8 pa) (k0_pay17 (k0_pay10 a wc b ws pa pb) wo x g gf t gf) g wo) = Q
  pointwise [k0_pay3]
  rfl

theorem dB_at : k0_pay4 (k0_pay24 (k0_pay9 pb) (k0_pay17 (k0_pay10 a wc b ws pa pb) wo x g gf t gf) g wo) ws (ix2 r k) = (rowB pa pb a b x t g gf wc ws wo r).dB k := by
  unfold Row.dB
  simp only [← dyB_at pa pb a b x t g gf wc ws wo r]
  generalize (k0_pay24 (k0_pay9 pb) (k0_pay17 (k0_pay10 a wc b ws pa pb) wo x g gf t gf) g wo) = Q
  pointwise [k0_pay4]
  rfl

theorem dpA_at : k0_pay1 (k0_pay6 a wc) (k0_pay8 pa) (k0_pay22 (k0_pay17 (k0_pay10 a wc b ws pa pb) wo x g gf t gf) g wo) (ix2 r k) = (rowB pa pb a b x t g gf wc ws wo r).dpA k := by
  unfold Row.dpA
  have e : sigm ((rowB pa pb a b x t g gf wc ws wo r).pa k) = k0_pay8 pa (ix2 r k) := (sig_at pa r k).symm
  rw [e, ← dm_at pa pb a b x t g gf wc ws wo r k, ← yA_at pa pb a b x t g gf wc ws wo r k]
  generalize k0_pay22 (k0_pay17 (k0_pay10 a wc b ws pa pb) wo x g gf t gf) g wo = Q
  generalize k0_pay6 a wc = Q'
  generalize k0_pay8 pa = Q''
  pointwise [k0_pay1]

theorem dpB_at : k0_pay2 (k0_pay7 b ws) (k0_pay9 pb) (k0_pay22 (k0_pay17 (k0_pay10 a wc b ws pa pb) wo x g gf t gf) g wo) (ix2 r k) = (rowB pa pb a b x t g gf wc ws wo r).dpB k := by
  unfold Row.dpB
  have e : sigm ((rowB pa pb a b x t g gf wc ws wo r).pb k) = k0_pay9 pb (ix2 r k) := (sig_at' pb r k).symm
  rw [e, ← dm_at pa pb a b x t g gf wc ws wo r k, ← yB_at pa pb a b x t g gf wc ws wo r k]
  generalize k0_pay22 (k0_pay17 (k0_pay10 a wc b ws pa pb) wo x g gf t gf) g wo = Q
  generalize k0_pay7 b ws = Q'
  generalize k0_pay9 pb = Q''
  pointwise [k0_pay2]

/-! ### The three rows of sums: what a block adds to the row before -/

variable (z : Vec Ideal S1x1024 .f32)

theorem sum0_at : k0_pay18 (k0_pay14 (k0_pay10 a wc b ws pa pb) wo x g) (k0_pay16 (k0_pay10 a wc b ws pa pb) wo x g gf t) z (ix2 0 k)
    = (z (ix2 0 k) + ∑ r, (rowB pa pb a b x t g gf wc ws wo r).dy k * (rowB pa pb a b x t g gf wc ws wo r).xh k : EReal) := by
  simp only [← xh_at pa pb a b x t g gf wc ws wo, ← dy_at pa pb a b x t g gf wc ws wo]
  generalize k0_pay14 (k0_pay10 a wc b ws pa pb) wo x g = Q
  generalize k0_pay16 (k0_pay10 a wc b ws pa pb) wo x g gf t = Q'
  pointwise [k0_pay18]

theorem sum1_at : k0_pay19 (k0_pay11 (k0_pay10 a wc b ws pa pb) wo) (k0_pay17 (k0_pay10 a wc b ws pa pb) wo x g gf t gf) z (ix2 0 k)
    = (z (ix2 0 k) + ∑ r, (rowB pa pb a b x t g gf wc ws wo r).dx k * (rowB pa pb a b x t g gf wc ws wo r).o k : EReal) := by
  simp only [← dx_at pa pb a b x t g gf wc ws wo, ← o_at pa pb a b x t g gf wc ws wo]
  generalize (k0_pay17 (k0_pay10 a wc b ws pa pb) wo x g gf t gf) = Q
  generalize k0_pay11 (k0_pay10 a wc b ws pa pb) wo = Q'
  pointwise [k0_pay19]

theorem sum2_at : k0_pay20 (k0_pay15 (k0_pay10 a wc b ws pa pb) wo x g gf t) z (ix2 0 k)
    = (z (ix2 0 k) + ∑ r, Ideal.ofBits .f32 0x3A000000#32 * ((rowB pa pb a b x t g gf wc ws wo r).e k * (rowB pa pb a b x t g gf wc ws wo r).e k) : EReal) := by
  rw [halfInv_eq, ← coe_mul_sum (by norm_num), ← halfInv_eq]
  simp only [← e_at pa pb a b x t g gf wc ws wo]
  generalize k0_pay15 (k0_pay10 a wc b ws pa pb) wo x g gf t = Q
  rw [mul_comm (G := EReal)]
  pointwise [k0_pay20]

end Cert.Kernel3Ideal.Hand
end
-- ==== Proof.OutKer.lean ====
module

public import proofs.«01_k».proof.Proof.OutPay
public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

/-! What the output projection's backward pass leaves in its arrays: each row by row of the arguments. -/

namespace Cert.Kernel3Ideal.Hand

open Cert.Kernel3Ideal Cert.Kernel3Ideal.Gen
open Idealize.ShloMosaic Idealize.ShloMosaic.TcCoe
open Idealize.SL Idealize.SL.Sem
open Idealize.ShloMosaic.Pipeline (Dat Cfg Window)
open Cert.RowAlgebra

variable (m : (ℓ : Loc nD τ sig) → Buf (Elt Ideal) ℓ) (c : Dev nD)

/-- An argument of the kernel. -/
abbrev arg (b : Ref sig .tc) : Buf (Elt Ideal) ((c.tc : Thread nD τ).loc b) := m ((c.tc : Thread nD τ).loc b)

/-- Row `i` of the arguments. -/
def rowM (i : Fin 4096) : Row :=
  rowA (arg m c main_arg0) (arg m c main_arg1) (arg m c main_arg2) (arg m c main_arg3) (arg m c main_arg4) (arg m c main_arg5) (arg m c main_arg6)
    (arg m c main_arg7) (arg m c main_arg8) (arg m c main_arg9) i

/-! ### The input blocks -/

theorem placeIn : ∀ t : Fin cfg0.N, win0_0.index t = ![t.val, 3] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem placeOut : ∀ t : Fin cfg0.N, win0_10.index t = ![t.val, 0] ∧ win0_11.index t = ![t.val, 0] ∧ win0_12.index t = ![t.val, 0]
    ∧ win0_13.index t = ![t.val, 3] ∧ win0_14.index t = ![t.val, 0] ∧ win0_15.index t = ![t.val, 0] ∧ win0_16.index t = ![t.val, 0]
    ∧ win0_17.index t = ![t.val, 0] ∧ win0_18.index t = ![0, 0] :=
  (by decide +kernel : ∀ t : Fin grid0.N, _)

theorem lt16 (t : Fin cfg0.N) : t.val < 16 := lt_of_lt_of_eq t.isLt N_0

/-- Row `r` of point `t`'s block, counted from the array's first row. -/
def rowOf (t : Fin cfg0.N) (r : Fin 256) : Fin 4096 := ⟨256 * t.val + r.val, by have := lt16 t; omega⟩

/-- The first half of the gates' block. -/
abbrev gA (t : Fin cfg0.N) : Vec Ideal S256x1024 .bf16 := View.ld (iblk m c 0 t) (Rect.unit ![0, 0] ![256, 1024] inb_S256x2048_S256x1024_0_0)

/-- The second half. -/
abbrev gB (t : Fin cfg0.N) : Vec Ideal S256x1024 .bf16 := View.ld (iblk m c 0 t) (Rect.unit ![0, 1024] ![256, 1024] inb_S256x2048_S256x1024_0_1024)

theorem gA_at (t : Fin cfg0.N) (r : Fin 256) (l : Fin 1024) :
    gA m c t (ix2 r l) = iblk m c 0 t (ix2 r (⟨l.val, by omega⟩ : Fin 2048)) := by
  unfold gA; pointwise []; blk_ext []

theorem gB_at (t : Fin cfg0.N) (r : Fin 256) (l : Fin 1024) :
    gB m c t (ix2 r l) = iblk m c 0 t (ix2 r (⟨1024 + l.val, by omega⟩ : Fin 2048)) := by
  unfold gB; pointwise []

theorem blkRow (t : Fin cfg0.N) (r : Fin 256) :
    rowB (gA m c t) (gB m c t) (iblk m c 1 t) (iblk m c 2 t) (iblk m c 3 t) (iblk m c 4 t) (iblk m c 5 t) (iblk m c 6 t) (iblk m c 7 t) (iblk m c 8 t)
      (iblk m c 9 t) r = rowM m c (rowOf t r) := by
  obtain ⟨e0, e1, e2, e3, e4, e5, e6, e7, e8, e9⟩ := placeIn t
  unfold rowM rowB rowA rowOf
  congr 1
  · funext l; rw [gA_at]; blk_ext [iblk, V, e0]
  · funext l; rw [gB_at]; blk_ext [iblk, V, e0]
  · funext l; blk_ext [iblk, V, e1]
  · funext l; blk_ext [iblk, V, e2]
  · funext l; blk_ext [iblk, V, e3]
  · funext l; blk_ext [iblk, V, e4]
  · funext l; blk_ext [iblk, V, e5]
  · funext l; blk_ext [iblk, V, e6]
  · funext l k; blk_ext [iblk, V, e7]
  · funext l k; blk_ext [iblk, V, e8]
  · funext l k; blk_ext [iblk, V, e9]

/-! ### The blocks written -/

/-- A block that holds `f` of each row, at its place in the array. -/
theorem place_of (f : Row → Fin 1024 → EReal) (t : Fin cfg0.N) (y : S256x1024.Idx) (j : S4096x1024.Idx) (h0 : (j 0).val = 256 * t.val + (y 0).val)
    (h1 : (j 1).val = (y 1).val) (P : S256x1024.Idx → EReal)
    (hp : ∀ r k, P (ix2 r k) = f (rowB (gA m c t) (gB m c t) (iblk m c 1 t) (iblk m c 2 t) (iblk m c 3 t) (iblk m c 4 t) (iblk m c 5 t) (iblk m c 6 t)
      (iblk m c 7 t) (iblk m c 8 t) (iblk m c 9 t) r) k) : P y = f (rowM m c (j 0)) (j 1) := by
  have key : ∀ (r : Fin 256) (k : Fin 1024) (i : Fin 4096) (l : Fin 1024), i.val = 256 * t.val + r.val → l.val = k.val →
      P (ix2 r k) = f (rowM m c i) l := by
    intro r k i l hi hl
    have ei : i = rowOf t r := Fin.ext hi
    have el : l = k := Fin.ext hl
    rw [ei, el, hp, blkRow]
  exact (congrArg P (eq_ix2 y)).trans (key (y 0) (y 1) (j 0) (j 1) h0 h1)

/-- `f` of every row of the arguments. -/
def allRows (f : Row → Fin 1024 → EReal) : S4096x1024.Idx → EReal := fun j => f (rowM m c (j 0)) (j 1)

theorem arr10 : (dats m 0 c).arrAt 10 cfg0.N = allRows m c Row.dx := by
  refine (dats m 0 c).arrAt_eq_of_covers 10 _ (by decide +kernel) fun t hf y => ?_
  obtain ⟨e10, e11, e12, e13, e14, e15, e16, e17, e18⟩ := placeOut t
  blk_simp
  rw [after0_10]
  by_cases h : t.val % 16 = 0
  · rw [outsAt0_A m c t h]; frame_out
    exact place_of m c Row.dx t y _ (by blk_simp [e10]; omega) (by blk_simp [e10]) _ (dx_at _ _ _ _ _ _ _ _ _ _ _)
  · rw [outsAt0_B m c t h]; frame_out
    exact place_of m c Row.dx t y _ (by blk_simp [e10]; omega) (by blk_simp [e10]) _ (dx_at _ _ _ _ _ _ _ _ _ _ _)

theorem arr11 : (dats m 0 c).arrAt 11 cfg0.N = allRows m c Row.dA := by
  refine (dats m 0 c).arrAt_eq_of_covers 11 _ (by decide +kernel) fun t hf y => ?_
  obtain ⟨e10, e11, e12, e13, e14, e15, e16, e17, e18⟩ := placeOut t
  blk_simp
  rw [after0_11]
  by_cases h : t.val % 16 = 0
  · rw [outsAt0_A m c t h]; frame_out
    exact place_of m c Row.dA t y _ (by blk_simp [e11]; omega) (by blk_simp [e11]) _ (dA_at _ _ _ _ _ _ _ _ _ _ _)
  · rw [outsAt0_B m c t h]; frame_out
    exact place_of m c Row.dA t y _ (by blk_simp [e11]; omega) (by blk_simp [e11]) _ (dA_at _ _ _ _ _ _ _ _ _ _ _)

theorem arr12 : (dats m 0 c).arrAt 12 cfg0.N = allRows m c Row.dB := by
  refine (dats m 0 c).arrAt_eq_of_covers 12 _ (by decide +kernel) fun t hf y => ?_
  obtain ⟨e10, e11, e12, e13, e14, e15, e16, e17, e18⟩ := placeOut t
  blk_simp
  rw [after0_12]
  by_cases h : t.val % 16 = 0
  · rw [outsAt0_A m c t h]; frame_out
    exact place_of m c Row.dB t y _ (by blk_simp [e12]; omega) (by blk_simp [e12]) _ (dB_at _ _ _ _ _ _ _ _ _ _ _)
  · rw [outsAt0_B m c t h]; frame_out
    exact place_of m c Row.dB t y _ (by blk_simp [e12]; omega) (by blk_simp [e12]) _ (dB_at _ _ _ _ _ _ _ _ _ _ _)

theorem arr14 : (dats m 0 c).arrAt 14 cfg0.N = allRows m c Row.mg := by
  refine (dats m 0 c).arrAt_eq_of_covers 14 _ (by decide +kernel) fun t hf y => ?_
  obtain ⟨e10, e11, e12, e13, e14, e15, e16, e17, e18⟩ := placeOut t
  blk_simp
  rw [after0_14]
  by_cases h : t.val % 16 = 0
  · rw [outsAt0_A m c t h]; frame_out
    exact place_of m c Row.mg t y _ (by blk_simp [e14]; omega) (by blk_simp [e14]) _ (mg_at _ _ _ _ _ _ _ _ _ _ _)
  · rw [outsAt0_B m c t h]; frame_out
    exact place_of m c Row.mg t y _ (by blk_simp [e14]; omega) (by blk_simp [e14]) _ (mg_at _ _ _ _ _ _ _ _ _ _ _)

theorem arr15 : (dats m 0 c).arrAt 15 cfg0.N = allRows m c Row.dO := by
  refine (dats m 0 c).arrAt_eq_of_covers 15 _ (by decide +kernel) fun t hf y => ?_
  obtain ⟨e10, e11, e12, e13, e14, e15, e16, e17, e18⟩ := placeOut t
  blk_simp
  rw [after0_15]
  by_cases h : t.val % 16 = 0
  · rw [outsAt0_A m c t h]; frame_out
    exact place_of m c Row.dO t y _ (by blk_simp [e15]; omega) (by blk_simp [e15]) _ (dO_at _ _ _ _ _ _ _ _ _ _ _)
  · rw [outsAt0_B m c t h]; frame_out
    exact place_of m c Row.dO t y _ (by blk_simp [e15]; omega) (by blk_simp [e15]) _ (dO_at _ _ _ _ _ _ _ _ _ _ _)

theorem arr16 : (dats m 0 c).arrAt 16 cfg0.N = allRows m c Row.dyA := by
  refine (dats m 0 c).arrAt_eq_of_covers 16 _ (by decide +kernel) fun t hf y => ?_
  obtain ⟨e10, e11, e12, e13, e14, e15, e16, e17, e18⟩ := placeOut t
  blk_simp
  rw [after0_16]
  by_cases h : t.val % 16 = 0
  · rw [outsAt0_A m c t h]; frame_out
    exact place_of m c Row.dyA t y _ (by blk_simp [e16]; omega) (by blk_simp [e16]) _ (dyA_at _ _ _ _ _ _ _ _ _ _ _)
  · rw [outsAt0_B m c t h]; frame_out
    exact place_of m c Row.dyA t y _ (by blk_simp [e16]; omega) (by blk_simp [e16]) _ (dyA_at _ _ _ _ _ _ _ _ _ _ _)

theorem arr17 : (dats m 0 c).arrAt 17 cfg0.N = allRows m c Row.dyB := by
  refine (dats m 0 c).arrAt_eq_of_covers 17 _ (by decide +kernel) fun t hf y => ?_
  obtain ⟨e10, e11, e12, e13, e14, e15, e16, e17, e18⟩ := placeOut t
  blk_simp
  rw [after0_17]
  by_cases h : t.val % 16 = 0
  · rw [outsAt0_A m c t h]; frame_out
    exact place_of m c Row.dyB t y _ (by blk_simp [e17]; omega) (by blk_simp [e17]) _ (dyB_at _ _ _ _ _ _ _ _ _ _ _)
  · rw [outsAt0_B m c t h]; frame_out
    exact place_of m c Row.dyB t y _ (by blk_simp [e17]; omega) (by blk_simp [e17]) _ (dyB_at _ _ _ _ _ _ _ _ _ _ _)

end Cert.Kernel3Ideal.Hand
end
-- ==== Proof.OutSum.lean ====
module

public import proofs.«01_k».proof.Proof.OutKer
public import Idealize.ShloMosaic.Lib.WritesUnit

@[expose] public section

set_option maxRecDepth 16384

noncomputable section

/-! The output projection's sums over the rows: each point adds its own rows, and the last point's block is the array. -/

namespace Cert.Kernel3Ideal.Hand

open Cert.Kernel3Ideal Cert.Kernel3Ideal.Gen
open Idealize.ShloMosaic Idealize.ShloMosaic.TcCoe
open Idealize.SL Idealize.SL.Sem
open Idealize.ShloMosaic.Pipeline (Dat Cfg Window)
open Cert.RowAlgebra

variable (m : (ℓ : Loc nD τ sig) → Buf (Elt Ideal) ℓ) (c : Dev nD)

/-! ### A store of one row -/

theorem mem_row (o : ℕ) (inb : ∀ d, (![o, 0] : Fin 2 → ℕ) d + (![1, 1024] : Fin 2 → ℕ) d ≤ S8x1024.size d) (r : Fin 8) (l : Fin 1024)
    (h : (ix2 r l : S8x1024.Idx) ∈ (Rect.unit (s := S8x1024) ![o, 0] ![1, 1024] inb).set) : r.val = o := by
  rw [Rect.mem_set_unit] at h
  have h0 : o ≤ r.val ∧ r.val < o + 1 := h 0
  omega

theorem emb_row (o : ℕ) (inb : ∀ d, (![o, 0] : Fin 2 → ℕ) d + (![1, 1024] : Fin 2 → ℕ) d ≤ S8x1024.size d) (r : Fin 8) (l : Fin 1024) (h : r.val = o) :
    (ix2 r l : S8x1024.Idx) = (Rect.unit (s := S8x1024) ![o, 0] ![1, 1024] inb).emb (ix2 (0 : Fin 1) l : S1x1024.Idx) := by
  funext d; apply Fin.ext
  match d with
  | ⟨0, _⟩ => show r.val = o + 1 * 0; omega
  | ⟨1, _⟩ => show l.val = 0 + 1 * l.val; omega

theorem canon_row (o : ℕ) (inb : ∀ d, (![o, 0] : Fin 2 → ℕ) d + (![1, 1024] : Fin 2 → ℕ) d ≤ S8x1024.size d) (w : Vec Ideal S1x1024 .f32)
    (L : List (View.Piece (Elt Ideal) S8x1024 .f32)) (r : Fin 8) (l : Fin 1024) :
    View.canon ((⟨Rect.unit (s := S8x1024) ![o, 0] ![1, 1024] inb, w⟩ : View.Piece (Elt Ideal) S8x1024 .f32) :: L) (ix2 r l)
      = if r.val = o then w (ix2 0 l) else View.canon L (ix2 r l) := by
  by_cases h : r.val = o
  · rw [if_pos h, emb_row o inb r l h]
    exact View.canon_cons_emb _ _ _ _
  · rw [if_neg h]
    exact View.canon_cons_of_not_mem _ _ fun hm => h (mem_row o inb r l hm)

theorem read_row {sp : Space} {κ : Kind} (v : View sig κ sp S8x1024 .f32) (f : v.ty.Contents (Elt Ideal)) (o : ℕ)
    (inb : ∀ d, (![o, 0] : Fin 2 → ℕ) d + (![1, 1024] : Fin 2 → ℕ) d ≤ S8x1024.size d) (w : Vec Ideal S1x1024 .f32)
    (L : List (View.Piece (Elt Ideal) S8x1024 .f32)) (r : Fin 8) (l : Fin 1024) :
    v.read (Elt Ideal) (v.writes (Elt Ideal) f ((⟨Rect.unit (s := S8x1024) ![o, 0] ![1, 1024] inb, w⟩ : View.Piece (Elt Ideal) S8x1024 .f32) :: L)) (ix2 r l)
      = if r.val = o then w (ix2 0 l) else v.read (Elt Ideal) (v.writes (Elt Ideal) f L) (ix2 r l) := by
  by_cases h : r.val = o
  · rw [if_pos h]
    exact View.read_writes_cons_rows_of_mem (o := o) v f inb w L (ix2 r l) (ix2 0 l) rfl (by show r.val = o + 0; omega) rfl
  · rw [if_neg h]
    exact View.read_writes_cons_rows_of_not_mem (o := o) (W := 1) v f inb w L (ix2 r l) rfl rfl (by show r.val < o ∨ o + 1 ≤ r.val; omega)

theorem ld_row (X : Vec Ideal S8x1024 .f32) (o : ℕ) (inb : ∀ d, (![o, 0] : Fin 2 → ℕ) d + (![1, 1024] : Fin 2 → ℕ) d ≤ S8x1024.size d) (r : Fin 8)
    (l : Fin 1024) (h : r.val = o) : (View.ld X (Rect.unit (s := S8x1024) ![o, 0] ![1, 1024] inb) : Vec Ideal S1x1024 .f32) (ix2 0 l) = X (ix2 r l) := by
  show X _ = X _
  congr 1
  funext d; apply Fin.ext
  match d with
  | ⟨0, _⟩ => show o + 1 * 0 = r.val; omega
  | ⟨1, _⟩ => show 0 + 1 * l.val = l.val; omega

/-! ### One point -/

/-- What a point adds to the sums: its own rows' summands. -/
def addAt (t : Fin cfg0.N) (r : Fin 8) (l : Fin 1024) : EReal := ∑ q : Fin 256, termV (rowM m c (rowOf t q)) r l

/-- The three rows a point stores over the block `X`, each the row it found and the point's own sum. -/
theorem step_row (X : Vec Ideal S8x1024 .f32) (t : Fin cfg0.N) (r : Fin 8) (l : Fin 1024) :
    (if r.val = 2 then k0_pay20 (k0_pay15 (k0_pay10 (iblk m c 1 t) (iblk m c 7 t) (iblk m c 2 t) (iblk m c 8 t) (gA m c t) (gB m c t)) (iblk m c 9 t) (iblk m c 3 t) (iblk m c 5 t) (iblk m c 6 t) (iblk m c 4 t))
        (View.ld X (Rect.unit (s := S8x1024) ![2, 0] ![1, 1024] inb_S8x1024_S1x1024_2_0)) (ix2 0 l)
      else if r.val = 1 then k0_pay19 (k0_pay11 (k0_pay10 (iblk m c 1 t) (iblk m c 7 t) (iblk m c 2 t) (iblk m c 8 t) (gA m c t) (gB m c t)) (iblk m c 9 t))
        (k0_pay17 (k0_pay10 (iblk m c 1 t) (iblk m c 7 t) (iblk m c 2 t) (iblk m c 8 t) (gA m c t) (gB m c t)) (iblk m c 9 t) (iblk m c 3 t) (iblk m c 5 t) (iblk m c 6 t) (iblk m c 4 t) (iblk m c 6 t))
        (View.ld X (Rect.unit (s := S8x1024) ![1, 0] ![1, 1024] inb_S8x1024_S1x1024_1_0)) (ix2 0 l)
      else if r.val = 0 then k0_pay18 (k0_pay14 (k0_pay10 (iblk m c 1 t) (iblk m c 7 t) (iblk m c 2 t) (iblk m c 8 t) (gA m c t) (gB m c t)) (iblk m c 9 t) (iblk m c 3 t) (iblk m c 5 t))
        (k0_pay16 (k0_pay10 (iblk m c 1 t) (iblk m c 7 t) (iblk m c 2 t) (iblk m c 8 t) (gA m c t) (gB m c t)) (iblk m c 9 t) (iblk m c 3 t) (iblk m c 5 t) (iblk m c 6 t) (iblk m c 4 t))
        (View.ld X (Rect.unit (s := S8x1024) ![0, 0] ![1, 1024] inb_S8x1024_S1x1024_0_0)) (ix2 0 l)
      else X (ix2 r l) : EReal) = X (ix2 r l) + addAt m c t r l := by
  unfold addAt termV
  simp only [← blkRow]
  by_cases h2 : r.val = 2
  · rw [if_pos h2, sum2_at, ld_row X 2 _ r l h2]
    simp only [if_neg (show ¬r.val = 0 by omega), if_neg (show ¬r.val = 1 by omega), if_pos h2]
  by_cases h1 : r.val = 1
  · rw [if_neg h2, if_pos h1, sum1_at, ld_row X 1 _ r l h1]
    simp only [if_neg (show ¬r.val = 0 by omega), if_pos h1]
  by_cases h0 : r.val = 0
  · rw [if_neg h2, if_neg h1, if_pos h0, sum0_at, ld_row X 0 _ r l h0]
    simp only [if_pos h0]
  · rw [if_neg h2, if_neg h1, if_neg h0]
    simp only [if_neg h0, if_neg h1, if_neg h2, Finset.sum_const_zero]
    exact (add_zero (M := EReal) _).symm

theorem sumA (t : Fin cfg0.N) (h : t.val % 16 = 0) (r : Fin 8) (l : Fin 1024) :
    (outsAt0 m c t.val t.isLt).2.2.2.2.2.2.2.2 (ix2 r l) = (0 + addAt m c t r l : EReal) := by
  rw [outsAt0_A m c t h]
  frame_out
  simp (disch := decide) only [↓ View.readCov_skip, ↓ View.readCov_cons_toLoadRect, ↓ View.readCov_fill]
  rw [canon_row, canon_row, canon_row, View.canon_cons_unit_lit _ _ _ (by decide)]
  refine (step_row m c (k0_pay5 (F := Ideal)) t r l).trans ?_
  pointwise [k0_pay5]

theorem sumB (t : Fin cfg0.N) (h : ¬t.val % 16 = 0) (r : Fin 8) (l : Fin 1024) :
    (outsAt0 m c t.val t.isLt).2.2.2.2.2.2.2.2 (ix2 r l)
      = ((outsAt0 m c (t.val - 1) (Nat.lt_of_le_of_lt (Nat.sub_le _ _) t.isLt)).2.2.2.2.2.2.2.2 (ix2 r l) + addAt m c t r l : EReal) := by
  rw [outsAt0_B m c t h]
  frame_out
  rw [read_row, read_row, read_row]
  refine Eq.trans ?_ (step_row m c _ t r l)
  congr 3
  exact congrFun (Memref.IsWhole.read_unread _ _) _

/-! ### All the points -/

/-- The sums over all the rows. -/
def sumAll : S8x1024.Idx → EReal := fun j => ∑ i, termV (rowM m c i) (j 0) (j 1)

/-- Row `i`'s summand by the row's number, zero past the last row. -/
def termN (r : Fin 8) (l : Fin 1024) (i : ℕ) : EReal := if h : i < 4096 then termV (rowM m c ⟨i, h⟩) r l else 0

/-- The same as a function of the point's number, zero past the last point. -/
def addN (n : ℕ) (j : S8x1024.Idx) : EReal := ∑ q ∈ Finset.range 256, termN m c (j 0) (j 1) (256 * n + q)

theorem addN_eq (t : Fin cfg0.N) (r : Fin 8) (l : Fin 1024) : addN m c t.val (ix2 r l) = addAt m c t r l := by
  unfold addN addAt
  rw [Finset.sum_range]
  refine Finset.sum_congr (M := EReal) rfl fun q _ => ?_
  have := lt16 t
  show termN m c r l (256 * t.val + q.val) = _
  unfold termN
  rw [dif_pos (show 256 * t.val + q.val < 4096 by omega)]
  rfl

theorem acc_at (t : Fin cfg0.N) (j : S8x1024.Idx) :
    (outsAt0 m c t.val t.isLt).2.2.2.2.2.2.2.2 j = (0 + ∑ k ∈ Finset.range (t.val + 1), addN m c k j : EReal) := by
  refine Pipeline.eq_sum_of_reset_step_apply_single (M := EReal) (fun n h => ((outsAt0 m c n h).2.2.2.2.2.2.2.2 : S8x1024.Idx → EReal)) 16 (fun _ => 0)
    (addN m c) (fun t h i => ?_) (fun t h i => ?_) (le_of_eq N_0) t j
  · rw [eq_ix2 i]
    have key : ∀ (r : Fin 8) (l : Fin 1024), (outsAt0 m c t.val t.isLt).2.2.2.2.2.2.2.2 (ix2 r l) = (0 + addN m c t.val (ix2 r l) : EReal) :=
      fun r l => (sumA m c t h r l).trans (by rw [addN_eq])
    exact key (i 0) (i 1)
  · rw [eq_ix2 i]
    have key : ∀ (r : Fin 8) (l : Fin 1024), (outsAt0 m c t.val t.isLt).2.2.2.2.2.2.2.2 (ix2 r l)
        = ((outsAt0 m c (t.val - 1) (Nat.lt_of_le_of_lt (Nat.sub_le _ _) t.isLt)).2.2.2.2.2.2.2.2 (ix2 r l) + addN m c t.val (ix2 r l) : EReal) :=
      fun r l => (sumB m c t h r l).trans (by rw [addN_eq])
    exact key (i 0) (i 1)

theorem arr18 : (dats m 0 c).arrAt 18 cfg0.N = sumAll m c := by
  refine (dats m 0 c).arrAt_eq_of_after_last 18 t0_15 (by decide +kernel) _ fun j => ?_
  blk_simp
  rw [after0_18]
  refine (acc_at m c t0_15 j).trans ?_
  rw [zero_add]
  unfold addN sumAll
  have e : ∀ r l, ∑ k ∈ Finset.range 16, ∑ q ∈ Finset.range 256, termN m c r l (256 * k + q) = ∑ i ∈ Finset.range (256 * 16), termN m c r l i :=
    fun r l => (sum_blocks 256 (termN m c r l) 16).symm
  refine (e (j 0) (j 1)).trans ?_
  rw [Finset.sum_range]
  refine Finset.sum_congr (M := EReal) rfl fun i _ => ?_
  unfold termN
  exact dif_pos (show i.val < 4096 from i.isLt)

end Cert.Kernel3Ideal.Hand
end
-- ==== Proof.OutGate.lean ====
module

public import proofs.«01_k».proof.Proof.OutKer

@[expose] public section

set_option maxRecDepth 16384

noncomputable section

/-! The output projection's gradient of the two gates: two halves of a block, at the last columns of a wider array. -/

namespace Cert.Kernel3Ideal.Hand

open Cert.Kernel3Ideal Cert.Kernel3Ideal.Gen
open Idealize.ShloMosaic Idealize.ShloMosaic.TcCoe
open Idealize.SL Idealize.SL.Sem
open Idealize.ShloMosaic.Pipeline (Dat Cfg Window)
open Cert.RowAlgebra

variable (m : (ℓ : Loc nD τ sig) → Buf (Elt Ideal) ℓ) (c : Dev nD)

/-- The two gates' gradients in the last 2048 columns, the rest as it was. -/
def gateAll : Buf (Elt Ideal) ((c.tc : Thread nD τ).loc main_v0_3) := fun j : S4096x8192.Idx =>
  if 6144 ≤ (j 1).val then (rowM m c (j 0)).dp ⟨(j 1).val - 6144, by have : (j 1).val < 8192 := (j 1).isLt; omega⟩ else (dats m 0 c).A 13 j

/-- Two stores side by side. -/
theorem halves (w₁ w₂ : Vec Ideal S256x1024 .bf16) (r : Fin 256) (l : Fin 2048) :
    View.canon [(⟨Rect.unit (s := S256x2048) ![0, 1024] ![256, 1024] inb_S256x2048_S256x1024_0_1024, w₂⟩ : View.Piece (Elt Ideal) S256x2048 .bf16),
      ⟨Rect.unit (s := S256x2048) ![0, 0] ![256, 1024] inb_S256x2048_S256x1024_0_0, w₁⟩] (ix2 r l)
      = if h : l.val < 1024 then w₁ (ix2 r ⟨l.val, h⟩) else w₂ (ix2 r ⟨l.val - 1024, by omega⟩) := by
  by_cases h : l.val < 1024
  · rw [dif_pos h]
    have e : (ix2 r l : S256x2048.Idx) = (Rect.unit (s := S256x2048) ![0, 0] ![256, 1024] inb_S256x2048_S256x1024_0_0).emb (ix2 r (⟨l.val, h⟩ : Fin 1024) : S256x1024.Idx) := by
      funext d; apply Fin.ext
      match d with
      | ⟨0, _⟩ => show r.val = 0 + 1 * r.val; omega
      | ⟨1, _⟩ => show l.val = 0 + 1 * l.val; omega
    refine (View.canon_cons_of_not_mem _ _ fun hm => ?_).trans ?_
    · have hm' := (Rect.mem_set_unit (s := S256x2048) (off := ![0, 1024]) (size := ![256, 1024]) (inb := inb_S256x2048_S256x1024_0_1024)).mp hm 1
      have h1 : 1024 ≤ l.val ∧ l.val < 1024 + 1024 := hm'
      omega
    · rw [e]
      exact View.canon_cons_emb _ _ _ _
  · rw [dif_neg h]
    have e : (ix2 r l : S256x2048.Idx) = (Rect.unit (s := S256x2048) ![0, 1024] ![256, 1024] inb_S256x2048_S256x1024_0_1024).emb (ix2 r (⟨l.val - 1024, by omega⟩ : Fin 1024) : S256x1024.Idx) := by
      funext d; apply Fin.ext
      match d with
      | ⟨0, _⟩ => show r.val = 0 + 1 * r.val; omega
      | ⟨1, _⟩ => show l.val = 1024 + 1 * (l.val - 1024); omega
    rw [e]
    exact View.canon_cons_emb _ _ _ _

/-- The block of the two halves, at its place in the array. -/
theorem place_gate (t : Fin cfg0.N) (y : S256x2048.Idx) (j : S4096x8192.Idx) (h0 : (j 0).val = 256 * t.val + (y 0).val) (h1 : (j 1).val = 6144 + (y 1).val) :
    View.canon [(⟨Rect.unit (s := S256x2048) ![0, 1024] ![256, 1024] inb_S256x2048_S256x1024_0_1024,
        k0_pay2 (k0_pay7 (iblk m c 2 t) (iblk m c 8 t)) (k0_pay9 (gB m c t))
          (k0_pay22 (k0_pay17 (k0_pay10 (iblk m c 1 t) (iblk m c 7 t) (iblk m c 2 t) (iblk m c 8 t) (gA m c t) (gB m c t)) (iblk m c 9 t) (iblk m c 3 t) (iblk m c 5 t) (iblk m c 6 t) (iblk m c 4 t) (iblk m c 6 t)) (iblk m c 5 t) (iblk m c 9 t))⟩ : View.Piece (Elt Ideal) S256x2048 .bf16),
      ⟨Rect.unit (s := S256x2048) ![0, 0] ![256, 1024] inb_S256x2048_S256x1024_0_0,
        k0_pay1 (k0_pay6 (iblk m c 1 t) (iblk m c 7 t)) (k0_pay8 (gA m c t))
          (k0_pay22 (k0_pay17 (k0_pay10 (iblk m c 1 t) (iblk m c 7 t) (iblk m c 2 t) (iblk m c 8 t) (gA m c t) (gB m c t)) (iblk m c 9 t) (iblk m c 3 t) (iblk m c 5 t) (iblk m c 6 t) (iblk m c 4 t) (iblk m c 6 t)) (iblk m c 5 t) (iblk m c 9 t))⟩] y
      = gateAll m c j := by
  have key : ∀ (r : Fin 256) (k : Fin 2048) (i : Fin 4096) (l : Fin 8192), i.val = 256 * t.val + r.val → l.val = 6144 + k.val →
      (if h : k.val < 1024 then k0_pay1 (k0_pay6 (iblk m c 1 t) (iblk m c 7 t)) (k0_pay8 (gA m c t))
          (k0_pay22 (k0_pay17 (k0_pay10 (iblk m c 1 t) (iblk m c 7 t) (iblk m c 2 t) (iblk m c 8 t) (gA m c t) (gB m c t)) (iblk m c 9 t) (iblk m c 3 t) (iblk m c 5 t) (iblk m c 6 t) (iblk m c 4 t) (iblk m c 6 t)) (iblk m c 5 t) (iblk m c 9 t)) (ix2 r (⟨k.val, h⟩ : Fin 1024))
       else k0_pay2 (k0_pay7 (iblk m c 2 t) (iblk m c 8 t)) (k0_pay9 (gB m c t))
          (k0_pay22 (k0_pay17 (k0_pay10 (iblk m c 1 t) (iblk m c 7 t) (iblk m c 2 t) (iblk m c 8 t) (gA m c t) (gB m c t)) (iblk m c 9 t) (iblk m c 3 t) (iblk m c 5 t) (iblk m c 6 t) (iblk m c 4 t) (iblk m c 6 t)) (iblk m c 5 t) (iblk m c 9 t)) (ix2 r (⟨k.val - 1024, by omega⟩ : Fin 1024)) : EReal)
        = gateAll m c (ix2 i l) := by
    intro r k i l hi hl
    have ei : rowOf t r = i := Fin.ext hi.symm
    have ek : k = ⟨l.val - 6144, by omega⟩ := Fin.ext (by show k.val = l.val - 6144; omega)
    have e : gateAll m c (ix2 i l) = (rowM m c i).dp ⟨l.val - 6144, by omega⟩ := if_pos (by show 6144 ≤ l.val; omega)
    rw [e, ← ek, ← ei, ← blkRow]
    unfold Row.dp
    by_cases h : k.val < 1024
    · rw [dif_pos h, dif_pos h]
      exact dpA_at _ _ _ _ _ _ _ _ _ _ _ _ _
    · rw [dif_neg h, dif_neg h]
      exact dpB_at _ _ _ _ _ _ _ _ _ _ _ _ _
  refine (congrArg (View.canon _) (eq_ix2 y)).trans (Eq.trans ?_ ((key (y 0) (y 1) (j 0) (j 1) h0 h1).trans (congrArg (gateAll m c) (eq_ix2 j).symm)))
  exact halves _ _ (y 0) (y 1)

theorem arr13 : (dats m 0 c).arrAt 13 cfg0.N = gateAll m c := by
  refine (dats m 0 c).arrAt_eq_of_coversWhere_of_agree 13 _ (fun β => β 1 = 3) (by decide +kernel) (fun t hf y => ?_) (fun j hj => ?_)
  · obtain ⟨e10, e11, e12, e13, e14, e15, e16, e17, e18⟩ := placeOut t
    blk_simp
    rw [after0_13]
    by_cases h : t.val % 16 = 0
    · rw [outsAt0_A m c t h]; frame_out
      exact place_gate m c t y _ (by blk_simp [e13]; omega) (by blk_simp [e13])
    · rw [outsAt0_B m c t h]; frame_out
      exact place_gate m c t y _ (by blk_simp [e13]; omega) (by blk_simp [e13])
  · blk_simp
    have hc : ¬(j 1).val / 2048 = 3 := hj
    have hb : (j 1).val < 8192 := (j 1).isLt
    exact (if_neg (show ¬6144 ≤ (j 1).val by omega)).symm

/-- The two gates' gradients, without the columns before them. -/
def gateCols : S4096x2048.Idx → EReal := fun j => (rowM m c (j 0)).dp (j 1)

/-- The host line after the region takes the last columns. -/
theorem gateTail : Pipeline.afterTail₀ cfgs (dats m) 0 (V0 m) [hostOps1] c main_v1 = gateCols m c := by
  have e : Pipeline.withArrays spec0 c (V0 m c) (fun w => (dats m 0 c).arrAt w cfg0.N) (Proc.devRef .tc main_v0_3) = gateAll m c :=
    (Pipeline.withArrays_arr spec0 (by decide) c (V0 m c) (fun w => (dats m 0 c).arrAt w cfg0.N) 13).trans (arr13 m c)
  have e' : Pipeline.afterTail₀ cfgs (dats m) 0 (V0 m) [hostOps1] c main_v1
      = extractStridedSlice S4096x2048 ![0, 6144] (Pipeline.withArrays spec0 c (V0 m c) (fun w => (dats m 0 c).arrAt w cfg0.N) (Proc.devRef .tc main_v0_3)) slices_S4096x8192_S4096x2048_0_6144 := rfl
  rw [e', e]
  funext j
  rw [eq_ix2 j]
  pointwise []
  have key : ∀ (i : Fin 4096) (k : Fin 2048), gateAll m c (ix2 i (⟨6144 + k.val, by omega⟩ : Fin 8192)) = (rowM m c i).dp k := by
    intro i k
    refine (if_pos (show 6144 ≤ 6144 + k.val by omega)).trans ?_
    have ek : (⟨6144 + k.val - 6144, by omega⟩ : Fin 2048) = k := Fin.ext (by show 6144 + k.val - 6144 = k.val; omega)
    exact congrArg (rowM m c i).dp ek
  exact key (j 0) (j 1)

end Cert.Kernel3Ideal.Hand
end
-- ==== Proof.OutRun.lean ====
module

public import proofs.«01_k».proof.Proof.OutSum
public import proofs.«01_k».proof.Proof.OutGate

@[expose] public section

set_option maxRecDepth 16384

noncomputable section

/-! The output projection's backward pass run to the end: its nine results, row by row of the arguments. -/

namespace Cert.Kernel3Ideal.Hand

open Cert.Kernel3Ideal Cert.Kernel3Ideal.Gen
open Idealize.ShloMosaic Idealize.ShloMosaic.TcCoe
open Idealize.SL Idealize.SL.Sem
open Cert.RowAlgebra

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = allRows m c Row.dx
      ∧ r.2.mem ((c.tc : Thread nD τ).loc main_v0_1) = allRows m c Row.dA
      ∧ r.2.mem ((c.tc : Thread nD τ).loc main_v0_2) = allRows m c Row.dB
      ∧ r.2.mem ((c.tc : Thread nD τ).loc main_v1) = gateCols m c
      ∧ r.2.mem ((c.tc : Thread nD τ).loc main_v0_4) = allRows m c Row.mg
      ∧ r.2.mem ((c.tc : Thread nD τ).loc main_v0_5) = allRows m c Row.dO
      ∧ r.2.mem ((c.tc : Thread nD τ).loc main_v0_6) = allRows m c Row.dyA
      ∧ r.2.mem ((c.tc : Thread nD τ).loc main_v0_7) = allRows m c Row.dyB
      ∧ r.2.mem ((c.tc : Thread nD τ).loc main_v0_8) = sumAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨((h.1 c).1 10).trans (arr10 m c),
      ((h.1 c).1 11).trans (arr11 m c),
      ((h.1 c).1 12).trans (arr12 m c),
      ((h.1 c).2 main_v1 (by decide)).trans (gateTail m c),
      ((h.1 c).1 14).trans (arr14 m c),
      ((h.1 c).1 15).trans (arr15 m c),
      ((h.1 c).1 16).trans (arr16 m c),
      ((h.1 c).1 17).trans (arr17 m c),
      ((h.1 c).1 18).trans (arr18 m c),
      h.2 c⟩)
    (θ_run_and (run_main m ρ) (unchanged m ρ))

end Cert.Kernel3Ideal.Hand
end
-- ==== Proof.OutRef.lean ====
module

public import proofs.«01_k».proof.Proof.OutPay
public import proofs.«01_k».proof.Proof.Gen.Reference3Ideal.Run

@[expose] public section

set_option maxRecDepth 16384

noncomputable section

/-! The output projection's reference, stage by stage: each a function of one row of the arguments. -/

namespace Cert.Reference3Ideal.Hand

open Cert.Reference3Ideal Cert.Reference3Ideal.Gen
open Idealize.ShloMosaic Idealize.ShloMosaic.TcCoe
open Cert.RowAlgebra
open Cert.Kernel3Ideal.Hand (rowA termV)

variable (p : FVec Ideal S4096x8192 .bf16) (a b : FVec Ideal S4096x1024 .bf16) (x tg : FVec Ideal S4096x1024 .f32) (g gf : FVec Ideal S1x1024 .f32)
  (wc ws wo : FVec Ideal S1024x1024 .bf16)

/-! ### The forward lines -/

/-- The first gate. -/
def sA : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32))
      (Host.exp (Host.negf (extf .f32 (extractStridedSlice S4096x1024 ![0, 6144] p slices_S4096x8192_S4096x1024_0_6144) bitsLt_bf16_f32))))

/-- The second gate. -/
def sB : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32))
      (Host.exp (Host.negf (extf .f32 (extractStridedSlice S4096x1024 ![0, 7168] p slices_S4096x8192_S4096x1024_0_7168) bitsLt_bf16_f32))))

/-- A branch's projection. -/
def proj (u : FVec Ideal S4096x1024 .bf16) (w : FVec Ideal S1024x1024 .bf16) : FVec Ideal S4096x1024 .f32 :=
  Host.dotGeneral dot_S4096x1024_S1024x1024_S4096x1024_1_0_0_1_n_n none (extf .f32 u bitsLt_bf16_f32) (extf .f32 w bitsLt_bf16_f32)

/-- The gated sum of the projections. -/
def mgR : FVec Ideal S4096x1024 .f32 := addf (mulf (sA p) (proj a wc)) (mulf (sB p) (proj b ws))

/-- The output projection. -/
def oR : FVec Ideal S4096x1024 .f32 :=
  Host.dotGeneral dot_S4096x1024_S1024x1024_S4096x1024_1_0_0_1_n_n none (mgR p a b wc ws) (extf .f32 wo bitsLt_bf16_f32)

/-- The residual with the gated output. -/
def xR : FVec Ideal S4096x1024 .f32 :=
  addf x (mulf (broadcastInDim S4096x1024 ![0, 1] bcast_S1x1024_S4096x1024_0_1 g) (oR p a b wc ws wo))

/-- The mean of a row's squares and the small constant. -/
def msR (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- A row's scale, along the row. -/
def scR (x : FVec Ideal S4096x1024 .f32) : FVec Ideal S4096x1024 .f32 :=
  broadcastInDim S4096x1024 ![0, 1] bcast_S4096x1_S4096x1024_0_1 (Host.rsqrt (msR x))

/-- The normalised rows. -/
def xhR : FVec Ideal S4096x1024 .f32 := mulf (xR p a b x g wc ws wo) (scR (xR p a b x g wc ws wo))

/-- The difference from the target. -/
def eR : FVec Ideal S4096x1024 .f32 :=
  subf (mulf (xhR p a b x g wc ws wo) (broadcastInDim S4096x1024 ![0, 1] bcast_S1x1024_S4096x1024_0_1 gf)) tg

theorem sA_apply (i : Fin 4096) (k : Fin 1024) : sA p (ix2 i k) = sigm ((rowA p a b x tg g gf wc ws wo i).pa k) := by
  pointwise [sA]; rfl

theorem sB_apply (i : Fin 4096) (k : Fin 1024) : sB p (ix2 i k) = sigm ((rowA p a b x tg g gf wc ws wo i).pb k) := by
  pointwise [sB]; rfl

theorem projA_apply (i : Fin 4096) (k : Fin 1024) : proj a wc (ix2 i k) = (rowA p a b x tg g gf wc ws wo i).yA k := by
  unfold Row.yA rowA
  pointwise [proj]

theorem projB_apply (i : Fin 4096) (k : Fin 1024) : proj b ws (ix2 i k) = (rowA p a b x tg g gf wc ws wo i).yB k := by
  unfold Row.yB rowA
  pointwise [proj]

theorem mgR_apply (i : Fin 4096) (k : Fin 1024) : mgR p a b wc ws (ix2 i k) = (rowA p a b x tg g gf wc ws wo i).mg k := by
  unfold Row.mg
  rw [← sA_apply, ← sB_apply, ← projA_apply, ← projB_apply]
  pointwise [mgR]

theorem oR_apply (i : Fin 4096) (k : Fin 1024) : oR p a b wc ws wo (ix2 i k) = (rowA p a b x tg g gf wc ws wo i).o k := by
  unfold Row.o
  simp only [← mgR_apply]
  unfold rowA
  pointwise [oR]

theorem xR_apply (i : Fin 4096) (k : Fin 1024) : xR p a b x g wc ws wo (ix2 i k) = (rowA p a b x tg g gf wc ws wo i).x2 k := by
  unfold Row.x2
  rw [← oR_apply]
  unfold rowA
  pointwise [xR]

theorem msR_apply (x : FVec Ideal S4096x1024 .f32) (i : Fin 4096) (z : Fin 1) : msR x (ix2 i z) = meanSq (fun l => x (ix2 i l)) := by
  unfold meanSq
  pointwise [msR]

theorem scR_apply (x : FVec Ideal S4096x1024 .f32) (i : Fin 4096) (k : Fin 1024) : scR x (ix2 i k) = scale (fun l => x (ix2 i l)) := by
  pointwise [scR]
  rw [msR_apply]; rfl

theorem rowX (i : Fin 4096) : (fun l => xR p a b x g wc ws wo (ix2 i l)) = (rowA p a b x tg g gf wc ws wo i).x2 :=
  funext fun l => xR_apply p a b x tg g gf wc ws wo i l

theorem xhR_apply (i : Fin 4096) (k : Fin 1024) : xhR p a b x g wc ws wo (ix2 i k) = (rowA p a b x tg g gf wc ws wo i).xh k := by
  unfold Row.xh
  rw [← xR_apply, ← rowX, ← scR_apply (xR p a b x g wc ws wo) i k]
  pointwise [xhR]

theorem eR_apply (i : Fin 4096) (k : Fin 1024) : eR p a b x tg g gf wc ws wo (ix2 i k) = (rowA p a b x tg g gf wc ws wo i).e k := by
  unfold Row.e
  rw [← xhR_apply]
  unfold rowA
  pointwise [eR]

/-! ### The backward lines -/

/-- The gradient of the norm's output. -/
def dyR : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (eR p a b x tg g gf wc ws wo))

/-- The gradient of the normalised rows. -/
def dnR : FVec Ideal S4096x1024 .f32 :=
  mulf (dyR p a b x tg g gf wc ws wo) (broadcastInDim S4096x1024 ![0, 1] bcast_S1x1024_S4096x1024_0_1 gf)

/-- What comes back through the mean of the squares. -/
def backR (x d : FVec Ideal S4096x1024 .f32) : FVec Ideal S4096x1024 .f32 :=
  broadcastInDim S4096x1024 ![0] bcast_S4096_S4096x1024_0 (Host.reduceAdd (Host.divf
    (mulf (shapeCast S4096x1 (Host.reduceAdd (mulf x d) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (msR x)) (msR x))))
    (broadcastInDim S4096x1 ![] bcast_S_S4096x1 (constant S_ .f32 0x44800000#32))) (constant S_ .f32 0x00000000#32) reducesTo_S4096x1_S4096_d1 h_S_)

/-- The gradient of the residual. -/
def dxR : FVec Ideal S4096x1024 .f32 :=
  addf (addf (mulf (dnR p a b x tg g gf wc ws wo) (scR (xR p a b x g wc ws wo)))
    (mulf (xR p a b x g wc ws wo) (backR (xR p a b x g wc ws wo) (dnR p a b x tg g gf wc ws wo))))
    (mulf (backR (xR p a b x g wc ws wo) (dnR p a b x tg g gf wc ws wo)) (xR p a b x g wc ws wo))

/-- The gradient of the output projection. -/
def dOR : FVec Ideal S4096x1024 .f32 :=
  mulf (broadcastInDim S4096x1024 ![0, 1] bcast_S1x1024_S4096x1024_0_1 g) (dxR p a b x tg g gf wc ws wo)

/-- The product with a weight, transposed. -/
def back2 (u : FVec Ideal S4096x1024 .f32) (w : FVec Ideal S1024x1024 .bf16) : FVec Ideal S4096x1024 .f32 :=
  Host.dotGeneral dot_S4096x1024_S1024x1024_S4096x1024_1_1_0_0_n_n none u (extf .f32 w bitsLt_bf16_f32)

/-- The gradient of the gated sum. -/
def dmR : FVec Ideal S4096x1024 .f32 := back2 (dOR p a b x tg g gf wc ws wo) wo

/-- The gradient of a gate. -/
def dgR (d y s : FVec Ideal S4096x1024 .f32) : FVec Ideal S4096x1024 .f32 :=
  mulf (mulf d y) (mulf s (subf (broadcastInDim S4096x1024 ![] bcast_S_S4096x1024 (constant S_ .f32 0x3F800000#32)) s))

theorem dyR_apply (i : Fin 4096) (k : Fin 1024) : dyR p a b x tg g gf wc ws wo (ix2 i k) = (rowA p a b x tg g gf wc ws wo i).dy k := by
  unfold Row.dy
  rw [← eR_apply, ← dy_coef]
  pointwise [dyR]

theorem dnR_apply (i : Fin 4096) (k : Fin 1024) : dnR p a b x tg g gf wc ws wo (ix2 i k) = (rowA p a b x tg g gf wc ws wo i).dn k := by
  unfold Row.dn
  rw [← dyR_apply]
  unfold rowA
  pointwise [dnR]

theorem rowD (i : Fin 4096) : (fun l => dnR p a b x tg g gf wc ws wo (ix2 i l)) = (rowA p a b x tg g gf wc ws wo i).dn :=
  funext fun l => dnR_apply p a b x tg g gf wc ws wo i l

theorem backR_apply (x d : FVec Ideal S4096x1024 .f32) (i : Fin 4096) (k : Fin 1024) :
    backR x d (ix2 i k) = back (fun l => x (ix2 i l)) (fun l => d (ix2 i l)) := by
  have e' : ∀ z : Fin 1, msR x (ix2 i z) = meanSq (fun l => x (ix2 i l)) := fun z => msR_apply x i z
  pointwise [backR]
  simp only [e', Fin.sum_univ_one, Finset.univ_unique, Finset.sum_singleton]
  rfl

theorem dxR_apply (i : Fin 4096) (k : Fin 1024) : dxR p a b x tg g gf wc ws wo (ix2 i k) = (rowA p a b x tg g gf wc ws wo i).dx k := by
  rw [Row.dx_eq, ← dnR_apply, ← xR_apply, ← rowX, ← rowD, ← scR_apply (xR p a b x g wc ws wo) i k, ← backR_apply (k := k)]
  pointwise [dxR]

theorem dOR_apply (i : Fin 4096) (k : Fin 1024) : dOR p a b x tg g gf wc ws wo (ix2 i k) = (rowA p a b x tg g gf wc ws wo i).dO k := by
  unfold Row.dO
  rw [← dxR_apply]
  unfold rowA
  pointwise [dOR]

theorem dmR_apply (i : Fin 4096) (k : Fin 1024) : dmR p a b x tg g gf wc ws wo (ix2 i k) = (rowA p a b x tg g gf wc ws wo i).dm k := by
  unfold Row.dm
  simp only [← dOR_apply]
  unfold rowA
  pointwise [dmR, back2]

theorem dyAR_apply (i : Fin 4096) (k : Fin 1024) :
    mulf (sA p) (dmR p a b x tg g gf wc ws wo) (ix2 i k) = (rowA p a b x tg g gf wc ws wo i).dyA k := by
  unfold Row.dyA
  rw [← sA_apply, ← dmR_apply]
  pointwise []

theorem dyBR_apply (i : Fin 4096) (k : Fin 1024) :
    mulf (sB p) (dmR p a b x tg g gf wc ws wo) (ix2 i k) = (rowA p a b x tg g gf wc ws wo i).dyB k := by
  unfold Row.dyB
  rw [← sB_apply, ← dmR_apply]
  pointwise []

theorem dAR_apply (i : Fin 4096) (k : Fin 1024) :
    back2 (mulf (sA p) (dmR p a b x tg g gf wc ws wo)) wc (ix2 i k) = (rowA p a b x tg g gf wc ws wo i).dA k := by
  unfold Row.dA
  simp only [← dyAR_apply]
  unfold rowA
  pointwise [back2]

theorem dBR_apply (i : Fin 4096) (k : Fin 1024) :
    back2 (mulf (sB p) (dmR p a b x tg g gf wc ws wo)) ws (ix2 i k) = (rowA p a b x tg g gf wc ws wo i).dB k := by
  unfold Row.dB
  simp only [← dyBR_apply]
  unfold rowA
  pointwise [back2]

theorem dpAR_apply (i : Fin 4096) (k : Fin 1024) :
    dgR (dmR p a b x tg g gf wc ws wo) (proj a wc) (sA p) (ix2 i k) = (rowA p a b x tg g gf wc ws wo i).dpA k := by
  unfold Row.dpA
  rw [← sA_apply, ← projA_apply, ← dmR_apply, mul_assoc]
  pointwise [dgR]

theorem dpBR_apply (i : Fin 4096) (k : Fin 1024) :
    dgR (dmR p a b x tg g gf wc ws wo) (proj b ws) (sB p) (ix2 i k) = (rowA p a b x tg g gf wc ws wo i).dpB k := by
  unfold Row.dpB
  rw [← sB_apply, ← projB_apply, ← dmR_apply, mul_assoc]
  pointwise [dgR]

end Cert.Reference3Ideal.Hand
end
-- ==== Proof.OutRes.lean ====
module

public import proofs.«01_k».proof.Proof.OutRef

@[expose] public section

set_option maxRecDepth 16384

noncomputable section

/-! The output projection's reference: each of its nine results, row by row of the arguments. -/

namespace Cert.Reference3Ideal.Hand

open Cert.Reference3Ideal Cert.Reference3Ideal.Gen
open Idealize.ShloMosaic Idealize.ShloMosaic.TcCoe
open Cert.RowAlgebra
open Cert.Kernel3Ideal.Hand (rowA termV)

variable (m : (ℓ : Loc nD τ sig) → Buf (Elt Ideal) ℓ) (c : Dev nD)

/-- An argument of the reference. -/
abbrev arg (b : Ref sig .tc) : Buf (Elt Ideal) ((c.tc : Thread nD τ).loc b) := m ((c.tc : Thread nD τ).loc b)

/-- Row `i` of the arguments. -/
abbrev rowM (i : Fin 4096) : Row :=
  rowA (arg m c main_arg0) (arg m c main_arg1) (arg m c main_arg2) (arg m c main_arg3) (arg m c main_arg4) (arg m c main_arg5) (arg m c main_arg6) (arg m c main_arg7) (arg m c main_arg8) (arg m c main_arg9) i

/-- `f` of every row of the arguments. -/
def rowsM (f : Row → Fin 1024 → EReal) : S4096x1024.Idx → EReal := fun j => f (rowM m c (j 0)) (j 1)

/-- The two gates' gradients of every row. -/
def gatesM : S4096x2048.Idx → EReal := fun j => (rowM m c (j 0)).dp (j 1)

/-- The sums over all the rows. -/
def sumsM : S8x1024.Idx → EReal := fun j => ∑ i, termV (rowM m c i) (j 0) (j 1)

theorem rows_of (f : Row → Fin 1024 → EReal) (P : S4096x1024.Idx → EReal) (h : ∀ i k, P (ix2 i k) = f (rowM m c i) k) : P = rowsM m c f := by
  funext j
  exact (congrArg P (eq_ix2 j)).trans (h (j 0) (j 1))

theorem res_v84 : Value.res_main_v84 (F := Ideal) m c = (dxR (arg m c main_arg0) (arg m c main_arg1) (arg m c main_arg2) (arg m c main_arg3) (arg m c main_arg4) (arg m c main_arg5) (arg m c main_arg6) (arg m c main_arg7) (arg m c main_arg8) (arg m c main_arg9) : FVec Ideal S4096x1024 .f32) := by
  unfold Value.res_main_v84 dxR backR dnR dyR eR xhR scR msR xR oR mgR proj sA sB
  rfl

theorem ref_v84 : Value.res_main_v84 (F := Ideal) m c = rowsM m c Row.dx := by
  rw [res_v84]
  exact rows_of m c _ _ fun i k => dxR_apply (arg m c main_arg0) (arg m c main_arg1) (arg m c main_arg2) (arg m c main_arg3) (arg m c main_arg4) (arg m c main_arg5) (arg m c main_arg6) (arg m c main_arg7) (arg m c main_arg8) (arg m c main_arg9) i k

theorem res_v97 : Value.res_main_v97 (F := Ideal) m c = (back2 (mulf (sA (arg m c main_arg0)) (dmR (arg m c main_arg0) (arg m c main_arg1) (arg m c main_arg2) (arg m c main_arg3) (arg m c main_arg4) (arg m c main_arg5) (arg m c main_arg6) (arg m c main_arg7) (arg m c main_arg8) (arg m c main_arg9))) (arg m c main_arg7) : FVec Ideal S4096x1024 .f32) := by
  unfold Value.res_main_v97 dmR dOR dxR backR dnR dyR eR xhR scR msR xR oR mgR proj sA sB back2
  rfl

theorem ref_v97 : Value.res_main_v97 (F := Ideal) m c = rowsM m c Row.dA := by
  rw [res_v97]
  exact rows_of m c _ _ fun i k => dAR_apply (arg m c main_arg0) (arg m c main_arg1) (arg m c main_arg2) (arg m c main_arg3) (arg m c main_arg4) (arg m c main_arg5) (arg m c main_arg6) (arg m c main_arg7) (arg m c main_arg8) (arg m c main_arg9) i k

theorem res_v98 : Value.res_main_v98 (F := Ideal) m c = (back2 (mulf (sB (arg m c main_arg0)) (dmR (arg m c main_arg0) (arg m c main_arg1) (arg m c main_arg2) (arg m c main_arg3) (arg m c main_arg4) (arg m c main_arg5) (arg m c main_arg6) (arg m c main_arg7) (arg m c main_arg8) (arg m c main_arg9))) (arg m c main_arg8) : FVec Ideal S4096x1024 .f32) := by
  unfold Value.res_main_v98 dmR dOR dxR backR dnR dyR eR xhR scR msR xR oR mgR proj sA sB back2
  rfl

theorem ref_v98 : Value.res_main_v98 (F := Ideal) m c = rowsM m c Row.dB := by
  rw [res_v98]
  exact rows_of m c _ _ fun i k => dBR_apply (arg m c main_arg0) (arg m c main_arg1) (arg m c main_arg2) (arg m c main_arg3) (arg m c main_arg4) (arg m c main_arg5) (arg m c main_arg6) (arg m c main_arg7) (arg m c main_arg8) (arg m c main_arg9) i k

theorem res_v112 : Value.res_main_v112 (F := Ideal) m c = (truncf .bf16 (dOR (arg m c main_arg0) (arg m c main_arg1) (arg m c main_arg2) (arg m c main_arg3) (arg m c main_arg4) (arg m c main_arg5) (arg m c main_arg6) (arg m c main_arg7) (arg m c main_arg8) (arg m c main_arg9)) bitsLt_bf16_f32 : FVec Ideal S4096x1024 .bf16) := by
  unfold Value.res_main_v112 dOR dxR backR dnR dyR eR xhR scR msR xR oR mgR proj sA sB
  rfl

theorem ref_v112 : Value.res_main_v112 (F := Ideal) m c = rowsM m c Row.dO := by
  rw [res_v112]
  exact rows_of m c _ _ fun i k => dOR_apply (arg m c main_arg0) (arg m c main_arg1) (arg m c main_arg2) (arg m c main_arg3) (arg m c main_arg4) (arg m c main_arg5) (arg m c main_arg6) (arg m c main_arg7) (arg m c main_arg8) (arg m c main_arg9) i k

theorem res_v113 : Value.res_main_v113 (F := Ideal) m c = (truncf .bf16 (mulf (sA (arg m c main_arg0)) (dmR (arg m c main_arg0) (arg m c main_arg1) (arg m c main_arg2) (arg m c main_arg3) (arg m c main_arg4) (arg m c main_arg5) (arg m c main_arg6) (arg m c main_arg7) (arg m c main_arg8) (arg m c main_arg9))) bitsLt_bf16_f32 : FVec Ideal S4096x1024 .bf16) := by
  unfold Value.res_main_v113 dmR dOR dxR backR dnR dyR eR xhR scR msR xR oR mgR proj sA sB back2
  rfl

theorem ref_v113 : Value.res_main_v113 (F := Ideal) m c = rowsM m c Row.dyA := by
  rw [res_v113]
  exact rows_of m c _ _ fun i k => dyAR_apply (arg m c main_arg0) (arg m c main_arg1) (arg m c main_arg2) (arg m c main_arg3) (arg m c main_arg4) (arg m c main_arg5) (arg m c main_arg6) (arg m c main_arg7) (arg m c main_arg8) (arg m c main_arg9) i k

theorem res_v114 : Value.res_main_v114 (F := Ideal) m c = (truncf .bf16 (mulf (sB (arg m c main_arg0)) (dmR (arg m c main_arg0) (arg m c main_arg1) (arg m c main_arg2) (arg m c main_arg3) (arg m c main_arg4) (arg m c main_arg5) (arg m c main_arg6) (arg m c main_arg7) (arg m c main_arg8) (arg m c main_arg9))) bitsLt_bf16_f32 : FVec Ideal S4096x1024 .bf16) := by
  unfold Value.res_main_v114 dmR dOR dxR backR dnR dyR eR xhR scR msR xR oR mgR proj sA sB back2
  rfl

theorem ref_v114 : Value.res_main_v114 (F := Ideal) m c = rowsM m c Row.dyB := by
  rw [res_v114]
  exact rows_of m c _ _ fun i k => dyBR_apply (arg m c main_arg0) (arg m c main_arg1) (arg m c main_arg2) (arg m c main_arg3) (arg m c main_arg4) (arg m c main_arg5) (arg m c main_arg6) (arg m c main_arg7) (arg m c main_arg8) (arg m c main_arg9) i k

/-- The gated sum, rounded. -/
theorem ref_v111 : (truncf .bf16 (mgR (arg m c main_arg0) (arg m c main_arg1) (arg m c main_arg2) (arg m c main_arg7) (arg m c main_arg8)) bitsLt_bf16_f32 : FVec Ideal S4096x1024 .bf16) = rowsM m c Row.mg :=
  rows_of m c _ _ fun i k => mgR_apply (arg m c main_arg0) (arg m c main_arg1) (arg m c main_arg2) (arg m c main_arg3) (arg m c main_arg4) (arg m c main_arg5) (arg m c main_arg6) (arg m c main_arg7) (arg m c main_arg8) (arg m c main_arg9) i k

/-- The two gates' gradients. -/
theorem res_v110 : Value.res_main_v110 (F := Ideal) m c = (truncf .bf16 (concatenate S4096x2048 1
    [⟨S4096x1024, dgR (dmR (arg m c main_arg0) (arg m c main_arg1) (arg m c main_arg2) (arg m c main_arg3) (arg m c main_arg4) (arg m c main_arg5) (arg m c main_arg6) (arg m c main_arg7) (arg m c main_arg8) (arg m c main_arg9)) (proj (arg m c main_arg1) (arg m c main_arg7)) (sA (arg m c main_arg0))⟩,
     ⟨S4096x1024, dgR (dmR (arg m c main_arg0) (arg m c main_arg1) (arg m c main_arg2) (arg m c main_arg3) (arg m c main_arg4) (arg m c main_arg5) (arg m c main_arg6) (arg m c main_arg7) (arg m c main_arg8) (arg m c main_arg9)) (proj (arg m c main_arg2) (arg m c main_arg8)) (sB (arg m c main_arg0))⟩]
    concatenates_S4096x1024_S4096x1024_S4096x2048_d1 : FVec Ideal S4096x2048 .f32) bitsLt_bf16_f32 : FVec Ideal S4096x2048 .bf16) := by
  unfold Value.res_main_v110 dmR dOR dxR backR dnR dyR eR xhR scR msR xR oR mgR proj sA sB back2 dgR
  rfl

theorem ref_v110 : Value.res_main_v110 (F := Ideal) m c = gatesM m c := by
  rw [res_v110]
  funext j
  rw [eq_ix2 j]
  have key : ∀ (i : Fin 4096) (k : Fin 2048), (truncf .bf16 (concatenate S4096x2048 1
    [⟨S4096x1024, dgR (dmR (arg m c main_arg0) (arg m c main_arg1) (arg m c main_arg2) (arg m c main_arg3) (arg m c main_arg4) (arg m c main_arg5) (arg m c main_arg6) (arg m c main_arg7) (arg m c main_arg8) (arg m c main_arg9)) (proj (arg m c main_arg1) (arg m c main_arg7)) (sA (arg m c main_arg0))⟩,
     ⟨S4096x1024, dgR (dmR (arg m c main_arg0) (arg m c main_arg1) (arg m c main_arg2) (arg m c main_arg3) (arg m c main_arg4) (arg m c main_arg5) (arg m c main_arg6) (arg m c main_arg7) (arg m c main_arg8) (arg m c main_arg9)) (proj (arg m c main_arg2) (arg m c main_arg8)) (sB (arg m c main_arg0))⟩]
    concatenates_S4096x1024_S4096x1024_S4096x2048_d1 : FVec Ideal S4096x2048 .f32) bitsLt_bf16_f32 : FVec Ideal S4096x2048 .bf16) (ix2 i k)
      = (rowM m c i).dp k := by
    intro i k
    pointwise []
    unfold Row.dp
    by_cases h : k.val < 1024
    · rw [dif_pos h, dif_pos h]
      exact dpAR_apply (arg m c main_arg0) (arg m c main_arg1) (arg m c main_arg2) (arg m c main_arg3) (arg m c main_arg4) (arg m c main_arg5) (arg m c main_arg6) (arg m c main_arg7) (arg m c main_arg8) (arg m c main_arg9) i _
    · rw [dif_neg h, dif_neg h]
      exact dpBR_apply (arg m c main_arg0) (arg m c main_arg1) (arg m c main_arg2) (arg m c main_arg3) (arg m c main_arg4) (arg m c main_arg5) (arg m c main_arg6) (arg m c main_arg7) (arg m c main_arg8) (arg m c main_arg9) i _
  exact key (j 0) (j 1)

/-- The sums over the rows. -/
theorem res_v108 : Value.res_main_v108 (F := Ideal) m c = (concatenate S8x1024 0
    [⟨S1x1024, (shapeCast S1x1024 (Host.reduceAdd (mulf (xhR (arg m c main_arg0) (arg m c main_arg1) (arg m c main_arg2) (arg m c main_arg3) (arg m c main_arg5) (arg m c main_arg7) (arg m c main_arg8) (arg m c main_arg9)) (dyR (arg m c main_arg0) (arg m c main_arg1) (arg m c main_arg2) (arg m c main_arg3) (arg m c main_arg4) (arg m c main_arg5) (arg m c main_arg6) (arg m c main_arg7) (arg m c main_arg8) (arg m c main_arg9))) (constant S_ .f32 0x00000000#32) reducesTo_S4096x1024_S1024_d0 h_S_) shapeCasts_S1024_S1x1024 : FVec Ideal S1x1024 .f32)⟩,
     ⟨S1x1024, (shapeCast S1x1024 (Host.reduceAdd (mulf (dxR (arg m c main_arg0) (arg m c main_arg1) (arg m c main_arg2) (arg m c main_arg3) (arg m c main_arg4) (arg m c main_arg5) (arg m c main_arg6) (arg m c main_arg7) (arg m c main_arg8) (arg m c main_arg9)) (oR (arg m c main_arg0) (arg m c main_arg1) (arg m c main_arg2) (arg m c main_arg7) (arg m c main_arg8) (arg m c main_arg9))) (constant S_ .f32 0x00000000#32) reducesTo_S4096x1024_S1024_d0 h_S_) shapeCasts_S1024_S1x1024 : FVec Ideal S1x1024 .f32)⟩,
     ⟨S1x1024, (Host.divf (mulf (broadcastInDim S1x1024 ![] bcast_S_S1x1024 (constant S_ .f32 0x3F000000#32)) (broadcastInDim S1x1024 ![1] bcast_S1024_S1x1024_1 (Host.reduceAdd (mulf (eR (arg m c main_arg0) (arg m c main_arg1) (arg m c main_arg2) (arg m c main_arg3) (arg m c main_arg4) (arg m c main_arg5) (arg m c main_arg6) (arg m c main_arg7) (arg m c main_arg8) (arg m c main_arg9)) (eR (arg m c main_arg0) (arg m c main_arg1) (arg m c main_arg2) (arg m c main_arg3) (arg m c main_arg4) (arg m c main_arg5) (arg m c main_arg6) (arg m c main_arg7) (arg m c main_arg8) (arg m c main_arg9))) (constant S_ .f32 0x00000000#32) reducesTo_S4096x1024_S1024_d0 h_S_))) (broadcastInDim S1x1024 ![] bcast_S_S1x1024 (constant S_ .f32 0x44800000#32)) : FVec Ideal S1x1024 .f32)⟩,
     ⟨S5x1024, (broadcastInDim S5x1024 ![] bcast_S_S5x1024 (constant S_ .f32 0x00000000#32) : FVec Ideal S5x1024 .f32)⟩]
    concatenates_S1x1024_S1x1024_S1x1024_S5x1024_S8x1024_d0 : FVec Ideal S8x1024 .f32) := by
  unfold Value.res_main_v108 dxR backR dnR dyR eR xhR scR msR xR oR mgR proj sA sB
  rfl

theorem ref_v108 : Value.res_main_v108 (F := Ideal) m c = sumsM m c := by
  funext j
  rw [eq_ix2 j]
  have key : ∀ (r : Fin 8) (k : Fin 1024), Value.res_main_v108 (F := Ideal) m c (ix2 r k) = ∑ i, termV (rowM m c i) r k := by
    intro r k
    rw [res_v108]
    pointwise []
    unfold termV
    by_cases h0 : r.val = 0
    · rw [dif_pos (by omega)]
      simp only [if_pos h0]
      exact Finset.sum_congr (M := EReal) rfl fun i _ => by
        rw [xhR_apply (tg := arg m c main_arg4) (gf := arg m c main_arg6), dyR_apply]; exact mul_comm (G := EReal) _ _
    by_cases h1 : r.val = 1
    · rw [dif_neg (by omega), dif_pos (by omega)]
      simp only [if_neg h0, if_pos h1]
      exact Finset.sum_congr (M := EReal) rfl fun i _ => by
        rw [dxR_apply, oR_apply (x := arg m c main_arg3) (tg := arg m c main_arg4) (g := arg m c main_arg5) (gf := arg m c main_arg6)]
    by_cases h2 : r.val = 2
    · rw [dif_neg (by omega), dif_neg (by omega), dif_pos (by omega), loss_coef, halfInv_eq, coe_mul_sum (by norm_num), ← halfInv_eq]
      simp only [if_neg h0, if_neg h1, if_pos h2]
      exact Finset.sum_congr (M := EReal) rfl fun i _ => by rw [eR_apply]
    · rw [dif_neg (by omega), dif_neg (by omega), dif_neg (by omega)]
      simp only [if_neg h0, if_neg h1, if_neg h2, Finset.sum_const_zero]
  exact key (j 0) (j 1)

end Cert.Reference3Ideal.Hand
end
-- ==== Proof.SguSame.lean ====
module

public import proofs.«01_k».proof.Defs
public import proofs.«01_k».proof.Proof.Gen.Kernel4
public import proofs.«01_k».proof.Proof.Gen.Kernel4Ideal

@[expose] public section

/-! The kernel and its idealization are one text: their body tables and their launches are equal. -/

namespace Cert.Proof

open Idealize.ShloMosaic Idealize.SL.Sem

theorem part1_same4 : Cert.Kernel4.k0_part1 (F := Bits) = Cert.Kernel4Ideal.k0_part1 (F := Bits) := rfl

theorem part2_same4 : Cert.Kernel4.k0_part2 (F := Bits) = Cert.Kernel4Ideal.k0_part2 (F := Bits) := rfl

theorem part3_same4 : Cert.Kernel4.k0_part3 (F := Bits) = Cert.Kernel4Ideal.k0_part3 (F := Bits) := rfl

theorem part4_same4 : Cert.Kernel4.k0_part4 (F := Bits) = Cert.Kernel4Ideal.k0_part4 (F := Bits) := rfl

theorem part5_same4 : Cert.Kernel4.k0_part5 (F := Bits) = Cert.Kernel4Ideal.k0_part5 (F := Bits) := rfl

theorem body_same4 : Cert.Kernel4.cc0_branch_b_fwd (F := Bits) = Cert.Kernel4Ideal.cc0_branch_b_fwd (F := Bits) := rfl

theorem table_same4 : Cert.Kernel4.defs₀ (F := Bits) = Cert.Kernel4Ideal.defs₀ (F := Bits) := by
  unfold Cert.Kernel4.defs₀ Cert.Kernel4Ideal.defs₀
  refine congrArg (Defs.onTc (nD := Cert.Kernel4Ideal.nD) (τ := Cert.Kernel4Ideal.τ) (sig := Cert.Kernel4Ideal.sig) (Val := Elt Bits) (Λ := Cert.Kernel4Ideal.Λ₀)) ?_
  funext l x
  match l, x with
  | 0, (t, s) => rfl

theorem defs_same4 : Cert.Kernel4.defs (F := Bits) = Cert.Kernel4Ideal.defs (F := Bits) := by
  show Pipeline.defs Cert.Kernel4Ideal.pcfgs Cert.Kernel4.defs₀ = _
  rw [table_same4]
  rfl

theorem main_same4 : Cert.Kernel4.main (F := Bits) = Cert.Kernel4Ideal.main (F := Bits) := rfl

end Cert.Proof
-- ==== Proof.SguRow.lean ====
module

public import proofs.«01_k».proof.Proof.OutRow

@[expose] public section

noncomputable section

/-! The spatial gating unit over the extended reals: the activation, the layer norm of a row, the mixing of a chunk. -/

namespace Cert.RowAlgebra

open Idealize.ShloMosaic

/-- The GELU, with the word of 1/√2 that both programs hold. -/
def gelu (x : EReal) : EReal := Ideal.ofBits .f32 0x3F000000#32 * x * (1 + Ideal.erf (x * Ideal.ofBits .f32 0x3F3504F3#32))

/-- The GELU by the complementary error function. -/
theorem gelu_erfc (x : EReal) :
    Ideal.ofBits .f32 0x3F000000#32 * x * Ideal.erfc (-x * Ideal.ofBits .f32 0x3F3504F3#32) = gelu x := by
  unfold gelu
  rw [neg_mul, Ideal.erfc_neg]

/-- The sigmoid-weighted unit. -/
def silu (z : EReal) : EReal := z * sigm z

/-- A row's mean. -/
def mean (f : Fin 1024 → EReal) : EReal := Ideal.div (∑ l, f l) (Ideal.ofBits .f32 0x44800000#32)

/-- A row less its mean. -/
def cen (f : Fin 1024 → EReal) (l : Fin 1024) : EReal := f l - mean f

/-- A row's layer norm. -/
def lnorm (f g b : Fin 1024 → EReal) (l : Fin 1024) : EReal :=
  cen f l * Ideal.rsqrt (mean (fun k => cen f k * cen f k) + Ideal.ofBits .f32 0x358637BD#32) * g l + b l

/-- The rows the unit reads: the gated half, the gating half, the outer gate, by row and lane. -/
structure Gate where
  /-- the gated half -/
  u : Fin 4096 → Fin 1024 → EReal
  /-- the gating half -/
  v : Fin 4096 → Fin 1024 → EReal
  /-- the outer gate -/
  z : Fin 4096 → Fin 1024 → EReal
  /-- each head's masked weight -/
  w : Fin 8 → Fin 128 → Fin 128 → EReal
  /-- each head's bias -/
  bi : Fin 8 → Fin 128 → EReal
  /-- the norm's gain -/
  g : Fin 1024 → EReal
  /-- the norm's offset -/
  b : Fin 1024 → EReal

namespace Gate

variable (G : Gate)

/-- The normalised GELU of the gating half. -/
def vn (i : Fin 4096) (l : Fin 1024) : EReal := lnorm (fun k => gelu (G.v i k)) G.g G.b l

/-- Row `s` of row `i`'s chunk. -/
def chunkRow (i : Fin 4096) (s : Fin 128) : Fin 4096 := ⟨128 * (i.val / 128) + s.val, by omega⟩

/-- A lane's head. -/
def head (l : Fin 1024) : Fin 8 := ⟨l.val / 128, by omega⟩

/-- A row's place in its chunk. -/
def inChunk (i : Fin 4096) : Fin 128 := ⟨i.val % 128, Nat.mod_lt _ (by decide)⟩

/-- The mixed gate: the head's weight by the chunk's rows, plus the bias. -/
def mix (i : Fin 4096) (l : Fin 1024) : EReal :=
  ∑ s, G.w (head l) (inChunk i) s * G.vn (chunkRow i s) l + G.bi (head l) (inChunk i)

/-- The unit's output. -/
def out (i : Fin 4096) (l : Fin 1024) : EReal := gelu (G.u i l) * G.mix i l * silu (G.z i l)

end Gate

end Cert.RowAlgebra
end
-- ==== Proof.SguTrip.lean ====
module

public import proofs.«01_k».proof.Proof.Gen.Kernel4Ideal.Frame.Runs
public import Idealize.ShloMosaic.Lib.WritesUnit
public import Idealize.ShloMosaic.Lib.WholeRead
public import Idealize.ShloMosaic.Lib.VecWindow

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `n` trips' steps, one after another, from `z`. -/
def iter {σ : Type} {n₀ : ℕ} (step : Fin n₀ → σ → σ) (z : σ) : ℕ → σ
  | 0 => z
  | n + 1 => if h : n < n₀ then step ⟨n, h⟩ (iter step z n) else iter step z n

theorem iter_succ {σ : Type} {n₀ : ℕ} (step : Fin n₀ → σ → σ) (z : σ) (k : Fin n₀) : iter step z (k.val + 1) = step k (iter step z k.val) := by
  rw [iter, dif_pos k.isLt]

/-- A block of 256 rows put together from sixteen strips of sixteen. -/
def ofStrips {n₀ : ℕ} (hn₀ : n₀ = 16) {e : EltTy} (strip : Fin n₀ → Vec F S16x1024 e) : Vec F S256x1024 e :=
  fun y => strip ⟨(y 0).val / 16, lt_of_lt_of_eq (by have := (y 0).isLt; change (y 0).val < 256 at this; omega) hn₀.symm⟩
    (fun d => match d with
      | ⟨0, _⟩ => ⟨(y 0).val % 16, Nat.mod_lt _ (by decide)⟩
      | ⟨1, _⟩ => ⟨(y 1).val, (y 1).isLt⟩)

theorem iter_strips {n₀ : ℕ} (hn₀ : n₀ = 16) {e : EltTy} (strip : Fin n₀ → Vec F S16x1024 e) (off : Fin n₀ → Fin 2 → ℕ)
    (hoff : ∀ k, off k = ![16 * k.val, 0]) (g : Vec F S256x1024 e) :
    ∀ n, n ≤ 16 → iter (fun k (g : Vec F S256x1024 e) => VecWindow.put (s := S256x1024) g (off k) S16x1024.size (strip k)) g n = fun y => if (y 0).val < 16 * n then ofStrips hn₀ strip y else g y
  | 0, _ => by funext y; rw [iter, if_neg (by omega)]
  | n + 1, hn => by
    have hl : n < n₀ := lt_of_lt_of_eq (by omega) hn₀.symm
    rw [iter, dif_pos hl, iter_strips hn₀ strip off hoff g n (by omega)]
    funext y
    have h1 : (y 1).val < 1024 := (y 1).isLt
    have e0 : off ⟨n, hl⟩ = ![16 * n, 0] := hoff ⟨n, hl⟩
    unfold VecWindow.put
    by_cases hy : 16 * n ≤ (y 0).val ∧ (y 0).val < 16 * n + 16
    · have hm : ∀ a, off ⟨n, hl⟩ a ≤ (y a).val ∧ (y a).val < off ⟨n, hl⟩ a + S16x1024.size a := by
        rw [e0]; intro a; match a with
        | ⟨0, _⟩ => exact hy
        | ⟨1, _⟩ => exact ⟨Nat.zero_le _, by show (y 1).val < 0 + 1024; omega⟩
      rw [dif_pos hm, if_pos (by omega)]
      unfold ofStrips
      have hk : (⟨(y 0).val / 16, lt_of_lt_of_eq (by have := (y 0).isLt; change (y 0).val < 256 at this; omega) hn₀.symm⟩ : Fin n₀) = ⟨n, hl⟩ :=
        Fin.ext (by show (y 0).val / 16 = n; omega)
      rw [hk]
      congr 1
      funext d
      match d with
      | ⟨0, _⟩ =>
        apply Fin.ext
        show (y 0).val - off ⟨n, hl⟩ 0 = (y 0).val % 16
        rw [e0]; show (y 0).val - 16 * n = _; omega
      | ⟨1, _⟩ =>
        apply Fin.ext
        show (y 1).val - off ⟨n, hl⟩ 1 = (y 1).val
        rw [e0]; rfl
    · rw [dif_neg (fun hm => hy (by have := hm 0; rw [e0] at this; exact this))]
      by_cases hlt : (y 0).val < 16 * n
      · show (if (y 0).val < 16 * n then _ else _) = _; rw [if_pos hlt, if_pos (by omega)]
      · show (if (y 0).val < 16 * n then _ else _) = _; rw [if_neg hlt, if_neg (by omega)]

theorem trips1 : k0_t1_loop.trips = 16 := by decide +kernel
theorem trips2 : k0_t2_loop.trips = 16 := by decide +kernel

/-- Trip `k`'s sixteen rows of the normalised GELU of `v`. -/
def vStrip (x : Vec F S256x3072 .bf16) (g b : Vec F S1x1024 .f32) (k : Fin k0_t1_loop.trips) : Vec F S16x1024 .bf16 :=
  k0_pay4 (VecWindow.window x (k0_off1 k) S16x1024.size (k0_off1_inb k)) g b

/-- Trip `k`'s sixteen rows of the branch's output. -/
def oStrip (x : Vec F S256x3072 .bf16) (s : Vec F S256x1024 .f32) (k : Fin k0_t2_loop.trips) : Vec F S16x1024 .bf16 :=
  k0_pay3 (VecWindow.window x (k0_off3 k) S16x1024.size (k0_off3_inb k)) (VecWindow.window x (k0_off4 k) S16x1024.size (k0_off4_inb k))
    (VecWindow.window s (k0_off5 k) S16x1024.size (k0_off5_inb k))

def vStep (x : Vec F S256x3072 .bf16) (g b : Vec F S1x1024 .f32) (k : Fin k0_t1_loop.trips) (v : Vec F S256x1024 .bf16) : Vec F S256x1024 .bf16 :=
  VecWindow.put v (k0_off2 k) S16x1024.size (vStrip x g b k)

def oStep (x : Vec F S256x3072 .bf16) (s : Vec F S256x1024 .f32) (k : Fin k0_t2_loop.trips) (o : Vec F S256x1024 .bf16) : Vec F S256x1024 .bf16 :=
  VecWindow.put o (k0_off5 k) S16x1024.size (oStrip x s k)

/-- The block of the normalised GELU of `v`. -/
def vBlk (x : Vec F S256x3072 .bf16) (g b : Vec F S1x1024 .f32) : Vec F S256x1024 .bf16 := ofStrips trips1 (vStrip x g b)

/-- The output's block. -/
def oBlk (x : Vec F S256x3072 .bf16) (s : Vec F S256x1024 .f32) : Vec F S256x1024 .bf16 := ofStrips trips2 (oStrip x s)

theorem iter_vStep (x : Vec F S256x3072 .bf16) (g b : Vec F S1x1024 .f32) (v : Vec F S256x1024 .bf16) : iter (vStep x g b) v k0_t1_loop.trips = vBlk x g b := by
  refine (congrArg (iter _ _) trips1).trans ?_
  refine (iter_strips trips1 (vStrip x g b) k0_off2 k0_off2_eq v 16 le_rfl).trans ?_
  funext y
  exact if_pos (y 0).isLt

theorem iter_oStep (x : Vec F S256x3072 .bf16) (s : Vec F S256x1024 .f32) (o : Vec F S256x1024 .bf16) : iter (oStep x s) o k0_t2_loop.trips = oBlk x s := by
  refine (congrArg (iter _ _) trips2).trans ?_
  refine (iter_strips trips2 (oStrip x s) k0_off5 k0_off5_eq o 16 le_rfl).trans ?_
  funext y
  exact if_pos (y 0).isLt

theorem readAt_row (v : View sig .tc .vmem S1x1024 .f32) (f : v.ty.Contents (Elt F)) (h) :
    v.readAt (Elt F) (Rect.unit (s := S1x1024) ![0, 0] S1x1024.size h).toLoadRect f = v.read (Elt F) f := View.readAt_full v f h

section
variable (c : Dev nD) (i : grid0.Coords)
  (arg1 : Memref sig .tc .vmem S256x3072 .bf16) (harg1 : arg1.IsWhole)
  (arg2 : Memref sig .tc .vmem S8x128x128 .bf16) (harg2 : arg2.IsWhole)
  (arg3 : Memref sig .tc .vmem S128x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .f32) (harg8 : arg8.IsWhole)

/-- One trip's triple. -/
theorem trip1 (k : Fin k0_t1_loop.trips) (x : Vec F S256x3072 .bf16) (g b : Vec F S1x1024 .f32) (v : Vec F S256x1024 .bf16) (E : Set ℕ) :
   (iprop(owns (c : Thread nD τ) arg1 fullShare x ∗ owns (c : Thread nD τ) arg4 fullShare g ∗ owns (c : Thread nD τ) arg5 fullShare b ∗ owns (c : Thread nD τ) arg7 fullShare v) : sProp 𝕄)
   ⊢ wp frame (wpE (defs₀ (F := F)) Variants.none (c : Thread nD τ) none) E (k0_t1_body (F := F) i arg1 harg1 arg2 harg2 arg3 harg3 arg4 harg4 arg5 harg5 arg6 harg6 arg7 harg7 arg8 harg8 k PUnit.unit)
    (fun _ => iprop(owns (c : Thread nD τ) arg1 fullShare x ∗ owns (c : Thread nD τ) arg4 fullShare g ∗ owns (c : Thread nD τ) arg5 fullShare b ∗ owns (c : Thread nD τ) arg7 fullShare (vStep x g b k v))) := by
  unfold owns
  iintro ⟨⟨%f1, %hf1, H1⟩, ⟨%f4, %hf4, H4⟩, ⟨%f5, %hf5, H5⟩, ⟨%f7, %hf7, H7⟩⟩
  unfold k0_t1_body
  sl_exec
  sl_step
  isplitl [H1]
  · iexists _; isplitr; · ipureintro; exact hf1
    iexact H1
  isplitl [H4]
  · iexists _; isplitr; · ipureintro; exact hf4
    iexact H4
  isplitl [H5]
  · iexists _; isplitr; · ipureintro; exact hf5
    iexact H5
  iexists _; isplitr; swap; · iexact H7
  ipureintro
  subst hf1 hf4 hf5 hf7
  rw [View.read_writes_cons_put _ _ _ _ _ rfl, View.writes_nil]
  sl_unfold_words
  rw [readAt_row arg4.view, readAt_row arg5.view]
  rfl

/-- The loop: what it reads stays as it was, and what it writes takes all the trips' steps. -/
theorem loop1 (x : Vec F S256x3072 .bf16) (g b : Vec F S1x1024 .f32) (v : Vec F S256x1024 .bf16) (E : Set ℕ)
    (kk : PUnit → Prog (TpuEff nD τ sig (Elt F) Λ₀ .tc) (FVec F S128x128 .f32)) (Q : (FVec F S128x128 .f32) → sProp 𝕄) :
    (iprop(owns (c : Thread nD τ) arg1 fullShare x ∗ owns (c : Thread nD τ) arg4 fullShare g ∗ owns (c : Thread nD τ) arg5 fullShare b ∗ owns (c : Thread nD τ) arg7 fullShare v) : sProp 𝕄)
    ⊢ iprop((iprop(owns (c : Thread nD τ) arg1 fullShare x ∗ owns (c : Thread nD τ) arg4 fullShare g ∗ owns (c : Thread nD τ) arg5 fullShare b ∗ owns (c : Thread nD τ) arg7 fullShare (iter (vStep x g b) v k0_t1_loop.trips))
        -∗ wp frame (wpE (defs₀ (F := F)) Variants.none (c : Thread nD τ) none) E (kk PUnit.unit) Q)
      -∗ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8) >>= kk) Q) := by
  have h := Scf.wp_for_bind (Fr := frame) (wpE := wpE (defs₀ (F := F)) Variants.none (c : Thread nD τ) none) (Es := E)
    k0_t1_loop.lb k0_t1_loop.ub k0_t1_loop.st k0_t1_ok ⟨⟩ (k0_t1_body (F := F) i arg1 harg1 arg2 harg2 arg3 harg3 arg4 harg4 arg5 harg5 arg6 harg6 arg7 harg7 arg8 harg8)
    (fun n _ => iprop(owns (c : Thread nD τ) arg1 fullShare x ∗ owns (c : Thread nD τ) arg4 fullShare g ∗ owns (c : Thread nD τ) arg5 fullShare b ∗ owns (c : Thread nD τ) arg7 fullShare (iter (vStep x g b) v n)))
    (fun k _ => by
      rw [iter_succ]
      exact trip1 c i arg1 harg1 arg2 harg2 arg3 harg3 arg4 harg4 arg5 harg5 arg6 harg6 arg7 harg7 arg8 harg8 k x g b _ E) (kk := kk) (Q := Q)
  refine h.trans ?_
  iintro Hw Hk
  iapply Hw
  iintro %_
  iexact Hk

/-- One trip's triple. -/
theorem trip2 (k : Fin k0_t2_loop.trips) (x : Vec F S256x3072 .bf16) (s : Vec F S256x1024 .f32) (o : Vec F S256x1024 .bf16) (E : Set ℕ) :
   (iprop(owns (c : Thread nD τ) arg1 fullShare x ∗ owns (c : Thread nD τ) arg8 fullShare s ∗ owns (c : Thread nD τ) arg6 fullShare o) : sProp 𝕄)
   ⊢ wp frame (wpE (defs₀ (F := F)) Variants.none (c : Thread nD τ) none) E (k0_t2_body (F := F) i arg1 harg1 arg2 harg2 arg3 harg3 arg4 harg4 arg5 harg5 arg6 harg6 arg7 harg7 arg8 harg8 k PUnit.unit)
    (fun _ => iprop(owns (c : Thread nD τ) arg1 fullShare x ∗ owns (c : Thread nD τ) arg8 fullShare s ∗ owns (c : Thread nD τ) arg6 fullShare (oStep x s k o))) := by
  unfold owns
  iintro ⟨⟨%f1, %hf1, H1⟩, ⟨%f8, %hf8, H8⟩, ⟨%f6, %hf6, H6⟩⟩
  unfold k0_t2_body
  sl_exec
  sl_step
  isplitl [H1]
  · iexists _; isplitr; · ipureintro; exact hf1
    iexact H1
  isplitl [H8]
  · iexists _; isplitr; · ipureintro; exact hf8
    iexact H8
  iexists _; isplitr; swap; · iexact H6
  ipureintro
  subst hf1 hf8 hf6
  rw [View.read_writes_cons_put _ _ _ _ _ rfl, View.writes_nil]
  sl_unfold_words
  rfl

/-- The loop: what it reads stays as it was, and what it writes takes all the trips' steps. -/
theorem loop2 (x : Vec F S256x3072 .bf16) (s : Vec F S256x1024 .f32) (o : Vec F S256x1024 .bf16) (E : Set ℕ)
    (kk : PUnit → Prog (TpuEff nD τ sig (Elt F) Λ₀ .tc) PUnit) (Q : PUnit → sProp 𝕄) :
    (iprop(owns (c : Thread nD τ) arg1 fullShare x ∗ owns (c : Thread nD τ) arg8 fullShare s ∗ owns (c : Thread nD τ) arg6 fullShare o) : sProp 𝕄)
    ⊢ iprop((iprop(owns (c : Thread nD τ) arg1 fullShare x ∗ owns (c : Thread nD τ) arg8 fullShare s ∗ owns (c : Thread nD τ) arg6 fullShare (iter (oStep x s) o k0_t2_loop.trips))
        -∗ wp frame (wpE (defs₀ (F := F)) Variants.none (c : Thread nD τ) none) E (kk PUnit.unit) Q)
      -∗ wp frame (wpE (defs₀ (F := F)) Variants.none (c : Thread nD τ) none) E (Scf.Loop.for k0_t2_loop k0_t2_ok ⟨⟩ (k0_t2_body (F := F) i arg1 harg1 arg2 harg2 arg3 harg3 arg4 harg4 arg5 harg5 arg6 harg6 arg7 harg7 arg8 harg8) >>= kk) Q) := by
  have h := Scf.wp_for_bind (Fr := frame) (wpE := wpE (defs₀ (F := F)) Variants.none (c : Thread nD τ) none) (Es := E)
    k0_t2_loop.lb k0_t2_loop.ub k0_t2_loop.st k0_t2_ok ⟨⟩ (k0_t2_body (F := F) i arg1 harg1 arg2 harg2 arg3 harg3 arg4 harg4 arg5 harg5 arg6 harg6 arg7 harg7 arg8 harg8)
    (fun n _ => iprop(owns (c : Thread nD τ) arg1 fullShare x ∗ owns (c : Thread nD τ) arg8 fullShare s ∗ owns (c : Thread nD τ) arg6 fullShare (iter (oStep x s) o n)))
    (fun k _ => by
      rw [iter_succ]
      exact trip2 c i arg1 harg1 arg2 harg2 arg3 harg3 arg4 harg4 arg5 harg5 arg6 harg6 arg7 harg7 arg8 harg8 k x s _ E) (kk := kk) (Q := Q)
  refine h.trans ?_
  iintro Hw Hk
  iapply Hw
  iintro %_
  iexact Hk

end
end Cert.Kernel4Ideal.Hand
end
-- ==== Proof.SguMix.lean ====
module

public import proofs.«01_k».proof.Proof.SguTrip

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Chunk `n / 8` and head `n % 8`'s block of the mixed gate: the head's masked weight by the chunk's rows of the normalised
    GELU, plus the head's columns of the bias. -/
def sPiece (w : Vec F S8x128x128 .bf16) (bi : Vec F S128x1024 .f32) (v : Vec F S256x1024 .bf16) (n : Fin 16) : Vec F S128x128 .f32 :=
  k0_pay5 (VecWindow.window w ![n.val % 8, 0, 0] S1x128x128.size (fun a => match a with
      | ⟨0, _⟩ => by show n.val % 8 + 1 ≤ 8; omega
      | ⟨1, _⟩ => by show 0 + 128 ≤ 128; omega
      | ⟨2, _⟩ => by show 0 + 128 ≤ 128; omega))
    (VecWindow.window v ![128 * (n.val / 8), 128 * (n.val % 8)] S128x128.size (fun a => match a with
      | ⟨0, _⟩ => by show 128 * (n.val / 8) + 128 ≤ 256; omega
      | ⟨1, _⟩ => by show 128 * (n.val % 8) + 128 ≤ 1024; omega))
    (VecWindow.window bi ![0, 128 * (n.val % 8)] S128x128.size (fun a => match a with
      | ⟨0, _⟩ => by show 0 + 128 ≤ 128; omega
      | ⟨1, _⟩ => by show 128 * (n.val % 8) + 128 ≤ 1024; omega))

/-- The mixed gate's block: each entry read from its chunk's and head's piece. -/
def sBlk (w : Vec F S8x128x128 .bf16) (bi : Vec F S128x1024 .f32) (v : Vec F S256x1024 .bf16) : Vec F S256x1024 .f32 := fun y =>
  sPiece w bi v ⟨8 * ((y 0).val / 128) + (y 1).val / 128, by
      have h0 : (y 0).val < 256 := (y 0).isLt
      have h1 : (y 1).val < 1024 := (y 1).isLt
      omega⟩
    (fun d => match d with
      | ⟨0, _⟩ => ⟨(y 0).val % 128, Nat.mod_lt _ (by decide)⟩
      | ⟨1, _⟩ => ⟨(y 1).val % 128, Nat.mod_lt _ (by decide)⟩)

/-- The gate's scratch with one more piece stored. -/
def sStep (w : Vec F S8x128x128 .bf16) (bi : Vec F S128x1024 .f32) (v : Vec F S256x1024 .bf16) (n : Fin 16) (s : Vec F S256x1024 .f32) : Vec F S256x1024 .f32 :=
  VecWindow.put s ![128 * (n.val / 8), 128 * (n.val % 8)] S128x128.size (sPiece w bi v n)

theorem iter_sStep (w : Vec F S8x128x128 .bf16) (bi : Vec F S128x1024 .f32) (v : Vec F S256x1024 .bf16) (s : Vec F S256x1024 .f32) :
    ∀ n, n ≤ 16 → iter (sStep w bi v) s n = fun y => if 8 * ((y 0).val / 128) + (y 1).val / 128 < n then sBlk w bi v y else s y
  | 0, _ => by funext y; rw [iter, if_neg (by omega)]
  | n + 1, hn => by
    have hl : n < 16 := by omega
    rw [iter, dif_pos hl, iter_sStep w bi v s n (by omega)]
    funext y
    have h0 : (y 0).val < 256 := (y 0).isLt
    have h1 : (y 1).val < 1024 := (y 1).isLt
    unfold sStep VecWindow.put
    by_cases hy : 8 * ((y 0).val / 128) + (y 1).val / 128 = n
    · have hm : ∀ a, (![128 * (n / 8), 128 * (n % 8)] : Fin 2 → ℕ) a ≤ (y a).val ∧ (y a).val < (![128 * (n / 8), 128 * (n % 8)] : Fin 2 → ℕ) a + S128x128.size a := by
        intro a; match a with
        | ⟨0, _⟩ => show 128 * (n / 8) ≤ (y 0).val ∧ (y 0).val < 128 * (n / 8) + 128; omega
        | ⟨1, _⟩ => show 128 * (n % 8) ≤ (y 1).val ∧ (y 1).val < 128 * (n % 8) + 128; omega
      rw [dif_pos hm, if_pos (by omega)]
      unfold sBlk
      have hk : (⟨8 * ((y 0).val / 128) + (y 1).val / 128, by omega⟩ : Fin 16) = ⟨n, hl⟩ := Fin.ext hy
      rw [hk]
      congr 1
      funext d
      match d with
      | ⟨0, _⟩ => apply Fin.ext; show (y 0).val - 128 * (n / 8) = (y 0).val % 128; omega
      | ⟨1, _⟩ => apply Fin.ext; show (y 1).val - 128 * (n % 8) = (y 1).val % 128; omega
    · rw [dif_neg (fun hm => hy (by
        have e0 : 128 * (n / 8) ≤ (y 0).val ∧ (y 0).val < 128 * (n / 8) + 128 := hm 0
        have e1 : 128 * (n % 8) ≤ (y 1).val ∧ (y 1).val < 128 * (n % 8) + 128 := hm 1
        omega))]
      by_cases hlt : 8 * ((y 0).val / 128) + (y 1).val / 128 < n
      · show (if 8 * ((y 0).val / 128) + (y 1).val / 128 < n then _ else _) = _; rw [if_pos hlt, if_pos (by omega)]
      · show (if 8 * ((y 0).val / 128) + (y 1).val / 128 < n then _ else _) = _; rw [if_neg hlt, if_neg (by omega)]

theorem iter_sStep_all (w : Vec F S8x128x128 .bf16) (bi : Vec F S128x1024 .f32) (v : Vec F S256x1024 .bf16) (s : Vec F S256x1024 .f32) :
    iter (sStep w bi v) s 16 = sBlk w bi v := by
  rw [iter_sStep w bi v s 16 le_rfl]
  funext y
  have h0 : (y 0).val < 256 := (y 0).isLt
  have h1 : (y 1).val < 1024 := (y 1).isLt
  exact if_pos (by omega)

theorem readAt_w (v : View sig .tc .vmem S8x128x128 .bf16) (f : v.ty.Contents (Elt F)) (off h) :
    v.readAt (Elt F) (Rect.unit (s := S8x128x128) off S1x128x128.size h).toLoadRect f = VecWindow.window (v.read (Elt F) f) off S1x128x128.size h := rfl

theorem readAt_v (v : View sig .tc .vmem S256x1024 .bf16) (f : v.ty.Contents (Elt F)) (off h) :
    v.readAt (Elt F) (Rect.unit (s := S256x1024) off S128x128.size h).toLoadRect f = VecWindow.window (v.read (Elt F) f) off S128x128.size h := rfl

theorem readAt_bi (v : View sig .tc .vmem S128x1024 .f32) (f : v.ty.Contents (Elt F)) (off h) :
    v.readAt (Elt F) (Rect.unit (s := S128x1024) off S128x128.size h).toLoadRect f = VecWindow.window (v.read (Elt F) f) off S128x128.size h := rfl

section
variable (c : Dev nD) (i : grid0.Coords)
  (arg1 : Memref sig .tc .vmem S256x3072 .bf16) (harg1 : arg1.IsWhole)
  (arg2 : Memref sig .tc .vmem S8x128x128 .bf16) (harg2 : arg2.IsWhole)
  (arg3 : Memref sig .tc .vmem S128x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .f32) (harg8 : arg8.IsWhole)

/-- What the mixing holds: the weight, the bias, the normalised GELU and the gate's scratch. -/
def Mix (w : Vec F S8x128x128 .bf16) (bi : Vec F S128x1024 .f32) (v : Vec F S256x1024 .bf16) (s : Vec F S256x1024 .f32) : sProp 𝕄 :=
  iprop(owns (c : Thread nD τ) arg2 fullShare w ∗ owns (c : Thread nD τ) arg3 fullShare bi ∗ owns (c : Thread nD τ) arg7 fullShare v ∗ owns (c : Thread nD τ) arg8 fullShare s)

/-- Part 2 of the mixing: pieces 2 to 4. -/
theorem part2 (w : Vec F S8x128x128 .bf16) (bi : Vec F S128x1024 .f32) (v : Vec F S256x1024 .bf16) (s : Vec F S256x1024 .f32) (E : Set ℕ) :
    Mix c arg2 arg3 arg7 arg8 w bi v (iter (sStep w bi v) s 2)
    ⊢ wp frame (wpE (defs₀ (F := F)) Variants.none (c : Thread nD τ) none) E (k0_part2 (F := F) i arg1 harg1 arg2 harg2 arg3 harg3 arg4 harg4 arg5 harg5 arg6 harg6 arg7 harg7 arg8 harg8 (k0_pay7 (VecWindow.window w ![2, 0, 0] S1x128x128.size inb_S8x128x128_S1x128x128_2_0_0) (VecWindow.window v ![0, 256] S128x128.size inb_S256x1024_S128x128_0_256)))
      (fun r => iprop(⌜r = ⟨k0_pay11 (VecWindow.window w ![5, 0, 0] S1x128x128.size inb_S8x128x128_S1x128x128_5_0_0), (VecWindow.window v ![0, 640] S128x128.size inb_S256x1024_S128x128_0_640)⟩⌝ ∗ Mix c arg2 arg3 arg7 arg8 w bi v (iter (sStep w bi v) s 5))) := by
  simp only [k0_part2_eq_skeleton]
  have hs : iter (sStep w bi v) s 5 = sStep w bi v 4 (sStep w bi v 3 (sStep w bi v 2 (iter (sStep w bi v) s 2))) := rfl
  rw [hs]
  generalize iter (sStep w bi v) s 2 = s'
  unfold Mix owns
  iintro ⟨⟨%f2, %hf2, H2⟩, ⟨%f3, %hf3, H3⟩, ⟨%f7, %hf7, H7⟩, ⟨%f8, %hf8, H8⟩⟩
  sl_exec
  sl_step
  isplitr
  · ipureintro
    subst hf2 hf3 hf7
    sl_unfold_words
    rfl
  isplitl [H2]
  · iexists _; isplitr; · ipureintro; exact hf2
    iexact H2
  isplitl [H3]
  · iexists _; isplitr; · ipureintro; exact hf3
    iexact H3
  isplitl [H7]
  · iexists _; isplitr; · ipureintro; exact hf7
    iexact H7
  iexists _; isplitr; swap; · iexact H8
  ipureintro
  subst hf2 hf3 hf7 hf8
  rw [View.read_writes_cons_put _ _ _ _ _ rfl, View.read_writes_cons_put _ _ _ _ _ rfl, View.read_writes_cons_put _ _ _ _ _ rfl, View.writes_nil]
  sl_unfold_words
  rfl

/-- Part 3 of the mixing: pieces 5 to 7. -/
theorem part3 (w : Vec F S8x128x128 .bf16) (bi : Vec F S128x1024 .f32) (v : Vec F S256x1024 .bf16) (s : Vec F S256x1024 .f32) (E : Set ℕ) :
    Mix c arg2 arg3 arg7 arg8 w bi v (iter (sStep w bi v) s 5)
    ⊢ wp frame (wpE (defs₀ (F := F)) Variants.none (c : Thread nD τ) none) E (k0_part3 (F := F) i arg1 harg1 arg2 harg2 arg3 harg3 arg4 harg4 arg5 harg5 arg6 harg6 arg7 harg7 arg8 harg8 (k0_pay11 (VecWindow.window w ![5, 0, 0] S1x128x128.size inb_S8x128x128_S1x128x128_5_0_0)) (VecWindow.window v ![0, 640] S128x128.size inb_S256x1024_S128x128_0_640))
      (fun r => iprop(⌜r = k0_pay15 (VecWindow.window w ![0, 0, 0] S1x128x128.size inb_S8x128x128_S1x128x128_0_0_0)⌝ ∗ Mix c arg2 arg3 arg7 arg8 w bi v (iter (sStep w bi v) s 8))) := by
  simp only [k0_part3_eq_skeleton]
  have hs : iter (sStep w bi v) s 8 = sStep w bi v 7 (sStep w bi v 6 (sStep w bi v 5 (iter (sStep w bi v) s 5))) := rfl
  rw [hs]
  generalize iter (sStep w bi v) s 5 = s'
  unfold Mix owns
  iintro ⟨⟨%f2, %hf2, H2⟩, ⟨%f3, %hf3, H3⟩, ⟨%f7, %hf7, H7⟩, ⟨%f8, %hf8, H8⟩⟩
  sl_exec
  sl_step
  isplitr
  · ipureintro
    subst hf2 hf3 hf7
    sl_unfold_words
    rfl
  isplitl [H2]
  · iexists _; isplitr; · ipureintro; exact hf2
    iexact H2
  isplitl [H3]
  · iexists _; isplitr; · ipureintro; exact hf3
    iexact H3
  isplitl [H7]
  · iexists _; isplitr; · ipureintro; exact hf7
    iexact H7
  iexists _; isplitr; swap; · iexact H8
  ipureintro
  subst hf2 hf3 hf7 hf8
  rw [View.read_writes_cons_put _ _ _ _ _ rfl, View.read_writes_cons_put _ _ _ _ _ rfl, View.read_writes_cons_put _ _ _ _ _ rfl, View.writes_nil]
  sl_unfold_words
  rfl

/-- Part 4 of the mixing: pieces 8 to 10. -/
theorem part4 (w : Vec F S8x128x128 .bf16) (bi : Vec F S128x1024 .f32) (v : Vec F S256x1024 .bf16) (s : Vec F S256x1024 .f32) (E : Set ℕ) :
    Mix c arg2 arg3 arg7 arg8 w bi v (iter (sStep w bi v) s 8)
    ⊢ wp frame (wpE (defs₀ (F := F)) Variants.none (c : Thread nD τ) none) E (k0_part4 (F := F) i arg1 harg1 arg2 harg2 arg3 harg3 arg4 harg4 arg5 harg5 arg6 harg6 arg7 harg7 arg8 harg8 (k0_pay15 (VecWindow.window w ![0, 0, 0] S1x128x128.size inb_S8x128x128_S1x128x128_0_0_0)))
      (fun r => iprop(⌜True⌝ ∗ Mix c arg2 arg3 arg7 arg8 w bi v (iter (sStep w bi v) s 11))) := by
  simp only [k0_part4_eq_skeleton]
  have hs : iter (sStep w bi v) s 11 = sStep w bi v 10 (sStep w bi v 9 (sStep w bi v 8 (iter (sStep w bi v) s 8))) := rfl
  rw [hs]
  generalize iter (sStep w bi v) s 8 = s'
  unfold Mix owns
  iintro ⟨⟨%f2, %hf2, H2⟩, ⟨%f3, %hf3, H3⟩, ⟨%f7, %hf7, H7⟩, ⟨%f8, %hf8, H8⟩⟩
  sl_exec
  sl_step
  isplitr
  · ipureintro
    subst hf2 hf3 hf7
    sl_unfold_words
    trivial
  isplitl [H2]
  · iexists _; isplitr; · ipureintro; exact hf2
    iexact H2
  isplitl [H3]
  · iexists _; isplitr; · ipureintro; exact hf3
    iexact H3
  isplitl [H7]
  · iexists _; isplitr; · ipureintro; exact hf7
    iexact H7
  iexists _; isplitr; swap; · iexact H8
  ipureintro
  subst hf2 hf3 hf7 hf8
  rw [View.read_writes_cons_put _ _ _ _ _ rfl, View.read_writes_cons_put _ _ _ _ _ rfl, View.read_writes_cons_put _ _ _ _ _ rfl, View.writes_nil]
  sl_unfold_words
  rfl

/-- Part 5 of the mixing: pieces 11 to 12. -/
theorem part5 (w : Vec F S8x128x128 .bf16) (bi : Vec F S128x1024 .f32) (v : Vec F S256x1024 .bf16) (s : Vec F S256x1024 .f32) (E : Set ℕ) :
    Mix c arg2 arg3 arg7 arg8 w bi v (iter (sStep w bi v) s 11)
    ⊢ wp frame (wpE (defs₀ (F := F)) Variants.none (c : Thread nD τ) none) E (k0_part5 (F := F) i arg1 harg1 arg2 harg2 arg3 harg3 arg4 harg4 arg5 harg5 arg6 harg6 arg7 harg7 arg8 harg8)
      (fun r => iprop(⌜r = k0_pay21 (VecWindow.window w ![5, 0, 0] S1x128x128.size inb_S8x128x128_S1x128x128_5_0_0) (VecWindow.window v ![128, 640] S128x128.size inb_S256x1024_S128x128_128_640) (VecWindow.window bi ![0, 640] S128x128.size inb_S128x1024_S128x128_0_640)⌝ ∗ Mix c arg2 arg3 arg7 arg8 w bi v (iter (sStep w bi v) s 13))) := by
  simp only [k0_part5_eq_skeleton]
  have hs : iter (sStep w bi v) s 13 = sStep w bi v 12 (sStep w bi v 11 (iter (sStep w bi v) s 11)) := rfl
  rw [hs]
  generalize iter (sStep w bi v) s 11 = s'
  unfold Mix owns
  iintro ⟨⟨%f2, %hf2, H2⟩, ⟨%f3, %hf3, H3⟩, ⟨%f7, %hf7, H7⟩, ⟨%f8, %hf8, H8⟩⟩
  sl_exec
  sl_step
  isplitr
  · ipureintro
    subst hf2 hf3 hf7
    sl_unfold_words
    rfl
  isplitl [H2]
  · iexists _; isplitr; · ipureintro; exact hf2
    iexact H2
  isplitl [H3]
  · iexists _; isplitr; · ipureintro; exact hf3
    iexact H3
  isplitl [H7]
  · iexists _; isplitr; · ipureintro; exact hf7
    iexact H7
  iexists _; isplitr; swap; · iexact H8
  ipureintro
  subst hf2 hf3 hf7 hf8
  rw [View.read_writes_cons_put _ _ _ _ _ rfl, View.read_writes_cons_put _ _ _ _ _ rfl, View.writes_nil]
  sl_unfold_words
  rfl

end
end Cert.Kernel4Ideal.Hand
end
-- ==== Proof.SguPay.lean ====
module

public import proofs.«01_k».proof.Proof.SguRow
public import proofs.«01_k».proof.Proof.SguMix

@[expose] public section

set_option maxRecDepth 16384

noncomputable section

/-! What the gating unit's kernel computes on one block, entry by entry. -/

namespace Cert.Kernel4Ideal.Hand

open Cert.Kernel4Ideal Cert.Kernel4Ideal.Gen
open Idealize.ShloMosaic Idealize.ShloMosaic.TcCoe
open Cert.RowAlgebra

theorem pay4_at (x : Vec Ideal S16x1024 .bf16) (g b : Vec Ideal S1x1024 .f32) (r : Fin 16) (l : Fin 1024) :
    k0_pay4 x g b (ix2 r l) = lnorm (fun k => gelu (x (ix2 r k))) (fun k => g (ix2 0 k)) (fun k => b (ix2 0 k)) l := by
  unfold lnorm cen mean gelu
  pointwise [k0_pay4]
  rfl

theorem pay3_at (u z : Vec Ideal S16x1024 .bf16) (s : Vec Ideal S16x1024 .f32) (r : Fin 16) (l : Fin 1024) :
    k0_pay3 u z s (ix2 r l) = gelu (u (ix2 r l)) * s (ix2 r l) * silu (z (ix2 r l)) := by
  unfold silu sigm gelu
  pointwise [k0_pay3]
  rw [zero_sub]
  rfl

theorem pay5_at (w : Vec Ideal S1x128x128 .bf16) (v : Vec Ideal S128x128 .bf16) (b : Vec Ideal S128x128 .f32) (t d : Fin 128) :
    k0_pay5 w v b (ix2 t d) = ∑ s : Fin 128, w (ix3 0 t s) * v (ix2 s d) + b (ix2 t d) := by
  pointwise [k0_pay5]

/-- The normalised GELU's block. -/
theorem vBlk_at (x : Vec Ideal S256x3072 .bf16) (g b : Vec Ideal S1x1024 .f32) (r : Fin 256) (l : Fin 1024) :
    vBlk x g b (ix2 r l) = lnorm (fun k => gelu (x (ix2 r (⟨1024 + k.val, by omega⟩ : Fin 3072)))) (fun k => g (ix2 0 k)) (fun k => b (ix2 0 k)) l := by
  have hk : r.val / 16 < k0_t1_loop.trips := lt_of_lt_of_eq (by omega) trips1.symm
  have e : vBlk x g b (ix2 r l) = vStrip x g b ⟨r.val / 16, hk⟩ (ix2 (⟨r.val % 16, Nat.mod_lt _ (by decide)⟩ : Fin 16) l) := by
    unfold vBlk ofStrips
    congr 1
    exact eq_ix2 _
  rw [e, vStrip, pay4_at]
  congr 1
  funext k
  congr 1
  have eo := k0_off1_eq ⟨r.val / 16, hk⟩
  unfold VecWindow.window
  refine congrArg x ?_
  funext a
  apply Fin.ext
  match a with
  | ⟨0, _⟩ => show k0_off1 ⟨r.val / 16, hk⟩ 0 + 1 * (r.val % 16) = r.val; rw [eo]; show 16 * (r.val / 16) + 1 * (r.val % 16) = r.val; omega
  | ⟨1, _⟩ => show k0_off1 ⟨r.val / 16, hk⟩ 1 + 1 * k.val = 1024 + k.val; rw [eo]; show 1024 + 1 * k.val = _; omega

/-- The output's block. -/
theorem oBlk_at (x : Vec Ideal S256x3072 .bf16) (s : Vec Ideal S256x1024 .f32) (r : Fin 256) (l : Fin 1024) :
    oBlk x s (ix2 r l) = gelu (x (ix2 r (⟨l.val, by omega⟩ : Fin 3072))) * s (ix2 r l) * silu (x (ix2 r (⟨2048 + l.val, by omega⟩ : Fin 3072))) := by
  have hk : r.val / 16 < k0_t2_loop.trips := lt_of_lt_of_eq (by omega) trips2.symm
  have e : oBlk x s (ix2 r l) = oStrip x s ⟨r.val / 16, hk⟩ (ix2 (⟨r.val % 16, Nat.mod_lt _ (by decide)⟩ : Fin 16) l) := by
    unfold oBlk ofStrips
    congr 1
    exact eq_ix2 _
  have e3 := k0_off3_eq ⟨r.val / 16, hk⟩
  have e4 := k0_off4_eq ⟨r.val / 16, hk⟩
  have e5 := k0_off5_eq ⟨r.val / 16, hk⟩
  rw [e, oStrip, pay3_at]
  unfold VecWindow.window
  have hu : ∀ P : EReal → EReal → EReal → EReal, ∀ a a' b b' d d', a = a' → b = b' → d = d' → P a b d = P a' b' d' := by
    intro P a a' b b' d d' h1 h2 h3; rw [h1, h2, h3]
  refine hu (fun a b d => gelu a * b * silu d) _ _ _ _ _ _ (congrArg x ?_) (congrArg s ?_) (congrArg x ?_)
  all_goals
    funext a
    apply Fin.ext
  · match a with
    | ⟨0, _⟩ => show k0_off3 ⟨r.val / 16, hk⟩ 0 + 1 * (r.val % 16) = r.val; rw [e3]; show 16 * (r.val / 16) + 1 * (r.val % 16) = r.val; omega
    | ⟨1, _⟩ => show k0_off3 ⟨r.val / 16, hk⟩ 1 + 1 * l.val = l.val; rw [e3]; show 0 + 1 * l.val = l.val; omega
  · match a with
    | ⟨0, _⟩ => show k0_off5 ⟨r.val / 16, hk⟩ 0 + 1 * (r.val % 16) = r.val; rw [e5]; show 16 * (r.val / 16) + 1 * (r.val % 16) = r.val; omega
    | ⟨1, _⟩ => show k0_off5 ⟨r.val / 16, hk⟩ 1 + 1 * l.val = l.val; rw [e5]; show 0 + 1 * l.val = l.val; omega
  · match a with
    | ⟨0, _⟩ => show k0_off4 ⟨r.val / 16, hk⟩ 0 + 1 * (r.val % 16) = r.val; rw [e4]; show 16 * (r.val / 16) + 1 * (r.val % 16) = r.val; omega
    | ⟨1, _⟩ => show k0_off4 ⟨r.val / 16, hk⟩ 1 + 1 * l.val = 2048 + l.val; rw [e4]; show 2048 + 1 * l.val = _; omega

/-- The mixed gate's block. -/
theorem sBlk_at (w : Vec Ideal S8x128x128 .bf16) (bi : Vec Ideal S128x1024 .f32) (v : Vec Ideal S256x1024 .bf16) (r : Fin 256) (l : Fin 1024) :
    sBlk w bi v (ix2 r l)
      = ∑ s : Fin 128, w (ix3 (⟨l.val / 128, by omega⟩ : Fin 8) (⟨r.val % 128, Nat.mod_lt _ (by decide)⟩ : Fin 128) s)
          * v (ix2 (⟨128 * (r.val / 128) + s.val, by omega⟩ : Fin 256) l)
        + bi (ix2 (⟨r.val % 128, Nat.mod_lt _ (by decide)⟩ : Fin 128) l) := by
  have hn : 8 * (r.val / 128) + l.val / 128 < 16 := by omega
  have e : sBlk w bi v (ix2 r l) = sPiece w bi v ⟨8 * (r.val / 128) + l.val / 128, hn⟩
      (ix2 (⟨r.val % 128, Nat.mod_lt _ (by decide)⟩ : Fin 128) (⟨l.val % 128, Nat.mod_lt _ (by decide)⟩ : Fin 128)) := by
    unfold sBlk
    congr 1
    exact eq_ix2 _
  rw [e, sPiece, pay5_at]
  unfold VecWindow.window
  have h2 : ∀ a a' b b' : EReal, a = a' → b = b' → a + b = a' + b' := by intro a a' b b' h1 h2; rw [h1, h2]
  have h3 : ∀ a a' b b' : EReal, a = a' → b = b' → a * b = a' * b' := by intro a a' b b' h1 h2; rw [h1, h2]
  refine h2 _ _ _ _ (Finset.sum_congr (M := EReal) rfl fun s _ => h3 _ _ _ _ (congrArg w ?_) (congrArg v ?_)) (congrArg bi ?_)
  all_goals
    funext a
    apply Fin.ext
  · match a with
    | ⟨0, _⟩ => show (8 * (r.val / 128) + l.val / 128) % 8 + 1 * 0 = l.val / 128; omega
    | ⟨1, _⟩ => show 0 + 1 * (r.val % 128) = r.val % 128; omega
    | ⟨2, _⟩ => show 0 + 1 * s.val = s.val; omega
  · match a with
    | ⟨0, _⟩ => show 128 * ((8 * (r.val / 128) + l.val / 128) / 8) + 1 * s.val = 128 * (r.val / 128) + s.val; omega
    | ⟨1, _⟩ => show 128 * ((8 * (r.val / 128) + l.val / 128) % 8) + 1 * (l.val % 128) = l.val; omega
  · match a with
    | ⟨0, _⟩ => show 0 + 1 * (r.val % 128) = r.val % 128; omega
    | ⟨1, _⟩ => show 128 * ((8 * (r.val / 128) + l.val / 128) % 8) + 1 * (l.val % 128) = l.val; omega

end Cert.Kernel4Ideal.Hand
end
-- ==== Proof.SguBody.lean ====
module

public import proofs.«01_k».proof.Proof.SguMix

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg1 : Memref sig .tc .vmem S256x3072 .bf16) (harg1 : arg1.IsWhole)
  (arg2 : Memref sig .tc .vmem S8x128x128 .bf16) (harg2 : arg2.IsWhole)
  (arg3 : Memref sig .tc .vmem S128x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .f32) (harg8 : arg8.IsWhole)

/-- What the body holds: the five blocks it reads, the one it writes and its two scratch blocks. -/
def Res (x : Vec F S256x3072 .bf16) (w : Vec F S8x128x128 .bf16) (bi : Vec F S128x1024 .f32) (g b : Vec F S1x1024 .f32) (o : Vec F S256x1024 .bf16) (v : Vec F S256x1024 .bf16) (s : Vec F S256x1024 .f32) : sProp 𝕄 :=
  iprop(owns (c : Thread nD τ) arg1 fullShare x ∗ owns (c : Thread nD τ) arg2 fullShare w ∗ owns (c : Thread nD τ) arg3 fullShare bi ∗ owns (c : Thread nD τ) arg4 fullShare g ∗ owns (c : Thread nD τ) arg5 fullShare b ∗ owns (c : Thread nD τ) arg6 fullShare o ∗ owns (c : Thread nD τ) arg7 fullShare v ∗ owns (c : Thread nD τ) arg8 fullShare s)

/-- Part 1: the loop over the strips and pieces 0 and 1. -/
theorem part1 (x : Vec F S256x3072 .bf16) (w : Vec F S8x128x128 .bf16) (bi : Vec F S128x1024 .f32) (g b : Vec F S1x1024 .f32) (o : Vec F S256x1024 .bf16) (v : Vec F S256x1024 .bf16) (s : Vec F S256x1024 .f32) (E : Set ℕ) :
    Res c arg1 arg2 arg3 arg4 arg5 arg6 arg7 arg8 x w bi g b o v s
    ⊢ wp frame (wpE (defs₀ (F := F)) Variants.none (c : Thread nD τ) none) E (k0_part1 (F := F) i arg1 harg1 arg2 harg2 arg3 harg3 arg4 harg4 arg5 harg5 arg6 harg6 arg7 harg7 arg8 harg8)
      (fun r => iprop(⌜r = k0_pay7 (VecWindow.window w ![2, 0, 0] S1x128x128.size inb_S8x128x128_S1x128x128_2_0_0) (VecWindow.window (vBlk x g b) ![0, 256] S128x128.size inb_S256x1024_S128x128_0_256)⌝ ∗ Res c arg1 arg2 arg3 arg4 arg5 arg6 arg7 arg8 x w bi g b o (vBlk x g b) (iter (sStep w bi (vBlk x g b)) s 2))) := by
  simp only [k0_part1_eq_skeleton]
  unfold k0_part1_skel Res
  iintro ⟨H1, H2, H3, H4, H5, H6, H7, H8⟩
  iapply (loop1 c i arg1 harg1 arg2 harg2 arg3 harg3 arg4 harg4 arg5 harg5 arg6 harg6 arg7 harg7 arg8 harg8 x g b v E _ _) $$ [H1 H4 H5 H7]
  · isplitl [H1]; · iexact H1
    isplitl [H4]; · iexact H4
    isplitl [H5]; · iexact H5
    iexact H7
  rw [iter_vStep]
  generalize vBlk x g b = v'
  have hs : iter (sStep w bi v') s 2 = sStep w bi v' 1 (sStep w bi v' 0 s) := rfl
  rw [hs]
  unfold owns
  icases H2 with ⟨%f2, %hf2, H2⟩
  icases H3 with ⟨%f3, %hf3, H3⟩
  icases H8 with ⟨%f8, %hf8, H8⟩
  iintro ⟨H1, H4, H5, ⟨%f7, %hf7, H7⟩⟩
  sl_exec
  sl_step
  isplitr
  · ipureintro
    subst hf2 hf7
    sl_unfold_words
    rfl
  isplitl [H1]; · iexact H1
  isplitl [H2]
  · iexists _; isplitr; · ipureintro; exact hf2
    iexact H2
  isplitl [H3]
  · iexists _; isplitr; · ipureintro; exact hf3
    iexact H3
  isplitl [H4]; · iexact H4
  isplitl [H5]; · iexact H5
  isplitl [H6]; · iexact H6
  isplitl [H7]
  · iexists _; isplitr; · ipureintro; exact hf7
    iexact H7
  iexists _; isplitr; swap; · iexact H8
  ipureintro
  subst hf2 hf3 hf7 hf8
  rw [View.read_writes_cons_put _ _ _ _ _ rfl, View.read_writes_cons_put _ _ _ _ _ rfl, View.writes_nil]
  sl_unfold_words
  rfl

/-- The whole body: the output's block is `oBlk`. -/
theorem body (x : Vec F S256x3072 .bf16) (w : Vec F S8x128x128 .bf16) (bi : Vec F S128x1024 .f32) (g b : Vec F S1x1024 .f32) (o : Vec F S256x1024 .bf16) (v : Vec F S256x1024 .bf16) (s : Vec F S256x1024 .f32) (E : Set ℕ) :
    Res c arg1 arg2 arg3 arg4 arg5 arg6 arg7 arg8 x w bi g b o v s
    ⊢ wp frame (wpE (defs₀ (F := F)) Variants.none (c : Thread nD τ) none) E (cc0_branch_b_fwd (F := F) i arg1 harg1 arg2 harg2 arg3 harg3 arg4 harg4 arg5 harg5 arg6 harg6 arg7 harg7 arg8 harg8)
      (fun _ => Res c arg1 arg2 arg3 arg4 arg5 arg6 arg7 arg8 x w bi g b (oBlk x (sBlk w bi (vBlk x g b))) (vBlk x g b) (sBlk w bi (vBlk x g b))) := by
  simp only [cc0_branch_b_fwd_eq_skeleton]; unfold cc0_branch_b_fwd_skel
  rw [wp_bind]
  refine (part1 c i arg1 harg1 arg2 harg2 arg3 harg3 arg4 harg4 arg5 harg5 arg6 harg6 arg7 harg7 arg8 harg8 x w bi g b o v s E).trans (wp_mono _ _ _ ?_)
  intro v24
  rw [← iter_sStep_all w bi (vBlk x g b) s]
  generalize vBlk x g b = v'
  unfold Res
  iintro ⟨%hv24, H1, H2, H3, H4, H5, H6, H7, H8⟩
  subst hv24
  rw [wp_bind]
  ihave Hw := (part2 (F := F) c i arg1 harg1 arg2 harg2 arg3 harg3 arg4 harg4 arg5 harg5 arg6 harg6 arg7 harg7 arg8 harg8 w bi v' s E) $$ [H2 H3 H7 H8]
  · unfold Mix
    isplitl [H2]; · iexact H2
    isplitl [H3]; · iexact H3
    isplitl [H7]; · iexact H7
    iexact H8
  iapply (wp_wand _ _ _) $$ Hw
  iintro %r ⟨%hr, Hm⟩
  subst hr
  dsimp only
  rw [wp_bind]
  ihave Hw := (part3 (F := F) c i arg1 harg1 arg2 harg2 arg3 harg3 arg4 harg4 arg5 harg5 arg6 harg6 arg7 harg7 arg8 harg8 w bi v' s E) $$ [Hm]
  · iexact Hm
  iapply (wp_wand _ _ _) $$ Hw
  iintro %r ⟨%hr, Hm⟩
  subst hr
  rw [wp_bind]
  ihave Hw := (part4 (F := F) c i arg1 harg1 arg2 harg2 arg3 harg3 arg4 harg4 arg5 harg5 arg6 harg6 arg7 harg7 arg8 harg8 w bi v' s E) $$ [Hm]
  · iexact Hm
  iapply (wp_wand _ _ _) $$ Hw
  iintro %r ⟨%hr, Hm⟩
  rw [wp_bind]
  ihave Hw := (part5 (F := F) c i arg1 harg1 arg2 harg2 arg3 harg3 arg4 harg4 arg5 harg5 arg6 harg6 arg7 harg7 arg8 harg8 w bi v' s E) $$ [Hm]
  · iexact Hm
  iapply (wp_wand _ _ _) $$ Hw
  iintro %r ⟨%hr, Hm⟩
  subst hr
  have hs : iter (sStep w bi v') s 16 = sStep w bi v' 15 (sStep w bi v' 14 (sStep w bi v' 13 (iter (sStep w bi v') s 13))) := rfl
  rw [hs]
  generalize iter (sStep w bi v') s 13 = s'
  unfold Mix
  icases Hm with ⟨H2, H3, H7, H8⟩
  unfold owns
  icases H2 with ⟨%f2, %hf2, H2⟩
  icases H3 with ⟨%f3, %hf3, H3⟩
  icases H7 with ⟨%f7, %hf7, H7⟩
  icases H8 with ⟨%f8, %hf8, H8⟩
  sl_exec
  generalize hS : sStep w bi v' 15 (sStep w bi v' 14 (sStep w bi v' 13 s')) = sF
  iapply (loop2 c i arg1 harg1 arg2 harg2 arg3 harg3 arg4 harg4 arg5 harg5 arg6 harg6 arg7 harg7 arg8 harg8 x sF o E _ _) $$ [H1 H6 H8]
  · unfold owns
    isplitl [H1]; · iexact H1
    isplitl [H8]
    · iexists _; isplitr; swap; · iexact H8
      ipureintro
      subst hf2 hf3 hf7 hf8
      rw [View.read_writes_cons_put _ _ _ _ _ rfl, View.read_writes_cons_put _ _ _ _ _ rfl, View.read_writes_cons_put _ _ _ _ _ rfl, View.writes_nil]
      sl_unfold_words
      exact hS
    iexact H6
  rw [iter_oStep]
  unfold owns
  iintro ⟨H1, H8, H6⟩
  sl_step
  isplitl [H1]; · iexact H1
  isplitl [H2]
  · iexists _; isplitr; · ipureintro; exact hf2
    iexact H2
  isplitl [H3]
  · iexists _; isplitr; · ipureintro; exact hf3
    iexact H3
  isplitl [H4]; · iexact H4
  isplitl [H5]; · iexact H5
  isplitl [H6]; · iexact H6
  isplitl [H7]
  · iexists _; isplitr; · ipureintro; exact hf7
    iexact H7
  iexact H8

end
end Cert.Kernel4Ideal.Hand
end
-- ==== Proof.SguFrame.lean ====
module

public import proofs.«01_k».proof.Proof.SguBody
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block at point `t`. -/
def oAt (c : Dev nD) (t : Fin cfg0.N) : Vec F S256x1024 .bf16 :=
  oBlk (X0_0 m c t) (sBlk (iblk m c 1 t) (iblk m c 2 t) (vBlk (X0_0 m c t) (iblk m c 3 t) (iblk m c 4 t)))

/-- The pipeline's proof data: every input's buffer at its block, the output's at `oAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => oAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = oAt m c t := by dsimp only [dats]
theorem before_0 (c : Dev nD) (t : Fin cfg0.N) (d) : (dats m 0 c).before 0 t d = X0_0 m c t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA0_eq]
  unfold oAt
  iintro ⟨⟨⟨⟨%v, HS0⟩, ⟨%s, HS1⟩⟩, Hg⟩, Ho, ⟨%d0, H0⟩, ⟨%d1, H1⟩, ⟨%d2, H2⟩, ⟨%d3, H3⟩, ⟨%d4, H4⟩, ⟨%d5, H5⟩⟩
  ihave Hw := (body (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (X0_0 m c t) (iblk m c 1 t) (iblk m c 2 t) (iblk m c 3 t) (iblk m c 4 t) ((dats m 0 c).before 5 t d5) v s Set.univ) $$ [H0 H1 H2 H3 H4 H5 HS0 HS1]
  · unfold Res
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  iapply (wp_wand _ _ _) $$ Hw
  iintro %_ Hr
  unfold Res
  icases Hr with ⟨H0, H1, H2, H3, H4, H5, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data say, every other buffer as it was, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel4Ideal.Hand
end
-- ==== Proof.SguKer.lean ====
module

public import proofs.«01_k».proof.Proof.SguPay
public import proofs.«01_k».proof.Proof.SguFrame
public import Idealize.ShloMosaic.Lib.Pipeline.ValueKit
public import Idealize.ShloMosaic.Lib.Pipeline.ReadBack

@[expose] public section

set_option maxRecDepth 16384

noncomputable section

/-! What the gating unit's kernel leaves in its array, entry by entry of the arguments. -/

namespace Cert.Kernel4Ideal.Hand

open Cert.Kernel4Ideal Cert.Kernel4Ideal.Gen
open Idealize.ShloMosaic Idealize.ShloMosaic.TcCoe Idealize.ShloMosaic.StableHlo
open Idealize.SL Idealize.SL.Sem
open Idealize.ShloMosaic.Pipeline (Dat Cfg Window)
open Cert.RowAlgebra

/-! ### What the host lines before the call compute -/

/-- One at and below the diagonal. -/
def tri : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The weights, zero above the diagonal. -/
def masked (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 tri)) w
    (broadcastInDim S8x128x128 ![] bcast_S_S8x128x128 (constant S_ .f32 0x00000000#32))

variable (m : (ℓ : Loc nD τ sig) → Buf (Elt Ideal) ℓ) (c : Dev nD)

/-- An argument of the kernel. -/
abbrev arg (b : Ref sig .tc) : Buf (Elt Ideal) ((c.tc : Thread nD τ).loc b) := m ((c.tc : Thread nD τ).loc b)

theorem V_v4 : V m c main_v4 = (truncf .bf16 (masked (arg m c main_arg1)) bitsLt_bf16_f32 : FVec Ideal S8x128x128 .bf16) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

theorem V_v7 : V m c main_v7 = (shapeCast S128x1024 (broadcastInDim S128x8x128 ![0, 1] bcast_S128x8_S128x8x128_0_1
    (transpose S128x8 [1, 0] (arg m c main_arg2) transposes_S8x128_S128x8_1_0 : FVec Ideal S128x8 .f32) : FVec Ideal S128x8x128 .f32) shapeCasts_S128x8x128_S128x1024 : FVec Ideal S128x1024 .f32) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- The unit's rows, of the arguments. -/
def gateA (p : Vec Ideal S4096x8192 .bf16) (w : Vec Ideal S8x128x128 .f32) (bi : Vec Ideal S8x128 .f32) (g b : Vec Ideal S1x1024 .f32) : Gate where
  u i l := p (ix2 i ⟨3072 + l.val, by omega⟩)
  v i l := p (ix2 i ⟨4096 + l.val, by omega⟩)
  z i l := p (ix2 i ⟨5120 + l.val, by omega⟩)
  w h t s := masked w (ix3 h t s)
  bi h t := bi (ix2 h t)
  g l := g (ix2 0 l)
  b l := b (ix2 0 l)

/-- The unit's rows, of the launch's arguments. -/
def gateM : Gate := gateA (arg m c main_arg0) (arg m c main_arg1) (arg m c main_arg2) (arg m c main_arg3) (arg m c main_arg4)

/-! ### The input blocks -/

theorem placeIn : ∀ t : Fin cfg0.N, win0_0.index t = ![t.val, 1] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, _)

theorem lt16 (t : Fin cfg0.N) : t.val < 16 := lt_of_lt_of_eq t.isLt N_0

/-- Row `r` of point `t`'s block, counted from the array's first row. -/
def rowOf (t : Fin cfg0.N) (r : Fin 256) : Fin 4096 := ⟨256 * t.val + r.val, by have := lt16 t; omega⟩

theorem x_at (t : Fin cfg0.N) (r : Fin 256) (l : Fin 3072) :
    X0_0 m c t (ix2 r l) = arg m c main_arg0 (ix2 (rowOf t r) (⟨3072 + l.val, by omega⟩ : Fin 8192)) := by
  obtain ⟨e0, -⟩ := placeIn t
  unfold X0_0 Pipeline.Window.fill
  rw [dif_pos (moved0_0 t _)]
  refine Eq.trans ?_ (congrFun (V_main_arg0 m c) _)
  unfold rowOf
  blk_ext [iblk, e0]

theorem w_at (t : Fin cfg0.N) (h : Fin 8) (a s : Fin 128) : iblk m c 1 t (ix3 h a s) = (gateM m c).w h a s := by
  obtain ⟨-, e1, -⟩ := placeIn t
  have e : iblk m c 1 t (ix3 h a s) = V m c main_v4 (ix3 h a s) := by
    blk_ext [iblk, e1]
  rw [e, V_v4]
  rfl

theorem bi_at (t : Fin cfg0.N) (a : Fin 128) (l : Fin 1024) : iblk m c 2 t (ix2 a l) = (gateM m c).bi (Gate.head l) a := by
  obtain ⟨-, -, e2, -⟩ := placeIn t
  have e : iblk m c 2 t (ix2 a l) = V m c main_v7 (ix2 a l) := by
    blk_ext [iblk, e2]
  rw [e, V_v7]
  unfold gateM gateA Gate.head
  pointwise []

theorem g_at (t : Fin cfg0.N) (l : Fin 1024) : iblk m c 3 t (ix2 0 l) = (gateM m c).g l := by
  obtain ⟨-, -, -, e3, -⟩ := placeIn t
  have e : iblk m c 3 t (ix2 0 l) = V m c main_arg3 (ix2 0 l) := by
    blk_ext [iblk, e3]
  exact e.trans (congrFun (V_main_arg3 m c) _)

theorem b_at (t : Fin cfg0.N) (l : Fin 1024) : iblk m c 4 t (ix2 0 l) = (gateM m c).b l := by
  obtain ⟨-, -, -, -, e4, -⟩ := placeIn t
  have e : iblk m c 4 t (ix2 0 l) = V m c main_arg4 (ix2 0 l) := by
    blk_ext [iblk, e4]
  exact e.trans (congrFun (V_main_arg4 m c) _)

/-! ### The block written -/

theorem v_at (t : Fin cfg0.N) (r : Fin 256) (l : Fin 1024) :
    vBlk (X0_0 m c t) (iblk m c 3 t) (iblk m c 4 t) (ix2 r l) = (gateM m c).vn (rowOf t r) l := by
  refine (vBlk_at _ _ _ r l).trans ?_
  unfold Gate.vn
  have h3 : ∀ f f' g g' b b' : Fin 1024 → EReal, f = f' → g = g' → b = b' → lnorm f g b l = lnorm f' g' b' l := by
    intro f f' g g' b b' h1 h2 h3; rw [h1, h2, h3]
  refine h3 _ _ _ _ _ _ (funext fun k => congrArg gelu ?_) (funext fun k => g_at m c t k) (funext fun k => b_at m c t k)
  refine (x_at m c t r _).trans (congrArg (arg m c main_arg0) ?_)
  exact congrArg (ix2 (rowOf t r)) (Fin.ext (by show 3072 + (1024 + k.val) = 4096 + k.val; omega))

theorem s_at (t : Fin cfg0.N) (r : Fin 256) (l : Fin 1024) :
    sBlk (iblk m c 1 t) (iblk m c 2 t) (vBlk (X0_0 m c t) (iblk m c 3 t) (iblk m c 4 t)) (ix2 r l) = (gateM m c).mix (rowOf t r) l := by
  refine (sBlk_at _ _ _ r l).trans ?_
  unfold Gate.mix
  have hc : (⟨r.val % 128, Nat.mod_lt _ (by decide)⟩ : Fin 128) = Gate.inChunk (rowOf t r) :=
    Fin.ext (by show r.val % 128 = (256 * t.val + r.val) % 128; omega)
  have h2 : ∀ a a' b b' : EReal, a = a' → b = b' → a + b = a' + b' := by intro a a' b b' h1 h2; rw [h1, h2]
  have h3 : ∀ a a' b b' : EReal, a = a' → b = b' → a * b = a' * b' := by intro a a' b b' h1 h2; rw [h1, h2]
  refine h2 _ _ _ _ (Finset.sum_congr (M := EReal) rfl fun s _ => h3 _ _ _ _ ?_ ?_) ?_
  · rw [hc]; exact w_at m c t _ _ s
  · refine (v_at m c t _ l).trans (congrArg (fun i => (gateM m c).vn i l) (Fin.ext ?_))
    show 256 * t.val + (128 * (r.val / 128) + s.val) = 128 * ((256 * t.val + r.val) / 128) + s.val
    omega
  · rw [hc]; exact bi_at m c t _ l

theorem o_at (t : Fin cfg0.N) (r : Fin 256) (l : Fin 1024) : oAt m c t (ix2 r l) = (gateM m c).out (rowOf t r) l := by
  unfold oAt
  refine (oBlk_at _ _ r l).trans ?_
  unfold Gate.out
  have h3 : ∀ a a' b b' d d' : EReal, a = a' → b = b' → d = d' → gelu a * b * silu d = gelu a' * b' * silu d' := by
    intro a a' b b' d d' h1 h2 h3; rw [h1, h2, h3]
  refine h3 _ _ _ _ _ _ (x_at m c t r _) (s_at m c t r l) ?_
  refine (x_at m c t r _).trans (congrArg (arg m c main_arg0) ?_)
  exact congrArg (ix2 (rowOf t r)) (Fin.ext (by show 3072 + (2048 + l.val) = 5120 + l.val; omega))

/-- The output at every row and lane. -/
def outM : Buf (Elt Ideal) ((c.tc : Thread nD τ).loc main_v8) := fun j : S4096x1024.Idx => (gateM m c).out (j 0) (j 1)

theorem arr5 : (dats m 0 c).arrAt 5 cfg0.N = outM m c := by
  refine (dats m 0 c).arrAt_eq_of_covers 5 _ (by decide +kernel) fun t hf y => ?_
  obtain ⟨-, -, -, -, -, e5⟩ := placeIn t
  blk_simp
  rw [after_5]
  have key : ∀ (r : Fin 256) (l : Fin 1024) (i : Fin 4096) (k : Fin 1024), i.val = 256 * t.val + r.val → k.val = l.val →
      oAt m c t (ix2 r l) = (gateM m c).out i k := by
    intro r l i k hi hk
    have ei : i = rowOf t r := Fin.ext hi
    have el : k = l := Fin.ext hk
    rw [ei, el, o_at]
  exact (congrArg (oAt m c t) (eq_ix2 y)).trans (key (y 0) (y 1) _ _ (by blk_simp [e5]; omega) (by blk_simp [e5]))

/-- The launch with its result: the array ends at `outM`, the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v8) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr5 m c), h.2.1 c⟩) (θ_run_and (run_main m ρ) (frame_main m ρ))

end Cert.Kernel4Ideal.Hand
end
-- ==== Proof.SguRef.lean ====
module

public import proofs.«01_k».proof.Proof.SguKer
public import proofs.«01_k».proof.Proof.Gen.Reference4Ideal.Run

@[expose] public section

set_option maxRecDepth 16384

noncomputable section

/-! The gating unit's reference, stage by stage: each an entry of the unit's rows. -/

namespace Cert.Reference4Ideal.Hand

open Cert.Reference4Ideal Cert.Reference4Ideal.Gen
open Idealize.ShloMosaic Idealize.ShloMosaic.TcCoe
open Cert.RowAlgebra
open Cert.Kernel4Ideal.Hand (gateA masked)

variable (p : FVec Ideal S4096x8192 .bf16) (w : FVec Ideal S8x128x128 .f32) (bi : FVec Ideal S8x128 .f32) (g b : FVec Ideal S1x1024 .f32)

/-- The GELU of an array. -/
def geluR (x : FVec Ideal S4096x1024 .f32) : FVec Ideal S4096x1024 .f32 :=
  mulf (mulf (broadcastInDim S4096x1024 ![] bcast_S_S4096x1024 (constant S_ .f32 0x3F000000#32)) x)
    (Host.erfc (mulf (Host.negf x) (broadcastInDim S4096x1024 ![] bcast_S_S4096x1024 (constant S_ .f32 0x3F3504F3#32))))

/-- The rows' means. -/
def meanR (x : FVec Ideal S4096x1024 .f32) : FVec Ideal S4096x1 .f32 :=
  Host.divf (broadcastInDim S4096x1 ![0] bcast_S4096_S4096x1_0 (Host.reduceAdd x (constant S_ .f32 0x00000000#32) reducesTo_S4096x1024_S4096_d1 h_S_))
    (broadcastInDim S4096x1 ![] bcast_S_S4096x1 (constant S_ .f32 0x44800000#32))

/-- The rows less their means. -/
def cenR (x : FVec Ideal S4096x1024 .f32) : FVec Ideal S4096x1024 .f32 :=
  subf x (broadcastInDim S4096x1024 ![0, 1] bcast_S4096x1_S4096x1024_0_1 (meanR x))

/-- The rows' layer norm. -/
def lnR (x : FVec Ideal S4096x1024 .f32) : FVec Ideal S4096x1024 .f32 :=
  addf (mulf (mulf (cenR x) (broadcastInDim S4096x1024 ![0, 1] bcast_S4096x1_S4096x1024_0_1
      (Host.rsqrt (addf (meanR (mulf (cenR x) (cenR x))) (broadcastInDim S4096x1 ![] bcast_S_S4096x1 (constant S_ .f32 0x358637BD#32))))))
    (broadcastInDim S4096x1024 ![0, 1] bcast_S1x1024_S4096x1024_0_1 g)) (broadcastInDim S4096x1024 ![0, 1] bcast_S1x1024_S4096x1024_0_1 b)

/-- The mixing by chunks: the masked weights by the chunks' rows, plus the bias. -/
def mixR (v : FVec Ideal S4096x1024 .f32) : FVec Ideal S32x128x8x128 .f32 :=
  addf (transpose S32x128x8x128 [1, 3, 0, 2] (Host.dotGeneral dot_S32x128x8x128_S8x128x128_S8x32x128x128_1_2_03_1_2_0 none
      (shapeCast S32x128x8x128 v shapeCasts_S4096x1024_S32x128x8x128) (masked w)) transposes_S8x32x128x128_S32x128x8x128_1_3_0_2)
    (broadcastInDim S32x128x8x128 ![0, 1, 2, 3] bcast_S1x128x8x1_S32x128x8x128_0_1_2_3 (broadcastInDim S1x128x8x1 ![1, 2, 3] bcast_S128x8x1_S1x128x8x1_1_2_3
      (broadcastInDim S128x8x1 ![0, 1] bcast_S128x8_S128x8x1_0_1 (transpose S128x8 [1, 0] bi transposes_S8x128_S128x8_1_0))))

/-- The sigmoid-weighted unit of an array. -/
def siluR (z : FVec Ideal S4096x1024 .f32) : FVec Ideal S4096x1024 .f32 :=
  mulf z (Host.divf (broadcastInDim S4096x1024 ![] bcast_S_S4096x1024 (constant S_ .f32 0x3F800000#32))
    (addf (broadcastInDim S4096x1024 ![] bcast_S_S4096x1024 (constant S_ .f32 0x3F800000#32)) (Host.exp (Host.negf z))))

/-- The three slices. -/
def uR : FVec Ideal S4096x1024 .f32 := extf .f32 (extractStridedSlice S4096x1024 ![0, 3072] p slices_S4096x8192_S4096x1024_0_3072) bitsLt_bf16_f32
def vR : FVec Ideal S4096x1024 .f32 := extf .f32 (extractStridedSlice S4096x1024 ![0, 4096] p slices_S4096x8192_S4096x1024_0_4096) bitsLt_bf16_f32
def zR : FVec Ideal S4096x1024 .f32 := extf .f32 (extractStridedSlice S4096x1024 ![0, 5120] p slices_S4096x8192_S4096x1024_0_5120) bitsLt_bf16_f32

/-- The unit. -/
def sguR : FVec Ideal S4096x1024 .bf16 :=
  truncf .bf16 (mulf (mulf (geluR (uR p)) (shapeCast S4096x1024 (mixR w bi (lnR g b (geluR (vR p)))) shapeCasts_S32x128x8x128_S4096x1024)) (siluR (zR p))) bitsLt_bf16_f32

theorem geluR_apply (x : FVec Ideal S4096x1024 .f32) (i : Fin 4096) (l : Fin 1024) : geluR x (ix2 i l) = gelu (x (ix2 i l)) := by
  refine Eq.trans ?_ (gelu_erfc (x (ix2 i l)))
  pointwise [geluR]

theorem meanR_apply (x : FVec Ideal S4096x1024 .f32) (i : Fin 4096) (o : Fin 1) : meanR x (ix2 i o) = mean (fun l => x (ix2 i l)) := by
  unfold mean
  pointwise [meanR]

theorem cenR_apply (x : FVec Ideal S4096x1024 .f32) (i : Fin 4096) (l : Fin 1024) : cenR x (ix2 i l) = cen (fun k => x (ix2 i k)) l := by
  unfold cen
  rw [← meanR_apply x i 0]
  pointwise [cenR]

theorem lnR_apply (x : FVec Ideal S4096x1024 .f32) (i : Fin 4096) (l : Fin 1024) :
    lnR g b x (ix2 i l) = lnorm (fun k => x (ix2 i k)) (fun k => g (ix2 0 k)) (fun k => b (ix2 0 k)) l := by
  unfold lnorm
  simp only [← cenR_apply]
  have e : mean (fun k => cenR x (ix2 i k) * cenR x (ix2 i k)) = meanR (mulf (cenR x) (cenR x)) (ix2 i 0) := (meanR_apply (mulf (cenR x) (cenR x)) i 0).symm
  rw [e]
  pointwise [lnR]

theorem mixR_apply (v : FVec Ideal S4096x1024 .f32) (c : Fin 32) (t : Fin 128) (h : Fin 8) (d : Fin 128) :
    mixR w bi v (ix4 c t h d)
      = ∑ s : Fin 128, masked w (ix3 h t s) * v (ix2 (⟨c.val * 128 + s.val, by omega⟩ : Fin 4096) (⟨h.val * 128 + d.val, by omega⟩ : Fin 1024)) + bi (ix2 h t) := by
  pointwise [mixR]
  exact congrArg (fun a : EReal => a + bi (ix2 h t)) (Finset.sum_congr (M := EReal) rfl fun s _ => mul_comm (G := EReal) _ _)

theorem siluR_apply (z : FVec Ideal S4096x1024 .f32) (i : Fin 4096) (l : Fin 1024) : siluR z (ix2 i l) = silu (z (ix2 i l)) := by
  unfold silu sigm
  pointwise [siluR]

/-- The mixed gate at a row and a lane. -/
theorem mixA_apply (i : Fin 4096) (l : Fin 1024) :
    (shapeCast S4096x1024 (mixR w bi (lnR g b (geluR (vR p)))) shapeCasts_S32x128x8x128_S4096x1024 : FVec Ideal S4096x1024 .f32) (ix2 i l)
      = (gateA p w bi g b).mix i l := by
  have e : (shapeCast S4096x1024 (mixR w bi (lnR g b (geluR (vR p)))) shapeCasts_S32x128x8x128_S4096x1024 : FVec Ideal S4096x1024 .f32) (ix2 i l)
      = mixR w bi (lnR g b (geluR (vR p))) (ix4 (⟨i.val / 128, by omega⟩ : Fin 32) (Gate.inChunk i) (Gate.head l) (⟨l.val % 128, Nat.mod_lt _ (by decide)⟩ : Fin 128)) := by
    unfold Gate.inChunk Gate.head
    pointwise []
  rw [e, mixR_apply]
  unfold Gate.mix
  have h3 : ∀ a b b' : EReal, b = b' → a * b = a * b' := by intro a b b' h; rw [h]
  refine congrArg (fun a : EReal => a + bi (ix2 (Gate.head l) (Gate.inChunk i))) (Finset.sum_congr (M := EReal) rfl fun s _ => h3 _ _ _ ?_)
  have ei : (⟨i.val / 128 * 128 + s.val, by omega⟩ : Fin 4096) = Gate.chunkRow i s := Fin.ext (by show i.val / 128 * 128 + s.val = 128 * (i.val / 128) + s.val; omega)
  have el : (⟨(Gate.head l).val * 128 + l.val % 128, by unfold Gate.head; show l.val / 128 * 128 + l.val % 128 < 1024; omega⟩ : Fin 1024) = l :=
    Fin.ext (by show l.val / 128 * 128 + l.val % 128 = l.val; omega)
  refine (congrArg₂ (fun (a : Fin 4096) (k : Fin 1024) => lnR g b (geluR (vR p)) (ix2 a k)) ei el).trans ?_
  refine (lnR_apply g b _ _ l).trans ?_
  unfold Gate.vn
  refine congrArg (fun f : Fin 1024 → EReal => lnorm f (fun k => g (ix2 0 k)) (fun k => b (ix2 0 k)) l) (funext fun k => ?_)
  refine (geluR_apply _ _ k).trans (congrArg gelu ?_)
  unfold gateA
  pointwise [vR]

theorem sguR_apply (i : Fin 4096) (l : Fin 1024) : sguR p w bi g b (ix2 i l) = (gateA p w bi g b).out i l := by
  unfold Gate.out
  rw [← mixA_apply]
  have hu : (gateA p w bi g b).u i l = uR p (ix2 i l) := by unfold gateA; pointwise [uR]
  have hz : (gateA p w bi g b).z i l = zR p (ix2 i l) := by unfold gateA; pointwise [zR]
  rw [hu, hz, ← geluR_apply, ← siluR_apply]
  rfl

variable (m : (ℓ : Loc nD τ sig) → Buf (Elt Ideal) ℓ) (c : Dev nD)

abbrev arg (b : Ref sig .tc) : Buf (Elt Ideal) ((c.tc : Thread nD τ).loc b) := m ((c.tc : Thread nD τ).loc b)

theorem res_v56 : Value.res_main_v56 (F := Ideal) m c = sguR (arg m c main_arg0) (arg m c main_arg1) (arg m c main_arg2) (arg m c main_arg3) (arg m c main_arg4) := by
  unfold Value.res_main_v56 sguR siluR mixR lnR cenR meanR geluR uR vR zR masked Cert.Kernel4Ideal.Hand.tri
  rfl

/-- The reference's result at every row and lane. -/
theorem ref_v56 : Value.res_main_v56 (F := Ideal) m c
    = fun j : S4096x1024.Idx => (gateA (arg m c main_arg0) (arg m c main_arg1) (arg m c main_arg2) (arg m c main_arg3) (arg m c main_arg4)).out (j 0) (j 1) := by
  rw [res_v56]
  funext j
  rw [eq_ix2 j]
  exact sguR_apply _ _ _ _ _ (j 0) (j 1)

end Cert.Reference4Ideal.Hand
end
-- ==== Proof.SgbSame.lean ====
module

public import proofs.«01_k».proof.Defs
public import proofs.«01_k».proof.Proof.Gen.Kernel5
public import proofs.«01_k».proof.Proof.Gen.Kernel5Ideal

@[expose] public section

/-! The kernel and its idealization are one text: their body tables and their launches are equal. -/

namespace Cert.Proof

open Idealize.ShloMosaic Idealize.SL.Sem

theorem part1_same5 : Cert.Kernel5.k0_part1 (F := Bits) = Cert.Kernel5Ideal.k0_part1 (F := Bits) := rfl

theorem part2_same5 : Cert.Kernel5.k0_part2 (F := Bits) = Cert.Kernel5Ideal.k0_part2 (F := Bits) := rfl

theorem part3_same5 : Cert.Kernel5.k0_part3 (F := Bits) = Cert.Kernel5Ideal.k0_part3 (F := Bits) := rfl

theorem part4_same5 : Cert.Kernel5.k0_part4 (F := Bits) = Cert.Kernel5Ideal.k0_part4 (F := Bits) := rfl

theorem part5_same5 : Cert.Kernel5.k0_part5 (F := Bits) = Cert.Kernel5Ideal.k0_part5 (F := Bits) := rfl

theorem part6_same5 : Cert.Kernel5.k0_part6 (F := Bits) = Cert.Kernel5Ideal.k0_part6 (F := Bits) := rfl

theorem part7_same5 : Cert.Kernel5.k0_part7 (F := Bits) = Cert.Kernel5Ideal.k0_part7 (F := Bits) := rfl

theorem part8_same5 : Cert.Kernel5.k0_part8 (F := Bits) = Cert.Kernel5Ideal.k0_part8 (F := Bits) := rfl

theorem part9_same5 : Cert.Kernel5.k0_part9 (F := Bits) = Cert.Kernel5Ideal.k0_part9 (F := Bits) := rfl

theorem part10_same5 : Cert.Kernel5.k0_part10 (F := Bits) = Cert.Kernel5Ideal.k0_part10 (F := Bits) := rfl

theorem part11_same5 : Cert.Kernel5.k0_part11 (F := Bits) = Cert.Kernel5Ideal.k0_part11 (F := Bits) := rfl

theorem part12_same5 : Cert.Kernel5.k0_part12 (F := Bits) = Cert.Kernel5Ideal.k0_part12 (F := Bits) := rfl

theorem part13_same5 : Cert.Kernel5.k0_part13 (F := Bits) = Cert.Kernel5Ideal.k0_part13 (F := Bits) := rfl

theorem part14_same5 : Cert.Kernel5.k0_part14 (F := Bits) = Cert.Kernel5Ideal.k0_part14 (F := Bits) := rfl

theorem part15_same5 : Cert.Kernel5.k0_part15 (F := Bits) = Cert.Kernel5Ideal.k0_part15 (F := Bits) := rfl

theorem part16_same5 : Cert.Kernel5.k0_part16 (F := Bits) = Cert.Kernel5Ideal.k0_part16 (F := Bits) := rfl

theorem part17_same5 : Cert.Kernel5.k0_part17 (F := Bits) = Cert.Kernel5Ideal.k0_part17 (F := Bits) := rfl

theorem part18_same5 : Cert.Kernel5.k0_part18 (F := Bits) = Cert.Kernel5Ideal.k0_part18 (F := Bits) := rfl

theorem part19_same5 : Cert.Kernel5.k0_part19 (F := Bits) = Cert.Kernel5Ideal.k0_part19 (F := Bits) := rfl

theorem part20_same5 : Cert.Kernel5.k0_part20 (F := Bits) = Cert.Kernel5Ideal.k0_part20 (F := Bits) := rfl

theorem part21_same5 : Cert.Kernel5.k0_part21 (F := Bits) = Cert.Kernel5Ideal.k0_part21 (F := Bits) := rfl

theorem part22_same5 : Cert.Kernel5.k0_part22 (F := Bits) = Cert.Kernel5Ideal.k0_part22 (F := Bits) := rfl

theorem body_same5 : Cert.Kernel5.cc0_branch_b_bwd (F := Bits) = Cert.Kernel5Ideal.cc0_branch_b_bwd (F := Bits) := rfl

theorem table_same5 : Cert.Kernel5.defs₀ (F := Bits) = Cert.Kernel5Ideal.defs₀ (F := Bits) := by
  unfold Cert.Kernel5.defs₀ Cert.Kernel5Ideal.defs₀
  refine congrArg (Defs.onTc (nD := Cert.Kernel5Ideal.nD) (τ := Cert.Kernel5Ideal.τ) (sig := Cert.Kernel5Ideal.sig) (Val := Elt Bits) (Λ := Cert.Kernel5Ideal.Λ₀)) ?_
  funext l x
  match l, x with
  | 0, (t, s) => rfl

theorem defs_same5 : Cert.Kernel5.defs (F := Bits) = Cert.Kernel5Ideal.defs (F := Bits) := by
  show Pipeline.defs Cert.Kernel5Ideal.pcfgs Cert.Kernel5.defs₀ = _
  rw [table_same5]
  rfl

theorem main_same5 : Cert.Kernel5.main (F := Bits) = Cert.Kernel5Ideal.main (F := Bits) := rfl

end Cert.Proof
-- ==== Proof.SgbRow.lean ====
module

public import proofs.«01_k».proof.Proof.SguRow

@[expose] public section

noncomputable section

/-! The backward pass of the spatial gating unit over the extended reals. -/

namespace Cert.RowAlgebra

open Idealize.ShloMosaic

/-- A row's normalisation, before the gain and the offset. -/
def nrm (f : Fin 1024 → EReal) (l : Fin 1024) : EReal :=
  cen f l * Ideal.rsqrt (mean (fun k => cen f k * cen f k) + Ideal.ofBits .f32 0x358637BD#32)

theorem lnorm_nrm (f g b : Fin 1024 → EReal) (l : Fin 1024) : lnorm f g b l = nrm f l * g l + b l := rfl

/-- The GELU with the half inside the sum. -/
theorem gelu_half (x : EReal) :
    x * (Ideal.ofBits .f32 0x3F000000#32 * (1 + Ideal.erf (x * Ideal.ofBits .f32 0x3F3504F3#32))) = gelu x := by
  unfold gelu
  rw [← mul_assoc, mul_comm x]

namespace Gate

variable (G : Gate) (dy : Fin 4096 → Fin 1024 → EReal)

/-- The mixed gate's cotangent. -/
def ds (i : Fin 4096) (l : Fin 1024) : EReal := dy i l * gelu (G.u i l) * silu (G.z i l)

/-- The gating half's rows, normalised. -/
def nn (i : Fin 4096) (l : Fin 1024) : EReal := nrm (fun k => gelu (G.v i k)) l

/-- The normalised rows' cotangent: the head's transposed weight by the chunk's cotangent. -/
def dv (i : Fin 4096) (l : Fin 1024) : EReal := ∑ t, G.w (head l) t (inChunk i) * G.ds dy (chunkRow i t) l

/-- The sums over the rows: the gain's gradient, the offset's, and nothing. -/
def sums (r : Fin 8) (l : Fin 1024) : EReal :=
  if r.val = 0 then ∑ i, G.dv dy i l * G.nn i l else if r.val = 1 then ∑ i, G.dv dy i l else 0

/-- Row `t` of chunk `k`. -/
def at' (k : Fin 32) (t : Fin 128) : Fin 4096 := ⟨128 * k.val + t.val, by omega⟩

/-- Lane `d` of head `h`. -/
def lane (h : Fin 8) (d : Fin 128) : Fin 1024 := ⟨128 * h.val + d.val, by omega⟩

/-- The bias's gradient at place `t` of a chunk, head `h`. -/
def gb (t : Fin 128) (h : Fin 8) : EReal := ∑ d, ∑ k, G.ds dy (at' k t) (lane h d)

/-- The bias's gradient, laid out by place and head, zero past the heads. -/
def gbt (t j : Fin 128) : EReal := if h : j.val < 8 then G.gb dy t ⟨j.val, h⟩ else 0

/-- The weights' gradient before the mask. -/
def gwAll (h : Fin 8) (t s : Fin 128) : EReal := ∑ k, ∑ d, G.ds dy (at' k t) (lane h d) * G.vn (at' k s) (lane h d)

end Gate

end Cert.RowAlgebra
end
-- ==== Proof.SgbTrip.lean ====
module

public import proofs.«01_k».proof.Proof.Gen.Kernel5Ideal.Frame
public import proofs.«01_k».proof.Proof.Gen.Kernel5Ideal.Skeleton
public import proofs.«01_k».proof.Proof.Gen.Kernel5Ideal.Loops
public import proofs.«01_k».proof.Proof.SguMix

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Hand (iter iter_succ ofStrips iter_strips sPiece sBlk sStep iter_sStep_all)

variable {F : FTy → Type} [FloatOps F]

local notation "𝕄" => MT nD τ sig Unit (Elt F) ℕ (UR sig nD τ) ℕ

/-! ### Blocks put together strip by strip -/

/-- Steps that only ever replace entries, each entry of a covered set replaced by something fixed, end the same whatever they
    start from wherever every entry is covered or starts equal. -/
theorem iter_congr_init {ι α : Type} {n₀ : ℕ} (step : Fin n₀ → (ι → α) → (ι → α)) (D : Fin n₀ → ι → Prop)
    (hstep : ∀ k f f' y, f y = f' y → step k f y = step k f' y) (hD : ∀ k f f' y, D k y → step k f y = step k f' y) (z z' : ι → α) :
    ∀ n y, (z y = z' y ∨ ∃ k, k.val < n ∧ D k y) → iter step z n y = iter step z' n y
  | 0, y, h => by
    rcases h with h | ⟨k, hk, _⟩
    · exact h
    · exact absurd hk (Nat.not_lt_zero _)
  | n + 1, y, h => by
    unfold iter
    by_cases hn : n < n₀
    · rw [dif_pos hn, dif_pos hn]
      rcases h with h | ⟨k, hk, hd⟩
      · exact hstep _ _ _ _ (iter_congr_init step D hstep hD z z' n y (.inl h))
      · by_cases hkn : k.val = n
        · have hk' : k = ⟨n, hn⟩ := Fin.ext hkn
          subst hk'
          exact hD _ _ _ _ hd
        · exact hstep _ _ _ _ (iter_congr_init step D hstep hD z z' n y (.inr ⟨k, by omega, hd⟩))
    · rw [dif_neg hn, dif_neg hn]
      refine iter_congr_init step D hstep hD z z' n y ?_
      rcases h with h | ⟨k, hk, hd⟩
      · exact .inl h
      · exact .inr ⟨k, by have := k.isLt; omega, hd⟩

theorem put_congr {s : Shape} {α : Type} (f f' : s.Idx → α) (off size : Fin s.rank → ℕ) (v) (y : s.Idx) (h : f y = f' y) :
    VecWindow.put f off size v y = VecWindow.put f' off size v y := by
  unfold VecWindow.put
  split
  · rfl
  · exact h

theorem put_covered {s : Shape} {α : Type} (f f' : s.Idx → α) (off size : Fin s.rank → ℕ) (v) (y : s.Idx)
    (h : ∀ a, off a ≤ (y a).val ∧ (y a).val < off a + size a) : VecWindow.put f off size v y = VecWindow.put f' off size v y := by
  unfold VecWindow.put
  rw [dif_pos h, dif_pos h]

theorem trips1 : k0_t1_loop.trips = 16 := by decide +kernel
theorem trips2 : k0_t2_loop.trips = 16 := by decide +kernel
theorem trips3 : k0_t3_loop.trips = 16 := by decide +kernel

/-! ### What each trip stores -/

/-- Trip `k`'s sixteen rows of `v`, of `u` and of the gate `o`. -/
def vRows (x : Vec F S256x3072 .bf16) (k : Fin k0_t1_loop.trips) : Vec F S16x1024 .bf16 := VecWindow.window x (k0_off1 k) S16x1024.size (k0_off1_inb k)
def uRows (x : Vec F S256x3072 .bf16) (k : Fin k0_t2_loop.trips) : Vec F S16x1024 .bf16 := VecWindow.window x (k0_off4 k) S16x1024.size (k0_off4_inb k)
def oRows (x : Vec F S256x3072 .bf16) (k : Fin k0_t2_loop.trips) : Vec F S16x1024 .bf16 := VecWindow.window x (k0_off5 k) S16x1024.size (k0_off5_inb k)
def rows2 (y : Vec F S256x1024 .f32) (k : Fin k0_t2_loop.trips) : Vec F S16x1024 .f32 := VecWindow.window y (k0_off6 k) S16x1024.size (k0_off6_inb k)
def rows3 (y : Vec F S256x1024 .f32) (k : Fin k0_t3_loop.trips) : Vec F S16x1024 .f32 := VecWindow.window y (k0_off8 k) S16x1024.size (k0_off8_inb k)

/-- The derivative of the GELU of `v`, its normalised rows, their reciprocal deviations, and the rows the mixing reads. -/
def dgStep (x : Vec F S256x3072 .bf16) (k : Fin k0_t1_loop.trips) (d : Vec F S256x1024 .f32) : Vec F S256x1024 .f32 :=
  VecWindow.put (s := S256x1024) d (k0_off2 k) S16x1024.size (k0_pay5 (vRows x k))
def nStep (x : Vec F S256x3072 .bf16) (k : Fin k0_t1_loop.trips) (d : Vec F S256x1024 .f32) : Vec F S256x1024 .f32 :=
  VecWindow.put (s := S256x1024) d (k0_off2 k) S16x1024.size (k0_pay43 (k0_pay8 (vRows x k)))
def rStep (x : Vec F S256x3072 .bf16) (k : Fin k0_t1_loop.trips) (d : Vec F S256x128 .f32) : Vec F S256x128 .f32 :=
  VecWindow.put (s := S256x128) d (k0_off3 k) S16x128.size (k0_pay44 (k0_pay7 (vRows x k)))
def vStep (x : Vec F S256x3072 .bf16) (g b : Vec F S1x1024 .f32) (k : Fin k0_t1_loop.trips) (d : Vec F S256x1024 .bf16) : Vec F S256x1024 .bf16 :=
  VecWindow.put (s := S256x1024) d (k0_off2 k) S16x1024.size (k0_pay45 (k0_pay8 (vRows x k)) g b)

/-- The mixed gate's cotangent, the sums of it over the chunks, and the two outer thirds of the block of `dp`. -/
def dsStep (x : Vec F S256x3072 .bf16) (dy : Vec F S256x1024 .f32) (k : Fin k0_t2_loop.trips) (d : Vec F S256x1024 .bf16) : Vec F S256x1024 .bf16 :=
  VecWindow.put (s := S256x1024) d (k0_off6 k) S16x1024.size (k0_pay17 (uRows x k) (oRows x k) (rows2 dy k))
def gbStep (x : Vec F S256x3072 .bf16) (dy : Vec F S256x1024 .f32) (k : Fin k0_t2_loop.trips) (d : Vec F S128x1024 .f32) : Vec F S128x1024 .f32 :=
  VecWindow.put (s := S128x1024) d (k0_off7 k) S16x1024.size
    (k0_pay66 (k0_pay16 (uRows x k) (oRows x k) (rows2 dy k)) (VecWindow.window d (k0_off7 k) S16x1024.size (k0_off7_inb k)))
def dpStep (x : Vec F S256x3072 .bf16) (dy s : Vec F S256x1024 .f32) (k : Fin k0_t2_loop.trips) (d : Vec F S256x3072 .bf16) : Vec F S256x3072 .bf16 :=
  VecWindow.put (s := S256x3072) (VecWindow.put (s := S256x3072) d (k0_off4 k) S16x1024.size (k0_pay67 (k0_pay12 (uRows x k)) (k0_pay15 (oRows x k)) (rows2 s k) (rows2 dy k)))
    (k0_off5 k) S16x1024.size (k0_pay68 (k0_pay11 (uRows x k)) (k0_pay13 (oRows x k)) (k0_pay14 (oRows x k)) (rows2 s k) (rows2 dy k))

/-- The running sums of the gain's and of the offset's gradient, and the middle third of the block of `dp`. -/
def aStep (dv n : Vec F S256x1024 .f32) (k : Fin k0_t3_loop.trips) (a : Vec F S32x1024 .f32) : Vec F S32x1024 .f32 :=
  VecWindow.put (s := S32x1024) (VecWindow.put (s := S32x1024) a
    ![0, 0] S16x1024.size (k0_pay18 (rows3 dv k) (rows3 n k) (VecWindow.window a ![0, 0] S16x1024.size inb_S32x1024_S16x1024_0_0)))
    ![16, 0] S16x1024.size (k0_pay19 (rows3 dv k) (VecWindow.window a ![16, 0] S16x1024.size inb_S32x1024_S16x1024_16_0))
def dqStep (dv n dg : Vec F S256x1024 .f32) (r : Vec F S256x128 .f32) (g : Vec F S1x1024 .f32) (k : Fin k0_t3_loop.trips) (d : Vec F S256x3072 .bf16) : Vec F S256x3072 .bf16 :=
  VecWindow.put (s := S256x3072) d (k0_off10 k) S16x1024.size
    (k0_pay1 (k0_pay20 (rows3 dv k) (rows3 n k) (VecWindow.window r (k0_off9 k) S16x1.size (k0_off9_inb k)) g) (rows3 dg k))

theorem readAt_row (v : View sig .tc .vmem S1x1024 .f32) (f : v.ty.Contents (Elt F)) (h) :
    v.readAt (Elt F) (Rect.unit (s := S1x1024) ![0, 0] S1x1024.size h).toLoadRect f = v.read (Elt F) f := View.readAt_full v f h

section
variable (c : Dev nD) (i : grid0.Coords)
  (arg1 : Memref sig .tc .vmem S256x3072 .bf16) (harg1 : arg1.IsWhole)
  (arg2 : Memref sig .tc .vmem S256x1024 .f32) (harg2 : arg2.IsWhole)
  (arg3 : Memref sig .tc .hbm S4096x8192 .bf16) (harg3 : arg3.IsWhole)
  (arg4 : Memref sig .tc .vmem S8x128x128 .bf16) (harg4 : arg4.IsWhole)
  (arg5 : Memref sig .tc .vmem S8x128x128 .bf16) (harg5 : arg5.IsWhole)
  (arg6 : Memref sig .tc .vmem S128x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x3072 .bf16) (harg9 : arg9.IsWhole)
  (arg10 : Memref sig .tc .vmem S8x1024 .f32) (harg10 : arg10.IsWhole)
  (arg11 : Memref sig .tc .vmem S128x128 .f32) (harg11 : arg11.IsWhole)
  (arg12 : Memref sig .tc .vmem S8x128x128 .f32) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x128 .f32) (harg15 : arg15.IsWhole)
  (arg16 : Memref sig .tc .vmem S256x1024 .f32) (harg16 : arg16.IsWhole)
  (arg17 : Memref sig .tc .vmem S256x1024 .bf16) (harg17 : arg17.IsWhole)
  (arg18 : Memref sig .tc .vmem S256x1024 .f32) (harg18 : arg18.IsWhole)
  (arg19 : Memref sig .tc .vmem S32x1024 .f32) (harg19 : arg19.IsWhole)
  (arg20 : Memref sig .tc .vmem S128x1024 .f32) (harg20 : arg20.IsWhole)
  (arg21 : Memref sig .tc .vmem S256x1024 .f32) (harg21 : arg21.IsWhole)

/-- One trip of the normalisation. -/
theorem trip1 (k : Fin k0_t1_loop.trips) (x : Vec F S256x3072 .bf16) (g : Vec F S1x1024 .f32) (b : Vec F S1x1024 .f32) (v : Vec F S256x1024 .bf16) (n2 : Vec F S256x1024 .f32) (r : Vec F S256x128 .f32) (dg : Vec F S256x1024 .f32)  (E : Set ℕ) :
    (iprop(owns (c : Thread nD τ) arg1 fullShare x ∗ owns (c : Thread nD τ) arg7 fullShare g ∗ owns (c : Thread nD τ) arg8 fullShare b ∗ owns (c : Thread nD τ) arg13 fullShare v ∗ owns (c : Thread nD τ) arg14 fullShare n2 ∗ owns (c : Thread nD τ) arg15 fullShare r ∗ owns (c : Thread nD τ) arg21 fullShare dg) : sProp 𝕄)
    ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21  k PUnit.unit)
    (fun _ => iprop(owns (c : Thread nD τ) arg1 fullShare x ∗ owns (c : Thread nD τ) arg7 fullShare g ∗ owns (c : Thread nD τ) arg8 fullShare b ∗ owns (c : Thread nD τ) arg13 fullShare (vStep x g b k v) ∗ owns (c : Thread nD τ) arg14 fullShare (nStep x k n2) ∗ owns (c : Thread nD τ) arg15 fullShare (rStep x k r) ∗ owns (c : Thread nD τ) arg21 fullShare (dgStep x k dg))) := by
  unfold owns
  iintro ⟨⟨%f1, %hf1, H1⟩, ⟨%f7, %hf7, H7⟩, ⟨%f8, %hf8, H8⟩, ⟨%f13, %hf13, H13⟩, ⟨%f14, %hf14, H14⟩, ⟨%f15, %hf15, H15⟩, ⟨%f21, %hf21, H21⟩⟩
  unfold k0_t1_body
  simp only [k0_part1_eq_skeleton]
  unfold k0_part1_skel
  sl_exec
  sl_step
  isplitl [H1]
  · iexists _; isplitr; · ipureintro; exact hf1
    iexact H1
  isplitl [H7]
  · iexists _; isplitr; · ipureintro; exact hf7
    iexact H7
  isplitl [H8]
  · iexists _; isplitr; · ipureintro; exact hf8
    iexact H8
  isplitl [H13]
  · iexists _; isplitr; swap; · iexact H13
    ipureintro
    subst hf1 hf7 hf8 hf13 hf14 hf15 hf21
    rw [View.read_writes_cons_put _ _ _ _ _ rfl, View.writes_nil]
    sl_unfold_words
    rw [readAt_row arg7.view]
    rw [readAt_row arg8.view]
    rfl
  isplitl [H14]
  · iexists _; isplitr; swap; · iexact H14
    ipureintro
    subst hf1 hf7 hf8 hf13 hf14 hf15 hf21
    rw [View.read_writes_cons_put _ _ _ _ _ rfl, View.writes_nil]
    sl_unfold_words
    rfl
  isplitl [H15]
  · iexists _; isplitr; swap; · iexact H15
    ipureintro
    subst hf1 hf7 hf8 hf13 hf14 hf15 hf21
    rw [View.read_writes_cons_put _ _ _ _ _ rfl, View.writes_nil]
    sl_unfold_words
    rfl
  iexists _; isplitr; swap; · iexact H21
  ipureintro
  subst hf1 hf7 hf8 hf13 hf14 hf15 hf21
  rw [View.read_writes_cons_put _ _ _ _ _ rfl, View.writes_nil]
  sl_unfold_words
  rfl

/-- The loop: what it reads stays as it was, and what it writes takes all the trips' steps. -/
theorem loop1 {R : Type} (x : Vec F S256x3072 .bf16) (g : Vec F S1x1024 .f32) (b : Vec F S1x1024 .f32) (v : Vec F S256x1024 .bf16) (n2 : Vec F S256x1024 .f32) (r : Vec F S256x128 .f32) (dg : Vec F S256x1024 .f32)  (E : Set ℕ)
    (kk : PUnit → Prog (TpuEff nD τ sig (Elt F) Λ₀ .tc) R) (Q : R → sProp 𝕄) :
    (iprop(owns (c : Thread nD τ) arg1 fullShare x ∗ owns (c : Thread nD τ) arg7 fullShare g ∗ owns (c : Thread nD τ) arg8 fullShare b ∗ owns (c : Thread nD τ) arg13 fullShare v ∗ owns (c : Thread nD τ) arg14 fullShare n2 ∗ owns (c : Thread nD τ) arg15 fullShare r ∗ owns (c : Thread nD τ) arg21 fullShare dg) : sProp 𝕄)
    ⊢ iprop((iprop(owns (c : Thread nD τ) arg1 fullShare x ∗ owns (c : Thread nD τ) arg7 fullShare g ∗ owns (c : Thread nD τ) arg8 fullShare b ∗ owns (c : Thread nD τ) arg13 fullShare (iter (vStep x g b) v k0_t1_loop.trips) ∗ owns (c : Thread nD τ) arg14 fullShare (iter (nStep x) n2 k0_t1_loop.trips) ∗ owns (c : Thread nD τ) arg15 fullShare (iter (rStep x) r k0_t1_loop.trips) ∗ owns (c : Thread nD τ) arg21 fullShare (iter (dgStep x) dg k0_t1_loop.trips))
        -∗ wp frame (wpE (defs₀ (F := F)) Variants.none (c : Thread nD τ) none) E (kk PUnit.unit) Q)
      -∗ wp frame (wpE (defs₀ (F := F)) Variants.none (c : Thread nD τ) none) E (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) >>= kk) Q) := by
  have h := Scf.wp_for_bind (Fr := frame) (wpE := wpE (defs₀ (F := F)) Variants.none (c : Thread nD τ) none) (Es := E)
    k0_t1_loop.lb k0_t1_loop.ub k0_t1_loop.st k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 )
    (fun n _ => iprop(owns (c : Thread nD τ) arg1 fullShare x ∗ owns (c : Thread nD τ) arg7 fullShare g ∗ owns (c : Thread nD τ) arg8 fullShare b ∗ owns (c : Thread nD τ) arg13 fullShare (iter (vStep x g b) v n) ∗ owns (c : Thread nD τ) arg14 fullShare (iter (nStep x) n2 n) ∗ owns (c : Thread nD τ) arg15 fullShare (iter (rStep x) r n) ∗ owns (c : Thread nD τ) arg21 fullShare (iter (dgStep x) dg n)))
    (fun k _ => by
      simp only [iter_succ]
      exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k x g b _ _ _ _  E) (kk := kk) (Q := Q)
  refine h.trans ?_
  iintro Hw Hk
  iapply Hw
  iintro %_
  iexact Hk

/-- One trip of the gating. -/
theorem trip2 (k : Fin k0_t2_loop.trips) (x : Vec F S256x3072 .bf16) (dy : Vec F S256x1024 .f32) (s : Vec F S256x1024 .f32) (ds : Vec F S256x1024 .bf16) (gb : Vec F S128x1024 .f32) (dp : Vec F S256x3072 .bf16) (w0 w1 : FVec F S128x128 .f32) (E : Set ℕ) :
    (iprop(owns (c : Thread nD τ) arg1 fullShare x ∗ owns (c : Thread nD τ) arg2 fullShare dy ∗ owns (c : Thread nD τ) arg16 fullShare s ∗ owns (c : Thread nD τ) arg17 fullShare ds ∗ owns (c : Thread nD τ) arg20 fullShare gb ∗ owns (c : Thread nD τ) arg9 fullShare dp) : sProp 𝕄)
    ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0 w1 k PUnit.unit)
    (fun _ => iprop(owns (c : Thread nD τ) arg1 fullShare x ∗ owns (c : Thread nD τ) arg2 fullShare dy ∗ owns (c : Thread nD τ) arg16 fullShare s ∗ owns (c : Thread nD τ) arg17 fullShare (dsStep x dy k ds) ∗ owns (c : Thread nD τ) arg20 fullShare (gbStep x dy k gb) ∗ owns (c : Thread nD τ) arg9 fullShare (dpStep x dy s k dp))) := by
  unfold owns
  iintro ⟨⟨%f1, %hf1, H1⟩, ⟨%f2, %hf2, H2⟩, ⟨%f16, %hf16, H16⟩, ⟨%f17, %hf17, H17⟩, ⟨%f20, %hf20, H20⟩, ⟨%f9, %hf9, H9⟩⟩
  unfold k0_t2_body
  simp only [k0_part2_eq_skeleton]
  unfold k0_part2_skel
  sl_exec
  sl_step
  isplitl [H1]
  · iexists _; isplitr; · ipureintro; exact hf1
    iexact H1
  isplitl [H2]
  · iexists _; isplitr; · ipureintro; exact hf2
    iexact H2
  isplitl [H16]
  · iexists _; isplitr; · ipureintro; exact hf16
    iexact H16
  isplitl [H17]
  · iexists _; isplitr; swap; · iexact H17
    ipureintro
    subst hf1 hf2 hf16 hf17 hf20 hf9
    rw [View.read_writes_cons_put _ _ _ _ _ rfl, View.writes_nil]
    sl_unfold_words
    rfl
  isplitl [H20]
  · iexists _; isplitr; swap; · iexact H20
    ipureintro
    subst hf1 hf2 hf16 hf17 hf20 hf9
    rw [View.read_writes_cons_put _ _ _ _ _ rfl, View.writes_nil]
    sl_unfold_words
    rfl
  iexists _; isplitr; swap; · iexact H9
  ipureintro
  subst hf1 hf2 hf16 hf17 hf20 hf9
  rw [View.read_writes_cons_put _ _ _ _ _ rfl, View.read_writes_cons_put _ _ _ _ _ rfl, View.writes_nil]
  sl_unfold_words
  rfl

/-- The loop: what it reads stays as it was, and what it writes takes all the trips' steps. -/
theorem loop2 {R : Type} (x : Vec F S256x3072 .bf16) (dy : Vec F S256x1024 .f32) (s : Vec F S256x1024 .f32) (ds : Vec F S256x1024 .bf16) (gb : Vec F S128x1024 .f32) (dp : Vec F S256x3072 .bf16) (w0 w1 : FVec F S128x128 .f32) (E : Set ℕ)
    (kk : PUnit → Prog (TpuEff nD τ sig (Elt F) Λ₀ .tc) R) (Q : R → sProp 𝕄) :
    (iprop(owns (c : Thread nD τ) arg1 fullShare x ∗ owns (c : Thread nD τ) arg2 fullShare dy ∗ owns (c : Thread nD τ) arg16 fullShare s ∗ owns (c : Thread nD τ) arg17 fullShare ds ∗ owns (c : Thread nD τ) arg20 fullShare gb ∗ owns (c : Thread nD τ) arg9 fullShare dp) : sProp 𝕄)
    ⊢ iprop((iprop(owns (c : Thread nD τ) arg1 fullShare x ∗ owns (c : Thread nD τ) arg2 fullShare dy ∗ owns (c : Thread nD τ) arg16 fullShare s ∗ owns (c : Thread nD τ) arg17 fullShare (iter (dsStep x dy) ds k0_t2_loop.trips) ∗ owns (c : Thread nD τ) arg20 fullShare (iter (gbStep x dy) gb k0_t2_loop.trips) ∗ owns (c : Thread nD τ) arg9 fullShare (iter (dpStep x dy s) dp k0_t2_loop.trips))
        -∗ wp frame (wpE (defs₀ (F := F)) Variants.none (c : Thread nD τ) none) E (kk PUnit.unit) Q)
      -∗ wp frame (wpE (defs₀ (F := F)) Variants.none (c : Thread nD τ) none) E (Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0 w1) >>= kk) Q) := by
  have h := Scf.wp_for_bind (Fr := frame) (wpE := wpE (defs₀ (F := F)) Variants.none (c : Thread nD τ) none) (Es := E)
    k0_t2_loop.lb k0_t2_loop.ub k0_t2_loop.st k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0 w1)
    (fun n _ => iprop(owns (c : Thread nD τ) arg1 fullShare x ∗ owns (c : Thread nD τ) arg2 fullShare dy ∗ owns (c : Thread nD τ) arg16 fullShare s ∗ owns (c : Thread nD τ) arg17 fullShare (iter (dsStep x dy) ds n) ∗ owns (c : Thread nD τ) arg20 fullShare (iter (gbStep x dy) gb n) ∗ owns (c : Thread nD τ) arg9 fullShare (iter (dpStep x dy s) dp n)))
    (fun k _ => by
      simp only [iter_succ]
      exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k x dy s _ _ _ w0 w1 E) (kk := kk) (Q := Q)
  refine h.trans ?_
  iintro Hw Hk
  iapply Hw
  iintro %_
  iexact Hk

/-- One trip of the normalisation's gradient. -/
theorem trip3 (k : Fin k0_t3_loop.trips) (dv : Vec F S256x1024 .f32) (n2 : Vec F S256x1024 .f32) (r : Vec F S256x128 .f32) (g : Vec F S1x1024 .f32) (dg : Vec F S256x1024 .f32) (a : Vec F S32x1024 .f32) (dp : Vec F S256x3072 .bf16) (w0 : BitVec 32) (E : Set ℕ) :
    (iprop(owns (c : Thread nD τ) arg18 fullShare dv ∗ owns (c : Thread nD τ) arg14 fullShare n2 ∗ owns (c : Thread nD τ) arg15 fullShare r ∗ owns (c : Thread nD τ) arg7 fullShare g ∗ owns (c : Thread nD τ) arg21 fullShare dg ∗ owns (c : Thread nD τ) arg19 fullShare a ∗ owns (c : Thread nD τ) arg9 fullShare dp) : sProp 𝕄)
    ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0 k PUnit.unit)
    (fun _ => iprop(owns (c : Thread nD τ) arg18 fullShare dv ∗ owns (c : Thread nD τ) arg14 fullShare n2 ∗ owns (c : Thread nD τ) arg15 fullShare r ∗ owns (c : Thread nD τ) arg7 fullShare g ∗ owns (c : Thread nD τ) arg21 fullShare dg ∗ owns (c : Thread nD τ) arg19 fullShare (aStep dv n2 k a) ∗ owns (c : Thread nD τ) arg9 fullShare (dqStep dv n2 dg r g k dp))) := by
  unfold owns
  iintro ⟨⟨%f18, %hf18, H18⟩, ⟨%f14, %hf14, H14⟩, ⟨%f15, %hf15, H15⟩, ⟨%f7, %hf7, H7⟩, ⟨%f21, %hf21, H21⟩, ⟨%f19, %hf19, H19⟩, ⟨%f9, %hf9, H9⟩⟩
  unfold k0_t3_body
  simp only [k0_part3_eq_skeleton]
  unfold k0_part3_skel
  sl_exec
  sl_step
  isplitl [H18]
  · iexists _; isplitr; · ipureintro; exact hf18
    iexact H18
  isplitl [H14]
  · iexists _; isplitr; · ipureintro; exact hf14
    iexact H14
  isplitl [H15]
  · iexists _; isplitr; · ipureintro; exact hf15
    iexact H15
  isplitl [H7]
  · iexists _; isplitr; · ipureintro; exact hf7
    iexact H7
  isplitl [H21]
  · iexists _; isplitr; · ipureintro; exact hf21
    iexact H21
  isplitl [H19]
  · iexists _; isplitr; swap; · iexact H19
    ipureintro
    subst hf18 hf14 hf15 hf7 hf21 hf19 hf9
    rw [View.read_writes_cons_put _ _ _ _ _ rfl, View.read_writes_cons_put _ _ _ _ _ rfl, View.writes_nil]
    sl_unfold_words
    rfl
  iexists _; isplitr; swap; · iexact H9
  ipureintro
  subst hf18 hf14 hf15 hf7 hf21 hf19 hf9
  rw [View.read_writes_cons_put _ _ _ _ _ rfl, View.writes_nil]
  sl_unfold_words
  rw [readAt_row arg7.view]
  rfl

/-- The loop: what it reads stays as it was, and what it writes takes all the trips' steps. -/
theorem loop3 {R : Type} (dv : Vec F S256x1024 .f32) (n2 : Vec F S256x1024 .f32) (r : Vec F S256x128 .f32) (g : Vec F S1x1024 .f32) (dg : Vec F S256x1024 .f32) (a : Vec F S32x1024 .f32) (dp : Vec F S256x3072 .bf16) (w0 : BitVec 32) (E : Set ℕ)
    (kk : PUnit → Prog (TpuEff nD τ sig (Elt F) Λ₀ .tc) R) (Q : R → sProp 𝕄) :
    (iprop(owns (c : Thread nD τ) arg18 fullShare dv ∗ owns (c : Thread nD τ) arg14 fullShare n2 ∗ owns (c : Thread nD τ) arg15 fullShare r ∗ owns (c : Thread nD τ) arg7 fullShare g ∗ owns (c : Thread nD τ) arg21 fullShare dg ∗ owns (c : Thread nD τ) arg19 fullShare a ∗ owns (c : Thread nD τ) arg9 fullShare dp) : sProp 𝕄)
    ⊢ iprop((iprop(owns (c : Thread nD τ) arg18 fullShare dv ∗ owns (c : Thread nD τ) arg14 fullShare n2 ∗ owns (c : Thread nD τ) arg15 fullShare r ∗ owns (c : Thread nD τ) arg7 fullShare g ∗ owns (c : Thread nD τ) arg21 fullShare dg ∗ owns (c : Thread nD τ) arg19 fullShare (iter (aStep dv n2) a k0_t3_loop.trips) ∗ owns (c : Thread nD τ) arg9 fullShare (iter (dqStep dv n2 dg r g) dp k0_t3_loop.trips))
        -∗ wp frame (wpE (defs₀ (F := F)) Variants.none (c : Thread nD τ) none) E (kk PUnit.unit) Q)
      -∗ wp frame (wpE (defs₀ (F := F)) Variants.none (c : Thread nD τ) none) E (Scf.Loop.for k0_t3_loop k0_t3_ok ⟨⟩ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0) >>= kk) Q) := by
  have h := Scf.wp_for_bind (Fr := frame) (wpE := wpE (defs₀ (F := F)) Variants.none (c : Thread nD τ) none) (Es := E)
    k0_t3_loop.lb k0_t3_loop.ub k0_t3_loop.st k0_t3_ok ⟨⟩ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w0)
    (fun n _ => iprop(owns (c : Thread nD τ) arg18 fullShare dv ∗ owns (c : Thread nD τ) arg14 fullShare n2 ∗ owns (c : Thread nD τ) arg15 fullShare r ∗ owns (c : Thread nD τ) arg7 fullShare g ∗ owns (c : Thread nD τ) arg21 fullShare dg ∗ owns (c : Thread nD τ) arg19 fullShare (iter (aStep dv n2) a n) ∗ owns (c : Thread nD τ) arg9 fullShare (iter (dqStep dv n2 dg r g) dp n)))
    (fun k _ => by
      simp only [iter_succ]
      exact trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k dv n2 r g dg _ _ w0 E) (kk := kk) (Q := Q)
  refine h.trans ?_
  iintro Hw Hk
  iapply Hw
  iintro %_
  iexact Hk

end
end Cert.Kernel5Ideal.Hand
end
-- ==== Proof.SgbMix.lean ====
module

public import proofs.«01_k».proof.Proof.SgbTrip

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Hand (iter iter_succ ofStrips iter_strips sPiece sBlk sStep iter_sStep_all)

variable {F : FTy → Type} [FloatOps F]

local notation "𝕄" => MT nD τ sig Unit (Elt F) ℕ (UR sig nD τ) ℕ

theorem winBound (n : Fin 16) : ∀ a, (![128 * (n.val / 8), 128 * (n.val % 8)] : Fin 2 → ℕ) a + S128x128.size a ≤ S256x1024.size a := fun a => match a with
  | ⟨0, _⟩ => by show 128 * (n.val / 8) + 128 ≤ 256; omega
  | ⟨1, _⟩ => by show 128 * (n.val % 8) + 128 ≤ 1024; omega

theorem headBound (h : Fin 8) : ∀ a, (![h.val, 0, 0] : Fin 3 → ℕ) a + S1x128x128.size a ≤ S8x128x128.size a := fun a => match a with
  | ⟨0, _⟩ => by show h.val + 1 ≤ 8; omega
  | ⟨1, _⟩ => by show 0 + 128 ≤ 128; omega
  | ⟨2, _⟩ => by show 0 + 128 ≤ 128; omega

/-- Chunk `n / 8` and head `n % 8`'s block. -/
def tile {e : EltTy} (d : Vec F S256x1024 e) (n : Fin 16) : Vec F S128x128 e :=
  VecWindow.window d ![128 * (n.val / 8), 128 * (n.val % 8)] S128x128.size (winBound n)

/-- One head of a stack of eight. -/
def head {e : EltTy} (w : Vec F S8x128x128 e) (h : Fin 8) : Vec F S1x128x128 e := VecWindow.window w ![h.val, 0, 0] S1x128x128.size (headBound h)

/-- The normalised rows' cotangent with one more chunk and head stored: the head's transposed weight by the chunk's cotangent. -/
def dvStep (ds : Vec F S256x1024 .bf16) (wt : Vec F S8x128x128 .bf16) (n : Fin 16) (d : Vec F S256x1024 .f32) : Vec F S256x1024 .f32 :=
  VecWindow.put (s := S256x1024) d ![128 * (n.val / 8), 128 * (n.val % 8)] S128x128.size
    (k0_pay69 (tile ds n) (head wt ⟨n.val % 8, Nat.mod_lt _ (by decide)⟩))

def chunkHead (cc : Fin 2) (h : Fin 8) : Fin 16 := ⟨8 * cc.val + h.val, by omega⟩

/-- The weights' gradient with one more head of chunk `cc` added to what it was before the chunk, `z`. -/
def gwStep (cc : Fin 2) (ds v : Vec F S256x1024 .bf16) (z : Vec F S8x128x128 .f32) (h : Fin 8) (d : Vec F S8x128x128 .f32) : Vec F S8x128x128 .f32 :=
  VecWindow.put (s := S8x128x128) d ![h.val, 0, 0] S1x128x128.size (k0_pay70 (tile ds (chunkHead cc h)) (head z h) (tile v (chunkHead cc h)))

theorem window_put_head (w : Vec F S8x128x128 .f32) (a b : ℕ) (hab : a ≠ b) (t : Vec F S1x128x128 .f32) (hb) :
    VecWindow.window (VecWindow.put (s := S8x128x128) w ![a, 0, 0] S1x128x128.size t) ![b, 0, 0] S1x128x128.size hb = VecWindow.window w ![b, 0, 0] S1x128x128.size hb := by
  funext y
  unfold VecWindow.window VecWindow.put
  rw [dif_neg]
  intro hm
  have h0 := hm 0
  have hy : (y 0).val < 1 := (y 0).isLt
  change a ≤ b + 1 * (y 0).val ∧ b + 1 * (y 0).val < a + 1 at h0
  omega

/-- A head the steps have not reached is as it was. -/
theorem window_iter (cc : Fin 2) (ds v : Vec F S256x1024 .bf16) (z : Vec F S8x128x128 .f32) (b : ℕ) (hb) :
    ∀ n, n ≤ b → VecWindow.window (iter (gwStep cc ds v z) z n) ![b, 0, 0] S1x128x128.size hb = VecWindow.window z ![b, 0, 0] S1x128x128.size hb
  | 0, _ => rfl
  | n + 1, h => by
    unfold iter
    by_cases hn : n < 8
    · rw [dif_pos hn]
      exact (window_put_head _ n b (by omega) _ hb).trans (window_iter cc ds v z b hb n (by omega))
    · rw [dif_neg hn]; exact window_iter cc ds v z b hb n (by omega)

section
variable (c : Dev nD) (i : grid0.Coords)
  (arg1 : Memref sig .tc .vmem S256x3072 .bf16) (harg1 : arg1.IsWhole)
  (arg2 : Memref sig .tc .vmem S256x1024 .f32) (harg2 : arg2.IsWhole)
  (arg3 : Memref sig .tc .hbm S4096x8192 .bf16) (harg3 : arg3.IsWhole)
  (arg4 : Memref sig .tc .vmem S8x128x128 .bf16) (harg4 : arg4.IsWhole)
  (arg5 : Memref sig .tc .vmem S8x128x128 .bf16) (harg5 : arg5.IsWhole)
  (arg6 : Memref sig .tc .vmem S128x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x3072 .bf16) (harg9 : arg9.IsWhole)
  (arg10 : Memref sig .tc .vmem S8x1024 .f32) (harg10 : arg10.IsWhole)
  (arg11 : Memref sig .tc .vmem S128x128 .f32) (harg11 : arg11.IsWhole)
  (arg12 : Memref sig .tc .vmem S8x128x128 .f32) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x128 .f32) (harg15 : arg15.IsWhole)
  (arg16 : Memref sig .tc .vmem S256x1024 .f32) (harg16 : arg16.IsWhole)
  (arg17 : Memref sig .tc .vmem S256x1024 .bf16) (harg17 : arg17.IsWhole)
  (arg18 : Memref sig .tc .vmem S256x1024 .f32) (harg18 : arg18.IsWhole)
  (arg19 : Memref sig .tc .vmem S32x1024 .f32) (harg19 : arg19.IsWhole)
  (arg20 : Memref sig .tc .vmem S128x1024 .f32) (harg20 : arg20.IsWhole)
  (arg21 : Memref sig .tc .vmem S256x1024 .f32) (harg21 : arg21.IsWhole)

/-- What the mixing holds. -/
def Mix (w : Vec F S8x128x128 .bf16) (bi : Vec F S128x1024 .f32) (v : Vec F S256x1024 .bf16) (s : Vec F S256x1024 .f32) : sProp 𝕄 :=
  iprop(owns (c : Thread nD τ) arg4 fullShare w ∗ owns (c : Thread nD τ) arg6 fullShare bi ∗ owns (c : Thread nD τ) arg13 fullShare v ∗ owns (c : Thread nD τ) arg16 fullShare s)

/-- What the mixing's gradient holds. -/
def Back (wt : Vec F S8x128x128 .bf16) (ds v : Vec F S256x1024 .bf16) (dv : Vec F S256x1024 .f32) (gw : Vec F S8x128x128 .f32) : sProp 𝕄 :=
  iprop(owns (c : Thread nD τ) arg5 fullShare wt ∗ owns (c : Thread nD τ) arg17 fullShare ds ∗ owns (c : Thread nD τ) arg13 fullShare v ∗ owns (c : Thread nD τ) arg18 fullShare dv ∗ owns (c : Thread nD τ) arg12 fullShare gw)

theorem part9 (w : Vec F S8x128x128 .bf16) (bi : Vec F S128x1024 .f32) (v : Vec F S256x1024 .bf16) (s : Vec F S256x1024 .f32) (E : Set ℕ) :
    Mix c arg4 arg6 arg13 arg16 w bi v (iter (sStep w bi v) s 2)
    ⊢ wp frame (wpE (defs₀ (F := F)) Variants.none (c : Thread nD τ) none) E (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay48 (VecWindow.window w ![2, 0, 0] S1x128x128.size inb_S8x128x128_S1x128x128_2_0_0)))
      (fun r => iprop(⌜True⌝ ∗ Mix c arg4 arg6 arg13 arg16 w bi v (iter (sStep w bi v) s 5))) := by
  simp only [k0_part9_eq_skeleton]
  have hs : iter (sStep w bi v) s 5 = (sStep w bi v 4 (sStep w bi v 3 (sStep w bi v 2 (iter (sStep w bi v) s 2)))) := rfl
  rw [hs]
  generalize iter (sStep w bi v) s 2 = s'
  unfold Mix owns k0_part9_skel
  iintro ⟨⟨%f4, %hf4, H4⟩, ⟨%f6, %hf6, H6⟩, ⟨%f13, %hf13, H13⟩, ⟨%f16, %hf16, H16⟩⟩
  sl_exec
  sl_step
  isplitr
  · ipureintro
    subst hf4 hf6 hf13
    sl_unfold_words
    trivial
  isplitl [H4]
  · iexists _; isplitr; · ipureintro; exact hf4
    iexact H4
  isplitl [H6]
  · iexists _; isplitr; · ipureintro; exact hf6
    iexact H6
  isplitl [H13]
  · iexists _; isplitr; · ipureintro; exact hf13
    iexact H13
  iexists _; isplitr; swap; · iexact H16
  ipureintro
  subst hf4 hf6 hf13 hf16
  rw [View.read_writes_cons_put _ _ _ _ _ rfl, View.read_writes_cons_put _ _ _ _ _ rfl, View.read_writes_cons_put _ _ _ _ _ rfl, View.writes_nil]
  sl_unfold_words
  rfl

theorem part10 (w : Vec F S8x128x128 .bf16) (bi : Vec F S128x1024 .f32) (v : Vec F S256x1024 .bf16) (s : Vec F S256x1024 .f32) (E : Set ℕ) :
    Mix c arg4 arg6 arg13 arg16 w bi v (iter (sStep w bi v) s 5)
    ⊢ wp frame (wpE (defs₀ (F := F)) Variants.none (c : Thread nD τ) none) E (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 )
      (fun r => iprop(⌜r = k0_pay54 (VecWindow.window w ![7, 0, 0] S1x128x128.size inb_S8x128x128_S1x128x128_7_0_0) (VecWindow.window v ![0, 896] S128x128.size inb_S256x1024_S128x128_0_896) (VecWindow.window bi ![0, 896] S128x128.size inb_S128x1024_S128x128_0_896)⌝ ∗ Mix c arg4 arg6 arg13 arg16 w bi v (iter (sStep w bi v) s 7))) := by
  simp only [k0_part10_eq_skeleton]
  have hs : iter (sStep w bi v) s 7 = (sStep w bi v 6 (sStep w bi v 5 (iter (sStep w bi v) s 5))) := rfl
  rw [hs]
  generalize iter (sStep w bi v) s 5 = s'
  unfold Mix owns k0_part10_skel
  iintro ⟨⟨%f4, %hf4, H4⟩, ⟨%f6, %hf6, H6⟩, ⟨%f13, %hf13, H13⟩, ⟨%f16, %hf16, H16⟩⟩
  sl_exec
  sl_step
  isplitr
  · ipureintro
    subst hf4 hf6 hf13
    sl_unfold_words
    rfl
  isplitl [H4]
  · iexists _; isplitr; · ipureintro; exact hf4
    iexact H4
  isplitl [H6]
  · iexists _; isplitr; · ipureintro; exact hf6
    iexact H6
  isplitl [H13]
  · iexists _; isplitr; · ipureintro; exact hf13
    iexact H13
  iexists _; isplitr; swap; · iexact H16
  ipureintro
  subst hf4 hf6 hf13 hf16
  rw [View.read_writes_cons_put _ _ _ _ _ rfl, View.read_writes_cons_put _ _ _ _ _ rfl, View.writes_nil]
  sl_unfold_words
  rfl

theorem part11 (w : Vec F S8x128x128 .bf16) (bi : Vec F S128x1024 .f32) (v : Vec F S256x1024 .bf16) (s : Vec F S256x1024 .f32) (E : Set ℕ) :
    Mix c arg4 arg6 arg13 arg16 w bi v (iter (sStep w bi v) s 7)
    ⊢ wp frame (wpE (defs₀ (F := F)) Variants.none (c : Thread nD τ) none) E (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay54 (VecWindow.window w ![7, 0, 0] S1x128x128.size inb_S8x128x128_S1x128x128_7_0_0) (VecWindow.window v ![0, 896] S128x128.size inb_S256x1024_S128x128_0_896) (VecWindow.window bi ![0, 896] S128x128.size inb_S128x1024_S128x128_0_896)))
      (fun r => iprop(⌜r = k0_pay57 (VecWindow.window w ![2, 0, 0] S1x128x128.size inb_S8x128x128_S1x128x128_2_0_0) (VecWindow.window v ![128, 256] S128x128.size inb_S256x1024_S128x128_128_256) (VecWindow.window bi ![0, 256] S128x128.size inb_S128x1024_S128x128_0_256)⌝ ∗ Mix c arg4 arg6 arg13 arg16 w bi v (iter (sStep w bi v) s 10))) := by
  simp only [k0_part11_eq_skeleton]
  have hs : iter (sStep w bi v) s 10 = (sStep w bi v 9 (sStep w bi v 8 (sStep w bi v 7 (iter (sStep w bi v) s 7)))) := rfl
  rw [hs]
  generalize iter (sStep w bi v) s 7 = s'
  unfold Mix owns k0_part11_skel
  iintro ⟨⟨%f4, %hf4, H4⟩, ⟨%f6, %hf6, H6⟩, ⟨%f13, %hf13, H13⟩, ⟨%f16, %hf16, H16⟩⟩
  sl_exec
  sl_step
  isplitr
  · ipureintro
    subst hf4 hf6 hf13
    sl_unfold_words
    rfl
  isplitl [H4]
  · iexists _; isplitr; · ipureintro; exact hf4
    iexact H4
  isplitl [H6]
  · iexists _; isplitr; · ipureintro; exact hf6
    iexact H6
  isplitl [H13]
  · iexists _; isplitr; · ipureintro; exact hf13
    iexact H13
  iexists _; isplitr; swap; · iexact H16
  ipureintro
  subst hf4 hf6 hf13 hf16
  rw [View.read_writes_cons_put _ _ _ _ _ rfl, View.read_writes_cons_put _ _ _ _ _ rfl, View.read_writes_cons_put _ _ _ _ _ rfl, View.writes_nil]
  sl_unfold_words
  rfl

theorem part12 (w : Vec F S8x128x128 .bf16) (bi : Vec F S128x1024 .f32) (v : Vec F S256x1024 .bf16) (s : Vec F S256x1024 .f32) (E : Set ℕ) :
    Mix c arg4 arg6 arg13 arg16 w bi v (iter (sStep w bi v) s 10)
    ⊢ wp frame (wpE (defs₀ (F := F)) Variants.none (c : Thread nD τ) none) E (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay57 (VecWindow.window w ![2, 0, 0] S1x128x128.size inb_S8x128x128_S1x128x128_2_0_0) (VecWindow.window v ![128, 256] S128x128.size inb_S256x1024_S128x128_128_256) (VecWindow.window bi ![0, 256] S128x128.size inb_S128x1024_S128x128_0_256)))
      (fun r => iprop(⌜r = ⟨k0_pay61 (VecWindow.window w ![5, 0, 0] S1x128x128.size inb_S8x128x128_S1x128x128_5_0_0) (VecWindow.window v ![128, 640] S128x128.size inb_S256x1024_S128x128_128_640), k0_pay62 (VecWindow.window bi ![0, 640] S128x128.size inb_S128x1024_S128x128_0_640)⟩⌝ ∗ Mix c arg4 arg6 arg13 arg16 w bi v (iter (sStep w bi v) s 13))) := by
  simp only [k0_part12_eq_skeleton]
  have hs : iter (sStep w bi v) s 13 = (sStep w bi v 12 (sStep w bi v 11 (sStep w bi v 10 (iter (sStep w bi v) s 10)))) := rfl
  rw [hs]
  generalize iter (sStep w bi v) s 10 = s'
  unfold Mix owns k0_part12_skel
  iintro ⟨⟨%f4, %hf4, H4⟩, ⟨%f6, %hf6, H6⟩, ⟨%f13, %hf13, H13⟩, ⟨%f16, %hf16, H16⟩⟩
  sl_exec
  sl_step
  isplitr
  · ipureintro
    subst hf4 hf6 hf13
    sl_unfold_words
    rfl
  isplitl [H4]
  · iexists _; isplitr; · ipureintro; exact hf4
    iexact H4
  isplitl [H6]
  · iexists _; isplitr; · ipureintro; exact hf6
    iexact H6
  isplitl [H13]
  · iexists _; isplitr; · ipureintro; exact hf13
    iexact H13
  iexists _; isplitr; swap; · iexact H16
  ipureintro
  subst hf4 hf6 hf13 hf16
  rw [View.read_writes_cons_put _ _ _ _ _ rfl, View.read_writes_cons_put _ _ _ _ _ rfl, View.read_writes_cons_put _ _ _ _ _ rfl, View.writes_nil]
  sl_unfold_words
  rfl

theorem part14 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 0) (iter (gwStep 0 ds v z) z 0)
    ⊢ wp frame (wpE (defs₀ (F := F)) Variants.none (c : Thread nD τ) none) E (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![0, 0] S128x128.size inb_S256x1024_S128x128_0_0))
      (fun r => iprop(⌜r = ⟨(k0_pay72 (VecWindow.window ds ![0, 128] S128x128.size inb_S256x1024_S128x128_0_128) (VecWindow.window z ![1, 0, 0] S1x128x128.size inb_S8x128x128_S1x128x128_1_0_0) (VecWindow.window v ![0, 128] S128x128.size inb_S256x1024_S128x128_0_128)), (VecWindow.window z ![1, 0, 0] S1x128x128.size inb_S8x128x128_S1x128x128_1_0_0)⟩⌝ ∗ Back c arg5 arg12 arg13 arg17 arg18 wt ds v (iter (dvStep ds wt) dv 2) (iter (gwStep 0 ds v z) z 1))) := by
  simp only [k0_part14_eq_skeleton]
  have hd : iter (dvStep ds wt) dv 2 = (dvStep ds wt 1 (dvStep ds wt 0 (iter (dvStep ds wt) dv 0))) := rfl
  have hg : iter (gwStep 0 ds v z) z 1 = (VecWindow.put (s := S8x128x128) (iter (gwStep 0 ds v z) z 0) ![0, 0, 0] S1x128x128.size (k0_pay70 (VecWindow.window ds ![0, 0] S128x128.size inb_S256x1024_S128x128_0_0) (VecWindow.window z ![0, 0, 0] S1x128x128.size inb_S8x128x128_S1x128x128_0_0_0) (VecWindow.window v ![0, 0] S128x128.size inb_S256x1024_S128x128_0_0))) := rfl
  rw [hd, hg]
  rw [show iter (gwStep 0 ds v z) z 0 = z from rfl]
  generalize iter (dvStep ds wt) dv 0 = d'
  unfold Back owns k0_part14_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.writes_nil]
  sl_unfold_words
  rfl

theorem part15 (wt : Vec F S8x128x128 .bf16) (ds v : Vec F S256x1024 .bf16) (dv : Vec F S256x1024 .f32) (z : Vec F S8x128x128 .f32) (q : Vec F S1x128x128 .f32) (E : Set ℕ) :
    Back c arg5 arg12 arg13 arg17 arg18 wt ds v (iter (dvStep ds wt) dv 2) (iter (gwStep 0 ds v z) z 1)
    ⊢ wp frame (wpE (defs₀ (F := F)) Variants.none (c : Thread nD τ) none) E (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay72 (VecWindow.window ds ![0, 128] S128x128.size inb_S256x1024_S128x128_0_128) (VecWindow.window z ![1, 0, 0] S1x128x128.size inb_S8x128x128_S1x128x128_1_0_0) (VecWindow.window v ![0, 128] S128x128.size inb_S256x1024_S128x128_0_128)) q)
      (fun r => iprop(⌜r = ⟨(VecWindow.window ds ![0, 384] S128x128.size inb_S256x1024_S128x128_0_384), k0_pay77 (VecWindow.window z ![3, 0, 0] S1x128x128.size inb_S8x128x128_S1x128x128_3_0_0)⟩⌝ ∗ Back c arg5 arg12 arg13 arg17 arg18 wt ds v (iter (dvStep ds wt) dv 4) (iter (gwStep 0 ds v z) z 3))) := by
  simp only [k0_part15_eq_skeleton]
  have hd : iter (dvStep ds wt) dv 4 = (dvStep ds wt 3 (dvStep ds wt 2 (iter (dvStep ds wt) dv 2))) := rfl
  have hg : iter (gwStep 0 ds v z) z 3 = (VecWindow.put (s := S8x128x128) (VecWindow.put (s := S8x128x128) (iter (gwStep 0 ds v z) z 1) ![1, 0, 0] S1x128x128.size (k0_pay70 (VecWindow.window ds ![0, 128] S128x128.size inb_S256x1024_S128x128_0_128) (VecWindow.window z ![1, 0, 0] S1x128x128.size inb_S8x128x128_S1x128x128_1_0_0) (VecWindow.window v ![0, 128] S128x128.size inb_S256x1024_S128x128_0_128))) ![2, 0, 0] S1x128x128.size (k0_pay70 (VecWindow.window ds ![0, 256] S128x128.size inb_S256x1024_S128x128_0_256) (VecWindow.window z ![2, 0, 0] S1x128x128.size inb_S8x128x128_S1x128x128_2_0_0) (VecWindow.window v ![0, 256] S128x128.size inb_S256x1024_S128x128_0_256))) := rfl
  rw [hd, hg]
  rw [← window_iter 0 ds v z 2 inb_S8x128x128_S1x128x128_2_0_0 1 (by decide)]
  rw [← window_iter 0 ds v z 3 inb_S8x128x128_S1x128x128_3_0_0 1 (by decide)]
  generalize iter (gwStep 0 ds v z) z 1 = g'
  generalize iter (dvStep ds wt) dv 2 = d'
  unfold Back owns k0_part15_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part16 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 4) (iter (gwStep 0 ds v z) z 3)
    ⊢ wp frame (wpE (defs₀ (F := F)) Variants.none (c : Thread nD τ) none) E (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![0, 384] S128x128.size inb_S256x1024_S128x128_0_384) (k0_pay77 (VecWindow.window z ![3, 0, 0] S1x128x128.size inb_S8x128x128_S1x128x128_3_0_0)))
      (fun r => iprop(⌜r = ⟨(VecWindow.window ds ![0, 640] S128x128.size inb_S256x1024_S128x128_0_640), (k0_pay81 (VecWindow.window ds ![0, 640] S128x128.size inb_S256x1024_S128x128_0_640) (VecWindow.window wt ![5, 0, 0] S1x128x128.size inb_S8x128x128_S1x128x128_5_0_0))⟩⌝ ∗ Back c arg5 arg12 arg13 arg17 arg18 wt ds v (iter (dvStep ds wt) dv 5) (iter (gwStep 0 ds v z) z 5))) := by
  simp only [k0_part16_eq_skeleton]
  have hd : iter (dvStep ds wt) dv 5 = (dvStep ds wt 4 (iter (dvStep ds wt) dv 4)) := rfl
  have hg : iter (gwStep 0 ds v z) z 5 = (VecWindow.put (s := S8x128x128) (VecWindow.put (s := S8x128x128) (iter (gwStep 0 ds v z) z 3) ![3, 0, 0] S1x128x128.size (k0_pay70 (VecWindow.window ds ![0, 384] S128x128.size inb_S256x1024_S128x128_0_384) (VecWindow.window z ![3, 0, 0] S1x128x128.size inb_S8x128x128_S1x128x128_3_0_0) (VecWindow.window v ![0, 384] S128x128.size inb_S256x1024_S128x128_0_384))) ![4, 0, 0] S1x128x128.size (k0_pay70 (VecWindow.window ds ![0, 512] S128x128.size inb_S256x1024_S128x128_0_512) (VecWindow.window z ![4, 0, 0] S1x128x128.size inb_S8x128x128_S1x128x128_4_0_0) (VecWindow.window v ![0, 512] S128x128.size inb_S256x1024_S128x128_0_512))) := rfl
  rw [hd, hg]
  rw [← window_iter 0 ds v z 4 inb_S8x128x128_S1x128x128_4_0_0 3 (by decide)]
  generalize iter (gwStep 0 ds v z) z 3 = g'
  generalize iter (dvStep ds wt) dv 4 = d'
  unfold Back owns k0_part16_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part17 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 5) (iter (gwStep 0 ds v z) z 5)
    ⊢ wp frame (wpE (defs₀ (F := F)) Variants.none (c : Thread nD τ) none) E (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![0, 640] S128x128.size inb_S256x1024_S128x128_0_640) (k0_pay81 (VecWindow.window ds ![0, 640] S128x128.size inb_S256x1024_S128x128_0_640) (VecWindow.window wt ![5, 0, 0] S1x128x128.size inb_S8x128x128_S1x128x128_5_0_0)))
      (fun r => iprop(⌜r = ⟨(VecWindow.window ds ![0, 896] S128x128.size inb_S256x1024_S128x128_0_896), (VecWindow.window wt ![7, 0, 0] S1x128x128.size inb_S8x128x128_S1x128x128_7_0_0)⟩⌝ ∗ Back c arg5 arg12 arg13 arg17 arg18 wt ds v (iter (dvStep ds wt) dv 7) (iter (gwStep 0 ds v z) z 7))) := by
  simp only [k0_part17_eq_skeleton]
  have hd : iter (dvStep ds wt) dv 7 = (dvStep ds wt 6 (dvStep ds wt 5 (iter (dvStep ds wt) dv 5))) := rfl
  have hg : iter (gwStep 0 ds v z) z 7 = (VecWindow.put (s := S8x128x128) (VecWindow.put (s := S8x128x128) (iter (gwStep 0 ds v z) z 5) ![5, 0, 0] S1x128x128.size (k0_pay70 (VecWindow.window ds ![0, 640] S128x128.size inb_S256x1024_S128x128_0_640) (VecWindow.window z ![5, 0, 0] S1x128x128.size inb_S8x128x128_S1x128x128_5_0_0) (VecWindow.window v ![0, 640] S128x128.size inb_S256x1024_S128x128_0_640))) ![6, 0, 0] S1x128x128.size (k0_pay70 (VecWindow.window ds ![0, 768] S128x128.size inb_S256x1024_S128x128_0_768) (VecWindow.window z ![6, 0, 0] S1x128x128.size inb_S8x128x128_S1x128x128_6_0_0) (VecWindow.window v ![0, 768] S128x128.size inb_S256x1024_S128x128_0_768))) := rfl
  rw [hd, hg]
  rw [← window_iter 0 ds v z 5 inb_S8x128x128_S1x128x128_5_0_0 5 (by decide)]
  rw [← window_iter 0 ds v z 6 inb_S8x128x128_S1x128x128_6_0_0 5 (by decide)]
  generalize iter (gwStep 0 ds v z) z 5 = g'
  generalize iter (dvStep ds wt) dv 5 = d'
  unfold Back owns k0_part17_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part18 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 7) (iter (gwStep 0 ds v z) z 7)
    ⊢ wp frame (wpE (defs₀ (F := F)) Variants.none (c : Thread nD τ) none) E (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![0, 896] S128x128.size inb_S256x1024_S128x128_0_896) (VecWindow.window wt ![7, 0, 0] S1x128x128.size inb_S8x128x128_S1x128x128_7_0_0))
      (fun r => iprop(⌜r = k0_pay88 (VecWindow.window ds ![128, 0] S128x128.size inb_S256x1024_S128x128_128_0) (VecWindow.window (iter (gwStep 0 ds v z) z 8) ![0, 0, 0] S1x128x128.size inb_S8x128x128_S1x128x128_0_0_0) (VecWindow.window v ![128, 0] S128x128.size inb_S256x1024_S128x128_128_0)⌝ ∗ Back c arg5 arg12 arg13 arg17 arg18 wt ds v (iter (dvStep ds wt) dv 9) (iter (gwStep 0 ds v z) z 8))) := by
  simp only [k0_part18_eq_skeleton]
  have hd : iter (dvStep ds wt) dv 9 = (dvStep ds wt 8 (dvStep ds wt 7 (iter (dvStep ds wt) dv 7))) := rfl
  have hg : iter (gwStep 0 ds v z) z 8 = (VecWindow.put (s := S8x128x128) (iter (gwStep 0 ds v z) z 7) ![7, 0, 0] S1x128x128.size (k0_pay70 (VecWindow.window ds ![0, 896] S128x128.size inb_S256x1024_S128x128_0_896) (VecWindow.window z ![7, 0, 0] S1x128x128.size inb_S8x128x128_S1x128x128_7_0_0) (VecWindow.window v ![0, 896] S128x128.size inb_S256x1024_S128x128_0_896))) := rfl
  have e0 : (VecWindow.window (iter (gwStep 0 ds v z) z 7) ![0, 0, 0] S1x128x128.size inb_S8x128x128_S1x128x128_0_0_0) = (VecWindow.window (iter (gwStep 0 ds v z) z 8) ![0, 0, 0] S1x128x128.size inb_S8x128x128_S1x128x128_0_0_0) := (window_put_head _ 7 0 (by decide) _ _).symm
  rw [← e0]
  rw [hd, hg]
  rw [← window_iter 0 ds v z 7 inb_S8x128x128_S1x128x128_7_0_0 7 (by decide)]
  generalize iter (gwStep 0 ds v z) z 7 = g'
  generalize iter (dvStep ds wt) dv 7 = d'
  unfold Back owns k0_part18_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.writes_nil]
  sl_unfold_words
  rfl

theorem part19 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 9) (iter (gwStep 1 ds v z) z 0)
    ⊢ wp frame (wpE (defs₀ (F := F)) Variants.none (c : Thread nD τ) none) E (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay88 (VecWindow.window ds ![128, 0] S128x128.size inb_S256x1024_S128x128_128_0) (VecWindow.window z ![0, 0, 0] S1x128x128.size inb_S8x128x128_S1x128x128_0_0_0) (VecWindow.window v ![128, 0] S128x128.size inb_S256x1024_S128x128_128_0)))
      (fun r => iprop(⌜r = ⟨(VecWindow.window ds ![128, 256] S128x128.size inb_S256x1024_S128x128_128_256), k0_pay92 (VecWindow.window z ![2, 0, 0] S1x128x128.size inb_S8x128x128_S1x128x128_2_0_0), (VecWindow.window v ![128, 256] S128x128.size inb_S256x1024_S128x128_128_256), (constant S128x128 .f32 0x00000000#32 : FVec F S128x128 .f32)⟩⌝ ∗ Back c arg5 arg12 arg13 arg17 arg18 wt ds v (iter (dvStep ds wt) dv 11) (iter (gwStep 1 ds v z) z 2))) := by
  simp only [k0_part19_eq_skeleton]
  have hd : iter (dvStep ds wt) dv 11 = (dvStep ds wt 10 (dvStep ds wt 9 (iter (dvStep ds wt) dv 9))) := rfl
  have hg : iter (gwStep 1 ds v z) z 2 = (VecWindow.put (s := S8x128x128) (VecWindow.put (s := S8x128x128) (iter (gwStep 1 ds v z) z 0) ![0, 0, 0] S1x128x128.size (k0_pay70 (VecWindow.window ds ![128, 0] S128x128.size inb_S256x1024_S128x128_128_0) (VecWindow.window z ![0, 0, 0] S1x128x128.size inb_S8x128x128_S1x128x128_0_0_0) (VecWindow.window v ![128, 0] S128x128.size inb_S256x1024_S128x128_128_0))) ![1, 0, 0] S1x128x128.size (k0_pay70 (VecWindow.window ds ![128, 128] S128x128.size inb_S256x1024_S128x128_128_128) (VecWindow.window z ![1, 0, 0] S1x128x128.size inb_S8x128x128_S1x128x128_1_0_0) (VecWindow.window v ![128, 128] S128x128.size inb_S256x1024_S128x128_128_128))) := rfl
  rw [hd, hg]
  rw [show iter (gwStep 1 ds v z) z 0 = z from rfl]
  generalize iter (dvStep ds wt) dv 9 = d'
  unfold Back owns k0_part19_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part20 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 11) (iter (gwStep 1 ds v z) z 2)
    ⊢ wp frame (wpE (defs₀ (F := F)) Variants.none (c : Thread nD τ) none) E (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![128, 256] S128x128.size inb_S256x1024_S128x128_128_256) (k0_pay92 (VecWindow.window z ![2, 0, 0] S1x128x128.size inb_S8x128x128_S1x128x128_2_0_0)) (VecWindow.window v ![128, 256] S128x128.size inb_S256x1024_S128x128_128_256) (constant S128x128 .f32 0x00000000#32 : FVec F S128x128 .f32))
      (fun r => iprop(⌜r = (VecWindow.window ds ![128, 512] S128x128.size inb_S256x1024_S128x128_128_512)⌝ ∗ Back c arg5 arg12 arg13 arg17 arg18 wt ds v (iter (dvStep ds wt) dv 13) (iter (gwStep 1 ds v z) z 4))) := by
  simp only [k0_part20_eq_skeleton]
  have hd : iter (dvStep ds wt) dv 13 = (dvStep ds wt 12 (dvStep ds wt 11 (iter (dvStep ds wt) dv 11))) := rfl
  have hg : iter (gwStep 1 ds v z) z 4 = (VecWindow.put (s := S8x128x128) (VecWindow.put (s := S8x128x128) (iter (gwStep 1 ds v z) z 2) ![2, 0, 0] S1x128x128.size (k0_pay70 (VecWindow.window ds ![128, 256] S128x128.size inb_S256x1024_S128x128_128_256) (VecWindow.window z ![2, 0, 0] S1x128x128.size inb_S8x128x128_S1x128x128_2_0_0) (VecWindow.window v ![128, 256] S128x128.size inb_S256x1024_S128x128_128_256))) ![3, 0, 0] S1x128x128.size (k0_pay70 (VecWindow.window ds ![128, 384] S128x128.size inb_S256x1024_S128x128_128_384) (VecWindow.window z ![3, 0, 0] S1x128x128.size inb_S8x128x128_S1x128x128_3_0_0) (VecWindow.window v ![128, 384] S128x128.size inb_S256x1024_S128x128_128_384))) := rfl
  rw [hd, hg]
  rw [← window_iter 1 ds v z 3 inb_S8x128x128_S1x128x128_3_0_0 2 (by decide)]
  generalize iter (gwStep 1 ds v z) z 2 = g'
  generalize iter (dvStep ds wt) dv 11 = d'
  unfold Back owns k0_part20_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part21 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 13) (iter (gwStep 1 ds v z) z 4)
    ⊢ wp frame (wpE (defs₀ (F := F)) Variants.none (c : Thread nD τ) none) E (k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![128, 512] S128x128.size inb_S256x1024_S128x128_128_512))
      (fun r => iprop(⌜r = ⟨(VecWindow.window ds ![128, 768] S128x128.size inb_S256x1024_S128x128_128_768), k0_pay100 (VecWindow.window wt ![6, 0, 0] S1x128x128.size inb_S8x128x128_S1x128x128_6_0_0), (constant S128x128 .f32 0x00000000#32 : FVec F S128x128 .f32)⟩⌝ ∗ Back c arg5 arg12 arg13 arg17 arg18 wt ds v (iter (dvStep ds wt) dv 14) (iter (gwStep 1 ds v z) z 6))) := by
  simp only [k0_part21_eq_skeleton]
  have hd : iter (dvStep ds wt) dv 14 = (dvStep ds wt 13 (iter (dvStep ds wt) dv 13)) := rfl
  have hg : iter (gwStep 1 ds v z) z 6 = (VecWindow.put (s := S8x128x128) (VecWindow.put (s := S8x128x128) (iter (gwStep 1 ds v z) z 4) ![4, 0, 0] S1x128x128.size (k0_pay70 (VecWindow.window ds ![128, 512] S128x128.size inb_S256x1024_S128x128_128_512) (VecWindow.window z ![4, 0, 0] S1x128x128.size inb_S8x128x128_S1x128x128_4_0_0) (VecWindow.window v ![128, 512] S128x128.size inb_S256x1024_S128x128_128_512))) ![5, 0, 0] S1x128x128.size (k0_pay70 (VecWindow.window ds ![128, 640] S128x128.size inb_S256x1024_S128x128_128_640) (VecWindow.window z ![5, 0, 0] S1x128x128.size inb_S8x128x128_S1x128x128_5_0_0) (VecWindow.window v ![128, 640] S128x128.size inb_S256x1024_S128x128_128_640))) := rfl
  rw [hd, hg]
  rw [← window_iter 1 ds v z 4 inb_S8x128x128_S1x128x128_4_0_0 4 (by decide)]
  rw [← window_iter 1 ds v z 5 inb_S8x128x128_S1x128x128_5_0_0 4 (by decide)]
  generalize iter (gwStep 1 ds v z) z 4 = g'
  generalize iter (dvStep ds wt) dv 13 = d'
  unfold Back owns k0_part21_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

theorem part22 (wt : Vec F S8x128x128 .bf16) (ds v : Vec F S256x1024 .bf16) (dv : Vec F S256x1024 .f32) (z : Vec F S8x128x128 .f32)  (E : Set ℕ) :
    Back c arg5 arg12 arg13 arg17 arg18 wt ds v (iter (dvStep ds wt) dv 14) (iter (gwStep 1 ds v z) z 6)
    ⊢ wp frame (wpE (defs₀ (F := F)) Variants.none (c : Thread nD τ) none) E (k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (VecWindow.window ds ![128, 768] S128x128.size inb_S256x1024_S128x128_128_768) (k0_pay100 (VecWindow.window wt ![6, 0, 0] S1x128x128.size inb_S8x128x128_S1x128x128_6_0_0)) (constant S128x128 .f32 0x00000000#32 : FVec F S128x128 .f32))
      (fun r => iprop(⌜r = 0#32⌝ ∗ Back c arg5 arg12 arg13 arg17 arg18 wt ds v (iter (dvStep ds wt) dv 16) (iter (gwStep 1 ds v z) z 8))) := by
  simp only [k0_part22_eq_skeleton]
  have hd : iter (dvStep ds wt) dv 16 = (dvStep ds wt 15 (dvStep ds wt 14 (iter (dvStep ds wt) dv 14))) := rfl
  have hg : iter (gwStep 1 ds v z) z 8 = (VecWindow.put (s := S8x128x128) (VecWindow.put (s := S8x128x128) (iter (gwStep 1 ds v z) z 6) ![6, 0, 0] S1x128x128.size (k0_pay70 (VecWindow.window ds ![128, 768] S128x128.size inb_S256x1024_S128x128_128_768) (VecWindow.window z ![6, 0, 0] S1x128x128.size inb_S8x128x128_S1x128x128_6_0_0) (VecWindow.window v ![128, 768] S128x128.size inb_S256x1024_S128x128_128_768))) ![7, 0, 0] S1x128x128.size (k0_pay70 (VecWindow.window ds ![128, 896] S128x128.size inb_S256x1024_S128x128_128_896) (VecWindow.window z ![7, 0, 0] S1x128x128.size inb_S8x128x128_S1x128x128_7_0_0) (VecWindow.window v ![128, 896] S128x128.size inb_S256x1024_S128x128_128_896))) := rfl
  rw [hd, hg]
  rw [← window_iter 1 ds v z 6 inb_S8x128x128_S1x128x128_6_0_0 6 (by decide)]
  rw [← window_iter 1 ds v z 7 inb_S8x128x128_S1x128x128_7_0_0 6 (by decide)]
  generalize iter (gwStep 1 ds v z) z 6 = g'
  generalize iter (dvStep ds wt) dv 14 = d'
  unfold Back owns k0_part22_skel
  iintro ⟨⟨%f5, %hf5, H5⟩, ⟨%f17, %hf17, H17⟩, ⟨%f13, %hf13, H13⟩, ⟨%f18, %hf18, H18⟩, ⟨%f12, %hf12, H12⟩⟩
  sl_exec
  sl_step
  isplitr
  · ipureintro
    subst hf5 hf17 hf13 hf12
    sl_unfold_words
    rfl
  isplitl [H5]
  · iexists _; isplitr; · ipureintro; exact hf5
    iexact H5
  isplitl [H17]
  · iexists _; isplitr; · ipureintro; exact hf17
    iexact H17
  isplitl [H13]
  · iexists _; isplitr; · ipureintro; exact hf13
    iexact H13
  isplitl [H18]
  · iexists _; isplitr; swap; · iexact H18
    ipureintro
    subst hf5 hf17 hf13 hf18 hf12
    rw [View.read_writes_cons_put _ _ _ _ _ rfl, View.read_writes_cons_put _ _ _ _ _ rfl, View.writes_nil]
    sl_unfold_words
    rfl
  iexists _; isplitr; swap; · iexact H12
  ipureintro
  subst hf5 hf17 hf13 hf18 hf12
  rw [View.read_writes_cons_put _ _ _ _ _ rfl, View.read_writes_cons_put _ _ _ _ _ rfl, View.writes_nil]
  sl_unfold_words
  rfl

end
end Cert.Kernel5Ideal.Hand
end
-- ==== Proof.SgbParts.lean ====
module

public import proofs.«01_k».proof.Proof.SgbMix

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Hand (iter iter_succ ofStrips iter_strips sPiece sBlk sStep iter_sStep_all)

variable {F : FTy → Type} [FloatOps F]

local notation "𝕄" => MT nD τ sig Unit (Elt F) ℕ (UR sig nD τ) ℕ

/-- A block put together from sixteen tiles: two chunks by eight heads. -/
def ofTiles {e : EltTy} (piece : Fin 16 → Vec F S128x128 e) : Vec F S256x1024 e := fun y =>
  piece ⟨8 * ((y 0).val / 128) + (y 1).val / 128, by
      have h0 : (y 0).val < 256 := (y 0).isLt
      have h1 : (y 1).val < 1024 := (y 1).isLt
      omega⟩
    (fun d => match d with
      | ⟨0, _⟩ => ⟨(y 0).val % 128, Nat.mod_lt _ (by decide)⟩
      | ⟨1, _⟩ => ⟨(y 1).val % 128, Nat.mod_lt _ (by decide)⟩)

theorem iter_tiles {e : EltTy} (piece : Fin 16 → Vec F S128x128 e) (s : Vec F S256x1024 e) :
    ∀ n, n ≤ 16 → iter (fun (n : Fin 16) (d : Vec F S256x1024 e) => VecWindow.put (s := S256x1024) d ![128 * (n.val / 8), 128 * (n.val % 8)] S128x128.size (piece n)) s n
      = fun y => if 8 * ((y 0).val / 128) + (y 1).val / 128 < n then ofTiles piece y else s y
  | 0, _ => by funext y; rw [iter, if_neg (by omega)]
  | n + 1, hn => by
    have hl : n < 16 := by omega
    rw [iter, dif_pos hl, iter_tiles piece s n (by omega)]
    funext y
    have h0 : (y 0).val < 256 := (y 0).isLt
    have h1 : (y 1).val < 1024 := (y 1).isLt
    unfold VecWindow.put
    by_cases hy : 8 * ((y 0).val / 128) + (y 1).val / 128 = n
    · have hm : ∀ a, (![128 * (n / 8), 128 * (n % 8)] : Fin 2 → ℕ) a ≤ (y a).val ∧ (y a).val < (![128 * (n / 8), 128 * (n % 8)] : Fin 2 → ℕ) a + S128x128.size a := by
        intro a; match a with
        | ⟨0, _⟩ => show 128 * (n / 8) ≤ (y 0).val ∧ (y 0).val < 128 * (n / 8) + 128; omega
        | ⟨1, _⟩ => show 128 * (n % 8) ≤ (y 1).val ∧ (y 1).val < 128 * (n % 8) + 128; omega
      rw [dif_pos hm, if_pos (by omega)]
      unfold ofTiles
      have hk : (⟨8 * ((y 0).val / 128) + (y 1).val / 128, by omega⟩ : Fin 16) = ⟨n, hl⟩ := Fin.ext hy
      rw [hk]
      congr 1
      funext d
      match d with
      | ⟨0, _⟩ => apply Fin.ext; show (y 0).val - 128 * (n / 8) = (y 0).val % 128; omega
      | ⟨1, _⟩ => apply Fin.ext; show (y 1).val - 128 * (n % 8) = (y 1).val % 128; omega
    · rw [dif_neg (fun hm => hy (by
        have e0 : 128 * (n / 8) ≤ (y 0).val ∧ (y 0).val < 128 * (n / 8) + 128 := hm 0
        have e1 : 128 * (n % 8) ≤ (y 1).val ∧ (y 1).val < 128 * (n % 8) + 128 := hm 1
        omega))]
      by_cases hlt : 8 * ((y 0).val / 128) + (y 1).val / 128 < n
      · show (if 8 * ((y 0).val / 128) + (y 1).val / 128 < n then _ else _) = _; rw [if_pos hlt, if_pos (by omega)]
      · show (if 8 * ((y 0).val / 128) + (y 1).val / 128 < n then _ else _) = _; rw [if_neg hlt, if_neg (by omega)]

/-- One trip's rows of the four blocks below, and one tile of the fifth. -/
def nStrip (x : Vec F S256x3072 .bf16) (k : Fin k0_t1_loop.trips) : Vec F S16x1024 .f32 := k0_pay43 (k0_pay8 (vRows x k))
def vStrip (x : Vec F S256x3072 .bf16) (g b : Vec F S1x1024 .f32) (k : Fin k0_t1_loop.trips) : Vec F S16x1024 .bf16 := k0_pay45 (k0_pay8 (vRows x k)) g b
def dgStrip (x : Vec F S256x3072 .bf16) (k : Fin k0_t1_loop.trips) : Vec F S16x1024 .f32 := k0_pay5 (vRows x k)
def dsStrip (x : Vec F S256x3072 .bf16) (dy : Vec F S256x1024 .f32) (k : Fin k0_t2_loop.trips) : Vec F S16x1024 .bf16 := k0_pay17 (uRows x k) (oRows x k) (rows2 dy k)
def dvTile (ds : Vec F S256x1024 .bf16) (wt : Vec F S8x128x128 .bf16) (n : Fin 16) : Vec F S128x128 .f32 :=
  k0_pay69 (tile ds n) (head wt ⟨n.val % 8, Nat.mod_lt _ (by decide)⟩)

/-- The normalised rows, the rows the mixing reads, the derivative of the GELU, the mixed gate's cotangent, and the normalised rows'. -/
def nBlk (x : Vec F S256x3072 .bf16) : Vec F S256x1024 .f32 := ofStrips trips1 (nStrip x)
def vBlk (x : Vec F S256x3072 .bf16) (g b : Vec F S1x1024 .f32) : Vec F S256x1024 .bf16 := ofStrips trips1 (vStrip x g b)
def dgBlk (x : Vec F S256x3072 .bf16) : Vec F S256x1024 .f32 := ofStrips trips1 (dgStrip x)
def dsBlk (x : Vec F S256x3072 .bf16) (dy : Vec F S256x1024 .f32) : Vec F S256x1024 .bf16 := ofStrips trips2 (dsStrip x dy)
def dvBlk (ds : Vec F S256x1024 .bf16) (wt : Vec F S8x128x128 .bf16) : Vec F S256x1024 .f32 :=
  ofTiles (dvTile ds wt)

theorem iter_nStep (x : Vec F S256x3072 .bf16) (d : Vec F S256x1024 .f32) : iter (nStep x) d k0_t1_loop.trips = nBlk x := by
  refine (congrArg (iter _ _) trips1).trans ?_
  refine (iter_strips trips1 (nStrip x) k0_off2 k0_off2_eq d 16 le_rfl).trans ?_
  funext y
  exact if_pos (y 0).isLt

theorem iter_vStep (x : Vec F S256x3072 .bf16) (g b : Vec F S1x1024 .f32) (d : Vec F S256x1024 .bf16) : iter (vStep x g b) d k0_t1_loop.trips = vBlk x g b := by
  refine (congrArg (iter _ _) trips1).trans ?_
  refine (iter_strips trips1 (vStrip x g b) k0_off2 k0_off2_eq d 16 le_rfl).trans ?_
  funext y
  exact if_pos (y 0).isLt

theorem iter_dgStep (x : Vec F S256x3072 .bf16) (d : Vec F S256x1024 .f32) : iter (dgStep x) d k0_t1_loop.trips = dgBlk x := by
  refine (congrArg (iter _ _) trips1).trans ?_
  refine (iter_strips trips1 (dgStrip x) k0_off2 k0_off2_eq d 16 le_rfl).trans ?_
  funext y
  exact if_pos (y 0).isLt

theorem iter_dsStep (x : Vec F S256x3072 .bf16) (dy : Vec F S256x1024 .f32) (d : Vec F S256x1024 .bf16) : iter (dsStep x dy) d k0_t2_loop.trips = dsBlk x dy := by
  refine (congrArg (iter _ _) trips2).trans ?_
  refine (iter_strips trips2 (dsStrip x dy) k0_off6 k0_off6_eq d 16 le_rfl).trans ?_
  funext y
  exact if_pos (y 0).isLt

theorem iter_dvStep (ds : Vec F S256x1024 .bf16) (wt : Vec F S8x128x128 .bf16) (d : Vec F S256x1024 .f32) : iter (dvStep ds wt) d 16 = dvBlk ds wt := by
  refine (iter_tiles (dvTile ds wt) d 16 le_rfl).trans ?_
  funext y
  have h0 : (y 0).val < 256 := (y 0).isLt
  have h1 : (y 1).val < 1024 := (y 1).isLt
  exact if_pos (by omega)

/-- The reciprocal deviations. -/
def rBlk (x : Vec F S256x3072 .bf16) : Vec F S256x128 .f32 := iter (rStep x) (constant S256x128 .f32 0x00000000#32) k0_t1_loop.trips

theorem iter_rStep (x : Vec F S256x3072 .bf16) (d : Vec F S256x128 .f32) : iter (rStep x) d k0_t1_loop.trips = rBlk x := by
  funext y
  have h0 : (y 0).val < 256 := (y 0).isLt
  have h1 : (y 1).val < 128 := (y 1).isLt
  have hk : (y 0).val / 16 < k0_t1_loop.trips := lt_of_lt_of_eq (by omega) trips1.symm
  refine iter_congr_init (rStep x) (fun k y => 16 * k.val ≤ (y 0).val ∧ (y 0).val < 16 * k.val + 16)
    (fun k f f' y h => put_congr f f' _ _ _ y h)
    (fun k f f' y h => put_covered f f' _ _ _ y (by
      have e := k0_off3_eq k
      rw [e]; intro a; match a with
      | ⟨0, _⟩ => exact h
      | ⟨1, _⟩ => exact ⟨Nat.zero_le _, by show (y 1).val < 0 + 128; have : (y 1).val < 128 := (y 1).isLt; omega⟩)) _ _ _ y
    (.inr ⟨⟨(y 0).val / 16, hk⟩, hk, by constructor <;> dsimp only <;> omega⟩)

/-- The weights' gradient after both chunks. -/
def gwNext (ds v : Vec F S256x1024 .bf16) (z : Vec F S8x128x128 .f32) : Vec F S8x128x128 .f32 :=
  iter (gwStep 1 ds v (iter (gwStep 0 ds v z) z 8)) (iter (gwStep 0 ds v z) z 8) 8

/-- The block of `dp`. -/
def dpBlk (x : Vec F S256x3072 .bf16) (dy s dv n dg : Vec F S256x1024 .f32) (r : Vec F S256x128 .f32) (g : Vec F S1x1024 .f32) : Vec F S256x3072 .bf16 :=
  iter (dqStep dv n dg r g) (iter (dpStep x dy s) (constant S256x3072 .bf16 0x0000#16) k0_t2_loop.trips) k0_t3_loop.trips

theorem dp_indep (x : Vec F S256x3072 .bf16) (dy s dv n dg : Vec F S256x1024 .f32) (r : Vec F S256x128 .f32) (g : Vec F S1x1024 .f32) (d : Vec F S256x3072 .bf16) :
    iter (dqStep dv n dg r g) (iter (dpStep x dy s) d k0_t2_loop.trips) k0_t3_loop.trips = dpBlk x dy s dv n dg r g := by
  funext y
  have h0 : (y 0).val < 256 := (y 0).isLt
  have h1 : (y 1).val < 3072 := (y 1).isLt
  have hk3 : (y 0).val / 16 < k0_t3_loop.trips := lt_of_lt_of_eq (by omega) trips3.symm
  have hk2 : (y 0).val / 16 < k0_t2_loop.trips := lt_of_lt_of_eq (by omega) trips2.symm
  refine iter_congr_init (dqStep dv n dg r g) (fun k y => (16 * k.val ≤ (y 0).val ∧ (y 0).val < 16 * k.val + 16) ∧ 1024 ≤ (y 1).val ∧ (y 1).val < 2048)
    (fun k f f' y h => put_congr f f' _ _ _ y h)
    (fun k f f' y h => put_covered f f' _ _ _ y (by
      have e := k0_off10_eq k
      rw [e]; intro a; match a with
      | ⟨0, _⟩ => exact h.1
      | ⟨1, _⟩ => exact h.2)) _ _ _ y ?_
  by_cases hc : 1024 ≤ (y 1).val ∧ (y 1).val < 2048
  · exact .inr ⟨⟨(y 0).val / 16, hk3⟩, hk3, ⟨by dsimp only; omega, by dsimp only; omega⟩, hc⟩
  · left
    refine iter_congr_init (dpStep x dy s) (fun k y => (16 * k.val ≤ (y 0).val ∧ (y 0).val < 16 * k.val + 16) ∧ ¬ (1024 ≤ (y 1).val ∧ (y 1).val < 2048))
      (fun k f f' y h => put_congr _ _ _ _ _ y (put_congr f f' _ _ _ y h))
      (fun k f f' y h => ?_) _ _ _ y (.inr ⟨⟨(y 0).val / 16, hk2⟩, hk2, ⟨by dsimp only; omega, by dsimp only; omega⟩, hc⟩)
    have hy : (y 1).val < 3072 := (y 1).isLt
    by_cases hlo : (y 1).val < 1024
    · exact put_congr _ _ _ _ _ y (put_covered f f' _ _ _ y (by
        have e := k0_off4_eq k
        rw [e]; intro a; match a with
        | ⟨0, _⟩ => exact h.1
        | ⟨1, _⟩ => exact ⟨Nat.zero_le _, by show (y 1).val < 0 + 1024; omega⟩))
    · exact put_covered _ _ _ _ _ y (by
        have e := k0_off5_eq k
        rw [e]; intro a; match a with
        | ⟨0, _⟩ => exact h.1
        | ⟨1, _⟩ => exact ⟨by show 2048 ≤ (y 1).val; have := h.2; omega, by show (y 1).val < 2048 + 1024; omega⟩)

/-- The last point's stores: the two sums over the rows, the weights' gradient cut to the lower triangle, and the bias's summed over each head. -/
def stFin (st : Vec F S8x1024 .f32) (a : Vec F S32x1024 .f32) : Vec F S8x1024 .f32 :=
  VecWindow.put (s := S8x1024) (VecWindow.put (s := S8x1024) st
    ![0, 0] S1x1024.size (k0_pay21 (VecWindow.window a ![0, 0] S16x1024.size inb_S32x1024_S16x1024_0_0)))
    ![1, 0] S1x1024.size (k0_pay22 (VecWindow.window a ![16, 0] S16x1024.size inb_S32x1024_S16x1024_16_0))
def cutStep (z : Vec F S8x128x128 .f32) (h : Fin 8) (d : Vec F S8x128x128 .f32) : Vec F S8x128x128 .f32 :=
  VecWindow.put (s := S8x128x128) d ![h.val, 0, 0] S1x128x128.size (k0_pay23 (head z h))
def gwFin (z : Vec F S8x128x128 .f32) : Vec F S8x128x128 .f32 := iter (cutStep z) z 8
def cols (d : Vec F S128x1024 .f32) (h : Fin 8) : Vec F S128x128 .f32 :=
  VecWindow.window d ![0, 128 * h.val] S128x128.size (fun a => match a with
      | ⟨0, _⟩ => by show 0 + 128 ≤ 128; omega
      | ⟨1, _⟩ => by show 128 * h.val + 128 ≤ 1024; omega)
def gbtFin (d : Vec F S128x1024 .f32) : Vec F S128x128 .f32 :=
  k0_pay2 (k0_pay36 (iota .tc S128x128 32 [1] iota_S128x128_d1_w32) (k0_pay34 (cols d 0) (cols d 1)) k0_pay35 (cols d 2) (cols d 3) (cols d 4) (cols d 5) (cols d 6))
    (k0_pay37 (iota .tc S128x128 32 [1] iota_S128x128_d1_w32)) (cols d 7)

/-- What a point starts from: `z` at the first, what it holds at a later one. -/
def start (i : grid0.Coords) {σ : Type} (z a : σ) : σ := if k0_cond1 i = 1#1 then z else a
/-- What a point ends with: `z` at the last, what it holds at an earlier one. -/
def finish (i : grid0.Coords) {σ : Type} (z a : σ) : σ := if k0_cond2 i = 1#1 then z else a

section
variable (c : Dev nD) (i : grid0.Coords)
  (arg1 : Memref sig .tc .vmem S256x3072 .bf16) (harg1 : arg1.IsWhole)
  (arg2 : Memref sig .tc .vmem S256x1024 .f32) (harg2 : arg2.IsWhole)
  (arg3 : Memref sig .tc .hbm S4096x8192 .bf16) (harg3 : arg3.IsWhole)
  (arg4 : Memref sig .tc .vmem S8x128x128 .bf16) (harg4 : arg4.IsWhole)
  (arg5 : Memref sig .tc .vmem S8x128x128 .bf16) (harg5 : arg5.IsWhole)
  (arg6 : Memref sig .tc .vmem S128x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x3072 .bf16) (harg9 : arg9.IsWhole)
  (arg10 : Memref sig .tc .vmem S8x1024 .f32) (harg10 : arg10.IsWhole)
  (arg11 : Memref sig .tc .vmem S128x128 .f32) (harg11 : arg11.IsWhole)
  (arg12 : Memref sig .tc .vmem S8x128x128 .f32) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x128 .f32) (harg15 : arg15.IsWhole)
  (arg16 : Memref sig .tc .vmem S256x1024 .f32) (harg16 : arg16.IsWhole)
  (arg17 : Memref sig .tc .vmem S256x1024 .bf16) (harg17 : arg17.IsWhole)
  (arg18 : Memref sig .tc .vmem S256x1024 .f32) (harg18 : arg18.IsWhole)
  (arg19 : Memref sig .tc .vmem S32x1024 .f32) (harg19 : arg19.IsWhole)
  (arg20 : Memref sig .tc .vmem S128x1024 .f32) (harg20 : arg20.IsWhole)
  (arg21 : Memref sig .tc .vmem S256x1024 .f32) (harg21 : arg21.IsWhole)

/-- What the body holds: the blocks it reads, the four it writes and its scratch. -/
def Res (x : Vec F S256x3072 .bf16) (dy : Vec F S256x1024 .f32) (w : Vec F S8x128x128 .bf16) (wt : Vec F S8x128x128 .bf16) (bi : Vec F S128x1024 .f32) (g : Vec F S1x1024 .f32) (b : Vec F S1x1024 .f32) (dp : Vec F S256x3072 .bf16) (st : Vec F S8x1024 .f32) (gbt : Vec F S128x128 .f32) (gw : Vec F S8x128x128 .f32) (v : Vec F S256x1024 .bf16) (n : Vec F S256x1024 .f32) (r : Vec F S256x128 .f32) (s : Vec F S256x1024 .f32) (ds : Vec F S256x1024 .bf16) (dv : Vec F S256x1024 .f32) (a : Vec F S32x1024 .f32) (gb : Vec F S128x1024 .f32) (dg : Vec F S256x1024 .f32) : sProp 𝕄 :=
  iprop(owns (c : Thread nD τ) arg1 fullShare x ∗ owns (c : Thread nD τ) arg2 fullShare dy ∗ owns (c : Thread nD τ) arg4 fullShare w ∗ owns (c : Thread nD τ) arg5 fullShare wt ∗ owns (c : Thread nD τ) arg6 fullShare bi ∗ owns (c : Thread nD τ) arg7 fullShare g ∗ owns (c : Thread nD τ) arg8 fullShare b ∗ owns (c : Thread nD τ) arg9 fullShare dp ∗ owns (c : Thread nD τ) arg10 fullShare st ∗ owns (c : Thread nD τ) arg11 fullShare gbt ∗ owns (c : Thread nD τ) arg12 fullShare gw ∗ owns (c : Thread nD τ) arg13 fullShare v ∗ owns (c : Thread nD τ) arg14 fullShare n ∗ owns (c : Thread nD τ) arg15 fullShare r ∗ owns (c : Thread nD τ) arg16 fullShare s ∗ owns (c : Thread nD τ) arg17 fullShare ds ∗ owns (c : Thread nD τ) arg18 fullShare dv ∗ owns (c : Thread nD τ) arg19 fullShare a ∗ owns (c : Thread nD τ) arg20 fullShare gb ∗ owns (c : Thread nD τ) arg21 fullShare dg)

/-- The first point: the statements to the mixing's third piece. -/
theorem part8_first (hc : k0_cond1 i = 1#1) (x : Vec F S256x3072 .bf16) (dy : Vec F S256x1024 .f32) (w : Vec F S8x128x128 .bf16) (wt : Vec F S8x128x128 .bf16) (bi : Vec F S128x1024 .f32) (g : Vec F S1x1024 .f32) (b : Vec F S1x1024 .f32) (dp : Vec F S256x3072 .bf16) (st : Vec F S8x1024 .f32) (gbt : Vec F S128x128 .f32) (gw : Vec F S8x128x128 .f32) (v : Vec F S256x1024 .bf16) (n : Vec F S256x1024 .f32) (r : Vec F S256x128 .f32) (s : Vec F S256x1024 .f32) (ds : Vec F S256x1024 .bf16) (dv : Vec F S256x1024 .f32) (a : Vec F S32x1024 .f32) (gb : Vec F S128x1024 .f32) (dg : Vec F S256x1024 .f32) (E : Set ℕ) :
    Res c arg1 arg2 arg4 arg5 arg6 arg7 arg8 arg9 arg10 arg11 arg12 arg13 arg14 arg15 arg16 arg17 arg18 arg19 arg20 arg21 x dy w wt bi g b dp st gbt gw v n r s ds dv a gb dg
    ⊢ wp frame (wpE (defs₀ (F := F)) Variants.none (c : Thread nD τ) none) E (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      (fun r' => iprop(⌜r' = ⟨BitVec.ofNat 32 (i 0).val, k0_pay48 (VecWindow.window w ![2, 0, 0] S1x128x128.size inb_S8x128x128_S1x128x128_2_0_0)⟩⌝ ∗ Res c arg1 arg2 arg4 arg5 arg6 arg7 arg8 arg9 arg10 arg11 arg12 arg13 arg14 arg15 arg16 arg17 arg18 arg19 arg20 arg21 x dy w wt bi g b dp k0_pay38 k0_pay39 k0_pay41 (vBlk x g b) (nBlk x) (rBlk x) (iter (sStep w bi (vBlk x g b)) s 2) ds dv k0_pay42 k0_pay40 (dgBlk x))) := by
  simp only [k0_part8_eq_skeleton]
  unfold k0_part8_skel
  rw [dif_pos hc]
  unfold Res
  iintro ⟨H1, H2, H4, H5, H6, H7, H8, H9, H10, H11, H12, H13, H14, H15, H16, H17, H18, H19, H20, H21⟩
  unfold owns
  icases H10 with ⟨%f10, %hf10, H10⟩
  icases H11 with ⟨%f11, %hf11, H11⟩
  icases H12 with ⟨%f12, %hf12, H12⟩
  icases H19 with ⟨%f19, %hf19, H19⟩
  icases H20 with ⟨%f20, %hf20, H20⟩
  sl_exec
  iapply (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x g b v n r dg E _ _) $$ [H1 H7 H8 H13 H14 H15 H21]
  · unfold owns
    isplitl [H1]; · iexact H1
    isplitl [H7]; · iexact H7
    isplitl [H8]; · iexact H8
    isplitl [H13]; · iexact H13
    isplitl [H14]; · iexact H14
    isplitl [H15]; · iexact H15
    iexact H21
  rw [iter_vStep, iter_nStep, iter_rStep, iter_dgStep]
  generalize vBlk x g b = v'
  have hs : iter (sStep w bi v') s 2 = sStep w bi v' 1 (sStep w bi v' 0 s) := rfl
  rw [hs]
  unfold owns
  icases H4 with ⟨%f4, %hf4, H4⟩
  icases H6 with ⟨%f6, %hf6, H6⟩
  icases H16 with ⟨%f16, %hf16, H16⟩
  iintro ⟨H1, H7, H8, ⟨%f13, %hf13, H13⟩, H14, H15, H21⟩
  sl_exec
  sl_step
  isplitr
  · ipureintro
    subst hf4 hf13
    sl_unfold_words
    rfl
  isplitl [H1]; · iexact H1
  isplitl [H2]; · iexact H2
  isplitl [H4]
  · iexists _; isplitr; swap; · iexact H4
    ipureintro; exact hf4
  isplitl [H5]; · iexact H5
  isplitl [H6]
  · iexists _; isplitr; swap; · iexact H6
    ipureintro; exact hf6
  isplitl [H7]; · iexact H7
  isplitl [H8]; · iexact H8
  isplitl [H9]; · iexact H9
  isplitl [H10]
  · iexists _; isplitr; swap; · iexact H10
    ipureintro; exact View.read_writes_full _ _ _ _ _
  isplitl [H11]
  · iexists _; isplitr; swap; · iexact H11
    ipureintro; exact View.read_writes_full _ _ _ _ _
  isplitl [H12]
  · iexists _; isplitr; swap; · iexact H12
    ipureintro; exact View.read_writes_full _ _ _ _ _
  isplitl [H13]
  · iexists _; isplitr; swap; · iexact H13
    ipureintro; exact hf13
  isplitl [H14]; · iexact H14
  isplitl [H15]; · iexact H15
  isplitl [H16]
  · iexists _; isplitr; swap; · iexact H16
    ipureintro
    subst hf4 hf6 hf13 hf16
    rw [View.read_writes_cons_put _ _ _ _ _ rfl, View.read_writes_cons_put _ _ _ _ _ rfl, View.writes_nil]
    sl_unfold_words
    rfl
  isplitl [H17]; · iexact H17
  isplitl [H18]; · iexact H18
  isplitl [H19]
  · iexists _; isplitr; swap; · iexact H19
    ipureintro; exact View.read_writes_full _ _ _ _ _
  isplitl [H20]
  · iexists _; isplitr; swap; · iexact H20
    ipureintro; exact View.read_writes_full _ _ _ _ _
  iexact H21

/-- A later point: the statements to the mixing's third piece. -/
theorem part8_later (hc : ¬ k0_cond1 i = 1#1) (x : Vec F S256x3072 .bf16) (dy : Vec F S256x1024 .f32) (w : Vec F S8x128x128 .bf16) (wt : Vec F S8x128x128 .bf16) (bi : Vec F S128x1024 .f32) (g : Vec F S1x1024 .f32) (b : Vec F S1x1024 .f32) (dp : Vec F S256x3072 .bf16) (st : Vec F S8x1024 .f32) (gbt : Vec F S128x128 .f32) (gw : Vec F S8x128x128 .f32) (v : Vec F S256x1024 .bf16) (n : Vec F S256x1024 .f32) (r : Vec F S256x128 .f32) (s : Vec F S256x1024 .f32) (ds : Vec F S256x1024 .bf16) (dv : Vec F S256x1024 .f32) (a : Vec F S32x1024 .f32) (gb : Vec F S128x1024 .f32) (dg : Vec F S256x1024 .f32) (E : Set ℕ) :
    Res c arg1 arg2 arg4 arg5 arg6 arg7 arg8 arg9 arg10 arg11 arg12 arg13 arg14 arg15 arg16 arg17 arg18 arg19 arg20 arg21 x dy w wt bi g b dp st gbt gw v n r s ds dv a gb dg
    ⊢ wp frame (wpE (defs₀ (F := F)) Variants.none (c : Thread nD τ) none) E (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      (fun r' => iprop(⌜r' = ⟨BitVec.ofNat 32 (i 0).val, k0_pay48 (VecWindow.window w ![2, 0, 0] S1x128x128.size inb_S8x128x128_S1x128x128_2_0_0)⟩⌝ ∗ Res c arg1 arg2 arg4 arg5 arg6 arg7 arg8 arg9 arg10 arg11 arg12 arg13 arg14 arg15 arg16 arg17 arg18 arg19 arg20 arg21 x dy w wt bi g b dp st gbt gw (vBlk x g b) (nBlk x) (rBlk x) (iter (sStep w bi (vBlk x g b)) s 2) ds dv a gb (dgBlk x))) := by
  simp only [k0_part8_eq_skeleton]
  unfold k0_part8_skel
  rw [dif_neg hc]
  unfold Res
  iintro ⟨H1, H2, H4, H5, H6, H7, H8, H9, H10, H11, H12, H13, H14, H15, H16, H17, H18, H19, H20, H21⟩
  simp only [pure_bind]
  iapply (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x g b v n r dg E _ _) $$ [H1 H7 H8 H13 H14 H15 H21]
  · unfold owns
    isplitl [H1]; · iexact H1
    isplitl [H7]; · iexact H7
    isplitl [H8]; · iexact H8
    isplitl [H13]; · iexact H13
    isplitl [H14]; · iexact H14
    isplitl [H15]; · iexact H15
    iexact H21
  rw [iter_vStep, iter_nStep, iter_rStep, iter_dgStep]
  generalize vBlk x g b = v'
  have hs : iter (sStep w bi v') s 2 = sStep w bi v' 1 (sStep w bi v' 0 s) := rfl
  rw [hs]
  unfold owns
  icases H4 with ⟨%f4, %hf4, H4⟩
  icases H6 with ⟨%f6, %hf6, H6⟩
  icases H16 with ⟨%f16, %hf16, H16⟩
  iintro ⟨H1, H7, H8, ⟨%f13, %hf13, H13⟩, H14, H15, H21⟩
  sl_exec
  sl_step
  isplitr
  · ipureintro
    subst hf4 hf13
    sl_unfold_words
    rfl
  isplitl [H1]; · iexact H1
  isplitl [H2]; · iexact H2
  isplitl [H4]
  · iexists _; isplitr; swap; · iexact H4
    ipureintro; exact hf4
  isplitl [H5]; · iexact H5
  isplitl [H6]
  · iexists _; isplitr; swap; · iexact H6
    ipureintro; exact hf6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; exact hf13
  isplitl [H14]; · iexact H14
  isplitl [H15]; · iexact H15
  isplitl [H16]
  · iexists _; isplitr; swap; · iexact H16
    ipureintro
    subst hf4 hf6 hf13 hf16
    rw [View.read_writes_cons_put _ _ _ _ _ rfl, View.read_writes_cons_put _ _ _ _ _ rfl, View.writes_nil]
    sl_unfold_words
    rfl
  isplitl [H17]; · iexact H17
  isplitl [H18]; · iexact H18
  isplitl [H19]; · iexact H19
  isplitl [H20]; · iexact H20
  iexact H21

theorem part8 (x : Vec F S256x3072 .bf16) (dy : Vec F S256x1024 .f32) (w : Vec F S8x128x128 .bf16) (wt : Vec F S8x128x128 .bf16) (bi : Vec F S128x1024 .f32) (g : Vec F S1x1024 .f32) (b : Vec F S1x1024 .f32) (dp : Vec F S256x3072 .bf16) (st : Vec F S8x1024 .f32) (gbt : Vec F S128x128 .f32) (gw : Vec F S8x128x128 .f32) (v : Vec F S256x1024 .bf16) (n : Vec F S256x1024 .f32) (r : Vec F S256x128 .f32) (s : Vec F S256x1024 .f32) (ds : Vec F S256x1024 .bf16) (dv : Vec F S256x1024 .f32) (a : Vec F S32x1024 .f32) (gb : Vec F S128x1024 .f32) (dg : Vec F S256x1024 .f32) (E : Set ℕ) :
    Res c arg1 arg2 arg4 arg5 arg6 arg7 arg8 arg9 arg10 arg11 arg12 arg13 arg14 arg15 arg16 arg17 arg18 arg19 arg20 arg21 x dy w wt bi g b dp st gbt gw v n r s ds dv a gb dg
    ⊢ wp frame (wpE (defs₀ (F := F)) Variants.none (c : Thread nD τ) none) E (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      (fun r' => iprop(⌜r' = ⟨BitVec.ofNat 32 (i 0).val, k0_pay48 (VecWindow.window w ![2, 0, 0] S1x128x128.size inb_S8x128x128_S1x128x128_2_0_0)⟩⌝ ∗ Res c arg1 arg2 arg4 arg5 arg6 arg7 arg8 arg9 arg10 arg11 arg12 arg13 arg14 arg15 arg16 arg17 arg18 arg19 arg20 arg21 x dy w wt bi g b dp (start i k0_pay38 st) (start i k0_pay39 gbt) (start i k0_pay41 gw) (vBlk x g b) (nBlk x) (rBlk x) (iter (sStep w bi (vBlk x g b)) s 2) ds dv (start i k0_pay42 a) (start i k0_pay40 gb) (dgBlk x))) := by
  unfold start
  by_cases hc : k0_cond1 i = 1#1
  · simp only [if_pos hc]
    exact part8_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x dy w wt bi g b dp st gbt gw v n r s ds dv a gb dg E
  · simp only [if_neg hc]
    exact part8_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x dy w wt bi g b dp st gbt gw v n r s ds dv a gb dg E

/-- The mixing's last three pieces and the gating. -/
theorem part13 (x : Vec F S256x3072 .bf16) (dy : Vec F S256x1024 .f32) (w : Vec F S8x128x128 .bf16) (bi : Vec F S128x1024 .f32) (dp : Vec F S256x3072 .bf16) (v : Vec F S256x1024 .bf16) (s : Vec F S256x1024 .f32) (ds : Vec F S256x1024 .bf16) (gb : Vec F S128x1024 .f32) (E : Set ℕ) :
    (iprop(owns (c : Thread nD τ) arg1 fullShare x ∗ owns (c : Thread nD τ) arg2 fullShare dy ∗ owns (c : Thread nD τ) arg4 fullShare w ∗ owns (c : Thread nD τ) arg6 fullShare bi ∗ owns (c : Thread nD τ) arg9 fullShare dp ∗ owns (c : Thread nD τ) arg13 fullShare v ∗ owns (c : Thread nD τ) arg16 fullShare (iter (sStep w bi v) s 13) ∗ owns (c : Thread nD τ) arg17 fullShare ds ∗ owns (c : Thread nD τ) arg20 fullShare gb) : sProp 𝕄)
    ⊢ wp frame (wpE (defs₀ (F := F)) Variants.none (c : Thread nD τ) none) E (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay61 (VecWindow.window w ![5, 0, 0] S1x128x128.size inb_S8x128x128_S1x128x128_5_0_0) (VecWindow.window v ![128, 640] S128x128.size inb_S256x1024_S128x128_128_640)) (k0_pay62 (VecWindow.window bi ![0, 640] S128x128.size inb_S128x1024_S128x128_0_640)))
      (fun r => iprop(⌜r = (VecWindow.window (dsBlk x dy) ![0, 0] S128x128.size inb_S256x1024_S128x128_0_0)⌝ ∗ owns (c : Thread nD τ) arg1 fullShare x ∗ owns (c : Thread nD τ) arg2 fullShare dy ∗ owns (c : Thread nD τ) arg4 fullShare w ∗ owns (c : Thread nD τ) arg6 fullShare bi ∗ owns (c : Thread nD τ) arg9 fullShare (iter (dpStep x dy (sBlk w bi v)) dp k0_t2_loop.trips) ∗ owns (c : Thread nD τ) arg13 fullShare v ∗ owns (c : Thread nD τ) arg16 fullShare (sBlk w bi v) ∗ owns (c : Thread nD τ) arg17 fullShare (dsBlk x dy) ∗ owns (c : Thread nD τ) arg20 fullShare (iter (gbStep x dy) gb k0_t2_loop.trips))) := by
  simp only [k0_part13_eq_skeleton]
  unfold k0_part13_skel
  rw [← iter_sStep_all w bi v s]
  have hs : iter (sStep w bi v) s 16 = sStep w bi v 15 (sStep w bi v 14 (sStep w bi v 13 (iter (sStep w bi v) s 13))) := rfl
  rw [hs]
  generalize iter (sStep w bi v) s 13 = s'
  iintro ⟨H1, H2, H4, H6, H9, H13, H16, H17, H20⟩
  unfold owns
  icases H4 with ⟨%f4, %hf4, H4⟩
  icases H6 with ⟨%f6, %hf6, H6⟩
  icases H13 with ⟨%f13, %hf13, H13⟩
  icases H16 with ⟨%f16, %hf16, H16⟩
  sl_exec
  generalize hS : sStep w bi v 15 (sStep w bi v 14 (sStep w bi v 13 s')) = sF
  iapply (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x dy sF ds gb dp (k0_pay61 (VecWindow.window w ![5, 0, 0] S1x128x128.size inb_S8x128x128_S1x128x128_5_0_0) (VecWindow.window v ![128, 640] S128x128.size inb_S256x1024_S128x128_128_640)) (k0_pay62 (VecWindow.window bi ![0, 640] S128x128.size inb_S128x1024_S128x128_0_640)) E _ _) $$ [H1 H2 H16 H17 H20 H9]
  · unfold owns
    isplitl [H1]; · iexact H1
    isplitl [H2]; · iexact H2
    isplitl [H16]
    · iexists _; isplitr; swap; · iexact H16
      ipureintro
      subst hf4 hf6 hf13 hf16
      rw [View.read_writes_cons_put _ _ _ _ _ rfl, View.read_writes_cons_put _ _ _ _ _ rfl, View.read_writes_cons_put _ _ _ _ _ rfl, View.writes_nil]
      sl_unfold_words
      exact hS
    isplitl [H17]; · iexact H17
    isplitl [H20]; · iexact H20
    iexact H9
  rw [iter_dsStep]
  generalize dsBlk x dy = ds'
  unfold owns
  iintro ⟨H1, H2, H16, ⟨%f17, %hf17, H17⟩, H20, H9⟩
  sl_exec
  sl_step
  isplitr
  · ipureintro
    subst hf17
    sl_unfold_words
    rfl
  isplitl [H1]; · iexact H1
  isplitl [H2]; · iexact H2
  isplitl [H4]
  · iexists _; isplitr; swap; · iexact H4
    ipureintro; exact hf4
  isplitl [H6]
  · iexists _; isplitr; swap; · iexact H6
    ipureintro; exact hf6
  isplitl [H9]; · iexact H9
  isplitl [H13]
  · iexists _; isplitr; swap; · iexact H13
    ipureintro; exact hf13
  isplitl [H16]; · iexact H16
  isplitl [H17]
  · iexists _; isplitr; swap; · iexact H17
    ipureintro; exact hf17
  iexact H20

end
end Cert.Kernel5Ideal.Hand
end
-- ==== Proof.SgbBody.lean ====
module

public import proofs.«01_k».proof.Proof.SgbParts

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Hand (iter iter_succ ofStrips iter_strips sPiece sBlk sStep iter_sStep_all)

variable {F : FTy → Type} [FloatOps F]

local notation "𝕄" => MT nD τ sig Unit (Elt F) ℕ (UR sig nD τ) ℕ

theorem gwFin_eq (z : Vec F S8x128x128 .f32) : gwFin z = cutStep z 7 (cutStep z 6 (cutStep z 5 (cutStep z 4 (cutStep z 3 (cutStep z 2 (cutStep z 1 (cutStep z 0 z))))))) := rfl

/-- What a point leaves: the running sums, the weights' gradient so far, and the block of `dp`. -/
def aNext (x : Vec F S256x3072 .bf16) (dy : Vec F S256x1024 .f32) (wt : Vec F S8x128x128 .bf16) (a : Vec F S32x1024 .f32) : Vec F S32x1024 .f32 :=
  iter (aStep (dvBlk (dsBlk x dy) wt) (nBlk x)) a k0_t3_loop.trips
def gbNext (x : Vec F S256x3072 .bf16) (dy : Vec F S256x1024 .f32) (gb : Vec F S128x1024 .f32) : Vec F S128x1024 .f32 :=
  iter (gbStep x dy) gb k0_t2_loop.trips
def gwAdd (x : Vec F S256x3072 .bf16) (dy : Vec F S256x1024 .f32) (g b : Vec F S1x1024 .f32) (z : Vec F S8x128x128 .f32) : Vec F S8x128x128 .f32 :=
  gwNext (dsBlk x dy) (vBlk x g b) z
def dpOut (x : Vec F S256x3072 .bf16) (dy : Vec F S256x1024 .f32) (w wt : Vec F S8x128x128 .bf16) (bi : Vec F S128x1024 .f32) (g b : Vec F S1x1024 .f32) : Vec F S256x3072 .bf16 :=
  dpBlk x dy (sBlk w bi (vBlk x g b)) (dvBlk (dsBlk x dy) wt) (nBlk x) (dgBlk x) (rBlk x) g

section
variable (c : Dev nD) (i : grid0.Coords)
  (arg1 : Memref sig .tc .vmem S256x3072 .bf16) (harg1 : arg1.IsWhole)
  (arg2 : Memref sig .tc .vmem S256x1024 .f32) (harg2 : arg2.IsWhole)
  (arg3 : Memref sig .tc .hbm S4096x8192 .bf16) (harg3 : arg3.IsWhole)
  (arg4 : Memref sig .tc .vmem S8x128x128 .bf16) (harg4 : arg4.IsWhole)
  (arg5 : Memref sig .tc .vmem S8x128x128 .bf16) (harg5 : arg5.IsWhole)
  (arg6 : Memref sig .tc .vmem S128x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x3072 .bf16) (harg9 : arg9.IsWhole)
  (arg10 : Memref sig .tc .vmem S8x1024 .f32) (harg10 : arg10.IsWhole)
  (arg11 : Memref sig .tc .vmem S128x128 .f32) (harg11 : arg11.IsWhole)
  (arg12 : Memref sig .tc .vmem S8x128x128 .f32) (harg12 : arg12.IsWhole)
  (arg13 : Memref sig .tc .vmem S256x1024 .bf16) (harg13 : arg13.IsWhole)
  (arg14 : Memref sig .tc .vmem S256x1024 .f32) (harg14 : arg14.IsWhole)
  (arg15 : Memref sig .tc .vmem S256x128 .f32) (harg15 : arg15.IsWhole)
  (arg16 : Memref sig .tc .vmem S256x1024 .f32) (harg16 : arg16.IsWhole)
  (arg17 : Memref sig .tc .vmem S256x1024 .bf16) (harg17 : arg17.IsWhole)
  (arg18 : Memref sig .tc .vmem S256x1024 .f32) (harg18 : arg18.IsWhole)
  (arg19 : Memref sig .tc .vmem S32x1024 .f32) (harg19 : arg19.IsWhole)
  (arg20 : Memref sig .tc .vmem S128x1024 .f32) (harg20 : arg20.IsWhole)
  (arg21 : Memref sig .tc .vmem S256x1024 .f32) (harg21 : arg21.IsWhole)

set_option maxHeartbeats 1000000 in
theorem body (x : Vec F S256x3072 .bf16) (dy : Vec F S256x1024 .f32) (w : Vec F S8x128x128 .bf16) (wt : Vec F S8x128x128 .bf16) (bi : Vec F S128x1024 .f32) (g : Vec F S1x1024 .f32) (b : Vec F S1x1024 .f32) (dp : Vec F S256x3072 .bf16) (st : Vec F S8x1024 .f32) (gbt : Vec F S128x128 .f32) (gw : Vec F S8x128x128 .f32) (v : Vec F S256x1024 .bf16) (n : Vec F S256x1024 .f32) (r : Vec F S256x128 .f32) (s : Vec F S256x1024 .f32) (ds : Vec F S256x1024 .bf16) (dv : Vec F S256x1024 .f32) (a : Vec F S32x1024 .f32) (gb : Vec F S128x1024 .f32) (dg : Vec F S256x1024 .f32) (E : Set ℕ) :
    Res c arg1 arg2 arg4 arg5 arg6 arg7 arg8 arg9 arg10 arg11 arg12 arg13 arg14 arg15 arg16 arg17 arg18 arg19 arg20 arg21 x dy w wt bi g b dp st gbt gw v n r s ds dv a gb dg
    ⊢ wp frame (wpE (defs₀ (F := F)) Variants.none (c : Thread nD τ) none) E (cc0_branch_b_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      (fun _ => Res c arg1 arg2 arg4 arg5 arg6 arg7 arg8 arg9 arg10 arg11 arg12 arg13 arg14 arg15 arg16 arg17 arg18 arg19 arg20 arg21 x dy w wt bi g b (dpOut x dy w wt bi g b) (finish i (stFin (start i k0_pay38 st) (aNext x dy wt (start i k0_pay42 a))) (start i k0_pay38 st)) (finish i (gbtFin (gbNext x dy (start i k0_pay40 gb))) (start i k0_pay39 gbt)) (finish i (gwFin (gwAdd x dy g b (start i k0_pay41 gw))) (gwAdd x dy g b (start i k0_pay41 gw))) (vBlk x g b) (nBlk x) (rBlk x) (sBlk w bi (vBlk x g b)) (dsBlk x dy) (dvBlk (dsBlk x dy) wt) (aNext x dy wt (start i k0_pay42 a)) (gbNext x dy (start i k0_pay40 gb)) (dgBlk x)) := by
  simp only [cc0_branch_b_bwd_eq_skeleton]; unfold cc0_branch_b_bwd_skel
  rw [wp_bind]
  refine (part8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x dy w wt bi g b dp st gbt gw v n r s ds dv a gb dg E).trans (wp_mono _ _ _ ?_)
  intro r8
  unfold gwAdd aNext gbNext dpOut
  generalize (start i k0_pay38 st) = st'
  generalize (start i k0_pay39 gbt) = gbt'
  generalize (start i k0_pay40 gb) = gb'
  generalize (start i k0_pay41 gw) = gw'
  generalize (start i k0_pay42 a) = a'
  rw [← dp_indep x dy (sBlk w bi (vBlk x g b)) (dvBlk (dsBlk x dy) wt) (nBlk x) (dgBlk x) (rBlk x) g dp, ← iter_dvStep (dsBlk x dy) wt dv]
  generalize vBlk x g b = v'
  generalize nBlk x = n'
  generalize rBlk x = r'
  generalize dgBlk x = dg'
  unfold Res
  iintro ⟨%hr, H1, H2, H4, H5, H6, H7, H8, H9, H10, H11, H12, H13, H14, H15, H16, H17, H18, H19, H20, H21⟩
  subst hr
  dsimp only
  rw [wp_bind]
  ihave Hw := (part9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w bi v' s E) $$ [H4 H6 H13 H16]
  · unfold Mix
    isplitl [H4]; · iexact H4
    isplitl [H6]; · iexact H6
    isplitl [H13]; · iexact H13
    iexact H16
  iapply (wp_wand _ _ _) $$ Hw
  iintro %r ⟨%hr, Hm⟩
  rw [wp_bind]
  ihave Hw := (part10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w bi v' s E) $$ [Hm]
  · iexact Hm
  iapply (wp_wand _ _ _) $$ Hw
  iintro %r ⟨%hr, Hm⟩
  subst hr
  rw [wp_bind]
  ihave Hw := (part11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w bi v' s E) $$ [Hm]
  · iexact Hm
  iapply (wp_wand _ _ _) $$ Hw
  iintro %r ⟨%hr, Hm⟩
  subst hr
  rw [wp_bind]
  ihave Hw := (part12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 w bi v' s E) $$ [Hm]
  · iexact Hm
  iapply (wp_wand _ _ _) $$ Hw
  iintro %r ⟨%hr, Hm⟩
  subst hr
  dsimp only
  rw [wp_bind]
  unfold Mix
  icases Hm with ⟨H4, H6, H13, H16⟩
  ihave Hw := (part13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x dy w bi dp v' s ds gb' E) $$ [H1 H2 H4 H6 H9 H13 H16 H17 H20]
  · isplitl [H1]; · iexact H1
    isplitl [H2]; · iexact H2
    isplitl [H4]; · iexact H4
    isplitl [H6]; · iexact H6
    isplitl [H9]; · iexact H9
    isplitl [H13]; · iexact H13
    isplitl [H16]; · iexact H16
    isplitl [H17]; · iexact H17
    iexact H20
  iapply (wp_wand _ _ _) $$ Hw
  iintro %r ⟨%hr, H1, H2, H4, H6, H9, H13, H16, H17, H20⟩
  subst hr
  generalize sBlk w bi v' = s'
  generalize dsBlk x dy = ds'
  unfold gwNext
  rw [wp_bind]
  ihave Hw := (part14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv gw' E) $$ [H5 H12 H13 H17 H18]
  · unfold Back
    isplitl [H5]; · iexact H5
    isplitl [H17]; · iexact H17
    isplitl [H13]; · iexact H13
    isplitl [H18]; · iexact H18
    iexact H12
  iapply (wp_wand _ _ _) $$ Hw
  iintro %r ⟨%hr, Hm⟩
  subst hr
  dsimp only
  rw [wp_bind]
  ihave Hw := (part15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv gw' _ E) $$ [Hm]
  · iexact Hm
  iapply (wp_wand _ _ _) $$ Hw
  iintro %r ⟨%hr, Hm⟩
  subst hr
  dsimp only
  rw [wp_bind]
  ihave Hw := (part16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv gw' E) $$ [Hm]
  · iexact Hm
  iapply (wp_wand _ _ _) $$ Hw
  iintro %r ⟨%hr, Hm⟩
  subst hr
  dsimp only
  rw [wp_bind]
  ihave Hw := (part17 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv gw' E) $$ [Hm]
  · iexact Hm
  iapply (wp_wand _ _ _) $$ Hw
  iintro %r ⟨%hr, Hm⟩
  subst hr
  dsimp only
  rw [wp_bind]
  ihave Hw := (part18 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv gw' E) $$ [Hm]
  · iexact Hm
  iapply (wp_wand _ _ _) $$ Hw
  iintro %r ⟨%hr, Hm⟩
  subst hr
  generalize iter (gwStep 0 ds' v' gw') gw' 8 = z'
  rw [wp_bind]
  ihave Hw := (part19 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv z' E) $$ [Hm]
  · iexact Hm
  iapply (wp_wand _ _ _) $$ Hw
  iintro %r ⟨%hr, Hm⟩
  subst hr
  dsimp only
  rw [wp_bind]
  ihave Hw := (part20 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv z' E) $$ [Hm]
  · iexact Hm
  iapply (wp_wand _ _ _) $$ Hw
  iintro %r ⟨%hr, Hm⟩
  subst hr
  rw [wp_bind]
  ihave Hw := (part21 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv z' E) $$ [Hm]
  · iexact Hm
  iapply (wp_wand _ _ _) $$ Hw
  iintro %r ⟨%hr, Hm⟩
  subst hr
  dsimp only
  rw [wp_bind]
  ihave Hw := (part22 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 wt ds' v' dv z' E) $$ [Hm]
  · iexact Hm
  iapply (wp_wand _ _ _) $$ Hw
  iintro %r ⟨%hr, Hm⟩
  subst hr
  generalize iter (dvStep ds' wt) dv 16 = dv'
  generalize iter (gwStep 1 ds' v' z') z' 8 = gwZ
  generalize iter (dpStep x dy s') dp k0_t2_loop.trips = dp'
  generalize iter (gbStep x dy) gb' k0_t2_loop.trips = gbZ
  unfold Back
  icases Hm with ⟨H5, H17, H13, H18, H12⟩
  iapply (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 dv' n' r' g dg' a' dp' _ E _ _) $$ [H18 H14 H15 H7 H21 H19 H9]
  · isplitl [H18]; · iexact H18
    isplitl [H14]; · iexact H14
    isplitl [H15]; · iexact H15
    isplitl [H7]; · iexact H7
    isplitl [H21]; · iexact H21
    isplitl [H19]; · iexact H19
    iexact H9
  generalize iter (aStep dv' n') a' k0_t3_loop.trips = aZ
  generalize iter (dqStep dv' n' dg' r' g) dp' k0_t3_loop.trips = dpZ
  iintro ⟨H18, H14, H15, H7, H21, H19, H9⟩
  unfold finish
  by_cases hc2 : k0_cond2 i = 1#1
  · simp only [if_pos hc2]
    rw [dif_pos hc2]
    simp only [k0_part4_eq_skeleton, k0_part5_eq_skeleton, k0_part6_eq_skeleton, k0_part7_eq_skeleton]
    unfold k0_part4_skel k0_part5_skel k0_part6_skel k0_part7_skel
    rw [gwFin_eq]
    unfold owns
    icases H10 with ⟨%f10, %hf10, H10⟩
    icases H11 with ⟨%f11, %hf11, H11⟩
    icases H12 with ⟨%f12, %hf12, H12⟩
    icases H19 with ⟨%f19, %hf19, H19⟩
    icases H20 with ⟨%f20, %hf20, H20⟩
    sl_exec
    sl_step
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro
      subst hf10 hf19
      rw [View.read_writes_cons_put _ _ _ _ _ rfl, View.read_writes_cons_put _ _ _ _ _ rfl, View.writes_nil]
      sl_unfold_words
      rfl
    isplitl [H11]
    · iexists _; isplitr; swap; · iexact H11
      ipureintro
      subst hf20
      refine (View.read_writes_full _ _ _ _ _).trans ?_
      sl_unfold_words
      rfl
    isplitl [H12]
    · iexists _; isplitr; swap; · iexact H12
      ipureintro
      subst hf12
      rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil]
      sl_unfold_words
      rfl
    isplitl [H13]; · iexact H13
    isplitl [H14]; · iexact H14
    isplitl [H15]; · iexact H15
    isplitl [H16]; · iexact H16
    isplitl [H17]; · iexact H17
    isplitl [H18]; · iexact H18
    isplitl [H19]
    · iexists _; isplitr; swap; · iexact H19
      ipureintro
      exact hf19
    isplitl [H20]
    · iexists _; isplitr; swap; · iexact H20
      ipureintro
      exact hf20
    iexact H21
  · simp only [if_neg hc2]
    rw [dif_neg hc2]
    sl_exec
    sl_step
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end
end Cert.Kernel5Ideal.Hand
end
-- ==== Proof.SgbPay.lean ====
module

public import proofs.«01_k».proof.Proof.SgbRow
public import proofs.«01_k».proof.Proof.SgbBody

@[expose] public section

set_option maxRecDepth 16384

noncomputable section

/-! What the gating unit's backward kernel computes on one block, entry by entry. -/

namespace Cert.Kernel5Ideal.Hand

open Cert.Kernel5Ideal Cert.Kernel5Ideal.Gen
open Idealize.ShloMosaic Idealize.ShloMosaic.TcCoe
open Cert.RowAlgebra
open Cert.Kernel4Ideal.Hand (iter iter_succ ofStrips)

theorem pay8_at (x : Vec Ideal S16x1024 .bf16) (r : Fin 16) (l : Fin 1024) : k0_pay8 x (ix2 r l) = nrm (fun k => gelu (x (ix2 r k))) l := by
  unfold nrm cen mean
  simp only [← gelu_half]
  pointwise [k0_pay8, k0_pay7, k0_pay6, k0_pay4, k0_pay3]
  rfl

theorem pay43_at (x : Vec Ideal S16x1024 .bf16) (r : Fin 16) (l : Fin 1024) : k0_pay43 (k0_pay8 x) (ix2 r l) = nrm (fun k => gelu (x (ix2 r k))) l := by
  rw [← pay8_at]
  generalize k0_pay8 x = X
  pointwise [k0_pay43]

theorem pay45_at (x : Vec Ideal S16x1024 .bf16) (g b : Vec Ideal S1x1024 .f32) (r : Fin 16) (l : Fin 1024) :
    k0_pay45 (k0_pay8 x) g b (ix2 r l) = lnorm (fun k => gelu (x (ix2 r k))) (fun k => g (ix2 0 k)) (fun k => b (ix2 0 k)) l := by
  rw [lnorm_nrm, ← pay8_at]
  generalize k0_pay8 x = X
  pointwise [k0_pay45]

theorem pay16_at (u z : Vec Ideal S16x1024 .bf16) (dy : Vec Ideal S16x1024 .f32) (r : Fin 16) (l : Fin 1024) :
    k0_pay16 u z dy (ix2 r l) = (dy (ix2 r l) * gelu (u (ix2 r l)) * silu (z (ix2 r l)) : EReal) := by
  unfold silu sigm
  simp only [← gelu_half]
  pointwise [k0_pay16, k0_pay11, k0_pay15, k0_pay10, k0_pay9, k0_pay14, k0_pay13]
  rw [zero_sub]
  rfl

theorem pay17_at (u z : Vec Ideal S16x1024 .bf16) (dy : Vec Ideal S16x1024 .f32) (r : Fin 16) (l : Fin 1024) :
    k0_pay17 u z dy (ix2 r l) = (dy (ix2 r l) * gelu (u (ix2 r l)) * silu (z (ix2 r l)) : EReal) := by
  rw [← pay16_at]
  unfold k0_pay17
  generalize k0_pay16 u z dy = X
  pointwise []

theorem pay18_at (d n a : Vec Ideal S16x1024 .f32) (p : Fin 16) (l : Fin 1024) :
    k0_pay18 d n a (ix2 p l) = ((a (ix2 p l) + d (ix2 p l) * n (ix2 p l) : EReal)) := by
  pointwise [k0_pay18]

theorem pay19_at (d a : Vec Ideal S16x1024 .f32) (p : Fin 16) (l : Fin 1024) : k0_pay19 d a (ix2 p l) = ((a (ix2 p l) + d (ix2 p l) : EReal)) := by
  pointwise [k0_pay19]

theorem pay21_at (a : Vec Ideal S16x1024 .f32) (l : Fin 1024) : k0_pay21 a (ix2 0 l) = (∑ p : Fin 16, a (ix2 p l) : EReal) := by pointwise [k0_pay21]

theorem pay22_at (a : Vec Ideal S16x1024 .f32) (l : Fin 1024) : k0_pay22 a (ix2 0 l) = (∑ p : Fin 16, a (ix2 p l) : EReal) := by pointwise [k0_pay22]

theorem pay66_at (x a : Vec Ideal S16x1024 .f32) (p : Fin 16) (l : Fin 1024) : k0_pay66 x a (ix2 p l) = ((a (ix2 p l) + x (ix2 p l) : EReal)) := by
  pointwise [k0_pay66]

theorem pay69_at (ds : Vec Ideal S128x128 .bf16) (w : Vec Ideal S1x128x128 .bf16) (s d : Fin 128) :
    k0_pay69 ds w (ix2 s d) = (∑ t : Fin 128, w (ix3 0 s t) * ds (ix2 t d) : EReal) := by
  pointwise [k0_pay69]

theorem pay70_at (ds v : Vec Ideal S128x128 .bf16) (z : Vec Ideal S1x128x128 .f32) (t s : Fin 128) :
    k0_pay70 ds z v (ix3 0 t s) = (z (ix3 0 t s) + ∑ d : Fin 128, ds (ix2 t d) * v (ix2 s d) : EReal) := by
  pointwise [k0_pay70]

/-- One at and below the diagonal. -/
def low : IVec S128x128 1 := cmpi .sge (iota .tc S128x128 32 [0] iota_S128x128_d0_w32) (iota .tc S128x128 32 [1] iota_S128x128_d1_w32)

theorem pay23_at (z : Vec Ideal S1x128x128 .f32) (t s : Fin 128) :
    k0_pay23 z (ix3 0 t s) = (if low (ix2 t s) = 1#1 then z (ix3 0 t s) else 0 : EReal) := by
  have e : (k0_pay23 z : Vec Ideal S1x128x128 .f32) = shapeCast S1x128x128 (select low (shapeCast S128x128 z shapeCasts_S1x128x128_S128x128) (broadcast S128x128 (Scalar.ofBits .f32 0x00000000#32) : FVec Ideal S128x128 .f32)) shapeCasts_S128x128_S1x128x128 := rfl
  rw [e]
  generalize low = L
  pointwise []
  rfl

/-! ### The blocks -/

theorem nBlk_at (x : Vec Ideal S256x3072 .bf16) (r : Fin 256) (l : Fin 1024) :
    nBlk x (ix2 r l) = nrm (fun k => gelu (x (ix2 r (⟨1024 + k.val, by omega⟩ : Fin 3072)))) l := by
  have hk : r.val / 16 < k0_t1_loop.trips := lt_of_lt_of_eq (by omega) trips1.symm
  have e : nBlk x (ix2 r l) = nStrip x ⟨r.val / 16, hk⟩ (ix2 (⟨r.val % 16, Nat.mod_lt _ (by decide)⟩ : Fin 16) l) := by
    unfold nBlk ofStrips
    congr 1
    exact eq_ix2 _
  rw [e, nStrip, pay43_at]
  congr 1
  funext k
  congr 1
  have eo := k0_off1_eq ⟨r.val / 16, hk⟩
  unfold vRows VecWindow.window
  refine congrArg x ?_
  funext a
  apply Fin.ext
  match a with
  | ⟨0, _⟩ => show k0_off1 ⟨r.val / 16, hk⟩ 0 + 1 * (r.val % 16) = r.val; rw [eo]; show 16 * (r.val / 16) + 1 * (r.val % 16) = r.val; omega
  | ⟨1, _⟩ => show k0_off1 ⟨r.val / 16, hk⟩ 1 + 1 * k.val = 1024 + k.val; rw [eo]; show 1024 + 1 * k.val = _; omega

theorem vBlk_at (x : Vec Ideal S256x3072 .bf16) (g b : Vec Ideal S1x1024 .f32) (r : Fin 256) (l : Fin 1024) :
    vBlk x g b (ix2 r l) = lnorm (fun k => gelu (x (ix2 r (⟨1024 + k.val, by omega⟩ : Fin 3072)))) (fun k => g (ix2 0 k)) (fun k => b (ix2 0 k)) l := by
  have hk : r.val / 16 < k0_t1_loop.trips := lt_of_lt_of_eq (by omega) trips1.symm
  have e : vBlk x g b (ix2 r l) = vStrip x g b ⟨r.val / 16, hk⟩ (ix2 (⟨r.val % 16, Nat.mod_lt _ (by decide)⟩ : Fin 16) l) := by
    unfold vBlk ofStrips
    congr 1
    exact eq_ix2 _
  rw [e, vStrip, pay45_at]
  congr 1
  funext k
  congr 1
  have eo := k0_off1_eq ⟨r.val / 16, hk⟩
  unfold vRows VecWindow.window
  refine congrArg x ?_
  funext a
  apply Fin.ext
  match a with
  | ⟨0, _⟩ => show k0_off1 ⟨r.val / 16, hk⟩ 0 + 1 * (r.val % 16) = r.val; rw [eo]; show 16 * (r.val / 16) + 1 * (r.val % 16) = r.val; omega
  | ⟨1, _⟩ => show k0_off1 ⟨r.val / 16, hk⟩ 1 + 1 * k.val = 1024 + k.val; rw [eo]; show 1024 + 1 * k.val = _; omega

/-- The mixed gate's cotangent, of a block's rows. -/
def dsOf (x : Vec Ideal S256x3072 .bf16) (dy : Vec Ideal S256x1024 .f32) (r : Fin 256) (l : Fin 1024) : EReal :=
  dy (ix2 r l) * gelu (x (ix2 r (⟨l.val, by omega⟩ : Fin 3072))) * silu (x (ix2 r (⟨2048 + l.val, by omega⟩ : Fin 3072)))

theorem rows_at (x : Vec Ideal S256x3072 .bf16) (dy : Vec Ideal S256x1024 .f32) (k : Fin k0_t2_loop.trips) (p : Fin 16) (r : Fin 256) (l : Fin 1024)
    (hr : 16 * k.val + p.val = r.val) :
    (rows2 dy k (ix2 p l) * gelu (uRows x k (ix2 p l)) * silu (oRows x k (ix2 p l)) : EReal) = dsOf x dy r l := by
  have e4 := k0_off4_eq k
  have e5 := k0_off5_eq k
  have e6 := k0_off6_eq k
  unfold dsOf rows2 uRows oRows VecWindow.window
  have hu : ∀ P : EReal → EReal → EReal → EReal, ∀ a a' b b' d d', a = a' → b = b' → d = d' → P a b d = P a' b' d' := by
    intro P a a' b b' d d' h1 h2 h3; rw [h1, h2, h3]
  refine hu (fun a b d => a * gelu b * silu d) _ _ _ _ _ _ (congrArg dy ?_) (congrArg x ?_) (congrArg x ?_)
  all_goals
    funext a
    apply Fin.ext
  · match a with
    | ⟨0, _⟩ => show k0_off6 k 0 + 1 * p.val = r.val; rw [e6]; show 16 * k.val + 1 * p.val = r.val; omega
    | ⟨1, _⟩ => show k0_off6 k 1 + 1 * l.val = l.val; rw [e6]; show 0 + 1 * l.val = l.val; omega
  · match a with
    | ⟨0, _⟩ => show k0_off4 k 0 + 1 * p.val = r.val; rw [e4]; show 16 * k.val + 1 * p.val = r.val; omega
    | ⟨1, _⟩ => show k0_off4 k 1 + 1 * l.val = l.val; rw [e4]; show 0 + 1 * l.val = l.val; omega
  · match a with
    | ⟨0, _⟩ => show k0_off5 k 0 + 1 * p.val = r.val; rw [e5]; show 16 * k.val + 1 * p.val = r.val; omega
    | ⟨1, _⟩ => show k0_off5 k 1 + 1 * l.val = 2048 + l.val; rw [e5]; show 2048 + 1 * l.val = _; omega

theorem dsBlk_at (x : Vec Ideal S256x3072 .bf16) (dy : Vec Ideal S256x1024 .f32) (r : Fin 256) (l : Fin 1024) : dsBlk x dy (ix2 r l) = dsOf x dy r l := by
  have hk : r.val / 16 < k0_t2_loop.trips := lt_of_lt_of_eq (by omega) trips2.symm
  have e : dsBlk x dy (ix2 r l) = dsStrip x dy ⟨r.val / 16, hk⟩ (ix2 (⟨r.val % 16, Nat.mod_lt _ (by decide)⟩ : Fin 16) l) := by
    unfold dsBlk ofStrips
    congr 1
    exact eq_ix2 _
  rw [e, dsStrip, pay17_at]
  exact rows_at x dy _ _ r l (by show 16 * (r.val / 16) + r.val % 16 = r.val; omega)

theorem tile_at {e : EltTy} (d : Vec Ideal S256x1024 e) (n : Fin 16) (t s : Fin 128) (r : Fin 256) (l : Fin 1024)
    (hr : r.val = 128 * (n.val / 8) + t.val) (hl : l.val = 128 * (n.val % 8) + s.val) : tile d n (ix2 t s) = d (ix2 r l) := by
  unfold tile VecWindow.window
  refine congrArg d ?_
  funext a
  apply Fin.ext
  match a with
  | ⟨0, _⟩ => show 128 * (n.val / 8) + 1 * t.val = r.val; omega
  | ⟨1, _⟩ => show 128 * (n.val % 8) + 1 * s.val = l.val; omega

theorem head_at {e : EltTy} (w : Vec Ideal S8x128x128 e) (h : Fin 8) (t s : Fin 128) : head w h (ix3 0 t s) = w (ix3 h t s) := by
  unfold head VecWindow.window
  refine congrArg w ?_
  funext a
  apply Fin.ext
  match a with
  | ⟨0, _⟩ => show h.val + 1 * 0 = h.val; omega
  | ⟨1, _⟩ => show 0 + 1 * t.val = t.val; omega
  | ⟨2, _⟩ => show 0 + 1 * s.val = s.val; omega

theorem dvBlk_at (ds : Vec Ideal S256x1024 .bf16) (wt : Vec Ideal S8x128x128 .bf16) (r : Fin 256) (l : Fin 1024) :
    dvBlk ds wt (ix2 r l) = (∑ t : Fin 128, wt (ix3 (⟨l.val / 128, by omega⟩ : Fin 8) (⟨r.val % 128, Nat.mod_lt _ (by decide)⟩ : Fin 128) t)
      * ds (ix2 (⟨128 * (r.val / 128) + t.val, by omega⟩ : Fin 256) l) : EReal) := by
  have hn : 8 * (r.val / 128) + l.val / 128 < 16 := by omega
  have e : dvBlk ds wt (ix2 r l) = dvTile ds wt ⟨8 * (r.val / 128) + l.val / 128, hn⟩
      (ix2 (⟨r.val % 128, Nat.mod_lt _ (by decide)⟩ : Fin 128) (⟨l.val % 128, Nat.mod_lt _ (by decide)⟩ : Fin 128)) := by
    unfold dvBlk ofTiles
    congr 1
    exact eq_ix2 _
  rw [e, dvTile, pay69_at]
  have h3 : ∀ a a' b b' : EReal, a = a' → b = b' → a * b = a' * b' := by intro a a' b b' h1 h2; rw [h1, h2]
  refine Finset.sum_congr (M := EReal) rfl fun t _ => h3 _ _ _ _ ((head_at wt _ _ t).trans (congrArg (fun h : Fin 8 => wt (ix3 h _ t)) (Fin.ext ?_))) (tile_at ds _ _ _ _ l ?_ ?_)
  · show (8 * (r.val / 128) + l.val / 128) % 8 = l.val / 128; omega
  · show 128 * (r.val / 128) + t.val = 128 * ((8 * (r.val / 128) + l.val / 128) / 8) + t.val; omega
  · show l.val = 128 * ((8 * (r.val / 128) + l.val / 128) % 8) + l.val % 128; omega

end Cert.Kernel5Ideal.Hand
end
-- ==== Proof.SgbAcc.lean ====
module

public import proofs.«01_k».proof.Proof.SgbPay

@[expose] public section

set_option maxRecDepth 16384

noncomputable section

/-! The sums of the gating unit's backward kernel: what each holds after the trips of a point, and what the last point stores of them. -/

namespace Cert.Kernel5Ideal.Hand

open Cert.Kernel5Ideal Cert.Kernel5Ideal.Gen
open Idealize.ShloMosaic Idealize.ShloMosaic.TcCoe
open Cert.RowAlgebra
open Cert.Kernel4Ideal.Hand (iter iter_succ ofStrips)

/-! ### Stores of sixteen rows, of one row, of one head -/

theorem put_in {n : ℕ} {e : EltTy} (a : Vec Ideal ⟨2, ![n, 1024]⟩ e) (o : ℕ) (w : Vec Ideal S16x1024 e) (p : Fin 16) (r : Fin n) (l : Fin 1024) (h : o + p.val = r.val) :
    VecWindow.put (s := ⟨2, ![n, 1024]⟩) a ![o, 0] S16x1024.size w (ix2 r l) = w (ix2 p l) := by
  have hm : ∀ d, (![o, 0] : Fin 2 → ℕ) d ≤ ((ix2 r l : Shape.Idx ⟨2, ![n, 1024]⟩) d).val
      ∧ ((ix2 r l : Shape.Idx ⟨2, ![n, 1024]⟩) d).val < (![o, 0] : Fin 2 → ℕ) d + S16x1024.size d := fun d => match d with
    | ⟨0, _⟩ => ⟨by show o ≤ r.val; omega, by show r.val < o + 16; omega⟩
    | ⟨1, _⟩ => ⟨Nat.zero_le _, by show l.val < 0 + 1024; omega⟩
  unfold VecWindow.put
  rw [dif_pos hm]
  congr 1
  funext d; apply Fin.ext
  match d with
  | ⟨0, _⟩ => show r.val - o = p.val; omega
  | ⟨1, _⟩ => show l.val - 0 = l.val; omega

theorem put_out {n : ℕ} {e : EltTy} (a : Vec Ideal ⟨2, ![n, 1024]⟩ e) (o : ℕ) (w : Vec Ideal S16x1024 e) (r : Fin n) (l : Fin 1024) (h : r.val < o ∨ o + 16 ≤ r.val) :
    VecWindow.put (s := ⟨2, ![n, 1024]⟩) a ![o, 0] S16x1024.size w (ix2 r l) = a (ix2 r l) := by
  unfold VecWindow.put
  rw [dif_neg (fun hm => by
    have h0 : o ≤ r.val ∧ r.val < o + 16 := hm 0
    omega)]

theorem putRow_in (a : Vec Ideal S8x1024 .f32) (o : ℕ) (w : Vec Ideal S1x1024 .f32) (r : Fin 8) (l : Fin 1024) (h : r.val = o) :
    VecWindow.put (s := S8x1024) a ![o, 0] S1x1024.size w (ix2 r l) = w (ix2 0 l) := by
  have hm : ∀ d, (![o, 0] : Fin 2 → ℕ) d ≤ ((ix2 r l : S8x1024.Idx) d).val
      ∧ ((ix2 r l : S8x1024.Idx) d).val < (![o, 0] : Fin 2 → ℕ) d + S1x1024.size d := fun d => match d with
    | ⟨0, _⟩ => ⟨h.ge, by show r.val < o + 1; omega⟩
    | ⟨1, _⟩ => ⟨Nat.zero_le _, by show l.val < 0 + 1024; omega⟩
  unfold VecWindow.put
  rw [dif_pos hm]
  congr 1
  funext d; apply Fin.ext
  match d with
  | ⟨0, _⟩ => show r.val - o = 0; omega
  | ⟨1, _⟩ => show l.val - 0 = l.val; omega

theorem putRow_out (a : Vec Ideal S8x1024 .f32) (o : ℕ) (w : Vec Ideal S1x1024 .f32) (r : Fin 8) (l : Fin 1024) (h : r.val ≠ o) :
    VecWindow.put (s := S8x1024) a ![o, 0] S1x1024.size w (ix2 r l) = a (ix2 r l) := by
  unfold VecWindow.put
  rw [dif_neg (fun hm => by
    have h0 : o ≤ r.val ∧ r.val < o + 1 := hm 0
    omega)]

theorem putHead_in (a : Vec Ideal S8x128x128 .f32) (o : ℕ) (w : Vec Ideal S1x128x128 .f32) (h : Fin 8) (t s : Fin 128) (e : h.val = o) :
    VecWindow.put (s := S8x128x128) a ![o, 0, 0] S1x128x128.size w (ix3 h t s) = w (ix3 0 t s) := by
  have hm : ∀ d, (![o, 0, 0] : Fin 3 → ℕ) d ≤ ((ix3 h t s : S8x128x128.Idx) d).val
      ∧ ((ix3 h t s : S8x128x128.Idx) d).val < (![o, 0, 0] : Fin 3 → ℕ) d + S1x128x128.size d := fun d => match d with
    | ⟨0, _⟩ => ⟨e.ge, by show h.val < o + 1; omega⟩
    | ⟨1, _⟩ => ⟨Nat.zero_le _, by show t.val < 0 + 128; omega⟩
    | ⟨2, _⟩ => ⟨Nat.zero_le _, by show s.val < 0 + 128; omega⟩
  unfold VecWindow.put
  rw [dif_pos hm]
  congr 1
  funext d; apply Fin.ext
  match d with
  | ⟨0, _⟩ => show h.val - o = 0; omega
  | ⟨1, _⟩ => show t.val - 0 = t.val; omega
  | ⟨2, _⟩ => show s.val - 0 = s.val; omega

theorem putHead_out (a : Vec Ideal S8x128x128 .f32) (o : ℕ) (w : Vec Ideal S1x128x128 .f32) (h : Fin 8) (t s : Fin 128) (e : h.val ≠ o) :
    VecWindow.put (s := S8x128x128) a ![o, 0, 0] S1x128x128.size w (ix3 h t s) = a (ix3 h t s) := by
  unfold VecWindow.put
  rw [dif_neg (fun hm => by
    have h0 : o ≤ h.val ∧ h.val < o + 1 := hm 0
    omega)]

theorem iter_head (P : Fin 8 → Vec Ideal S1x128x128 .f32) (d : Vec Ideal S8x128x128 .f32) (h : Fin 8) (t s : Fin 128) : ∀ n, n ≤ 8 →
    iter (fun (h : Fin 8) (d : Vec Ideal S8x128x128 .f32) => VecWindow.put (s := S8x128x128) d ![h.val, 0, 0] S1x128x128.size (P h)) d n (ix3 h t s)
      = if h.val < n then P h (ix3 0 t s) else d (ix3 h t s)
  | 0, _ => by rw [iter, if_neg (by omega)]
  | n + 1, hn => by
    have hl : n < 8 := by omega
    rw [iter, dif_pos hl]
    by_cases e : h.val = n
    · rw [if_pos (by omega), putHead_in _ _ _ h t s e]
      have eh : h = ⟨n, hl⟩ := Fin.ext e
      rw [eh]
    · rw [putHead_out _ _ _ h t s e, iter_head P d h t s n (by omega)]
      by_cases hlt : h.val < n
      · rw [if_pos hlt, if_pos (by omega)]
      · rw [if_neg hlt, if_neg (by omega)]

/-! ### The sums over the rows -/

/-- What row `r` of a block adds to sum `b`. -/
def accTerm (dv n : Vec Ideal S256x1024 .f32) (b : Fin 2) (l : Fin 1024) (r : ℕ) : EReal :=
  if h : r < 256 then (if b.val = 0 then dv (ix2 ⟨r, h⟩ l) * n (ix2 ⟨r, h⟩ l) else dv (ix2 ⟨r, h⟩ l)) else 0

theorem rows3_at (y : Vec Ideal S256x1024 .f32) (k : Fin k0_t3_loop.trips) (p : Fin 16) (l : Fin 1024) (h : 16 * k.val + p.val < 256) :
    rows3 y k (ix2 p l) = y (ix2 ⟨16 * k.val + p.val, h⟩ l) := by
  have e8 := k0_off8_eq k
  unfold rows3 VecWindow.window
  refine congrArg y ?_
  funext a
  apply Fin.ext
  match a with
  | ⟨0, _⟩ => show k0_off8 k 0 + 1 * p.val = 16 * k.val + p.val; rw [e8]; show 16 * k.val + 1 * p.val = _; omega
  | ⟨1, _⟩ => show k0_off8 k 1 + 1 * l.val = l.val; rw [e8]; show 0 + 1 * l.val = l.val; omega

theorem band_at (a : Vec Ideal S32x1024 .f32) (o : ℕ) (h) (p : Fin 16) (r : Fin 32) (l : Fin 1024) (ho : o + p.val = r.val) :
    (VecWindow.window a ![o, 0] S16x1024.size h : Vec Ideal S16x1024 .f32) (ix2 p l) = a (ix2 r l) := by
  unfold VecWindow.window
  refine congrArg a ?_
  funext d; apply Fin.ext
  match d with
  | ⟨0, _⟩ => show o + 1 * p.val = r.val; omega
  | ⟨1, _⟩ => show 0 + 1 * l.val = l.val; omega

theorem aStep_at (dv n : Vec Ideal S256x1024 .f32) (k : Fin k0_t3_loop.trips) (a : Vec Ideal S32x1024 .f32) (b : Fin 2) (p : Fin 16) (l : Fin 1024) :
    aStep dv n k a (ix2 ⟨16 * b.val + p.val, by omega⟩ l) = (a (ix2 ⟨16 * b.val + p.val, by omega⟩ l) + accTerm dv n b l (16 * k.val + p.val) : EReal) := by
  have hk : k.val < 16 := lt_of_lt_of_eq k.isLt trips3
  unfold aStep accTerm
  rw [dif_pos (show 16 * k.val + p.val < 256 by omega)]
  match b with
  | ⟨0, hb⟩ =>
    refine (put_out _ 16 _ _ _ (.inl (by show 16 * 0 + p.val < 16; omega))).trans ?_
    refine (put_in _ 0 _ p _ l (by show 0 + p.val = 16 * 0 + p.val; omega)).trans ?_
    rw [pay18_at, band_at _ _ _ p ⟨16 * 0 + p.val, by omega⟩ l (by show 0 + p.val = 16 * 0 + p.val; omega), rows3_at _ _ _ _ (by omega), rows3_at _ _ _ _ (by omega), if_pos rfl]
  | ⟨1, hb⟩ =>
    refine (put_in _ 16 _ p _ l (by show 16 + p.val = 16 * 1 + p.val; omega)).trans ?_
    rw [pay19_at, band_at _ _ _ p ⟨16 * 1 + p.val, by omega⟩ l (by show 16 + p.val = 16 * 1 + p.val; omega), rows3_at _ _ _ _ (by omega), if_neg (show ¬ (1 : ℕ) = 0 by decide)]

theorem iter_a (dv n : Vec Ideal S256x1024 .f32) (a : Vec Ideal S32x1024 .f32) (b : Fin 2) (p : Fin 16) (l : Fin 1024) : ∀ N, N ≤ 16 →
    iter (aStep dv n) a N (ix2 ⟨16 * b.val + p.val, by omega⟩ l)
      = (a (ix2 ⟨16 * b.val + p.val, by omega⟩ l) + ∑ j ∈ Finset.range N, accTerm dv n b l (16 * j + p.val) : EReal)
  | 0, _ => by rw [Finset.range_zero, Finset.sum_empty, iter]; exact (add_zero (M := EReal) _).symm
  | N + 1, hN => by
    have hl : N < k0_t3_loop.trips := lt_of_lt_of_eq (by omega) trips3.symm
    rw [iter, dif_pos hl, aStep_at, iter_a dv n a b p l N (by omega), Finset.sum_range_succ, add_assoc]

theorem aNext_at (x : Vec Ideal S256x3072 .bf16) (dy : Vec Ideal S256x1024 .f32) (wt : Vec Ideal S8x128x128 .bf16) (a : Vec Ideal S32x1024 .f32)
    (b : Fin 2) (p : Fin 16) (l : Fin 1024) :
    aNext x dy wt a (ix2 ⟨16 * b.val + p.val, by omega⟩ l)
      = (a (ix2 ⟨16 * b.val + p.val, by omega⟩ l) + ∑ j ∈ Finset.range 16, accTerm (dvBlk (dsBlk x dy) wt) (nBlk x) b l (16 * j + p.val) : EReal) := by
  unfold aNext
  exact (congrArg (fun N => iter (aStep (dvBlk (dsBlk x dy) wt) (nBlk x)) a N (ix2 ⟨16 * b.val + p.val, by omega⟩ l)) trips3).trans (iter_a _ _ a b p l 16 le_rfl)

theorem stFin_at (a : Vec Ideal S32x1024 .f32) (r : Fin 8) (l : Fin 1024) :
    stFin k0_pay38 a (ix2 r l) = (if r.val = 0 then ∑ p : Fin 16, a (ix2 ⟨16 * 0 + p.val, by omega⟩ l) else if r.val = 1 then ∑ p : Fin 16, a (ix2 ⟨16 * 1 + p.val, by omega⟩ l) else 0 : EReal) := by
  unfold stFin
  by_cases h0 : r.val = 0
  · rw [if_pos h0, putRow_out _ 1 _ _ _ (by omega), putRow_in _ 0 _ _ _ h0, pay21_at]
    exact Finset.sum_congr (M := EReal) rfl fun p _ => band_at a _ _ p _ l (by show 0 + p.val = 16 * 0 + p.val; omega)
  by_cases h1 : r.val = 1
  · rw [if_neg h0, if_pos h1, putRow_in _ 1 _ _ _ h1, pay22_at]
    exact Finset.sum_congr (M := EReal) rfl fun p _ => band_at a _ _ p _ l (by show 16 + p.val = 16 * 1 + p.val; omega)
  · rw [if_neg h0, if_neg h1, putRow_out _ 1 _ _ _ h1, putRow_out _ 0 _ _ _ h0]
    pointwise [k0_pay38]

/-! ### The bias's gradient -/

theorem k0_off7_eq : ∀ k : Fin k0_t2_loop.trips, k0_off7 k = ![16 * (k.val % 8), 0] := by decide +kernel

/-- The cotangent at a block's row, by the row's number. -/
def dsN (x : Vec Ideal S256x3072 .bf16) (dy : Vec Ideal S256x1024 .f32) (l : Fin 1024) (r : ℕ) : EReal := if h : r < 256 then dsOf x dy ⟨r, h⟩ l else 0

theorem gbStep_at (x : Vec Ideal S256x3072 .bf16) (dy : Vec Ideal S256x1024 .f32) (k : Fin k0_t2_loop.trips) (d : Vec Ideal S128x1024 .f32) (a : Fin 128) (l : Fin 1024) :
    gbStep x dy k d (ix2 a l) = (d (ix2 a l) + if a.val / 16 = k.val % 8 then dsN x dy l (16 * k.val + a.val % 16) else 0 : EReal) := by
  have hk : k.val < 16 := lt_of_lt_of_eq k.isLt trips2
  have e7 := k0_off7_eq k
  have e : gbStep x dy k d = VecWindow.put (s := S128x1024) d ![16 * (k.val % 8), 0] S16x1024.size
      (k0_pay66 (k0_pay16 (uRows x k) (oRows x k) (rows2 dy k)) (VecWindow.window d (k0_off7 k) S16x1024.size (k0_off7_inb k))) := by
    unfold gbStep
    congr 1
  rw [e]
  by_cases h : a.val / 16 = k.val % 8
  · refine (put_in _ _ _ (⟨a.val % 16, Nat.mod_lt _ (by decide)⟩ : Fin 16) a l (by show 16 * (k.val % 8) + a.val % 16 = a.val; omega)).trans ?_
    rw [pay66_at, pay16_at, if_pos h]
    unfold dsN
    rw [dif_pos (by omega)]
    refine congrArg₂ (fun a b : EReal => a + b) ?_ (rows_at x dy k _ _ l rfl)
    unfold VecWindow.window
    refine congrArg d ?_
    funext b; apply Fin.ext
    match b with
    | ⟨0, _⟩ => show k0_off7 k 0 + 1 * (a.val % 16) = a.val; rw [e7]; show 16 * (k.val % 8) + 1 * (a.val % 16) = a.val; omega
    | ⟨1, _⟩ => show k0_off7 k 1 + 1 * l.val = l.val; rw [e7]; show 0 + 1 * l.val = l.val; omega
  · rw [if_neg h]
    refine (put_out _ _ _ a l (by omega)).trans ?_
    exact (add_zero (M := EReal) _).symm

theorem iter_gb (x : Vec Ideal S256x3072 .bf16) (dy : Vec Ideal S256x1024 .f32) (d : Vec Ideal S128x1024 .f32) (a : Fin 128) (l : Fin 1024) : ∀ N, N ≤ 16 →
    iter (gbStep x dy) d N (ix2 a l)
      = (d (ix2 a l) + ∑ j ∈ Finset.range N, if a.val / 16 = j % 8 then dsN x dy l (16 * j + a.val % 16) else 0 : EReal)
  | 0, _ => by rw [Finset.range_zero, Finset.sum_empty, iter]; exact (add_zero (M := EReal) _).symm
  | N + 1, hN => by
    have hl : N < k0_t2_loop.trips := lt_of_lt_of_eq (by omega) trips2.symm
    rw [iter, dif_pos hl, gbStep_at, iter_gb x dy d a l N (by omega), Finset.sum_range_succ, add_assoc]

theorem sum_pick (f : ℕ → EReal) (q : ℕ) (h : q < 8) : (∑ j ∈ Finset.range 16, if q = j % 8 then f j else 0) = f q + f (8 + q) := by
  interval_cases q <;> simp [Finset.sum_range_succ]

theorem gbNext_at (x : Vec Ideal S256x3072 .bf16) (dy : Vec Ideal S256x1024 .f32) (d : Vec Ideal S128x1024 .f32) (a : Fin 128) (l : Fin 1024) :
    gbNext x dy d (ix2 a l) = (d (ix2 a l) + (dsN x dy l a.val + dsN x dy l (128 + a.val)) : EReal) := by
  unfold gbNext
  refine (congrArg (fun N => iter (gbStep x dy) d N (ix2 a l)) trips2).trans ?_
  rw [iter_gb x dy d a l 16 le_rfl, sum_pick (fun j => dsN x dy l (16 * j + a.val % 16)) (a.val / 16) (by omega)]
  have e1 : 16 * (a.val / 16) + a.val % 16 = a.val := by omega
  have e2 : 16 * (8 + a.val / 16) + a.val % 16 = 128 + a.val := by omega
  simp only [e1, e2]

/-! ### The weights' gradient -/

/-- What chunk `cc` of a block adds at head `h`, places `t` and `s`. -/
def gwTerm (ds v : Vec Ideal S256x1024 .bf16) (cc : Fin 2) (h : Fin 8) (t s : Fin 128) : EReal :=
  ∑ d : Fin 128, ds (ix2 (⟨128 * cc.val + t.val, by omega⟩ : Fin 256) (Gate.lane h d)) * v (ix2 (⟨128 * cc.val + s.val, by omega⟩ : Fin 256) (Gate.lane h d))

theorem gwStep_iter (cc : Fin 2) (ds v : Vec Ideal S256x1024 .bf16) (z d : Vec Ideal S8x128x128 .f32) (h : Fin 8) (t s : Fin 128) :
    iter (gwStep cc ds v z) d 8 (ix3 h t s) = (z (ix3 h t s) + gwTerm ds v cc h t s : EReal) := by
  refine (iter_head (fun h => k0_pay70 (tile ds (chunkHead cc h)) (head z h) (tile v (chunkHead cc h))) d h t s 8 le_rfl).trans ?_
  rw [if_pos h.isLt, pay70_at, head_at]
  unfold gwTerm
  refine congrArg (fun e : EReal => z (ix3 h t s) + e) (Finset.sum_congr (M := EReal) rfl fun k _ => ?_)
  have h3 : ∀ a a' b b' : EReal, a = a' → b = b' → a * b = a' * b' := by intro a a' b b' h1 h2; rw [h1, h2]
  have hv : (chunkHead cc h).val = 8 * cc.val + h.val := rfl
  refine h3 _ _ _ _ (tile_at ds _ _ _ _ _ ?_ ?_) (tile_at v _ _ _ _ _ ?_ ?_)
  · rw [hv]; show 128 * cc.val + t.val = _; omega
  · rw [hv]; show 128 * h.val + k.val = _; omega
  · rw [hv]; show 128 * cc.val + s.val = _; omega
  · rw [hv]; show 128 * h.val + k.val = _; omega

theorem gwNext_at (ds v : Vec Ideal S256x1024 .bf16) (z : Vec Ideal S8x128x128 .f32) (h : Fin 8) (t s : Fin 128) :
    gwNext ds v z (ix3 h t s) = (z (ix3 h t s) + (gwTerm ds v 0 h t s + gwTerm ds v 1 h t s) : EReal) := by
  unfold gwNext
  rw [gwStep_iter, gwStep_iter, add_assoc]

theorem gwFin_at (z : Vec Ideal S8x128x128 .f32) (h : Fin 8) (t s : Fin 128) :
    gwFin z (ix3 h t s) = (if low (ix2 t s) = 1#1 then z (ix3 h t s) else 0 : EReal) := by
  refine (iter_head (fun h => k0_pay23 (head z h)) z h t s 8 le_rfl).trans ?_
  rw [if_pos h.isLt, pay23_at, head_at]

/-! ### The bias's gradient laid out by heads -/

/-- Column `k` holds a tile's row sums; the other columns stay. -/
def pick (k : ℕ) (P R : Vec Ideal S128x128 .f32) : Vec Ideal S128x128 .f32 :=
  select (cmpi .eq (iota .tc S128x128 32 [1] iota_S128x128_d1_w32) (broadcast S128x128 (BitVec.ofNat 32 k)))
    (broadcastTo S128x128 (shapeCast S128x1 (shapeCast S128x1 (multiReduction .add [1] S128 P 0x00000000#32 reduces_S128x128_S128 (.inl rfl) rfl : FVec Ideal S128 .f32) shapeCasts_S128_S128x1) shapeCasts_S128x1_S128x1 : FVec Ideal S128x1 .f32) broadcasts_S128x1_S128x128) R

theorem gbtFin_pick (d : Vec Ideal S128x1024 .f32) : gbtFin d = pick 7 (cols d 7) (pick 6 (cols d 6) (pick 5 (cols d 5) (pick 4 (cols d 4) (pick 3 (cols d 3)
    (pick 2 (cols d 2) (pick 1 (cols d 1) (pick 0 (cols d 0) (broadcast S128x128 (Scalar.ofBits .f32 0x00000000#32 : Ideal .f32) : FVec Ideal S128x128 .f32))))))))  := rfl

theorem pick_cond : ∀ (k : Fin 8) (j : Fin 128), (IntOp.cmpi .eq (BitVec.ofNat 32 j.val) (BitVec.ofNat 32 k.val) = 1#1) = (j.val = k.val) := by
  have h : ∀ (k : Fin 8) (j : Fin 128), (IntOp.cmpi .eq (BitVec.ofNat 32 j.val) (BitVec.ofNat 32 k.val) = 1#1) ↔ (j.val = k.val) := by decide +kernel
  exact fun k j => propext (h k j)

theorem pick_at (k : ℕ) (hk : k < 8) (P R : Vec Ideal S128x128 .f32) (a j : Fin 128) :
    pick k P R (ix2 a j) = (if j.val = k then ∑ l : Fin 128, P (ix2 a l) else R (ix2 a j) : EReal) := by
  unfold pick
  pointwise []
  unfold Scalar.select
  exact if_congr (Iff.of_eq (pick_cond ⟨k, hk⟩ j)) rfl rfl

theorem cols_at (d : Vec Ideal S128x1024 .f32) (h : Fin 8) (a l : Fin 128) : cols d h (ix2 a l) = d (ix2 a (Gate.lane h l)) := by
  unfold cols VecWindow.window
  refine congrArg d ?_
  funext b; apply Fin.ext
  match b with
  | ⟨0, _⟩ => show 0 + 1 * a.val = a.val; omega
  | ⟨1, _⟩ => show 128 * h.val + 1 * l.val = 128 * h.val + l.val; omega

theorem gbtFin_at (d : Vec Ideal S128x1024 .f32) (a j : Fin 128) :
    gbtFin d (ix2 a j) = (if h : j.val < 8 then ∑ l : Fin 128, d (ix2 a (Gate.lane ⟨j.val, h⟩ l)) else 0 : EReal) := by
  rw [gbtFin_pick, pick_at 7 (by decide), pick_at 6 (by decide), pick_at 5 (by decide), pick_at 4 (by decide), pick_at 3 (by decide), pick_at 2 (by decide),
    pick_at 1 (by decide), pick_at 0 (by decide)]
  simp only [cols_at]
  have hz : (broadcast S128x128 (Scalar.ofBits .f32 0x00000000#32 : Ideal .f32) : FVec Ideal S128x128 .f32) (ix2 a j) = (0 : EReal) := by pointwise []
  rw [hz]
  have hj : j.val < 128 := j.isLt
  by_cases h : j.val < 8
  · rw [dif_pos h]
    obtain ⟨v, hv⟩ := j
    change v < 8 at h
    interval_cases v <;> rfl
  · rw [dif_neg h, if_neg (by omega), if_neg (by omega), if_neg (by omega), if_neg (by omega), if_neg (by omega), if_neg (by omega), if_neg (by omega), if_neg (by omega)]

end Cert.Kernel5Ideal.Hand
end
-- ==== Proof.SgbFrame.lean ====
module

public import proofs.«01_k».proof.Proof.SgbBody
public import Idealize.ShloMosaic.Lib.Claim
public import Idealize.ShloMosaic.Lib.WritesUnit
public import Idealize.ShloMosaic.Lib.WholeRead
public import Idealize.ShloMosaic.Lib.Pipeline.TableIdle
public import Idealize.ShloMosaic.Lib.Pipeline.FrameBody

@[expose] public section

set_option maxRecDepth 16384

noncomputable section

namespace Cert.Kernel5Ideal.Hand

open Cert.Kernel5Ideal Cert.Kernel5Ideal.Gen
open Cert.Kernel4Ideal.Hand (iter)
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3072 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x128 .f32 := win0_10.stage (cfg0.slots t 10)
abbrev hs0_10 (t : Fin cfg0.N) : (ms0_10 t).IsWhole := hstage0_10 ((cfg0.slots t 10).cast nbuf0_10)
abbrev scM0_0 : Memref sig .tc .vmem S256x1024 .bf16 := Memref.whole cc0_scratch0
abbrev scM0_1 : Memref sig .tc .vmem S256x1024 .f32 := Memref.whole cc0_scratch1
abbrev scM0_2 : Memref sig .tc .vmem S256x128 .f32 := Memref.whole cc0_scratch2
abbrev scM0_3 : Memref sig .tc .vmem S256x1024 .f32 := Memref.whole cc0_scratch3
abbrev scM0_4 : Memref sig .tc .vmem S256x1024 .bf16 := Memref.whole cc0_scratch4
abbrev scM0_5 : Memref sig .tc .vmem S256x1024 .f32 := Memref.whole cc0_scratch5
abbrev scM0_6 : Memref sig .tc .vmem S32x1024 .f32 := Memref.whole cc0_scratch6
abbrev scM0_7 : Memref sig .tc .vmem S128x1024 .f32 := Memref.whole cc0_scratch7
abbrev scM0_8 : Memref sig .tc .vmem S256x1024 .f32 := Memref.whole cc0_scratch8

/-- What is held between points besides the windows: the scratch, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

theorem hcond0_0 : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

theorem hcond0_1 : ∀ t : Fin cfg0.N, k0_cond2 (grid0.coords t) = 1#1 ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ t.val % 16 = 15)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl

def freshTab0_8 : ℕ → Bool
  | 0 => true
  | n + 1 => (0x8000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem notFresh0_8 : ∀ t : Fin cfg0.N, t.val ≠ 0 → cfg0.fresh 8 t.val = false := by
  intro t; rw [fresh0_8_eq t]; revert t; decide +kernel

def freshTab0_9 : ℕ → Bool
  | 0 => true
  | n + 1 => (0x8000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem notFresh0_9 : ∀ t : Fin cfg0.N, t.val ≠ 0 → cfg0.fresh 9 t.val = false := by
  intro t; rw [fresh0_9_eq t]; revert t; decide +kernel

def freshTab0_10 : ℕ → Bool
  | 0 => true
  | n + 1 => (0x8000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
theorem notFresh0_10 : ∀ t : Fin cfg0.N, t.val ≠ 0 → cfg0.fresh 10 t.val = false := by
  intro t; rw [fresh0_10_eq t]; revert t; decide +kernel

theorem liveAt0_8 : ∀ t : Fin cfg0.N, t.val % 16 = 0 ∨ t.val % 16 = 15 → cfg0.idle 8 (grid0.coords t) = false := by decide +kernel
theorem idleAt0_8 : ∀ t : Fin cfg0.N, ¬ t.val % 16 = 0 → ¬ t.val % 16 = 15 → cfg0.idle 8 (grid0.coords t) = true := by decide +kernel
theorem noFlush0_8 : ∀ t : Fin cfg0.N, ¬ t.val % 16 = 0 → ¬ t.val % 16 = 15 → (cfg0.win 8).flush t = false := by decide +kernel

theorem liveAt0_9 : ∀ t : Fin cfg0.N, t.val % 16 = 0 ∨ t.val % 16 = 15 → cfg0.idle 9 (grid0.coords t) = false := by decide +kernel
theorem idleAt0_9 : ∀ t : Fin cfg0.N, ¬ t.val % 16 = 0 → ¬ t.val % 16 = 15 → cfg0.idle 9 (grid0.coords t) = true := by decide +kernel
theorem noFlush0_9 : ∀ t : Fin cfg0.N, ¬ t.val % 16 = 0 → ¬ t.val % 16 = 15 → (cfg0.win 9).flush t = false := by decide +kernel

variable (m : (ℓ : Loc nD τ sig) → Buf (Elt F) ℓ) (ρ : Dev nD → PrngReg)

/-- The running sums of the gain's and of the offset's gradient after the first `n` points. -/
def accAt (c : Dev nD) : ℕ → Vec F S32x1024 .f32
  | 0 => k0_pay42
  | n + 1 => if h : n < cfg0.N then aNext (X0_0 m c ⟨n, h⟩) (iblk m c 1 ⟨n, h⟩) (iblk m c 3 ⟨n, h⟩) (accAt c n) else accAt c n

/-- The running sums of the bias's gradient. -/
def gbAt (c : Dev nD) : ℕ → Vec F S128x1024 .f32
  | 0 => k0_pay40
  | n + 1 => if h : n < cfg0.N then gbNext (X0_0 m c ⟨n, h⟩) (iblk m c 1 ⟨n, h⟩) (gbAt c n) else gbAt c n

/-- The weights' gradient over the first `n` points. -/
def gwAt (c : Dev nD) : ℕ → Vec F S8x128x128 .f32
  | 0 => k0_pay41
  | n + 1 => if h : n < cfg0.N then gwAdd (X0_0 m c ⟨n, h⟩) (iblk m c 1 ⟨n, h⟩) (iblk m c 5 ⟨n, h⟩) (iblk m c 6 ⟨n, h⟩) (gwAt c n) else gwAt c n

theorem accAt_succ (c : Dev nD) (t : Fin cfg0.N) : accAt m c (t.val + 1) = aNext (X0_0 m c t) (iblk m c 1 t) (iblk m c 3 t) (accAt m c t.val) := by
  rw [accAt, dif_pos t.isLt]
theorem gbAt_succ (c : Dev nD) (t : Fin cfg0.N) : gbAt m c (t.val + 1) = gbNext (X0_0 m c t) (iblk m c 1 t) (gbAt m c t.val) := by
  rw [gbAt, dif_pos t.isLt]
theorem gwAt_succ (c : Dev nD) (t : Fin cfg0.N) : gwAt m c (t.val + 1) = gwAdd (X0_0 m c t) (iblk m c 1 t) (iblk m c 5 t) (iblk m c 6 t) (gwAt m c t.val) := by
  rw [gwAt, dif_pos t.isLt]

/-- The outputs' blocks after point `t`. -/
def dpAt (c : Dev nD) (t : Fin cfg0.N) : Vec F S256x3072 .bf16 :=
  dpOut (X0_0 m c t) (iblk m c 1 t) (iblk m c 2 t) (iblk m c 3 t) (iblk m c 4 t) (iblk m c 5 t) (iblk m c 6 t)
def stAt (c : Dev nD) (t : Fin cfg0.N) : Vec F S8x1024 .f32 :=
  if t.val % 16 = 15 then stFin k0_pay38 (accAt m c (t.val + 1)) else k0_pay38
def gbtAt (c : Dev nD) (t : Fin cfg0.N) : Vec F S128x128 .f32 :=
  if t.val % 16 = 15 then gbtFin (gbAt m c (t.val + 1)) else k0_pay39
def gwOut (c : Dev nD) (t : Fin cfg0.N) : Vec F S8x128x128 .f32 :=
  if t.val % 16 = 15 then gwFin (gwAt m c (t.val + 1)) else gwAt m c (t.val + 1)

/-- What is held between points besides the windows: the two running sums at their value, the rest at anything. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (accAt m c (n + 1)) ∗ owns (c : Thread nD τ) scM0_7 fullShare (gbAt m c (n + 1)) ∗ (∃ d, owns (c : Thread nD τ) scM0_8 fullShare d)) ∗ (∃ r, prngReg c r))

theorem PhiS_pos (c : Dev nD) (n : ℕ) (hz : n ≠ 0) :
    PhiS m c n = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (accAt m c n) ∗ owns (c : Thread nD τ) scM0_7 fullShare (gbAt m c n) ∗ (∃ d, owns (c : Thread nD τ) scM0_8 fullShare d)) ∗ (∃ r, prngReg c r)) := by
  cases n with
  | zero => exact absurd rfl hz
  | succ n => rfl

/-- The pipeline's proof data: every input's buffer at its block, the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dpAt m c t
    | ⟨8, _⟩ => stAt m c t
    | ⟨9, _⟩ => gbtAt m c t
    | ⟨10, _⟩ => gwOut m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dpAt m c t := by dsimp only [dats]
theorem after_8 (c : Dev nD) (t : Fin cfg0.N) : (dats m 0 c).after 8 t = stAt m c t := by dsimp only [dats]
theorem after_9 (c : Dev nD) (t : Fin cfg0.N) : (dats m 0 c).after 9 t = gbtAt m c t := by dsimp only [dats]
theorem after_10 (c : Dev nD) (t : Fin cfg0.N) : (dats m 0 c).after 10 t = gwOut m c t := by dsimp only [dats]
theorem before_0 (c : Dev nD) (t : Fin cfg0.N) (d) : (dats m 0 c).before 0 t d = X0_0 m c t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Output 8's block stays as it is at the points that do not touch it. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  have hN : t.val < 16 := lt_of_lt_of_eq t.isLt N_0
  have h7 : ¬ t.val % 16 = 15 := fun h1 => by
    rw [liveAt0_8 t (.inr h1)] at hi
    exact absurd hi Bool.false_ne_true
  rw [after_8, after_8]
  unfold stAt
  rw [if_neg h7, if_neg (by show ¬ (t.val - 1) % 16 = 15; omega)]

/-- At the last point its buffer still holds zero. -/
theorem before_8_last (c : Dev nD) (t : Fin cfg0.N) (h1 : t.val % 16 = 15) (d) :
    (dats m 0 c).before 8 t d = (k0_pay38 : Vec F S8x1024 .f32) := by
  rw [Dat.before_out_traj _ 8 rfl (fun _ _ => rfl) (carry_8 m c) t.val t rfl d,
    if_neg (by rw [notFresh0_8 t (by omega)]; exact Bool.false_ne_true)]
  rw [after_8]
  unfold stAt
  rw [if_neg (by show ¬ (t.val - 1) % 16 = 15; omega)]

/-- Output 9's block stays as it is at the points that do not touch it. -/
theorem carry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t hz hi _
  have hN : t.val < 16 := lt_of_lt_of_eq t.isLt N_0
  have h7 : ¬ t.val % 16 = 15 := fun h1 => by
    rw [liveAt0_9 t (.inr h1)] at hi
    exact absurd hi Bool.false_ne_true
  rw [after_9, after_9]
  unfold gbtAt
  rw [if_neg h7, if_neg (by show ¬ (t.val - 1) % 16 = 15; omega)]

/-- At the last point its buffer still holds zero. -/
theorem before_9_last (c : Dev nD) (t : Fin cfg0.N) (h1 : t.val % 16 = 15) (d) :
    (dats m 0 c).before 9 t d = (k0_pay39 : Vec F S128x128 .f32) := by
  rw [Dat.before_out_traj _ 9 rfl (fun _ _ => rfl) (carry_9 m c) t.val t rfl d,
    if_neg (by rw [notFresh0_9 t (by omega)]; exact Bool.false_ne_true)]
  rw [after_9]
  unfold gbtAt
  rw [if_neg (by show ¬ (t.val - 1) % 16 = 15; omega)]

theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t hz hi _
  rw [liveAt0_10 t] at hi
  exact absurd hi Bool.false_ne_true

/-- At a later point the weights' gradient is the one of the points before it. -/
theorem before_10_later (c : Dev nD) (t : Fin cfg0.N) (h0 : ¬ t.val % 16 = 0) (d) :
    (dats m 0 c).before 10 t d = gwAt m c t.val := by
  have hN : t.val < 16 := lt_of_lt_of_eq t.isLt N_0
  rw [Dat.before_out_traj _ 10 rfl (fun _ _ => rfl) (carry_10 m c) t.val t rfl d,
    if_neg (by rw [notFresh0_10 t (by omega)]; exact Bool.false_ne_true)]
  rw [after_10]
  unfold gwOut
  rw [if_neg (by show ¬ (t.val - 1) % 16 = 15; omega)]
  show gwAt m c (t.val - 1 + 1) = _
  rw [Nat.sub_add_cancel (by omega)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves_live m c 0 t (liveAt0_0 t), leaves_live m c 1 t (liveAt0_1 t), leaves_live m c 2 t (liveAt0_2 t), leaves_live m c 3 t (liveAt0_3 t), leaves_live m c 4 t (liveAt0_4 t), leaves_live m c 5 t (liveAt0_5 t), leaves_live m c 6 t (liveAt0_6 t), leaves_live m c 7 t (liveAt0_7 t), leaves_live m c 10 t (liveAt0_10 t)]
  rw [after_0, after_1, after_2, after_3, after_4, after_5, after_6, after_7, after_10]
  rw [accAt_succ m c t, gbAt_succ m c t]
  have hN : t.val < 16 := lt_of_lt_of_eq t.isLt N_0
  by_cases h0 : t.val % 16 = 0
  · have h1 : ¬ t.val % 16 = 15 := by omega
    have hz : t.val = 0 := by omega
    rw [leaves_live m c 8 t (liveAt0_8 t (.inl h0)), after_8, leaves_live m c 9 t (liveAt0_9 t (.inl h0)), after_9]
    rw [show PhiS m c t.val = Pipeline.ΦA spec0 c from by rw [hz]; rfl, PhiA0_eq]
    rw [show gwOut m c t = gwAt m c (t.val + 1) from if_neg h1, gwAt_succ]
    rw [show accAt m c t.val = k0_pay42 from by rw [hz]; rfl, show gbAt m c t.val = k0_pay40 from by rw [hz]; rfl, show gwAt m c t.val = k0_pay41 from by rw [hz]; rfl]
    rw [show stAt m c t = k0_pay38 from if_neg h1, show gbtAt m c t = k0_pay39 from if_neg h1]
    iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hb := body (F := F) c (grid0.coords t) (ms0_0 t) (hs0_0 t) (ms0_1 t) (hs0_1 t) (Memref.whole main_arg2) (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (X0_0 m c t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5 s6 s7 s8 Set.univ
    unfold start finish at hb
    simp only [if_pos ((hcond0_0 t).mpr h0), if_neg (fun h => h1 ((hcond0_1 t).mp h))] at hb
    ihave Hw := hb $$ [H0 H1 H2 H3 H4 H5 H6 H7 H8 H9 H10 HS0 HS1 HS2 HS3 HS4 HS5 HS6 HS7 HS8]
    · unfold Res
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iapply (wp_wand _ _ _) $$ Hw
    iintro %_ Hr
    unfold Res
    icases Hr with ⟨H0, H1, H2, H3, H4, H5, H6, H7, H8, H9, H10, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexact HS6
        isplitl [HS7]; · iexact HS7
        iexists _; iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before_10_later m c t h0]
    rw [PhiS_pos m c t.val (by omega)]
    by_cases h1 : t.val % 16 = 15
    · rw [leaves_live m c 8 t (liveAt0_8 t (.inr h1)), after_8, leaves_live m c 9 t (liveAt0_9 t (.inr h1)), after_9]
      simp only [before_8_last m c t h1, before_9_last m c t h1]
      rw [show gwOut m c t = gwFin (gwAt m c (t.val + 1)) from if_pos h1, gwAt_succ]
      rw [show stAt m c t = stFin k0_pay38 (accAt m c (t.val + 1)) from if_pos h1, show gbtAt m c t = gbtFin (gbAt m c (t.val + 1)) from if_pos h1]
      rw [accAt_succ m c t, gbAt_succ m c t]
      iintro ⟨⟨⟨⟨%s0, HS0⟩, ⟨%s1, HS1⟩, ⟨%s2, HS2⟩, ⟨%s3, HS3⟩, ⟨%s4, HS4⟩, ⟨%s5, HS5⟩, HS6, HS7, ⟨%s8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hb := body (F := F) c (grid0.coords t) (ms0_0 t) (hs0_0 t) (ms0_1 t) (hs0_1 t) (Memref.whole main_arg2) (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (X0_0 m c t) (iblk m c 1 t) (iblk m c 2 t) (iblk m c 3 t) (iblk m c 4 t) (iblk m c 5 t) (iblk m c 6 t) ((dats m 0 c).before 7 t d7) k0_pay38 k0_pay39 (gwAt m c t.val) s0 s1 s2 s3 s4 s5 (accAt m c t.val) (gbAt m c t.val) s8 Set.univ
      unfold start finish at hb
      simp only [if_neg (fun h => h0 ((hcond0_0 t).mp h)), if_pos ((hcond0_1 t).mpr h1)] at hb
      ihave Hw := hb $$ [H0 H1 H2 H3 H4 H5 H6 H7 H8 H9 H10 HS0 HS1 HS2 HS3 HS4 HS5 HS6 HS7 HS8]
      · unfold Res
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iapply (wp_wand _ _ _) $$ Hw
      iintro %_ Hr
      unfold Res
      icases Hr with ⟨H0, H1, H2, H3, H4, H5, H6, H7, H8, H9, H10, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexists _; iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          isplitl [HS6]; · iexact HS6
          isplitl [HS7]; · iexact HS7
          iexists _; iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle _ 8 t (idleAt0_8 t h0 h1) (noFlush0_8 t h0 h1), Dat.leavesExact_idle _ 9 t (idleAt0_9 t h0 h1) (noFlush0_9 t h0 h1)]
      rw [show gwOut m c t = gwAt m c (t.val + 1) from if_neg h1, gwAt_succ]
      iintro ⟨⟨⟨⟨%s0, HS0⟩, ⟨%s1, HS1⟩, ⟨%s2, HS2⟩, ⟨%s3, HS3⟩, ⟨%s4, HS4⟩, ⟨%s5, HS5⟩, HS6, HS7, ⟨%s8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hb := body (F := F) c (grid0.coords t) (ms0_0 t) (hs0_0 t) (ms0_1 t) (hs0_1 t) (Memref.whole main_arg2) (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (X0_0 m c t) (iblk m c 1 t) (iblk m c 2 t) (iblk m c 3 t) (iblk m c 4 t) (iblk m c 5 t) (iblk m c 6 t) ((dats m 0 c).before 7 t d7) ((dats m 0 c).before 8 t d8) ((dats m 0 c).before 9 t d9) (gwAt m c t.val) s0 s1 s2 s3 s4 s5 (accAt m c t.val) (gbAt m c t.val) s8 Set.univ
      unfold start finish at hb
      simp only [if_neg (fun h => h0 ((hcond0_0 t).mp h)), if_neg (fun h => h1 ((hcond0_1 t).mp h))] at hb
      ihave Hw := hb $$ [H0 H1 H2 H3 H4 H5 H6 H7 H8 H9 H10 HS0 HS1 HS2 HS3 HS4 HS5 HS6 HS7 HS8]
      · unfold Res
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iapply (wp_wand _ _ _) $$ Hw
      iintro %_ Hr
      unfold Res
      icases Hr with ⟨H0, H1, H2, H3, H4, H5, H6, H7, H8, H9, H10, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexists _; iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          isplitl [HS6]; · iexact HS6
          isplitl [HS7]; · iexact HS7
          iexists _; iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), PhiA0_eq]
  iintro ⟨⟨HS0, HS1, HS2, HS3, HS4, HS5, HS6, HS7, HS8⟩, Hg⟩
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexists _; iexact HS6
    isplitl [HS7]; · iexists _; iexact HS7
    iexact HS8
  iexact Hg

set_option backward.isDefEq.respectTransparency.types false in
/-- The launch: every array of the pipeline ends at what the proof data say, every other buffer as it was, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and every counter at zero. -/
theorem frame_main : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Kernel5Ideal.Hand
end
-- ==== Proof.SgbKer.lean ====
module

public import proofs.«01_k».proof.Proof.SgbAcc
public import proofs.«01_k».proof.Proof.SgbFrame
public import proofs.«01_k».proof.Proof.SguKer
public import proofs.«01_k».proof.Proof.RowAlgebra
public import Idealize.ShloMosaic.Lib.Pipeline.ValueKit
public import Idealize.ShloMosaic.Lib.Pipeline.ReadBack

@[expose] public section

set_option maxRecDepth 16384

noncomputable section

/-! What the gating unit's backward kernel leaves in its arrays of sums, entry by entry of the arguments. -/

namespace Cert.Kernel5Ideal.Hand

open Cert.Kernel5Ideal Cert.Kernel5Ideal.Gen
open Idealize.ShloMosaic Idealize.ShloMosaic.TcCoe Idealize.ShloMosaic.StableHlo
open Idealize.SL Idealize.SL.Sem
open Idealize.ShloMosaic.Pipeline (Dat Cfg Window)
open Cert.RowAlgebra
open Cert.Kernel4Ideal.Hand (masked tri gateA)

variable (m : (ℓ : Loc nD τ sig) → Buf (Elt Ideal) ℓ) (c : Dev nD)

/-- An argument of the kernel. -/
abbrev arg (b : Ref sig .tc) : Buf (Elt Ideal) ((c.tc : Thread nD τ).loc b) := m ((c.tc : Thread nD τ).loc b)

theorem V_v8 : V m c main_v8 = (transpose S8x128x128 [0, 2, 1] (truncf .bf16 (masked (arg m c main_arg3)) bitsLt_bf16_f32 : FVec Ideal S8x128x128 .bf16)
    transposes_S8x128x128_S8x128x128_0_2_1 : FVec Ideal S8x128x128 .bf16) := by
  show StableHlo.after (List.flatten [hostOps0, hostOps0_1, hostOps0_2, hostOps0_3, hostOps0_4]) (fun b => m (c, b)) (Proc.devRef .tc main_v8) = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

/-- The unit's rows, of the launch's arguments. -/
def gateM : Gate := gateA (arg m c main_arg0) (arg m c main_arg3) (arg m c main_arg4) (arg m c main_arg5) (arg m c main_arg6)

/-- An array of rows, by row and lane. -/
def rowsA (dy : Vec Ideal S4096x1024 .f32) : Fin 4096 → Fin 1024 → EReal := fun i l => dy (ix2 i l)

/-- The output's cotangent. -/
def dyM : Fin 4096 → Fin 1024 → EReal := rowsA (arg m c main_arg1)

/-! ### The input blocks -/

theorem placeIn : ∀ t : Fin cfg0.N, win0_0.index t = ![t.val, 1] ∧ win0_1.index t = ![t.val, 0] ∧ win0_3.index t = ![0, 0, 0]
    ∧ win0_5.index t = ![0, 0] ∧ win0_6.index t = ![0, 0] :=
  (by decide +kernel : ∀ t : Fin grid0.N, _)

theorem lt16 (t : Fin cfg0.N) : t.val < 16 := lt_of_lt_of_eq t.isLt N_0

/-- Point `n`. -/
def pt (n : ℕ) (h : n < 16) : Fin cfg0.N := ⟨n, lt_of_lt_of_eq h N_0.symm⟩

/-- Row `r` of point `t`'s block, counted from the array's first row. -/
def rowOf (t : Fin cfg0.N) (r : Fin 256) : Fin 4096 := ⟨256 * t.val + r.val, by have := lt16 t; omega⟩

theorem x_at (t : Fin cfg0.N) (r : Fin 256) (l : Fin 3072) :
    X0_0 m c t (ix2 r l) = arg m c main_arg0 (ix2 (rowOf t r) (⟨3072 + l.val, by omega⟩ : Fin 8192)) := by
  obtain ⟨e0, -⟩ := placeIn t
  unfold X0_0 Pipeline.Window.fill
  rw [dif_pos (moved0_0 t _)]
  refine Eq.trans ?_ (congrFun (V_main_arg0 m c) _)
  unfold rowOf
  blk_ext [iblk, e0]

theorem dy_at (t : Fin cfg0.N) (r : Fin 256) (l : Fin 1024) : iblk m c 1 t (ix2 r l) = dyM m c (rowOf t r) l := by
  obtain ⟨-, e1, -⟩ := placeIn t
  have e : iblk m c 1 t (ix2 r l) = V m c main_arg1 (ix2 (rowOf t r) l) := by
    unfold rowOf
    blk_ext [iblk, e1]
  exact e.trans (congrFun (V_main_arg1 m c) _)

theorem wt_at (t : Fin cfg0.N) (h : Fin 8) (s a : Fin 128) : iblk m c 3 t (ix3 h s a) = (gateM m c).w h a s := by
  obtain ⟨-, -, e3, -⟩ := placeIn t
  have e : iblk m c 3 t (ix3 h s a) = V m c main_v8 (ix3 h s a) := by
    blk_ext [iblk, e3]
  rw [e, V_v8]
  unfold gateM gateA
  generalize masked (arg m c main_arg3) = M
  pointwise []

theorem g_at (t : Fin cfg0.N) (l : Fin 1024) : iblk m c 5 t (ix2 0 l) = (gateM m c).g l := by
  obtain ⟨-, -, -, e5, -⟩ := placeIn t
  have e : iblk m c 5 t (ix2 0 l) = V m c main_arg5 (ix2 0 l) := by
    blk_ext [iblk, e5]
  exact e.trans (congrFun (V_main_arg5 m c) _)

theorem b_at (t : Fin cfg0.N) (l : Fin 1024) : iblk m c 6 t (ix2 0 l) = (gateM m c).b l := by
  obtain ⟨-, -, -, -, e6⟩ := placeIn t
  have e : iblk m c 6 t (ix2 0 l) = V m c main_arg6 (ix2 0 l) := by
    blk_ext [iblk, e6]
  exact e.trans (congrFun (V_main_arg6 m c) _)

/-! ### A point's blocks -/

theorem x_u (t : Fin cfg0.N) (r : Fin 256) (l : Fin 1024) : X0_0 m c t (ix2 r (⟨l.val, by omega⟩ : Fin 3072)) = (gateM m c).u (rowOf t r) l := x_at m c t r _

theorem x_v (t : Fin cfg0.N) (r : Fin 256) (l : Fin 1024) : X0_0 m c t (ix2 r (⟨1024 + l.val, by omega⟩ : Fin 3072)) = (gateM m c).v (rowOf t r) l := by
  refine (x_at m c t r _).trans (congrArg (arg m c main_arg0) ?_)
  exact congrArg (ix2 (rowOf t r)) (Fin.ext (by show 3072 + (1024 + l.val) = 4096 + l.val; omega))

theorem x_z (t : Fin cfg0.N) (r : Fin 256) (l : Fin 1024) : X0_0 m c t (ix2 r (⟨2048 + l.val, by omega⟩ : Fin 3072)) = (gateM m c).z (rowOf t r) l := by
  refine (x_at m c t r _).trans (congrArg (arg m c main_arg0) ?_)
  exact congrArg (ix2 (rowOf t r)) (Fin.ext (by show 3072 + (2048 + l.val) = 5120 + l.val; omega))

theorem ds_at (t : Fin cfg0.N) (r : Fin 256) (l : Fin 1024) :
    dsOf (X0_0 m c t) (iblk m c 1 t) r l = (gateM m c).ds (dyM m c) (rowOf t r) l := by
  unfold dsOf Gate.ds
  have h3 : ∀ a a' b b' d d' : EReal, a = a' → b = b' → d = d' → a * gelu b * silu d = a' * gelu b' * silu d' := by
    intro a a' b b' d d' h1 h2 h3; rw [h1, h2, h3]
  exact h3 _ _ _ _ _ _ (dy_at m c t r l) (x_u m c t r l) (x_z m c t r l)

theorem nn_at (t : Fin cfg0.N) (r : Fin 256) (l : Fin 1024) : nBlk (X0_0 m c t) (ix2 r l) = (gateM m c).nn (rowOf t r) l := by
  refine (nBlk_at _ r l).trans ?_
  unfold Gate.nn
  exact congrArg (fun f : Fin 1024 → EReal => nrm f l) (funext fun k => congrArg gelu (x_v m c t r k))

theorem vn_at (t : Fin cfg0.N) (r : Fin 256) (l : Fin 1024) :
    vBlk (X0_0 m c t) (iblk m c 5 t) (iblk m c 6 t) (ix2 r l) = (gateM m c).vn (rowOf t r) l := by
  refine (vBlk_at _ _ _ r l).trans ?_
  unfold Gate.vn
  have h3 : ∀ f f' g g' b b' : Fin 1024 → EReal, f = f' → g = g' → b = b' → lnorm f g b l = lnorm f' g' b' l := by
    intro f f' g g' b b' h1 h2 h3; rw [h1, h2, h3]
  exact h3 _ _ _ _ _ _ (funext fun k => congrArg gelu (x_v m c t r k)) (funext fun k => g_at m c t k) (funext fun k => b_at m c t k)

theorem dv_at (t : Fin cfg0.N) (r : Fin 256) (l : Fin 1024) :
    dvBlk (dsBlk (X0_0 m c t) (iblk m c 1 t)) (iblk m c 3 t) (ix2 r l) = (gateM m c).dv (dyM m c) (rowOf t r) l := by
  refine (dvBlk_at _ _ r l).trans ?_
  unfold Gate.dv
  have hc : (⟨r.val % 128, Nat.mod_lt _ (by decide)⟩ : Fin 128) = Gate.inChunk (rowOf t r) :=
    Fin.ext (by show r.val % 128 = (256 * t.val + r.val) % 128; omega)
  have h2 : ∀ a a' b b' : EReal, a = a' → b = b' → a * b = a' * b' := by intro a a' b b' h1 h2; rw [h1, h2]
  refine Finset.sum_congr (M := EReal) rfl fun s _ => h2 _ _ _ _ ?_ ?_
  · rw [hc]; exact wt_at m c t _ _ s
  · refine (dsBlk_at _ _ _ l).trans ((ds_at m c t _ l).trans ?_)
    refine congrArg (fun i => (gateM m c).ds (dyM m c) i l) (Fin.ext ?_)
    show 256 * t.val + (128 * (r.val / 128) + s.val) = 128 * ((256 * t.val + r.val) / 128) + s.val
    omega

/-! ### The gain's and the offset's sums -/

/-- The summand of sum `b` at row `i`. -/
def term (b : Fin 2) (i : Fin 4096) (l : Fin 1024) : EReal :=
  if b.val = 0 then (gateM m c).dv (dyM m c) i l * (gateM m c).nn i l else (gateM m c).dv (dyM m c) i l

/-- The same at a row's number, zero past the last row. -/
def termN (b : Fin 2) (l : Fin 1024) (i : ℕ) : EReal := if h : i < 4096 then term m c b ⟨i, h⟩ l else 0

theorem accTerm_at (t : Fin cfg0.N) (b : Fin 2) (l : Fin 1024) (r : ℕ) (hr : r < 256) :
    accTerm (dvBlk (dsBlk (X0_0 m c t) (iblk m c 1 t)) (iblk m c 3 t)) (nBlk (X0_0 m c t)) b l r = termN m c b l (256 * t.val + r) := by
  have := lt16 t
  unfold accTerm termN term
  rw [dif_pos hr, dif_pos (show 256 * t.val + r < 4096 by omega), dv_at, nn_at]
  by_cases h : b.val = 0
  · rw [if_pos h, if_pos h]; rfl
  · rw [if_neg h, if_neg h]; rfl

theorem acc_at (b : Fin 2) (p : Fin 16) (l : Fin 1024) : ∀ n, n ≤ 16 →
    accAt m c n (ix2 ⟨16 * b.val + p.val, by omega⟩ l)
      = (∑ t ∈ Finset.range n, ∑ j ∈ Finset.range 16, termN m c b l (256 * t + (16 * j + p.val)) : EReal)
  | 0, _ => by
    rw [Finset.range_zero, Finset.sum_empty]
    show k0_pay42 (F := Ideal) _ = _
    pointwise [k0_pay42]
  | n + 1, hn => by
    have e := accAt_succ m c (pt n (by omega))
    change accAt m c (n + 1) = _ at e
    rw [e, aNext_at]
    have e' : ∑ j ∈ Finset.range 16, accTerm (dvBlk (dsBlk (X0_0 m c (pt n (by omega))) (iblk m c 1 (pt n (by omega)))) (iblk m c 3 (pt n (by omega)))) (nBlk (X0_0 m c (pt n (by omega)))) b l (16 * j + p.val)
        = ∑ j ∈ Finset.range 16, termN m c b l (256 * n + (16 * j + p.val)) :=
      Finset.sum_congr rfl fun j hj => accTerm_at m c (pt n (by omega)) b l (16 * j + p.val) (by have := Finset.mem_range.1 hj; omega)
    rw [e']
    refine (congrArg (fun z : EReal => z + ∑ j ∈ Finset.range 16, termN m c b l (256 * n + (16 * j + p.val))) (acc_at b p l n (by omega))).trans ?_
    exact (Finset.sum_range_succ (fun t => ∑ j ∈ Finset.range 16, termN m c b l (256 * t + (16 * j + p.val))) n).symm

/-- The total over the sixteen rows of a band is the sum over all the rows. -/
theorem total (b : Fin 2) (l : Fin 1024) :
    (∑ p : Fin 16, accAt m c 16 (ix2 ⟨16 * b.val + p.val, by omega⟩ l) : EReal) = ∑ i, term m c b i l := by
  have e : (∑ i, term m c b i l) = ∑ i ∈ Finset.range (256 * 16), termN m c b l i := by
    rw [Finset.sum_range]
    refine Finset.sum_congr rfl fun i _ => ?_
    unfold termN
    rw [dif_pos i.isLt]
  have e' : ∀ t, ∑ r ∈ Finset.range 256, termN m c b l (256 * t + r)
      = ∑ j ∈ Finset.range 16, ∑ p ∈ Finset.range 16, termN m c b l (256 * t + (16 * j + p)) := fun t =>
    sum_blocks 16 (fun r => termN m c b l (256 * t + r)) 16
  rw [e, sum_blocks, Finset.sum_congr rfl fun t _ => (e' t).trans Finset.sum_comm, Finset.sum_comm, Finset.sum_range]
  exact Finset.sum_congr rfl fun p _ => acc_at m c b p l 16 le_rfl

theorem stFin_sums (r : Fin 8) (l : Fin 1024) : stFin k0_pay38 (accAt m c 16) (ix2 r l) = (gateM m c).sums (dyM m c) r l := by
  rw [stFin_at]
  unfold Gate.sums
  by_cases h0 : r.val = 0
  · rw [if_pos h0, if_pos h0]
    refine (total m c 0 l).trans (Finset.sum_congr (M := EReal) rfl fun i _ => ?_)
    unfold term
    exact if_pos rfl
  by_cases h1 : r.val = 1
  · rw [if_neg h0, if_neg h0, if_pos h1, if_pos h1]
    refine (total m c 1 l).trans (Finset.sum_congr (M := EReal) rfl fun i _ => ?_)
    unfold term
    exact if_neg (by decide)
  · rw [if_neg h0, if_neg h0, if_neg h1, if_neg h1]

/-! ### The bias's sums -/

/-- The cotangent at a row's number, zero past the last row. -/
def dsRow (l : Fin 1024) (i : ℕ) : EReal := if h : i < 4096 then (gateM m c).ds (dyM m c) ⟨i, h⟩ l else 0

theorem dsN_at (t : Fin cfg0.N) (l : Fin 1024) (r : ℕ) (hr : r < 256) : dsN (X0_0 m c t) (iblk m c 1 t) l r = dsRow m c l (256 * t.val + r) := by
  have := lt16 t
  unfold dsN dsRow
  rw [dif_pos hr, dif_pos (show 256 * t.val + r < 4096 by omega), ds_at]
  rfl

theorem gb_at (a : Fin 128) (l : Fin 1024) : ∀ n, n ≤ 16 →
    gbAt m c n (ix2 a l) = (∑ t ∈ Finset.range n, (dsRow m c l (256 * t + a.val) + dsRow m c l (256 * t + (128 + a.val))) : EReal)
  | 0, _ => by
    rw [Finset.range_zero, Finset.sum_empty]
    show k0_pay40 (F := Ideal) _ = _
    pointwise [k0_pay40]
  | n + 1, hn => by
    have e := gbAt_succ m c (pt n (by omega))
    change gbAt m c (n + 1) = _ at e
    rw [e, gbNext_at, dsN_at m c _ l _ (by omega), dsN_at m c _ l _ (by omega)]
    refine (congrArg (fun z : EReal => z + (dsRow m c l (256 * n + a.val) + dsRow m c l (256 * n + (128 + a.val)))) (gb_at a l n (by omega))).trans ?_
    exact (Finset.sum_range_succ (fun t => dsRow m c l (256 * t + a.val) + dsRow m c l (256 * t + (128 + a.val))) n).symm

/-- A sum over chunks, by pairs. -/
theorem sum_pairs (f : ℕ → EReal) : (∑ k : Fin 32, f k.val) = ∑ t ∈ Finset.range 16, (f (2 * t) + f (2 * t + 1)) := by
  have e : ∑ k : Fin 32, f k.val = ∑ k ∈ Finset.range (2 * 16), f k := (Finset.sum_range f).symm
  rw [e, sum_blocks]
  refine Finset.sum_congr rfl fun t _ => ?_
  rw [Finset.sum_range_succ, Finset.sum_range_one, Nat.add_zero]

theorem gb_total (a : Fin 128) (l : Fin 1024) : gbAt m c 16 (ix2 a l) = (∑ k, (gateM m c).ds (dyM m c) (Gate.at' k a) l : EReal) := by
  rw [gb_at m c a l 16 le_rfl]
  have e : (∑ k, (gateM m c).ds (dyM m c) (Gate.at' k a) l) = ∑ k : Fin 32, (fun k : ℕ => dsRow m c l (128 * k + a.val)) k.val := by
    refine Finset.sum_congr rfl fun k _ => ?_
    show _ = dsRow m c l (128 * k.val + a.val)
    unfold dsRow
    rw [dif_pos (by omega)]
    rfl
  rw [e, sum_pairs (fun k : ℕ => dsRow m c l (128 * k + a.val))]
  refine Finset.sum_congr (M := EReal) rfl fun t _ => ?_
  show dsRow m c l (256 * t + a.val) + dsRow m c l (256 * t + (128 + a.val)) = dsRow m c l (128 * (2 * t) + a.val) + dsRow m c l (128 * (2 * t + 1) + a.val)
  rw [show 128 * (2 * t) + a.val = 256 * t + a.val by omega, show 128 * (2 * t + 1) + a.val = 256 * t + (128 + a.val) by omega]

theorem gbtFin_gbt (a j : Fin 128) : gbtFin (gbAt m c 16) (ix2 a j) = (gateM m c).gbt (dyM m c) a j := by
  rw [gbtFin_at]
  unfold Gate.gbt Gate.gb
  by_cases h : j.val < 8
  · rw [dif_pos h, dif_pos h]
    exact Finset.sum_congr (M := EReal) rfl fun d _ => gb_total m c a _
  · rw [dif_neg h, dif_neg h]

/-! ### The weights' sums -/

/-- Chunk `k`'s part of the weights' gradient, zero past the last chunk. -/
def gwRow (h : Fin 8) (t s : Fin 128) (k : ℕ) : EReal :=
  if hk : k < 32 then ∑ d, (gateM m c).ds (dyM m c) (Gate.at' ⟨k, hk⟩ t) (Gate.lane h d) * (gateM m c).vn (Gate.at' ⟨k, hk⟩ s) (Gate.lane h d) else 0

theorem gwTerm_at (q : Fin cfg0.N) (cc : Fin 2) (h : Fin 8) (t s : Fin 128) :
    gwTerm (dsBlk (X0_0 m c q) (iblk m c 1 q)) (vBlk (X0_0 m c q) (iblk m c 5 q) (iblk m c 6 q)) cc h t s = gwRow m c h t s (2 * q.val + cc.val) := by
  have := lt16 q
  unfold gwTerm gwRow
  rw [dif_pos (show 2 * q.val + cc.val < 32 by omega)]
  have h2 : ∀ a a' b b' : EReal, a = a' → b = b' → a * b = a' * b' := by intro a a' b b' h1 h2; rw [h1, h2]
  refine Finset.sum_congr (M := EReal) rfl fun d _ => h2 _ _ _ _ ?_ ?_
  · refine (dsBlk_at _ _ _ _).trans ((ds_at m c q _ _).trans ?_)
    refine congrArg (fun i => (gateM m c).ds (dyM m c) i (Gate.lane h d)) (Fin.ext ?_)
    show 256 * q.val + (128 * cc.val + t.val) = 128 * (2 * q.val + cc.val) + t.val
    omega
  · refine (vn_at m c q _ _).trans ?_
    refine congrArg (fun i => (gateM m c).vn i (Gate.lane h d)) (Fin.ext ?_)
    show 256 * q.val + (128 * cc.val + s.val) = 128 * (2 * q.val + cc.val) + s.val
    omega

theorem gw_at (h : Fin 8) (t s : Fin 128) : ∀ n, n ≤ 16 →
    gwAt m c n (ix3 h t s) = (∑ q ∈ Finset.range n, (gwRow m c h t s (2 * q) + gwRow m c h t s (2 * q + 1)) : EReal)
  | 0, _ => by
    rw [Finset.range_zero, Finset.sum_empty]
    show k0_pay41 (F := Ideal) _ = _
    pointwise [k0_pay41]
  | n + 1, hn => by
    have e := gwAt_succ m c (pt n (by omega))
    change gwAt m c (n + 1) = _ at e
    rw [e]
    unfold gwAdd
    rw [gwNext_at, gwTerm_at, gwTerm_at]
    refine (congrArg (fun z : EReal => z + (gwRow m c h t s (2 * n) + gwRow m c h t s (2 * n + 1))) (gw_at h t s n (by omega))).trans ?_
    exact (Finset.sum_range_succ (fun q => gwRow m c h t s (2 * q) + gwRow m c h t s (2 * q + 1)) n).symm

theorem gw_total (h : Fin 8) (t s : Fin 128) : gwAt m c 16 (ix3 h t s) = (gateM m c).gwAll (dyM m c) h t s := by
  rw [gw_at m c h t s 16 le_rfl, ← sum_pairs (gwRow m c h t s)]
  unfold Gate.gwAll
  refine Finset.sum_congr (M := EReal) rfl fun k _ => ?_
  unfold gwRow
  exact dif_pos k.isLt

theorem low_tri (t s : Fin 128) : low (ix2 t s) = tri (ix2 t s) := by
  have e : low (ix2 t s) = IntOp.cmpi .sge (BitVec.ofNat 32 t.val) (BitVec.ofNat 32 s.val) := by
    unfold low
    pointwise []
  have e' : tri (ix2 t s) = Scalar.select (IntOp.cmpi .sge (IntOp.addi (BitVec.ofNat 32 t.val) 0#32) (BitVec.ofNat 32 s.val)) 1#1 0#1 := by
    unfold tri
    pointwise []
  have h : ∀ b : BitVec 1, b = (if b = 1#1 then 1#1 else 0#1) := by decide
  have h0 : ∀ b : BitVec 32, IntOp.addi b 0#32 = b := fun b => BitVec.add_zero b
  rw [e, e', h0]
  exact h _

/-! ### The arrays -/

/-- The gain's and the offset's gradients. -/
def stM : Buf (Elt Ideal) ((c.tc : Thread nD τ).loc main_v9_1) := fun j : S8x1024.Idx => (gateM m c).sums (dyM m c) (j 0) (j 1)
/-- The bias's gradient. -/
def gbtM : Buf (Elt Ideal) ((c.tc : Thread nD τ).loc main_v9_2) := fun j : S128x128.Idx => (gateM m c).gbt (dyM m c) (j 0) (j 1)
/-- The weights' gradient. -/
def gwM : Buf (Elt Ideal) ((c.tc : Thread nD τ).loc main_v9_3) := fun j : S8x128x128.Idx =>
  if tri (ix2 (j 1) (j 2)) = 1#1 then (gateM m c).gwAll (dyM m c) (j 0) (j 1) (j 2) else (0 : EReal)

theorem last_mod : t0_15.val % 16 = 15 := rfl

theorem arr8 : (dats m 0 c).arrAt 8 cfg0.N = stM m c := by
  refine (dats m 0 c).arrAt_eq_of_after_last 8 t0_15 (by decide +kernel) _ fun j => ?_
  blk_simp
  rw [after_8]
  unfold stAt
  rw [if_pos last_mod]
  have key : ∀ (r : Fin 8) (l : Fin 1024), stFin k0_pay38 (accAt m c 16) (ix2 r l) = (gateM m c).sums (dyM m c) r l := stFin_sums m c
  exact (congrArg (stFin k0_pay38 (accAt m c 16)) (eq_ix2 j)).trans (key (j 0) (j 1))

theorem arr9 : (dats m 0 c).arrAt 9 cfg0.N = gbtM m c := by
  refine (dats m 0 c).arrAt_eq_of_after_last 9 t0_15 (by decide +kernel) _ fun j => ?_
  blk_simp
  rw [after_9]
  unfold gbtAt
  rw [if_pos last_mod]
  exact (congrArg (gbtFin (gbAt m c 16)) (eq_ix2 j)).trans (gbtFin_gbt m c (j 0) (j 1))

theorem gwFin_gw (h : Fin 8) (t s : Fin 128) :
    gwFin (gwAt m c 16) (ix3 h t s) = (if tri (ix2 t s) = 1#1 then (gateM m c).gwAll (dyM m c) h t s else 0 : EReal) := by
  rw [gwFin_at, low_tri, gw_total]

theorem arr10 : (dats m 0 c).arrAt 10 cfg0.N = gwM m c := by
  refine (dats m 0 c).arrAt_eq_of_after_last 10 t0_15 (by decide +kernel) _ fun j => ?_
  blk_simp
  rw [after_10]
  unfold gwOut
  rw [if_pos last_mod]
  exact (congrArg (gwFin (gwAt m c 16)) (eq_ix3 j)).trans (gwFin_gw m c (j 0) (j 1) (j 2))

/-- The launch with its results: the three arrays of sums, and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v9_1) = stM m c
      ∧ r.2.mem ((c.tc : Thread nD τ).loc main_v9_2) = gbtM m c
      ∧ r.2.mem ((c.tc : Thread nD τ).loc main_v9_3) = gwM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 8).trans (arr8 m c), ((h.1 c).1 9).trans (arr9 m c), ((h.1 c).1 10).trans (arr10 m c), h.2.1 c⟩)
    (θ_run_and (run_main m ρ) (frame_main m ρ))

end Cert.Kernel5Ideal.Hand
end
-- ==== Proof.SgbRef.lean ====
module

public import proofs.«01_k».proof.Proof.SgbRow
public import proofs.«01_k».proof.Proof.SguRef
public import proofs.«01_k».proof.Proof.Gen.Reference5Ideal.Run
public import Idealize.ShloMosaic.Lib.KernelVsHost

@[expose] public section

set_option maxRecDepth 16384

noncomputable section

/-! The reference of the gating unit's backward pass, stage by stage: each an entry of the unit's rows. -/

namespace Cert.Reference5Ideal.Hand

open Cert.Reference5Ideal Cert.Reference5Ideal.Gen
open Idealize.ShloMosaic Idealize.ShloMosaic.TcCoe
open Cert.RowAlgebra
open Cert.Kernel4Ideal.Hand (gateA masked tri)
open Cert.Reference4Ideal.Hand (geluR meanR cenR lnR siluR uR vR zR geluR_apply meanR_apply cenR_apply lnR_apply siluR_apply)

variable (p : FVec Ideal S4096x8192 .bf16) (dy : FVec Ideal S4096x1024 .f32) (w : FVec Ideal S8x128x128 .f32) (bi : FVec Ideal S8x128 .f32)
  (g b : FVec Ideal S1x1024 .f32)

/-! ### A sum over the first and the last of four axes -/

section outer
variable {n0 n1 n2 n3 : ℕ} (h : (⟨4, ![n0, n1, n2, n3]⟩ : Shape).ReducesTo [0, 3] ⟨2, ![n1, n2]⟩)

theorem outer_fiber (t : Fin n1) (k : Fin n2) (i : (⟨4, ![n0, n1, n2, n3]⟩ : Shape).Idx) :
    h.drop i = ix2 t k ↔ ∃ q : Fin n0 × Fin n3, (ix4 q.1 t k q.2 : (⟨4, ![n0, n1, n2, n3]⟩ : Shape).Idx) = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨q, rfl⟩
    funext b
    apply Fin.ext
    match b with
    | ⟨0, _⟩ => rfl
    | ⟨1, _⟩ => rfl

theorem outer_sum (v : (⟨4, ![n0, n1, n2, n3]⟩ : Shape).Idx → EReal) (init : EReal) (t : Fin n1) (k : Fin n2) :
    Ideal.hostReduceAdd h v init (ix2 t k) = init + ∑ a : Fin n0, ∑ d : Fin n3, v (ix4 a t k d) := by
  refine congrArg (fun z : EReal => init + z) ?_
  refine (Finset.sum_filter_eq_sum_of_fiber _ (fun q : Fin n0 × Fin n3 => (ix4 q.1 t k q.2 : (⟨4, ![n0, n1, n2, n3]⟩ : Shape).Idx))
    (fun _ _ e => Prod.ext (congrFun e 0) (congrFun e 3)) (outer_fiber h t k) v).trans ?_
  simp only [Fintype.sum_prod_type]

end outer

/-- An array of rows, by row and lane. -/
def rowsR : Fin 4096 → Fin 1024 → EReal := fun i l => dy (ix2 i l)

/-- The mixed gate's cotangent. -/
def dsR : FVec Ideal S4096x1024 .f32 := mulf (geluR (uR p)) (mulf dy (siluR (zR p)))

/-- The gating half's rows, normalised. -/
def nR (x : FVec Ideal S4096x1024 .f32) : FVec Ideal S4096x1024 .f32 :=
  mulf (cenR x) (broadcastInDim S4096x1024 ![0, 1] bcast_S4096x1_S4096x1024_0_1
      (Host.rsqrt (addf (meanR (mulf (cenR x) (cenR x))) (broadcastInDim S4096x1 ![] bcast_S_S4096x1 (constant S_ .f32 0x358637BD#32)))))

/-- An array of rows by chunk, place, head and lane. -/
def chunks (x : FVec Ideal S4096x1024 .f32) : FVec Ideal S32x128x8x128 .f32 := shapeCast S32x128x8x128 x shapeCasts_S4096x1024_S32x128x8x128

/-- The same by head, chunk, lane and place. -/
def heads (x : FVec Ideal S4096x1024 .f32) : FVec Ideal S8x32x128x128 .f32 :=
  transpose S8x32x128x128 [2, 0, 3, 1] (chunks x) transposes_S32x128x8x128_S8x32x128x128_2_0_3_1

/-- The normalised rows' cotangent, by chunk, place, head and lane. -/
def dvC (x : FVec Ideal S4096x1024 .f32) (W : FVec Ideal S8x128x128 .f32) : FVec Ideal S32x128x8x128 .f32 :=
  transpose S32x128x8x128 [1, 3, 0, 2] (Host.dotGeneral dot_S8x32x128x128_S8x128x128_S8x32x128x128_3_1_12_2_0_0 none (heads x) W)
    transposes_S8x32x128x128_S32x128x8x128_1_3_0_2

/-- The normalised rows' cotangent. -/
def dvR : FVec Ideal S4096x1024 .f32 := shapeCast S4096x1024 (dvC (dsR p dy) (masked w)) shapeCasts_S32x128x8x128_S4096x1024

/-- The weights' gradient before the mask. -/
def gwR (x v : FVec Ideal S4096x1024 .f32) : FVec Ideal S8x128x128 .f32 :=
  Host.dotGeneral dot_S8x32x128x128_S32x128x8x128_S8x128x128_12_03_3_1_0_2 none (heads x) (chunks v)

/-- The bias's gradient, by place and head. -/
def gbR (x : FVec Ideal S4096x1024 .f32) : FVec Ideal S128x8 .f32 :=
  Host.reduceAdd (chunks x) (constant S_ .f32 0x00000000#32) reducesTo_S32x128x8x128_S128x8_d0_3 h_S_

/-- The same after the sums over its unit axes. -/
def gbU (x : FVec Ideal S128x8 .f32) : FVec Ideal S128x8 .f32 :=
  transpose S128x8 [1, 0] (transpose S8x128 [1, 0] (Host.reduceAdd (broadcastInDim S128x8x1 ![0, 1] bcast_S128x8_S128x8x1_0_1
    (Host.reduceAdd (shapeCast S1x128x8x1 x shapeCasts_S128x8_S1x128x8x1 : FVec Ideal S1x128x8x1 .f32) (constant S_ .f32 0x00000000#32) reducesTo_S1x128x8x1_S128x8_d0_3 h_S_))
    (constant S_ .f32 0x00000000#32) reducesTo_S128x8x1_S128x8_d2 h_S_) transposes_S128x8_S8x128_1_0) transposes_S8x128_S128x8_1_0

/-- The same laid out over a square of lanes. -/
def gbP (x : FVec Ideal S128x8 .f32) : FVec Ideal S128x128 .f32 :=
  pad S128x128 ![0, 0] ![0, 120] ![0, 0] x (sitofp .f32 (constantI S_ 32 0#32)) pads_S128x8_S128x128_000_01200 h_S_

/-- The sums over the rows. -/
def sumsR (d n : FVec Ideal S4096x1024 .f32) : FVec Ideal S8x1024 .f32 :=
  concatenate S8x1024 0
    [⟨S1x1024, (shapeCast S1x1024 (Host.reduceAdd (mulf n d) (constant S_ .f32 0x00000000#32) reducesTo_S4096x1024_S1024_d0 h_S_) shapeCasts_S1024_S1x1024 : FVec Ideal S1x1024 .f32)⟩,
     ⟨S1x1024, (shapeCast S1x1024 (Host.reduceAdd d (constant S_ .f32 0x00000000#32) reducesTo_S4096x1024_S1024_d0 h_S_) shapeCasts_S1024_S1x1024 : FVec Ideal S1x1024 .f32)⟩,
     ⟨S6x1024, (broadcastInDim S6x1024 ![] bcast_S_S6x1024 (constant S_ .f32 0x00000000#32) : FVec Ideal S6x1024 .f32)⟩]
    concatenates_S1x1024_S1x1024_S6x1024_S8x1024_d0

/-- An array of weights, zero above the diagonal. -/
def maskR (x : FVec Ideal S8x128x128 .f32) : FVec Ideal S8x128x128 .f32 := masked x

theorem u_at (i : Fin 4096) (l : Fin 1024) : (gateA p w bi g b).u i l = uR p (ix2 i l) := by unfold gateA; pointwise [uR]
theorem v_at (i : Fin 4096) (l : Fin 1024) : (gateA p w bi g b).v i l = vR p (ix2 i l) := by unfold gateA; pointwise [vR]
theorem z_at (i : Fin 4096) (l : Fin 1024) : (gateA p w bi g b).z i l = zR p (ix2 i l) := by unfold gateA; pointwise [zR]

theorem dsR_apply (i : Fin 4096) (l : Fin 1024) : dsR p dy (ix2 i l) = (gateA p w bi g b).ds (rowsR dy) i l := by
  unfold Gate.ds
  rw [u_at, z_at, ← geluR_apply, ← siluR_apply]
  refine Eq.trans ?_ ((mul_left_comm (G := EReal) _ _ _).trans (mul_assoc (G := EReal) _ _ _).symm)
  rfl

theorem nR_apply (x : FVec Ideal S4096x1024 .f32) (i : Fin 4096) (l : Fin 1024) : nR x (ix2 i l) = nrm (fun k => x (ix2 i k)) l := by
  unfold nrm
  simp only [← cenR_apply]
  have e : mean (fun k => cenR x (ix2 i k) * cenR x (ix2 i k)) = meanR (mulf (cenR x) (cenR x)) (ix2 i 0) := (meanR_apply (mulf (cenR x) (cenR x)) i 0).symm
  rw [e]
  pointwise [nR]

theorem nn_at (i : Fin 4096) (l : Fin 1024) : nR (geluR (vR p)) (ix2 i l) = (gateA p w bi g b).nn i l := by
  refine (nR_apply _ i l).trans ?_
  unfold Gate.nn
  refine congrArg (fun f : Fin 1024 → EReal => nrm f l) (funext fun k => ?_)
  exact (geluR_apply _ i k).trans (congrArg gelu (v_at p w bi g b i k).symm)

theorem vn_at (i : Fin 4096) (l : Fin 1024) : lnR g b (geluR (vR p)) (ix2 i l) = (gateA p w bi g b).vn i l := by
  refine (lnR_apply g b _ i l).trans ?_
  unfold Gate.vn
  refine congrArg (fun f : Fin 1024 → EReal => lnorm f (fun k => g (ix2 0 k)) (fun k => b (ix2 0 k)) l) (funext fun k => ?_)
  exact (geluR_apply _ i k).trans (congrArg gelu (v_at p w bi g b i k).symm)

theorem chunks_at (x : FVec Ideal S4096x1024 .f32) (k : Fin 32) (t : Fin 128) (h : Fin 8) (d : Fin 128) :
    chunks x (ix4 k t h d) = x (ix2 (Gate.at' k t) (Gate.lane h d)) := by
  have e : chunks x (ix4 k t h d) = x (ix2 (⟨k.val * 128 + t.val, by omega⟩ : Fin 4096) (⟨h.val * 128 + d.val, by omega⟩ : Fin 1024)) := by
    pointwise [chunks]
  rw [e]
  exact congrArg₂ (fun (a : Fin 4096) (c : Fin 1024) => x (ix2 a c)) (Fin.ext (by show k.val * 128 + t.val = 128 * k.val + t.val; omega))
    (Fin.ext (by show h.val * 128 + d.val = 128 * h.val + d.val; omega))

theorem heads_at (x : FVec Ideal S4096x1024 .f32) (h : Fin 8) (k : Fin 32) (d t : Fin 128) :
    heads x (ix4 h k d t) = x (ix2 (Gate.at' k t) (Gate.lane h d)) := by
  rw [← chunks_at x]
  unfold heads
  generalize chunks x = X
  pointwise []

theorem dvC_at (x : FVec Ideal S4096x1024 .f32) (W : FVec Ideal S8x128x128 .f32) (k : Fin 32) (s : Fin 128) (h : Fin 8) (d : Fin 128) :
    dvC x W (ix4 k s h d) = ∑ t : Fin 128, W (ix3 h t s) * x (ix2 (Gate.at' k t) (Gate.lane h d)) := by
  simp only [← heads_at]
  unfold dvC
  generalize heads x = X
  pointwise []
  exact Finset.sum_congr (M := EReal) rfl fun t _ => mul_comm (G := EReal) _ _

theorem gwR_at (x v : FVec Ideal S4096x1024 .f32) (h : Fin 8) (t s : Fin 128) :
    gwR x v (ix3 h t s) = ∑ k : Fin 32, ∑ d : Fin 128, x (ix2 (Gate.at' k t) (Gate.lane h d)) * v (ix2 (Gate.at' k s) (Gate.lane h d)) := by
  simp only [← heads_at x, ← chunks_at v]
  unfold gwR
  generalize heads x = X
  generalize chunks v = Y
  pointwise []

theorem gbR_at (x : FVec Ideal S4096x1024 .f32) (t : Fin 128) (h : Fin 8) :
    gbR x (ix2 t h) = ∑ k : Fin 32, ∑ d : Fin 128, x (ix2 (Gate.at' k t) (Gate.lane h d)) := by
  simp only [← chunks_at x]
  unfold gbR
  generalize chunks x = X
  pointwise []
  exact (outer_sum reducesTo_S32x128x8x128_S128x8_d0_3 X 0 t h).trans (zero_add (M := EReal) _)

theorem gbU_at (x : FVec Ideal S128x8 .f32) (t : Fin 128) (h : Fin 8) : gbU x (ix2 t h) = x (ix2 t h) := by
  pointwise [gbU]
  rw [Fin.sum_univ_one]
  refine (outer_sum reducesTo_S1x128x8x1_S128x8_d0_3 _ 0 t h).trans ((zero_add (M := EReal) _).trans ?_)
  rw [Fin.sum_univ_one, Fin.sum_univ_one]
  pointwise []

theorem gbP_at (x : FVec Ideal S128x8 .f32) (t j : Fin 128) : gbP x (ix2 t j) = (if h : j.val < 8 then x (ix2 t (⟨j.val, h⟩ : Fin 8)) else 0 : EReal) := by
  have e : gbP x (ix2 t j) = (if h : j.val < 8 then x (ix2 t (⟨j.val, h⟩ : Fin 8)) else (Scalar.sitofp .f32 0#32 : Ideal .f32) : EReal) := by
    pointwise [gbP]
    rfl
  rw [e, sitofp_zero]

theorem sumsR_at (d n : FVec Ideal S4096x1024 .f32) (r : Fin 8) (l : Fin 1024) :
    sumsR d n (ix2 r l) = (if r.val = 0 then ∑ i : Fin 4096, d (ix2 i l) * n (ix2 i l) else if r.val = 1 then ∑ i : Fin 4096, d (ix2 i l) else 0 : EReal) := by
  pointwise [sumsR]
  by_cases h0 : r.val = 0
  · rw [dif_pos (by omega), if_pos h0]
    exact Finset.sum_congr (M := EReal) rfl fun i _ => mul_comm (G := EReal) _ _
  by_cases h1 : r.val = 1
  · rw [dif_neg (by omega), dif_pos (by omega), if_neg h0, if_pos h1]
  · rw [dif_neg (by omega), dif_neg (by omega), if_neg h0, if_neg h1]

theorem dvR_apply (i : Fin 4096) (l : Fin 1024) : dvR p dy w (ix2 i l) = (gateA p w bi g b).dv (rowsR dy) i l := by
  have e : dvR p dy w (ix2 i l)
      = dvC (dsR p dy) (masked w) (ix4 (⟨i.val / 128, by omega⟩ : Fin 32) (Gate.inChunk i) (Gate.head l) (⟨l.val % 128, Nat.mod_lt _ (by decide)⟩ : Fin 128)) := by
    unfold dvR Gate.inChunk Gate.head
    generalize dvC (dsR p dy) (masked w) = X
    pointwise []
  rw [e, dvC_at]
  unfold Gate.dv
  have h3 : ∀ a b b' : EReal, b = b' → a * b = a * b' := by intro a b b' h; rw [h]
  refine Finset.sum_congr (M := EReal) rfl fun t _ => h3 _ _ _ ?_
  have ei : Gate.at' (⟨i.val / 128, by omega⟩ : Fin 32) t = Gate.chunkRow i t := rfl
  have el : Gate.lane (Gate.head l) (⟨l.val % 128, Nat.mod_lt _ (by decide)⟩ : Fin 128) = l :=
    Fin.ext (by show 128 * (l.val / 128) + l.val % 128 = l.val; omega)
  rw [ei, el]
  exact dsR_apply p dy w bi g b _ l

theorem st_apply (r : Fin 8) (l : Fin 1024) :
    sumsR (dvR p dy w) (nR (geluR (vR p))) (ix2 r l) = (gateA p w bi g b).sums (rowsR dy) r l := by
  rw [sumsR_at]
  unfold Gate.sums
  have h2 : ∀ a a' b b' : EReal, a = a' → b = b' → a * b = a' * b' := by intro a a' b b' h1 h2; rw [h1, h2]
  by_cases h0 : r.val = 0
  · rw [if_pos h0, if_pos h0]
    exact Finset.sum_congr (M := EReal) rfl fun i _ => h2 _ _ _ _ (dvR_apply p dy w bi g b i l) (nn_at p w bi g b i l)
  by_cases h1 : r.val = 1
  · rw [if_neg h0, if_neg h0, if_pos h1, if_pos h1]
    exact Finset.sum_congr (M := EReal) rfl fun i _ => dvR_apply p dy w bi g b i l
  · rw [if_neg h0, if_neg h0, if_neg h1, if_neg h1]

theorem gbt_apply (t j : Fin 128) : gbP (gbU (gbR (dsR p dy))) (ix2 t j) = (gateA p w bi g b).gbt (rowsR dy) t j := by
  rw [gbP_at]
  unfold Gate.gbt Gate.gb
  by_cases h : j.val < 8
  · rw [dif_pos h, dif_pos h, gbU_at, gbR_at]
    refine Finset.sum_comm.trans ?_
    exact Finset.sum_congr (M := EReal) rfl fun d _ => Finset.sum_congr (M := EReal) rfl fun k _ => dsR_apply p dy w bi g b _ _
  · rw [dif_neg h, dif_neg h]

theorem gw_apply (h : Fin 8) (t s : Fin 128) :
    masked (gwR (dsR p dy) (lnR g b (geluR (vR p)))) (ix3 h t s)
      = (if tri (ix2 t s) = 1#1 then (gateA p w bi g b).gwAll (rowsR dy) h t s else 0 : EReal) := by
  have e : ∀ X : FVec Ideal S8x128x128 .f32, masked X (ix3 h t s) = (if tri (ix2 t s) = 1#1 then X (ix3 h t s) else 0 : EReal) := by
    intro X
    unfold masked
    generalize tri = T
    pointwise []
    rfl
  rw [e, gwR_at]
  unfold Gate.gwAll
  have h2 : ∀ a a' b b' : EReal, a = a' → b = b' → a * b = a' * b' := by intro a a' b b' h1 h2; rw [h1, h2]
  refine congrArg (fun z : EReal => if tri (ix2 t s) = 1#1 then z else 0) ?_
  exact Finset.sum_congr (M := EReal) rfl fun k _ => Finset.sum_congr (M := EReal) rfl fun d _ =>
    h2 _ _ _ _ (dsR_apply p dy w bi g b _ _) (vn_at p w bi g b _ _)

variable (m : (ℓ : Loc nD τ sig) → Buf (Elt Ideal) ℓ) (c : Dev nD)

abbrev arg (b : Ref sig .tc) : Buf (Elt Ideal) ((c.tc : Thread nD τ).loc b) := m ((c.tc : Thread nD τ).loc b)

/-- The unit's rows, of the reference's arguments. -/
abbrev gateM : Gate := gateA (arg m c main_arg0) (arg m c main_arg3) (arg m c main_arg4) (arg m c main_arg5) (arg m c main_arg6)

theorem res_v77 : Value.res_main_v77 (F := Ideal) m c = sumsR (dvR (arg m c main_arg0) (arg m c main_arg1) (arg m c main_arg3)) (nR (geluR (vR (arg m c main_arg0)))) := by
  unfold Value.res_main_v77 sumsR dvR dvC heads chunks dsR nR siluR cenR meanR geluR uR vR zR masked tri
  rfl

theorem res_v69 : Value.res_main_v69 (F := Ideal) m c
    = masked (gwR (dsR (arg m c main_arg0) (arg m c main_arg1)) (lnR (arg m c main_arg5) (arg m c main_arg6) (geluR (vR (arg m c main_arg0))))) := by
  unfold Value.res_main_v69 gwR heads chunks dsR lnR siluR cenR meanR geluR uR vR zR masked tri
  rfl

theorem ref_v77 : Value.res_main_v77 (F := Ideal) m c = fun j : S8x1024.Idx => (gateM m c).sums (rowsR (arg m c main_arg1)) (j 0) (j 1) := by
  rw [res_v77]
  funext j
  rw [eq_ix2 j]
  exact st_apply _ _ _ _ _ _ (j 0) (j 1)

theorem ref_v79 : gbP (gbU (gbR (dsR (arg m c main_arg0) (arg m c main_arg1)))) = fun j : S128x128.Idx => (gateM m c).gbt (rowsR (arg m c main_arg1)) (j 0) (j 1) := by
  funext j
  rw [eq_ix2 j]
  exact gbt_apply _ _ _ _ _ _ (j 0) (j 1)

theorem ref_v69 : Value.res_main_v69 (F := Ideal) m c
    = fun j : S8x128x128.Idx => if tri (ix2 (j 1) (j 2)) = 1#1 then (gateM m c).gwAll (rowsR (arg m c main_arg1)) (j 0) (j 1) (j 2) else (0 : EReal) := by
  rw [res_v69]
  funext j
  rw [eq_ix3 j]
  exact gw_apply _ _ _ _ _ _ (j 0) (j 1) (j 2)

end Cert.Reference5Ideal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.SumRead
public import proofs.«01_k».proof.Proof.RefRead
public import proofs.«01_k».proof.Proof.Same
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.GradWeight
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.OutRun
public import proofs.«01_k».proof.Proof.OutRes
public import proofs.«01_k».proof.Proof.Gen.Kernel4
public import proofs.«01_k».proof.Proof.Gen.Kernel4Ideal
public import proofs.«01_k».proof.Proof.Gen.Reference4Ideal
public import proofs.«01_k».proof.Proof.SguSame
public import proofs.«01_k».proof.Proof.SguRef
public import proofs.«01_k».proof.Proof.Gen.Kernel5
public import proofs.«01_k».proof.Proof.Gen.Kernel5Ideal
public import proofs.«01_k».proof.Proof.Gen.Reference5Ideal
public import proofs.«01_k».proof.Proof.SgbSame
public import proofs.«01_k».proof.Proof.SgbKer
public import proofs.«01_k».proof.Proof.SgbRef
public import Idealize.ShloMosaic.Lib.Quiescent

@[expose] public section

noncomputable section

namespace Cert.Proof

open Idealize.ShloMosaic Idealize.SL.Sem
open Cert.KernelIdeal.Hand (gOut stOut gOut_at stOut_at run_values frame_main gV stV)

theorem frame_kernel : Cert.quiescent_Kernel := fun m ρ _ => by
  rw [defs_same, main_same]
  exact frame_main (F := Bits) m ρ

theorem frame_kernelIdeal : Cert.quiescent_KernelIdeal := fun m ρ _ => frame_main (F := Ideal) m ρ

theorem frame_reference : Cert.quiescent_ReferenceIdeal := fun m ρ _ =>
  (θ_run _ _ _).mono (fun r h => ⟨fun c => (h c).2.2, sem_eq_zero_of_no_sems rfl r.2⟩) (Cert.ReferenceIdeal.Value.run (F := Ideal) m ρ)

theorem values : Cert.algebraic_KernelIdeal_ReferenceIdeal := fun m g m' g' _ hA =>
  ⟨fun c => gOut m c, fun c => stOut m c, run_values m g,
    (θ_run _ _ _).mono (fun r h c => by
      obtain ⟨a0, a1, a2, a3, a4, a5, a6⟩ := hA c
      refine ⟨(h c).1.trans ?_, (h c).2.1.trans ?_, (h c).2.2⟩
      · funext i
        rw [Idealize.ShloMosaic.eq_ix2 i]
        refine (Cert.ReferenceIdeal.Hand.ref_g m' c _ _).trans (Eq.trans ?_ (gOut_at m c _ _).symm)
        unfold Cert.ReferenceIdeal.Hand.arg Cert.KernelIdeal.Hand.arg
        rw [a0, a1, a2, a3, a5, a6]
      · funext i
        rw [Idealize.ShloMosaic.eq_ix2 i]
        refine (Cert.ReferenceIdeal.Hand.ref_st m' c _ _).trans (Eq.trans ?_ (stOut_at m c _ _).symm)
        unfold Cert.ReferenceIdeal.Hand.arg Cert.KernelIdeal.Hand.arg
        rw [a0, a1, a2, a5, a6])
      (Cert.ReferenceIdeal.Value.run (F := Ideal) m' g')⟩

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run _ _ _).mono (fun r h => ⟨fun c => (h c).2, sem_eq_zero_of_no_sems rfl r.2⟩) (Cert.Reference2Ideal.Value.run (F := Ideal) m ρ)

theorem values2 : Cert.algebraic_Kernel2Ideal_Reference2Ideal := fun m g m' g' _ hA =>
  ⟨fun _ => _, Cert.Kernel2Ideal.Hand.run_values m g,
    (θ_run _ _ _).mono (fun r h c => by
      obtain ⟨a0, a1⟩ := hA c
      refine ⟨(h c).1.trans ?_, (h c).2⟩
      refine (Cert.Reference2Ideal.Hand.ref_gw _ _).trans ?_
      rw [a0, a1])
      (Cert.Reference2Ideal.Value.run (F := Ideal) m' g')⟩

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run _ _ _).mono (fun r h => ⟨fun c => (h c).2.2.2.2.2.2.2.2.2, sem_eq_zero_of_no_sems rfl r.2⟩) (Cert.Reference3Ideal.Value.run (F := Ideal) m ρ)

open Cert.Reference3Ideal.Hand (ref_v84 ref_v97 ref_v98 ref_v110 ref_v111 ref_v112 ref_v113 ref_v114 ref_v108) in
theorem values3 : Cert.algebraic_Kernel3Ideal_Reference3Ideal := fun m g m' g' _ hA =>
  ⟨fun _ => _, fun _ => _, fun _ => _, fun _ => _, fun _ => _, fun _ => _, fun _ => _, fun _ => _, fun _ => _, Cert.Kernel3Ideal.Hand.run_values m g,
    (θ_run _ _ _).mono (fun r h c => by
      obtain ⟨a0, a1, a2, a3, a4, a5, a6, a7, a8, a9⟩ := hA c
      have eM : Cert.Reference3Ideal.Hand.rowM m' c = Cert.Kernel3Ideal.Hand.rowM m c := by
        funext i
        unfold Cert.Reference3Ideal.Hand.rowM Cert.Reference3Ideal.Hand.arg Cert.Kernel3Ideal.Hand.rowM Cert.Kernel3Ideal.Hand.arg
        rw [a0, a1, a2, a3, a4, a5, a6, a7, a8, a9]
      have eR : ∀ f, Cert.Reference3Ideal.Hand.rowsM m' c f = Cert.Kernel3Ideal.Hand.allRows m c f := fun f => by
        unfold Cert.Reference3Ideal.Hand.rowsM Cert.Kernel3Ideal.Hand.allRows; rw [eM]
      have eG : Cert.Reference3Ideal.Hand.gatesM m' c = Cert.Kernel3Ideal.Hand.gateCols m c := by
        unfold Cert.Reference3Ideal.Hand.gatesM Cert.Kernel3Ideal.Hand.gateCols; rw [eM]
      have eS : Cert.Reference3Ideal.Hand.sumsM m' c = Cert.Kernel3Ideal.Hand.sumAll m c := by
        unfold Cert.Reference3Ideal.Hand.sumsM Cert.Kernel3Ideal.Hand.sumAll; rw [eM]
      refine ⟨?_, ?_, ?_, ?_, ?_, ?_, ?_, ?_, ?_, (h c).2.2.2.2.2.2.2.2.2⟩
      · exact ((h c).1).trans ((ref_v84 m' c).trans (eR _))
      · exact ((h c).2.1).trans ((ref_v97 m' c).trans (eR _))
      · exact ((h c).2.2.1).trans ((ref_v98 m' c).trans (eR _))
      · exact ((h c).2.2.2.1).trans ((ref_v110 m' c).trans eG)
      · exact ((h c).2.2.2.2.1).trans ((ref_v111 m' c).trans (eR _))
      · exact ((h c).2.2.2.2.2.1).trans ((ref_v112 m' c).trans (eR _))
      · exact ((h c).2.2.2.2.2.2.1).trans ((ref_v113 m' c).trans (eR _))
      · exact ((h c).2.2.2.2.2.2.2.1).trans ((ref_v114 m' c).trans (eR _))
      · exact ((h c).2.2.2.2.2.2.2.2.1).trans ((ref_v108 m' c).trans eS))
      (Cert.Reference3Ideal.Value.run (F := Ideal) m' g')⟩

theorem frame_kernel4 : Cert.quiescent_Kernel4 := fun m ρ _ => by
  rw [defs_same4, main_same4]
  exact Cert.Kernel4Ideal.Hand.frame_main (F := Bits) m ρ

theorem frame_kernel4Ideal : Cert.quiescent_Kernel4Ideal := fun m ρ _ => Cert.Kernel4Ideal.Hand.frame_main (F := Ideal) m ρ

theorem frame_reference4 : Cert.quiescent_Reference4Ideal := fun m ρ _ =>
  (θ_run _ _ _).mono (fun r h => ⟨fun c => (h c).2, sem_eq_zero_of_no_sems rfl r.2⟩) (Cert.Reference4Ideal.Value.run (F := Ideal) m ρ)

theorem values4 : Cert.algebraic_Kernel4Ideal_Reference4Ideal := fun m g m' g' _ hA =>
  ⟨fun _ => _, Cert.Kernel4Ideal.Hand.run_values m g,
    (θ_run _ _ _).mono (fun r h c => by
      obtain ⟨a0, a1, a2, a3, a4⟩ := hA c
      refine ⟨(h c).1.trans ?_, (h c).2⟩
      refine (Cert.Reference4Ideal.Hand.ref_v56 m' c).trans ?_
      unfold Cert.Reference4Ideal.Hand.arg Cert.Kernel4Ideal.Hand.outM Cert.Kernel4Ideal.Hand.gateM Cert.Kernel4Ideal.Hand.arg
      rw [a0, a1, a2, a3, a4])
      (Cert.Reference4Ideal.Value.run (F := Ideal) m' g')⟩

theorem frame_kernel5 : Cert.quiescent_Kernel5 := fun m ρ _ => by
  rw [defs_same5, main_same5]
  exact Cert.Kernel5Ideal.Hand.frame_main (F := Bits) m ρ

theorem frame_kernel5Ideal : Cert.quiescent_Kernel5Ideal := fun m ρ _ => Cert.Kernel5Ideal.Hand.frame_main (F := Ideal) m ρ

theorem frame_reference5 : Cert.quiescent_Reference5Ideal := fun m ρ _ =>
  (θ_run _ _ _).mono (fun r h => ⟨fun c => (h c).2.2.2, sem_eq_zero_of_no_sems rfl r.2⟩) (Cert.Reference5Ideal.Value.run (F := Ideal) m ρ)

open Cert.Reference5Ideal.Hand (ref_v77 ref_v79 ref_v69) in
theorem values5 : Cert.algebraic_Kernel5Ideal_Reference5Ideal := fun m g m' g' _ hA =>
  ⟨fun _ => _, fun _ => _, fun _ => _, Cert.Kernel5Ideal.Hand.run_values m g,
    (θ_run _ _ _).mono (fun r h c => by
      obtain ⟨a0, a1, a2, a3, a4, a5, a6⟩ := hA c
      have eG : Cert.Reference5Ideal.Hand.gateM m' c = Cert.Kernel5Ideal.Hand.gateM m c := by
        unfold Cert.Reference5Ideal.Hand.gateM Cert.Reference5Ideal.Hand.arg Cert.Kernel5Ideal.Hand.gateM Cert.Kernel5Ideal.Hand.arg
        rw [a0, a3, a4, a5, a6]
      have eD : Cert.Reference5Ideal.Hand.rowsR (Cert.Reference5Ideal.Hand.arg m' c Cert.Reference5Ideal.main_arg1) = Cert.Kernel5Ideal.Hand.dyM m c := by
        unfold Cert.Kernel5Ideal.Hand.dyM Cert.Kernel5Ideal.Hand.arg Cert.Reference5Ideal.Hand.arg
        rw [a1]
        rfl
      refine ⟨?_, ?_, ?_, (h c).2.2.2⟩
      · refine ((h c).1).trans ((ref_v77 m' c).trans ?_)
        rw [eG, eD]
        rfl
      · refine ((h c).2.1).trans ((ref_v79 m' c).trans ?_)
        rw [eG, eD]
        rfl
      · refine ((h c).2.2.1).trans ((ref_v69 m' c).trans ?_)
        rw [eG, eD]
        rfl)
      (Cert.Reference5Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  frame_kernel, frame_kernelIdeal, frame_reference, frame_kernel2, frame_kernel2Ideal, frame_reference2,
  frame_kernel3, frame_kernel3Ideal, frame_reference3,
  frame_kernel4, frame_kernel4Ideal, frame_reference4,
  frame_kernel5, frame_kernel5Ideal, frame_reference5,
  trivial, values, trivial, values2, trivial, values3, trivial, values4, trivial, values5⟩

end Cert.Proof

end
